-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Val (m : (ℓ : Loc Cert.Val.nD Cert.Val.τ Cert.Val.sig) → Buf (Elt Bits) ℓ) : Prop :=
  True

def Pre_ValIdeal (m : (ℓ : Loc Cert.ValIdeal.nD Cert.ValIdeal.τ Cert.ValIdeal.sig) → Buf (Elt Ideal) ℓ) : Prop :=
  True

def Pre_ValReferenceIdeal (m : (ℓ : Loc Cert.ValReferenceIdeal.nD Cert.ValReferenceIdeal.τ Cert.ValReferenceIdeal.sig) → Buf (Elt Ideal) ℓ) : Prop :=
  True

def Pre_Qry (m : (ℓ : Loc Cert.Qry.nD Cert.Qry.τ Cert.Qry.sig) → Buf (Elt Bits) ℓ) : Prop :=
  True

def Pre_QryIdeal (m : (ℓ : Loc Cert.QryIdeal.nD Cert.QryIdeal.τ Cert.QryIdeal.sig) → Buf (Elt Ideal) ℓ) : Prop :=
  True

def Pre_QryReferenceIdeal (m : (ℓ : Loc Cert.QryReferenceIdeal.nD Cert.QryReferenceIdeal.τ Cert.QryReferenceIdeal.sig) → Buf (Elt Ideal) ℓ) : Prop :=
  True

def Pre_Key (m : (ℓ : Loc Cert.Key.nD Cert.Key.τ Cert.Key.sig) → Buf (Elt Bits) ℓ) : Prop :=
  True

def Pre_KeyIdeal (m : (ℓ : Loc Cert.KeyIdeal.nD Cert.KeyIdeal.τ Cert.KeyIdeal.sig) → Buf (Elt Ideal) ℓ) : Prop :=
  True

def Pre_KeyReferenceIdeal (m : (ℓ : Loc Cert.KeyReferenceIdeal.nD Cert.KeyReferenceIdeal.τ Cert.KeyReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Start (m : (ℓ : Loc Cert.Start.nD Cert.Start.τ Cert.Start.sig) → Buf (Elt Bits) ℓ) : Prop :=
  True

def Pre_StartIdeal (m : (ℓ : Loc Cert.StartIdeal.nD Cert.StartIdeal.τ Cert.StartIdeal.sig) → Buf (Elt Ideal) ℓ) : Prop :=
  True

def Pre_StartReferenceIdeal (m : (ℓ : Loc Cert.StartReferenceIdeal.nD Cert.StartReferenceIdeal.τ Cert.StartReferenceIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_finite_context [hPre_finite_context : Cert.Pre_finite_context.Facts] (m : (ℓ : Loc Cert.CtxIdeal.nD Cert.CtxIdeal.τ Cert.CtxIdeal.sig) → Buf (Elt Ideal) ℓ) : Prop :=
  ∀ c : Dev Cert.CtxIdeal.nD,
    (Cert.Pre_finite_context.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2))).1 = (fun _ => 1#1)
    ∧ (Cert.Pre_finite_context.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2))).2 = (fun _ => 1#1)

def Pre_CtxReferenceIdeal (m : (ℓ : Loc Cert.CtxReferenceIdeal.nD Cert.CtxReferenceIdeal.τ Cert.CtxReferenceIdeal.sig) → Buf (Elt Ideal) ℓ) : Prop :=
  True

def Pre_CtxReferenceIdeal_finite_context [hPre_finite_context : Cert.Pre_finite_context.Facts] (m : (ℓ : Loc Cert.CtxReferenceIdeal.nD Cert.CtxReferenceIdeal.τ Cert.CtxReferenceIdeal.sig) → Buf (Elt Ideal) ℓ) : Prop :=
  ∀ c : Dev Cert.CtxReferenceIdeal.nD,
    (Cert.Pre_finite_context.fn (F := Ideal) (m ((c.tc : Thread Cert.CtxReferenceIdeal.nD Cert.CtxReferenceIdeal.τ).loc Cert.CtxReferenceIdeal.main_arg0)) (m ((c.tc : Thread Cert.CtxReferenceIdeal.nD Cert.CtxReferenceIdeal.τ).loc Cert.CtxReferenceIdeal.main_arg1)) (m ((c.tc : Thread Cert.CtxReferenceIdeal.nD Cert.CtxReferenceIdeal.τ).loc Cert.CtxReferenceIdeal.main_arg2))).1 = (fun _ => 1#1)
    ∧ (Cert.Pre_finite_context.fn (F := Ideal) (m ((c.tc : Thread Cert.CtxReferenceIdeal.nD Cert.CtxReferenceIdeal.τ).loc Cert.CtxReferenceIdeal.main_arg0)) (m ((c.tc : Thread Cert.CtxReferenceIdeal.nD Cert.CtxReferenceIdeal.τ).loc Cert.CtxReferenceIdeal.main_arg1)) (m ((c.tc : Thread Cert.CtxReferenceIdeal.nD Cert.CtxReferenceIdeal.τ).loc Cert.CtxReferenceIdeal.main_arg2))).2 = (fun _ => 1#1)

def Pre_Chan (m : (ℓ : Loc Cert.Chan.nD Cert.Chan.τ Cert.Chan.sig) → Buf (Elt Bits) ℓ) : Prop :=
  True

def Pre_ChanIdeal (m : (ℓ : Loc Cert.ChanIdeal.nD Cert.ChanIdeal.τ Cert.ChanIdeal.sig) → Buf (Elt Ideal) ℓ) : Prop :=
  True

def Pre_ChanReferenceIdeal (m : (ℓ : Loc Cert.ChanReferenceIdeal.nD Cert.ChanReferenceIdeal.τ Cert.ChanReferenceIdeal.sig) → Buf (Elt Ideal) ℓ) : Prop :=
  True

def Pre_Short (m : (ℓ : Loc Cert.Short.nD Cert.Short.τ Cert.Short.sig) → Buf (Elt Bits) ℓ) : Prop :=
  True

def Pre_ShortIdeal (m : (ℓ : Loc Cert.ShortIdeal.nD Cert.ShortIdeal.τ Cert.ShortIdeal.sig) → Buf (Elt Ideal) ℓ) : Prop :=
  True

def Pre_ShortReferenceIdeal (m : (ℓ : Loc Cert.ShortReferenceIdeal.nD Cert.ShortReferenceIdeal.τ Cert.ShortReferenceIdeal.sig) → Buf (Elt Ideal) ℓ) : Prop :=
  True

def Pre_Long (m : (ℓ : Loc Cert.Long.nD Cert.Long.τ Cert.Long.sig) → Buf (Elt Bits) ℓ) : Prop :=
  True

def Pre_LongIdeal (m : (ℓ : Loc Cert.LongIdeal.nD Cert.LongIdeal.τ Cert.LongIdeal.sig) → Buf (Elt Ideal) ℓ) : Prop :=
  True

def Pre_LongReferenceIdeal (m : (ℓ : Loc Cert.LongReferenceIdeal.nD Cert.LongReferenceIdeal.τ Cert.LongReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Up [hPre_tables : Cert.Pre_tables.Facts] (m : (ℓ : Loc Cert.Up.nD Cert.Up.τ Cert.Up.sig) → Buf (Elt Bits) ℓ) : Prop :=
  ∀ c : Dev Cert.Up.nD,
    (Cert.Pre_tables.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4))).1 = (fun _ => 1#1)
    ∧ (Cert.Pre_tables.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4))).2 = (fun _ => 1#1)

def Pre_UpIdeal [hPre_tables : Cert.Pre_tables.Facts] (m : (ℓ : Loc Cert.UpIdeal.nD Cert.UpIdeal.τ Cert.UpIdeal.sig) → Buf (Elt Ideal) ℓ) : Prop :=
  ∀ c : Dev Cert.UpIdeal.nD,
    (Cert.Pre_tables.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).1 = (fun _ => 1#1)
    ∧ (Cert.Pre_tables.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2 = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_tables [hPre_tables : Cert.Pre_tables.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_tables.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4))).1 = (fun _ => 1#1)
    ∧ (Cert.Pre_tables.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4))).2 = (fun _ => 1#1)

def Pre_Back [hPre_tables_back : Cert.Pre_tables_back.Facts] (m : (ℓ : Loc Cert.Back.nD Cert.Back.τ Cert.Back.sig) → Buf (Elt Bits) ℓ) : Prop :=
  ∀ c : Dev Cert.Back.nD,
    (Cert.Pre_tables_back.fn (F := Bits) (m ((c.tc : Thread Cert.Back.nD Cert.Back.τ).loc Cert.Back.main_arg0)) (m ((c.tc : Thread Cert.Back.nD Cert.Back.τ).loc Cert.Back.main_arg1)) (m ((c.tc : Thread Cert.Back.nD Cert.Back.τ).loc Cert.Back.main_arg2)) (m ((c.tc : Thread Cert.Back.nD Cert.Back.τ).loc Cert.Back.main_arg3))).1 = (fun _ => 1#1)
    ∧ (Cert.Pre_tables_back.fn (F := Bits) (m ((c.tc : Thread Cert.Back.nD Cert.Back.τ).loc Cert.Back.main_arg0)) (m ((c.tc : Thread Cert.Back.nD Cert.Back.τ).loc Cert.Back.main_arg1)) (m ((c.tc : Thread Cert.Back.nD Cert.Back.τ).loc Cert.Back.main_arg2)) (m ((c.tc : Thread Cert.Back.nD Cert.Back.τ).loc Cert.Back.main_arg3))).2 = (fun _ => 1#1)

def Pre_BackIdeal [hPre_tables_back : Cert.Pre_tables_back.Facts] (m : (ℓ : Loc Cert.BackIdeal.nD Cert.BackIdeal.τ Cert.BackIdeal.sig) → Buf (Elt Ideal) ℓ) : Prop :=
  ∀ c : Dev Cert.BackIdeal.nD,
    (Cert.Pre_tables_back.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3))).1 = (fun _ => 1#1)
    ∧ (Cert.Pre_tables_back.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) (m ((c.tc : Thread Cert.BackIdeal.nD Cert.BackIdeal.τ).loc Cert.BackIdeal.main_arg2)) (m ((c.tc : Thread Cert.BackIdeal.nD Cert.BackIdeal.τ).loc Cert.BackIdeal.main_arg3))).2 = (fun _ => 1#1)

def Pre_BackReferenceIdeal (m : (ℓ : Loc Cert.BackReferenceIdeal.nD Cert.BackReferenceIdeal.τ Cert.BackReferenceIdeal.sig) → Buf (Elt Ideal) ℓ) : Prop :=
  True

def Pre_BackReferenceIdeal_tables_back [hPre_tables_back : Cert.Pre_tables_back.Facts] (m : (ℓ : Loc Cert.BackReferenceIdeal.nD Cert.BackReferenceIdeal.τ Cert.BackReferenceIdeal.sig) → Buf (Elt Ideal) ℓ) : Prop :=
  ∀ c : Dev Cert.BackReferenceIdeal.nD,
    (Cert.Pre_tables_back.fn (F := Ideal) (m ((c.tc : Thread Cert.BackReferenceIdeal.nD Cert.BackReferenceIdeal.τ).loc Cert.BackReferenceIdeal.main_arg0)) (m ((c.tc : Thread Cert.BackReferenceIdeal.nD Cert.BackReferenceIdeal.τ).loc Cert.BackReferenceIdeal.main_arg1)) (m ((c.tc : Thread Cert.BackReferenceIdeal.nD Cert.BackReferenceIdeal.τ).loc Cert.BackReferenceIdeal.main_arg2)) (m ((c.tc : Thread Cert.BackReferenceIdeal.nD Cert.BackReferenceIdeal.τ).loc Cert.BackReferenceIdeal.main_arg3))).1 = (fun _ => 1#1)
    ∧ (Cert.Pre_tables_back.fn (F := Ideal) (m ((c.tc : Thread Cert.BackReferenceIdeal.nD Cert.BackReferenceIdeal.τ).loc Cert.BackReferenceIdeal.main_arg0)) (m ((c.tc : Thread Cert.BackReferenceIdeal.nD Cert.BackReferenceIdeal.τ).loc Cert.BackReferenceIdeal.main_arg1)) (m ((c.tc : Thread Cert.BackReferenceIdeal.nD Cert.BackReferenceIdeal.τ).loc Cert.BackReferenceIdeal.main_arg2)) (m ((c.tc : Thread Cert.BackReferenceIdeal.nD Cert.BackReferenceIdeal.τ).loc Cert.BackReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4))
      ∧ r.2.sem = fun _ => 0)

def quiescent_Val [hVal : Cert.Val.Facts] : Prop :=
  ∀ (m : (ℓ : Loc Cert.Val.nD Cert.Val.τ Cert.Val.sig) → Buf (Elt Bits) ℓ) (g : Dev Cert.Val.nD → PrngReg), Pre_Val m →
    θ_run (Cert.Val.defs (F := Bits)) (onTc (τ := Cert.Val.τ) (Cert.Val.main (F := Bits))) ⟨m, fun _ => 0, g⟩ (fun r => (∀ c : Dev Cert.Val.nD,
      r.2.mem ((c.tc : Thread Cert.Val.nD Cert.Val.τ).loc Cert.Val.main_arg0) = m ((c.tc : Thread Cert.Val.nD Cert.Val.τ).loc Cert.Val.main_arg0)
      ∧ r.2.mem ((c.tc : Thread Cert.Val.nD Cert.Val.τ).loc Cert.Val.main_arg1) = m ((c.tc : Thread Cert.Val.nD Cert.Val.τ).loc Cert.Val.main_arg1))
      ∧ r.2.sem = fun _ => 0)

def quiescent_ValIdeal [hValIdeal : Cert.ValIdeal.Facts] : Prop :=
  ∀ (m : (ℓ : Loc Cert.ValIdeal.nD Cert.ValIdeal.τ Cert.ValIdeal.sig) → Buf (Elt Ideal) ℓ) (g : Dev Cert.ValIdeal.nD → PrngReg), Pre_ValIdeal m →
    θ_run (Cert.ValIdeal.defs (F := Ideal)) (onTc (τ := Cert.ValIdeal.τ) (Cert.ValIdeal.main (F := Ideal))) ⟨m, fun _ => 0, g⟩ (fun r => (∀ c : Dev Cert.ValIdeal.nD,
      r.2.mem ((c.tc : Thread Cert.ValIdeal.nD Cert.ValIdeal.τ).loc Cert.ValIdeal.main_arg0) = m ((c.tc : Thread Cert.ValIdeal.nD Cert.ValIdeal.τ).loc Cert.ValIdeal.main_arg0)
      ∧ r.2.mem ((c.tc : Thread Cert.ValIdeal.nD Cert.ValIdeal.τ).loc Cert.ValIdeal.main_arg1) = m ((c.tc : Thread Cert.ValIdeal.nD Cert.ValIdeal.τ).loc Cert.ValIdeal.main_arg1))
      ∧ r.2.sem = fun _ => 0)

def quiescent_ValReferenceIdeal [hValReferenceIdeal : Cert.ValReferenceIdeal.Facts] : Prop :=
  ∀ (m : (ℓ : Loc Cert.ValReferenceIdeal.nD Cert.ValReferenceIdeal.τ Cert.ValReferenceIdeal.sig) → Buf (Elt Ideal) ℓ) (g : Dev Cert.ValReferenceIdeal.nD → PrngReg), Pre_ValReferenceIdeal m →
    θ_run (Cert.ValReferenceIdeal.defs (F := Ideal)) (onTc (τ := Cert.ValReferenceIdeal.τ) (Cert.ValReferenceIdeal.main (F := Ideal))) ⟨m, fun _ => 0, g⟩ (fun r => (∀ c : Dev Cert.ValReferenceIdeal.nD,
      r.2.mem ((c.tc : Thread Cert.ValReferenceIdeal.nD Cert.ValReferenceIdeal.τ).loc Cert.ValReferenceIdeal.main_arg0) = m ((c.tc : Thread Cert.ValReferenceIdeal.nD Cert.ValReferenceIdeal.τ).loc Cert.ValReferenceIdeal.main_arg0)
      ∧ r.2.mem ((c.tc : Thread Cert.ValReferenceIdeal.nD Cert.ValReferenceIdeal.τ).loc Cert.ValReferenceIdeal.main_arg1) = m ((c.tc : Thread Cert.ValReferenceIdeal.nD Cert.ValReferenceIdeal.τ).loc Cert.ValReferenceIdeal.main_arg1))
      ∧ r.2.sem = fun _ => 0)

def quiescent_Qry [hQry : Cert.Qry.Facts] : Prop :=
  ∀ (m : (ℓ : Loc Cert.Qry.nD Cert.Qry.τ Cert.Qry.sig) → Buf (Elt Bits) ℓ) (g : Dev Cert.Qry.nD → PrngReg), Pre_Qry m →
    θ_run (Cert.Qry.defs (F := Bits)) (onTc (τ := Cert.Qry.τ) (Cert.Qry.main (F := Bits))) ⟨m, fun _ => 0, g⟩ (fun r => (∀ c : Dev Cert.Qry.nD,
      r.2.mem ((c.tc : Thread Cert.Qry.nD Cert.Qry.τ).loc Cert.Qry.main_arg0) = m ((c.tc : Thread Cert.Qry.nD Cert.Qry.τ).loc Cert.Qry.main_arg0)
      ∧ r.2.mem ((c.tc : Thread Cert.Qry.nD Cert.Qry.τ).loc Cert.Qry.main_arg1) = m ((c.tc : Thread Cert.Qry.nD Cert.Qry.τ).loc Cert.Qry.main_arg1)
      ∧ r.2.mem ((c.tc : Thread Cert.Qry.nD Cert.Qry.τ).loc Cert.Qry.main_arg2) = m ((c.tc : Thread Cert.Qry.nD Cert.Qry.τ).loc Cert.Qry.main_arg2)
      ∧ r.2.mem ((c.tc : Thread Cert.Qry.nD Cert.Qry.τ).loc Cert.Qry.main_arg3) = m ((c.tc : Thread Cert.Qry.nD Cert.Qry.τ).loc Cert.Qry.main_arg3)
      ∧ r.2.mem ((c.tc : Thread Cert.Qry.nD Cert.Qry.τ).loc Cert.Qry.main_arg4) = m ((c.tc : Thread Cert.Qry.nD Cert.Qry.τ).loc Cert.Qry.main_arg4))
      ∧ r.2.sem = fun _ => 0)

def quiescent_QryIdeal [hQryIdeal : Cert.QryIdeal.Facts] : Prop :=
  ∀ (m : (ℓ : Loc Cert.QryIdeal.nD Cert.QryIdeal.τ Cert.QryIdeal.sig) → Buf (Elt Ideal) ℓ) (g : Dev Cert.QryIdeal.nD → PrngReg), Pre_QryIdeal m →
    θ_run (Cert.QryIdeal.defs (F := Ideal)) (onTc (τ := Cert.QryIdeal.τ) (Cert.QryIdeal.main (F := Ideal))) ⟨m, fun _ => 0, g⟩ (fun r => (∀ c : Dev Cert.QryIdeal.nD,
      r.2.mem ((c.tc : Thread Cert.QryIdeal.nD Cert.QryIdeal.τ).loc Cert.QryIdeal.main_arg0) = m ((c.tc : Thread Cert.QryIdeal.nD Cert.QryIdeal.τ).loc Cert.QryIdeal.main_arg0)
      ∧ r.2.mem ((c.tc : Thread Cert.QryIdeal.nD Cert.QryIdeal.τ).loc Cert.QryIdeal.main_arg1) = m ((c.tc : Thread Cert.QryIdeal.nD Cert.QryIdeal.τ).loc Cert.QryIdeal.main_arg1)
      ∧ r.2.mem ((c.tc : Thread Cert.QryIdeal.nD Cert.QryIdeal.τ).loc Cert.QryIdeal.main_arg2) = m ((c.tc : Thread Cert.QryIdeal.nD Cert.QryIdeal.τ).loc Cert.QryIdeal.main_arg2)
      ∧ r.2.mem ((c.tc : Thread Cert.QryIdeal.nD Cert.QryIdeal.τ).loc Cert.QryIdeal.main_arg3) = m ((c.tc : Thread Cert.QryIdeal.nD Cert.QryIdeal.τ).loc Cert.QryIdeal.main_arg3)
      ∧ r.2.mem ((c.tc : Thread Cert.QryIdeal.nD Cert.QryIdeal.τ).loc Cert.QryIdeal.main_arg4) = m ((c.tc : Thread Cert.QryIdeal.nD Cert.QryIdeal.τ).loc Cert.QryIdeal.main_arg4))
      ∧ r.2.sem = fun _ => 0)

def quiescent_QryReferenceIdeal [hQryReferenceIdeal : Cert.QryReferenceIdeal.Facts] : Prop :=
  ∀ (m : (ℓ : Loc Cert.QryReferenceIdeal.nD Cert.QryReferenceIdeal.τ Cert.QryReferenceIdeal.sig) → Buf (Elt Ideal) ℓ) (g : Dev Cert.QryReferenceIdeal.nD → PrngReg), Pre_QryReferenceIdeal m →
    θ_run (Cert.QryReferenceIdeal.defs (F := Ideal)) (onTc (τ := Cert.QryReferenceIdeal.τ) (Cert.QryReferenceIdeal.main (F := Ideal))) ⟨m, fun _ => 0, g⟩ (fun r => (∀ c : Dev Cert.QryReferenceIdeal.nD,
      r.2.mem ((c.tc : Thread Cert.QryReferenceIdeal.nD Cert.QryReferenceIdeal.τ).loc Cert.QryReferenceIdeal.main_arg0) = m ((c.tc : Thread Cert.QryReferenceIdeal.nD Cert.QryReferenceIdeal.τ).loc Cert.QryReferenceIdeal.main_arg0)
      ∧ r.2.mem ((c.tc : Thread Cert.QryReferenceIdeal.nD Cert.QryReferenceIdeal.τ).loc Cert.QryReferenceIdeal.main_arg1) = m ((c.tc : Thread Cert.QryReferenceIdeal.nD Cert.QryReferenceIdeal.τ).loc Cert.QryReferenceIdeal.main_arg1)
      ∧ r.2.mem ((c.tc : Thread Cert.QryReferenceIdeal.nD Cert.QryReferenceIdeal.τ).loc Cert.QryReferenceIdeal.main_arg2) = m ((c.tc : Thread Cert.QryReferenceIdeal.nD Cert.QryReferenceIdeal.τ).loc Cert.QryReferenceIdeal.main_arg2)
      ∧ r.2.mem ((c.tc : Thread Cert.QryReferenceIdeal.nD Cert.QryReferenceIdeal.τ).loc Cert.QryReferenceIdeal.main_arg3) = m ((c.tc : Thread Cert.QryReferenceIdeal.nD Cert.QryReferenceIdeal.τ).loc Cert.QryReferenceIdeal.main_arg3)
      ∧ r.2.mem ((c.tc : Thread Cert.QryReferenceIdeal.nD Cert.QryReferenceIdeal.τ).loc Cert.QryReferenceIdeal.main_arg4) = m ((c.tc : Thread Cert.QryReferenceIdeal.nD Cert.QryReferenceIdeal.τ).loc Cert.QryReferenceIdeal.main_arg4))
      ∧ r.2.sem = fun _ => 0)

def quiescent_Key [hKey : Cert.Key.Facts] : Prop :=
  ∀ (m : (ℓ : Loc Cert.Key.nD Cert.Key.τ Cert.Key.sig) → Buf (Elt Bits) ℓ) (g : Dev Cert.Key.nD → PrngReg), Pre_Key m →
    θ_run (Cert.Key.defs (F := Bits)) (onTc (τ := Cert.Key.τ) (Cert.Key.main (F := Bits))) ⟨m, fun _ => 0, g⟩ (fun r => (∀ c : Dev Cert.Key.nD,
      r.2.mem ((c.tc : Thread Cert.Key.nD Cert.Key.τ).loc Cert.Key.main_arg0) = m ((c.tc : Thread Cert.Key.nD Cert.Key.τ).loc Cert.Key.main_arg0)
      ∧ r.2.mem ((c.tc : Thread Cert.Key.nD Cert.Key.τ).loc Cert.Key.main_arg1) = m ((c.tc : Thread Cert.Key.nD Cert.Key.τ).loc Cert.Key.main_arg1)
      ∧ r.2.mem ((c.tc : Thread Cert.Key.nD Cert.Key.τ).loc Cert.Key.main_arg2) = m ((c.tc : Thread Cert.Key.nD Cert.Key.τ).loc Cert.Key.main_arg2)
      ∧ r.2.mem ((c.tc : Thread Cert.Key.nD Cert.Key.τ).loc Cert.Key.main_arg3) = m ((c.tc : Thread Cert.Key.nD Cert.Key.τ).loc Cert.Key.main_arg3)
      ∧ r.2.mem ((c.tc : Thread Cert.Key.nD Cert.Key.τ).loc Cert.Key.main_arg4) = m ((c.tc : Thread Cert.Key.nD Cert.Key.τ).loc Cert.Key.main_arg4))
      ∧ r.2.sem = fun _ => 0)

def quiescent_KeyIdeal [hKeyIdeal : Cert.KeyIdeal.Facts] : Prop :=
  ∀ (m : (ℓ : Loc Cert.KeyIdeal.nD Cert.KeyIdeal.τ Cert.KeyIdeal.sig) → Buf (Elt Ideal) ℓ) (g : Dev Cert.KeyIdeal.nD → PrngReg), Pre_KeyIdeal m →
    θ_run (Cert.KeyIdeal.defs (F := Ideal)) (onTc (τ := Cert.KeyIdeal.τ) (Cert.KeyIdeal.main (F := Ideal))) ⟨m, fun _ => 0, g⟩ (fun r => (∀ c : Dev Cert.KeyIdeal.nD,
      r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
      ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1)
      ∧ r.2.mem ((c.tc : Thread Cert.KeyIdeal.nD Cert.KeyIdeal.τ).loc Cert.KeyIdeal.main_arg2) = m ((c.tc : Thread Cert.KeyIdeal.nD Cert.KeyIdeal.τ).loc Cert.KeyIdeal.main_arg2)
      ∧ r.2.mem ((c.tc : Thread Cert.KeyIdeal.nD Cert.KeyIdeal.τ).loc Cert.KeyIdeal.main_arg3) = m ((c.tc : Thread Cert.KeyIdeal.nD Cert.KeyIdeal.τ).loc Cert.KeyIdeal.main_arg3)
      ∧ r.2.mem ((c.tc : Thread Cert.KeyIdeal.nD Cert.KeyIdeal.τ).loc Cert.KeyIdeal.main_arg4) = m ((c.tc : Thread Cert.KeyIdeal.nD Cert.KeyIdeal.τ).loc Cert.KeyIdeal.main_arg4))
      ∧ r.2.sem = fun _ => 0)

def quiescent_KeyReferenceIdeal [hKeyReferenceIdeal : Cert.KeyReferenceIdeal.Facts] : Prop :=
  ∀ (m : (ℓ : Loc Cert.KeyReferenceIdeal.nD Cert.KeyReferenceIdeal.τ Cert.KeyReferenceIdeal.sig) → Buf (Elt Ideal) ℓ) (g : Dev Cert.KeyReferenceIdeal.nD → PrngReg), Pre_KeyReferenceIdeal m →
    θ_run (Cert.KeyReferenceIdeal.defs (F := Ideal)) (onTc (τ := Cert.KeyReferenceIdeal.τ) (Cert.KeyReferenceIdeal.main (F := Ideal))) ⟨m, fun _ => 0, g⟩ (fun r => (∀ c : Dev Cert.KeyReferenceIdeal.nD,
      r.2.mem ((c.tc : Thread Cert.KeyReferenceIdeal.nD Cert.KeyReferenceIdeal.τ).loc Cert.KeyReferenceIdeal.main_arg0) = m ((c.tc : Thread Cert.KeyReferenceIdeal.nD Cert.KeyReferenceIdeal.τ).loc Cert.KeyReferenceIdeal.main_arg0)
      ∧ r.2.mem ((c.tc : Thread Cert.KeyReferenceIdeal.nD Cert.KeyReferenceIdeal.τ).loc Cert.KeyReferenceIdeal.main_arg1) = m ((c.tc : Thread Cert.KeyReferenceIdeal.nD Cert.KeyReferenceIdeal.τ).loc Cert.KeyReferenceIdeal.main_arg1)
      ∧ r.2.mem ((c.tc : Thread Cert.KeyReferenceIdeal.nD Cert.KeyReferenceIdeal.τ).loc Cert.KeyReferenceIdeal.main_arg2) = m ((c.tc : Thread Cert.KeyReferenceIdeal.nD Cert.KeyReferenceIdeal.τ).loc Cert.KeyReferenceIdeal.main_arg2)
      ∧ r.2.mem ((c.tc : Thread Cert.KeyReferenceIdeal.nD Cert.KeyReferenceIdeal.τ).loc Cert.KeyReferenceIdeal.main_arg3) = m ((c.tc : Thread Cert.KeyReferenceIdeal.nD Cert.KeyReferenceIdeal.τ).loc Cert.KeyReferenceIdeal.main_arg3)
      ∧ r.2.mem ((c.tc : Thread Cert.KeyReferenceIdeal.nD Cert.KeyReferenceIdeal.τ).loc Cert.KeyReferenceIdeal.main_arg4) = m ((c.tc : Thread Cert.KeyReferenceIdeal.nD Cert.KeyReferenceIdeal.τ).loc Cert.KeyReferenceIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def quiescent_Start [hStart : Cert.Start.Facts] : Prop :=
  ∀ (m : (ℓ : Loc Cert.Start.nD Cert.Start.τ Cert.Start.sig) → Buf (Elt Bits) ℓ) (g : Dev Cert.Start.nD → PrngReg), Pre_Start m →
    θ_run (Cert.Start.defs (F := Bits)) (onTc (τ := Cert.Start.τ) (Cert.Start.main (F := Bits))) ⟨m, fun _ => 0, g⟩ (fun r => (∀ c : Dev Cert.Start.nD,
      r.2.mem ((c.tc : Thread Cert.Start.nD Cert.Start.τ).loc Cert.Start.main_arg0) = m ((c.tc : Thread Cert.Start.nD Cert.Start.τ).loc Cert.Start.main_arg0)
      ∧ r.2.mem ((c.tc : Thread Cert.Start.nD Cert.Start.τ).loc Cert.Start.main_arg1) = m ((c.tc : Thread Cert.Start.nD Cert.Start.τ).loc Cert.Start.main_arg1)
      ∧ r.2.mem ((c.tc : Thread Cert.Start.nD Cert.Start.τ).loc Cert.Start.main_arg2) = m ((c.tc : Thread Cert.Start.nD Cert.Start.τ).loc Cert.Start.main_arg2)
      ∧ r.2.mem ((c.tc : Thread Cert.Start.nD Cert.Start.τ).loc Cert.Start.main_arg3) = m ((c.tc : Thread Cert.Start.nD Cert.Start.τ).loc Cert.Start.main_arg3))
      ∧ r.2.sem = fun _ => 0)

def quiescent_StartIdeal [hStartIdeal : Cert.StartIdeal.Facts] : Prop :=
  ∀ (m : (ℓ : Loc Cert.StartIdeal.nD Cert.StartIdeal.τ Cert.StartIdeal.sig) → Buf (Elt Ideal) ℓ) (g : Dev Cert.StartIdeal.nD → PrngReg), Pre_StartIdeal m →
    θ_run (Cert.StartIdeal.defs (F := Ideal)) (onTc (τ := Cert.StartIdeal.τ) (Cert.StartIdeal.main (F := Ideal))) ⟨m, fun _ => 0, g⟩ (fun r => (∀ c : Dev Cert.StartIdeal.nD,
      r.2.mem ((c.tc : Thread Cert.StartIdeal.nD Cert.StartIdeal.τ).loc Cert.StartIdeal.main_arg0) = m ((c.tc : Thread Cert.StartIdeal.nD Cert.StartIdeal.τ).loc Cert.StartIdeal.main_arg0)
      ∧ r.2.mem ((c.tc : Thread Cert.StartIdeal.nD Cert.StartIdeal.τ).loc Cert.StartIdeal.main_arg1) = m ((c.tc : Thread Cert.StartIdeal.nD Cert.StartIdeal.τ).loc Cert.StartIdeal.main_arg1)
      ∧ r.2.mem ((c.tc : Thread Cert.StartIdeal.nD Cert.StartIdeal.τ).loc Cert.StartIdeal.main_arg2) = m ((c.tc : Thread Cert.StartIdeal.nD Cert.StartIdeal.τ).loc Cert.StartIdeal.main_arg2)
      ∧ r.2.mem ((c.tc : Thread Cert.StartIdeal.nD Cert.StartIdeal.τ).loc Cert.StartIdeal.main_arg3) = m ((c.tc : Thread Cert.StartIdeal.nD Cert.StartIdeal.τ).loc Cert.StartIdeal.main_arg3))
      ∧ r.2.sem = fun _ => 0)

def quiescent_StartReferenceIdeal [hStartReferenceIdeal : Cert.StartReferenceIdeal.Facts] : Prop :=
  ∀ (m : (ℓ : Loc Cert.StartReferenceIdeal.nD Cert.StartReferenceIdeal.τ Cert.StartReferenceIdeal.sig) → Buf (Elt Ideal) ℓ) (g : Dev Cert.StartReferenceIdeal.nD → PrngReg), Pre_StartReferenceIdeal m →
    θ_run (Cert.StartReferenceIdeal.defs (F := Ideal)) (onTc (τ := Cert.StartReferenceIdeal.τ) (Cert.StartReferenceIdeal.main (F := Ideal))) ⟨m, fun _ => 0, g⟩ (fun r => (∀ c : Dev Cert.StartReferenceIdeal.nD,
      r.2.mem ((c.tc : Thread Cert.StartReferenceIdeal.nD Cert.StartReferenceIdeal.τ).loc Cert.StartReferenceIdeal.main_arg0) = m ((c.tc : Thread Cert.StartReferenceIdeal.nD Cert.StartReferenceIdeal.τ).loc Cert.StartReferenceIdeal.main_arg0)
      ∧ r.2.mem ((c.tc : Thread Cert.StartReferenceIdeal.nD Cert.StartReferenceIdeal.τ).loc Cert.StartReferenceIdeal.main_arg1) = m ((c.tc : Thread Cert.StartReferenceIdeal.nD Cert.StartReferenceIdeal.τ).loc Cert.StartReferenceIdeal.main_arg1)
      ∧ r.2.mem ((c.tc : Thread Cert.StartReferenceIdeal.nD Cert.StartReferenceIdeal.τ).loc Cert.StartReferenceIdeal.main_arg2) = m ((c.tc : Thread Cert.StartReferenceIdeal.nD Cert.StartReferenceIdeal.τ).loc Cert.StartReferenceIdeal.main_arg2)
      ∧ r.2.mem ((c.tc : Thread Cert.StartReferenceIdeal.nD Cert.StartReferenceIdeal.τ).loc Cert.StartReferenceIdeal.main_arg3) = m ((c.tc : Thread Cert.StartReferenceIdeal.nD Cert.StartReferenceIdeal.τ).loc Cert.StartReferenceIdeal.main_arg3))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ r.2.sem = fun _ => 0)

def quiescent_CtxIdeal_pre_finite_context [hCtxIdeal : Cert.CtxIdeal.Facts] [hPre_finite_context : Cert.Pre_finite_context.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_finite_context m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2))
      ∧ r.2.sem = fun _ => 0)

def quiescent_CtxReferenceIdeal_pre_finite_context [hCtxReferenceIdeal : Cert.CtxReferenceIdeal.Facts] [hPre_finite_context : Cert.Pre_finite_context.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal_finite_context m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2))
      ∧ r.2.sem = fun _ => 0)

def quiescent_Chan [hChan : Cert.Chan.Facts] : Prop :=
  ∀ (m : (ℓ : Loc Cert.Chan.nD Cert.Chan.τ Cert.Chan.sig) → Buf (Elt Bits) ℓ) (g : Dev Cert.Chan.nD → PrngReg), Pre_Chan m →
    θ_run (Cert.Chan.defs (F := Bits)) (onTc (τ := Cert.Chan.τ) (Cert.Chan.main (F := Bits))) ⟨m, fun _ => 0, g⟩ (fun r => (∀ c : Dev Cert.Chan.nD,
      r.2.mem ((c.tc : Thread Cert.Chan.nD Cert.Chan.τ).loc Cert.Chan.main_arg0) = m ((c.tc : Thread Cert.Chan.nD Cert.Chan.τ).loc Cert.Chan.main_arg0)
      ∧ r.2.mem ((c.tc : Thread Cert.Chan.nD Cert.Chan.τ).loc Cert.Chan.main_arg1) = m ((c.tc : Thread Cert.Chan.nD Cert.Chan.τ).loc Cert.Chan.main_arg1))
      ∧ r.2.sem = fun _ => 0)

def quiescent_ChanIdeal [hChanIdeal : Cert.ChanIdeal.Facts] : Prop :=
  ∀ (m : (ℓ : Loc Cert.ChanIdeal.nD Cert.ChanIdeal.τ Cert.ChanIdeal.sig) → Buf (Elt Ideal) ℓ) (g : Dev Cert.ChanIdeal.nD → PrngReg), Pre_ChanIdeal m →
    θ_run (Cert.ChanIdeal.defs (F := Ideal)) (onTc (τ := Cert.ChanIdeal.τ) (Cert.ChanIdeal.main (F := Ideal))) ⟨m, fun _ => 0, g⟩ (fun r => (∀ c : Dev Cert.ChanIdeal.nD,
      r.2.mem ((c.tc : Thread Cert.ChanIdeal.nD Cert.ChanIdeal.τ).loc Cert.ChanIdeal.main_arg0) = m ((c.tc : Thread Cert.ChanIdeal.nD Cert.ChanIdeal.τ).loc Cert.ChanIdeal.main_arg0)
      ∧ r.2.mem ((c.tc : Thread Cert.ChanIdeal.nD Cert.ChanIdeal.τ).loc Cert.ChanIdeal.main_arg1) = m ((c.tc : Thread Cert.ChanIdeal.nD Cert.ChanIdeal.τ).loc Cert.ChanIdeal.main_arg1))
      ∧ r.2.sem = fun _ => 0)

def quiescent_ChanReferenceIdeal [hChanReferenceIdeal : Cert.ChanReferenceIdeal.Facts] : Prop :=
  ∀ (m : (ℓ : Loc Cert.ChanReferenceIdeal.nD Cert.ChanReferenceIdeal.τ Cert.ChanReferenceIdeal.sig) → Buf (Elt Ideal) ℓ) (g : Dev Cert.ChanReferenceIdeal.nD → PrngReg), Pre_ChanReferenceIdeal m →
    θ_run (Cert.ChanReferenceIdeal.defs (F := Ideal)) (onTc (τ := Cert.ChanReferenceIdeal.τ) (Cert.ChanReferenceIdeal.main (F := Ideal))) ⟨m, fun _ => 0, g⟩ (fun r => (∀ c : Dev Cert.ChanReferenceIdeal.nD,
      r.2.mem ((c.tc : Thread Cert.ChanReferenceIdeal.nD Cert.ChanReferenceIdeal.τ).loc Cert.ChanReferenceIdeal.main_arg0) = m ((c.tc : Thread Cert.ChanReferenceIdeal.nD Cert.ChanReferenceIdeal.τ).loc Cert.ChanReferenceIdeal.main_arg0)
      ∧ r.2.mem ((c.tc : Thread Cert.ChanReferenceIdeal.nD Cert.ChanReferenceIdeal.τ).loc Cert.ChanReferenceIdeal.main_arg1) = m ((c.tc : Thread Cert.ChanReferenceIdeal.nD Cert.ChanReferenceIdeal.τ).loc Cert.ChanReferenceIdeal.main_arg1))
      ∧ r.2.sem = fun _ => 0)

def quiescent_Short [hShort : Cert.Short.Facts] : Prop :=
  ∀ (m : (ℓ : Loc Cert.Short.nD Cert.Short.τ Cert.Short.sig) → Buf (Elt Bits) ℓ) (g : Dev Cert.Short.nD → PrngReg), Pre_Short m →
    θ_run (Cert.Short.defs (F := Bits)) (onTc (τ := Cert.Short.τ) (Cert.Short.main (F := Bits))) ⟨m, fun _ => 0, g⟩ (fun r => (∀ c : Dev Cert.Short.nD,
      r.2.mem ((c.tc : Thread Cert.Short.nD Cert.Short.τ).loc Cert.Short.main_arg0) = m ((c.tc : Thread Cert.Short.nD Cert.Short.τ).loc Cert.Short.main_arg0)
      ∧ r.2.mem ((c.tc : Thread Cert.Short.nD Cert.Short.τ).loc Cert.Short.main_arg1) = m ((c.tc : Thread Cert.Short.nD Cert.Short.τ).loc Cert.Short.main_arg1)
      ∧ r.2.mem ((c.tc : Thread Cert.Short.nD Cert.Short.τ).loc Cert.Short.main_arg2) = m ((c.tc : Thread Cert.Short.nD Cert.Short.τ).loc Cert.Short.main_arg2)
      ∧ r.2.mem ((c.tc : Thread Cert.Short.nD Cert.Short.τ).loc Cert.Short.main_arg3) = m ((c.tc : Thread Cert.Short.nD Cert.Short.τ).loc Cert.Short.main_arg3))
      ∧ r.2.sem = fun _ => 0)

def quiescent_ShortIdeal [hShortIdeal : Cert.ShortIdeal.Facts] : Prop :=
  ∀ (m : (ℓ : Loc Cert.ShortIdeal.nD Cert.ShortIdeal.τ Cert.ShortIdeal.sig) → Buf (Elt Ideal) ℓ) (g : Dev Cert.ShortIdeal.nD → PrngReg), Pre_ShortIdeal m →
    θ_run (Cert.ShortIdeal.defs (F := Ideal)) (onTc (τ := Cert.ShortIdeal.τ) (Cert.ShortIdeal.main (F := Ideal))) ⟨m, fun _ => 0, g⟩ (fun r => (∀ c : Dev Cert.ShortIdeal.nD,
      r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
      ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
      ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2)
      ∧ r.2.mem ((c.tc : Thread Cert.ShortIdeal.nD Cert.ShortIdeal.τ).loc Cert.ShortIdeal.main_arg3) = m ((c.tc : Thread Cert.ShortIdeal.nD Cert.ShortIdeal.τ).loc Cert.ShortIdeal.main_arg3))
      ∧ r.2.sem = fun _ => 0)

def quiescent_ShortReferenceIdeal [hShortReferenceIdeal : Cert.ShortReferenceIdeal.Facts] : Prop :=
  ∀ (m : (ℓ : Loc Cert.ShortReferenceIdeal.nD Cert.ShortReferenceIdeal.τ Cert.ShortReferenceIdeal.sig) → Buf (Elt Ideal) ℓ) (g : Dev Cert.ShortReferenceIdeal.nD → PrngReg), Pre_ShortReferenceIdeal m →
    θ_run (Cert.ShortReferenceIdeal.defs (F := Ideal)) (onTc (τ := Cert.ShortReferenceIdeal.τ) (Cert.ShortReferenceIdeal.main (F := Ideal))) ⟨m, fun _ => 0, g⟩ (fun r => (∀ c : Dev Cert.ShortReferenceIdeal.nD,
      r.2.mem ((c.tc : Thread Cert.ShortReferenceIdeal.nD Cert.ShortReferenceIdeal.τ).loc Cert.ShortReferenceIdeal.main_arg0) = m ((c.tc : Thread Cert.ShortReferenceIdeal.nD Cert.ShortReferenceIdeal.τ).loc Cert.ShortReferenceIdeal.main_arg0)
      ∧ r.2.mem ((c.tc : Thread Cert.ShortReferenceIdeal.nD Cert.ShortReferenceIdeal.τ).loc Cert.ShortReferenceIdeal.main_arg1) = m ((c.tc : Thread Cert.ShortReferenceIdeal.nD Cert.ShortReferenceIdeal.τ).loc Cert.ShortReferenceIdeal.main_arg1)
      ∧ r.2.mem ((c.tc : Thread Cert.ShortReferenceIdeal.nD Cert.ShortReferenceIdeal.τ).loc Cert.ShortReferenceIdeal.main_arg2) = m ((c.tc : Thread Cert.ShortReferenceIdeal.nD Cert.ShortReferenceIdeal.τ).loc Cert.ShortReferenceIdeal.main_arg2)
      ∧ r.2.mem ((c.tc : Thread Cert.ShortReferenceIdeal.nD Cert.ShortReferenceIdeal.τ).loc Cert.ShortReferenceIdeal.main_arg3) = m ((c.tc : Thread Cert.ShortReferenceIdeal.nD Cert.ShortReferenceIdeal.τ).loc Cert.ShortReferenceIdeal.main_arg3))
      ∧ r.2.sem = fun _ => 0)

def quiescent_Long [hLong : Cert.Long.Facts] : Prop :=
  ∀ (m : (ℓ : Loc Cert.Long.nD Cert.Long.τ Cert.Long.sig) → Buf (Elt Bits) ℓ) (g : Dev Cert.Long.nD → PrngReg), Pre_Long m →
    θ_run (Cert.Long.defs (F := Bits)) (onTc (τ := Cert.Long.τ) (Cert.Long.main (F := Bits))) ⟨m, fun _ => 0, g⟩ (fun r => (∀ c : Dev Cert.Long.nD,
      r.2.mem ((c.tc : Thread Cert.Long.nD Cert.Long.τ).loc Cert.Long.main_arg0) = m ((c.tc : Thread Cert.Long.nD Cert.Long.τ).loc Cert.Long.main_arg0)
      ∧ r.2.mem ((c.tc : Thread Cert.Long.nD Cert.Long.τ).loc Cert.Long.main_arg1) = m ((c.tc : Thread Cert.Long.nD Cert.Long.τ).loc Cert.Long.main_arg1)
      ∧ r.2.mem ((c.tc : Thread Cert.Long.nD Cert.Long.τ).loc Cert.Long.main_arg2) = m ((c.tc : Thread Cert.Long.nD Cert.Long.τ).loc Cert.Long.main_arg2)
      ∧ r.2.mem ((c.tc : Thread Cert.Long.nD Cert.Long.τ).loc Cert.Long.main_arg3) = m ((c.tc : Thread Cert.Long.nD Cert.Long.τ).loc Cert.Long.main_arg3)
      ∧ r.2.mem ((c.tc : Thread Cert.Long.nD Cert.Long.τ).loc Cert.Long.main_arg4) = m ((c.tc : Thread Cert.Long.nD Cert.Long.τ).loc Cert.Long.main_arg4))
      ∧ r.2.sem = fun _ => 0)

def quiescent_LongIdeal [hLongIdeal : Cert.LongIdeal.Facts] : Prop :=
  ∀ (m : (ℓ : Loc Cert.LongIdeal.nD Cert.LongIdeal.τ Cert.LongIdeal.sig) → Buf (Elt Ideal) ℓ) (g : Dev Cert.LongIdeal.nD → PrngReg), Pre_LongIdeal m →
    θ_run (Cert.LongIdeal.defs (F := Ideal)) (onTc (τ := Cert.LongIdeal.τ) (Cert.LongIdeal.main (F := Ideal))) ⟨m, fun _ => 0, g⟩ (fun r => (∀ c : Dev Cert.LongIdeal.nD,
      r.2.mem ((c.tc : Thread Cert.LongIdeal.nD Cert.LongIdeal.τ).loc Cert.LongIdeal.main_arg0) = m ((c.tc : Thread Cert.LongIdeal.nD Cert.LongIdeal.τ).loc Cert.LongIdeal.main_arg0)
      ∧ r.2.mem ((c.tc : Thread Cert.LongIdeal.nD Cert.LongIdeal.τ).loc Cert.LongIdeal.main_arg1) = m ((c.tc : Thread Cert.LongIdeal.nD Cert.LongIdeal.τ).loc Cert.LongIdeal.main_arg1)
      ∧ r.2.mem ((c.tc : Thread Cert.LongIdeal.nD Cert.LongIdeal.τ).loc Cert.LongIdeal.main_arg2) = m ((c.tc : Thread Cert.LongIdeal.nD Cert.LongIdeal.τ).loc Cert.LongIdeal.main_arg2)
      ∧ r.2.mem ((c.tc : Thread Cert.LongIdeal.nD Cert.LongIdeal.τ).loc Cert.LongIdeal.main_arg3) = m ((c.tc : Thread Cert.LongIdeal.nD Cert.LongIdeal.τ).loc Cert.LongIdeal.main_arg3)
      ∧ r.2.mem ((c.tc : Thread Cert.LongIdeal.nD Cert.LongIdeal.τ).loc Cert.LongIdeal.main_arg4) = m ((c.tc : Thread Cert.LongIdeal.nD Cert.LongIdeal.τ).loc Cert.LongIdeal.main_arg4))
      ∧ r.2.sem = fun _ => 0)

def quiescent_LongReferenceIdeal [hLongReferenceIdeal : Cert.LongReferenceIdeal.Facts] : Prop :=
  ∀ (m : (ℓ : Loc Cert.LongReferenceIdeal.nD Cert.LongReferenceIdeal.τ Cert.LongReferenceIdeal.sig) → Buf (Elt Ideal) ℓ) (g : Dev Cert.LongReferenceIdeal.nD → PrngReg), Pre_LongReferenceIdeal m →
    θ_run (Cert.LongReferenceIdeal.defs (F := Ideal)) (onTc (τ := Cert.LongReferenceIdeal.τ) (Cert.LongReferenceIdeal.main (F := Ideal))) ⟨m, fun _ => 0, g⟩ (fun r => (∀ c : Dev Cert.LongReferenceIdeal.nD,
      r.2.mem ((c.tc : Thread Cert.LongReferenceIdeal.nD Cert.LongReferenceIdeal.τ).loc Cert.LongReferenceIdeal.main_arg0) = m ((c.tc : Thread Cert.LongReferenceIdeal.nD Cert.LongReferenceIdeal.τ).loc Cert.LongReferenceIdeal.main_arg0)
      ∧ r.2.mem ((c.tc : Thread Cert.LongReferenceIdeal.nD Cert.LongReferenceIdeal.τ).loc Cert.LongReferenceIdeal.main_arg1) = m ((c.tc : Thread Cert.LongReferenceIdeal.nD Cert.LongReferenceIdeal.τ).loc Cert.LongReferenceIdeal.main_arg1)
      ∧ r.2.mem ((c.tc : Thread Cert.LongReferenceIdeal.nD Cert.LongReferenceIdeal.τ).loc Cert.LongReferenceIdeal.main_arg2) = m ((c.tc : Thread Cert.LongReferenceIdeal.nD Cert.LongReferenceIdeal.τ).loc Cert.LongReferenceIdeal.main_arg2)
      ∧ r.2.mem ((c.tc : Thread Cert.LongReferenceIdeal.nD Cert.LongReferenceIdeal.τ).loc Cert.LongReferenceIdeal.main_arg3) = m ((c.tc : Thread Cert.LongReferenceIdeal.nD Cert.LongReferenceIdeal.τ).loc Cert.LongReferenceIdeal.main_arg3)
      ∧ r.2.mem ((c.tc : Thread Cert.LongReferenceIdeal.nD Cert.LongReferenceIdeal.τ).loc Cert.LongReferenceIdeal.main_arg4) = m ((c.tc : Thread Cert.LongReferenceIdeal.nD Cert.LongReferenceIdeal.τ).loc Cert.LongReferenceIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_Up [hUp : Cert.Up.Facts] [hPre_tables : Cert.Pre_tables.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] [hPre_tables : Cert.Pre_tables.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_UpReferenceIdeal_pre_tables [hUpReferenceIdeal : Cert.UpReferenceIdeal.Facts] [hPre_tables : Cert.Pre_tables.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_tables m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_Back [hBack : Cert.Back.Facts] [hPre_tables_back : Cert.Pre_tables_back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3))
      ∧ r.2.sem = fun _ => 0)

def quiescent_BackIdeal [hBackIdeal : Cert.BackIdeal.Facts] [hPre_tables_back : Cert.Pre_tables_back.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3))
      ∧ r.2.sem = fun _ => 0)

def quiescent_BackReferenceIdeal_pre_tables_back [hBackReferenceIdeal : Cert.BackReferenceIdeal.Facts] [hPre_tables_back : Cert.Pre_tables_back.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal_tables_back m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v9) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v23) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v23) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)
      ∧ m' ((c.tc : Thread Cert.FirstReferenceIdeal.nD Cert.FirstReferenceIdeal.τ).loc Cert.FirstReferenceIdeal.main_arg4) = m ((c.tc : Thread Cert.FirstIdeal.nD Cert.FirstIdeal.τ).loc Cert.FirstIdeal.main_arg4)) →
    ∃ (v0 : (c : Dev Cert.FirstIdeal.nD) → Buf (Elt Ideal) ((c.tc : Thread Cert.FirstIdeal.nD Cert.FirstIdeal.τ).loc Cert.FirstIdeal.main_v0)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v0) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v21) = v0 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4))

def preserves_Val_ValIdeal : Prop :=
  True

def algebraic_ValIdeal_ValReferenceIdeal [hValIdeal : Cert.ValIdeal.Facts] [hValReferenceIdeal : Cert.ValReferenceIdeal.Facts] : Prop :=
  ∀ (m : (ℓ : Loc Cert.ValIdeal.nD Cert.ValIdeal.τ Cert.ValIdeal.sig) → Buf (Elt Ideal) ℓ) (g : Dev Cert.ValIdeal.nD → PrngReg)
    (m' : (ℓ : Loc Cert.ValReferenceIdeal.nD Cert.ValReferenceIdeal.τ Cert.ValReferenceIdeal.sig) → Buf (Elt Ideal) ℓ) (g' : Dev Cert.ValReferenceIdeal.nD → PrngReg), Pre_ValIdeal m →
    (∀ c : Dev Cert.ValIdeal.nD,
      m' ((c.tc : Thread Cert.ValReferenceIdeal.nD Cert.ValReferenceIdeal.τ).loc Cert.ValReferenceIdeal.main_arg0) = m ((c.tc : Thread Cert.ValIdeal.nD Cert.ValIdeal.τ).loc Cert.ValIdeal.main_arg0)
      ∧ m' ((c.tc : Thread Cert.ValReferenceIdeal.nD Cert.ValReferenceIdeal.τ).loc Cert.ValReferenceIdeal.main_arg1) = m ((c.tc : Thread Cert.ValIdeal.nD Cert.ValIdeal.τ).loc Cert.ValIdeal.main_arg1)) →
    ∃ (v0 : (c : Dev Cert.ValIdeal.nD) → Buf (Elt Ideal) ((c.tc : Thread Cert.ValIdeal.nD Cert.ValIdeal.τ).loc Cert.ValIdeal.main_v0_0)) (v1 : (c : Dev Cert.ValIdeal.nD) → Buf (Elt Ideal) ((c.tc : Thread Cert.ValIdeal.nD Cert.ValIdeal.τ).loc Cert.ValIdeal.main_v0_1)),
      θ_run (Cert.ValIdeal.defs (F := Ideal)) (onTc (τ := Cert.ValIdeal.τ) (Cert.ValIdeal.main (F := Ideal))) ⟨m, fun _ => 0, g⟩ (fun r => ∀ c : Dev Cert.ValIdeal.nD,
          r.2.mem ((c.tc : Thread Cert.ValIdeal.nD Cert.ValIdeal.τ).loc Cert.ValIdeal.main_v0_0) = v0 c
          ∧ r.2.mem ((c.tc : Thread Cert.ValIdeal.nD Cert.ValIdeal.τ).loc Cert.ValIdeal.main_v0_1) = v1 c
          ∧ r.2.mem ((c.tc : Thread Cert.ValIdeal.nD Cert.ValIdeal.τ).loc Cert.ValIdeal.main_arg0) = m ((c.tc : Thread Cert.ValIdeal.nD Cert.ValIdeal.τ).loc Cert.ValIdeal.main_arg0)
          ∧ r.2.mem ((c.tc : Thread Cert.ValIdeal.nD Cert.ValIdeal.τ).loc Cert.ValIdeal.main_arg1) = m ((c.tc : Thread Cert.ValIdeal.nD Cert.ValIdeal.τ).loc Cert.ValIdeal.main_arg1))
      ∧ θ_run (Cert.ValReferenceIdeal.defs (F := Ideal)) (onTc (τ := Cert.ValReferenceIdeal.τ) (Cert.ValReferenceIdeal.main (F := Ideal))) ⟨m', fun _ => 0, g'⟩ (fun r => ∀ c : Dev Cert.ValReferenceIdeal.nD,
          r.2.mem ((c.tc : Thread Cert.ValReferenceIdeal.nD Cert.ValReferenceIdeal.τ).loc Cert.ValReferenceIdeal.main_v5) = v0 c
          ∧ r.2.mem ((c.tc : Thread Cert.ValReferenceIdeal.nD Cert.ValReferenceIdeal.τ).loc Cert.ValReferenceIdeal.main_v4) = v1 c
          ∧ r.2.mem ((c.tc : Thread Cert.ValReferenceIdeal.nD Cert.ValReferenceIdeal.τ).loc Cert.ValReferenceIdeal.main_arg0) = m' ((c.tc : Thread Cert.ValReferenceIdeal.nD Cert.ValReferenceIdeal.τ).loc Cert.ValReferenceIdeal.main_arg0)
          ∧ r.2.mem ((c.tc : Thread Cert.ValReferenceIdeal.nD Cert.ValReferenceIdeal.τ).loc Cert.ValReferenceIdeal.main_arg1) = m' ((c.tc : Thread Cert.ValReferenceIdeal.nD Cert.ValReferenceIdeal.τ).loc Cert.ValReferenceIdeal.main_arg1))

def preserves_Qry_QryIdeal : Prop :=
  True

def algebraic_QryIdeal_QryReferenceIdeal [hQryIdeal : Cert.QryIdeal.Facts] [hQryReferenceIdeal : Cert.QryReferenceIdeal.Facts] : Prop :=
  ∀ (m : (ℓ : Loc Cert.QryIdeal.nD Cert.QryIdeal.τ Cert.QryIdeal.sig) → Buf (Elt Ideal) ℓ) (g : Dev Cert.QryIdeal.nD → PrngReg)
    (m' : (ℓ : Loc Cert.QryReferenceIdeal.nD Cert.QryReferenceIdeal.τ Cert.QryReferenceIdeal.sig) → Buf (Elt Ideal) ℓ) (g' : Dev Cert.QryReferenceIdeal.nD → PrngReg), Pre_QryIdeal m →
    (∀ c : Dev Cert.QryIdeal.nD,
      m' ((c.tc : Thread Cert.QryReferenceIdeal.nD Cert.QryReferenceIdeal.τ).loc Cert.QryReferenceIdeal.main_arg0) = m ((c.tc : Thread Cert.QryIdeal.nD Cert.QryIdeal.τ).loc Cert.QryIdeal.main_arg0)
      ∧ m' ((c.tc : Thread Cert.QryReferenceIdeal.nD Cert.QryReferenceIdeal.τ).loc Cert.QryReferenceIdeal.main_arg1) = m ((c.tc : Thread Cert.QryIdeal.nD Cert.QryIdeal.τ).loc Cert.QryIdeal.main_arg1)
      ∧ m' ((c.tc : Thread Cert.QryReferenceIdeal.nD Cert.QryReferenceIdeal.τ).loc Cert.QryReferenceIdeal.main_arg2) = m ((c.tc : Thread Cert.QryIdeal.nD Cert.QryIdeal.τ).loc Cert.QryIdeal.main_arg2)
      ∧ m' ((c.tc : Thread Cert.QryReferenceIdeal.nD Cert.QryReferenceIdeal.τ).loc Cert.QryReferenceIdeal.main_arg3) = m ((c.tc : Thread Cert.QryIdeal.nD Cert.QryIdeal.τ).loc Cert.QryIdeal.main_arg3)
      ∧ m' ((c.tc : Thread Cert.QryReferenceIdeal.nD Cert.QryReferenceIdeal.τ).loc Cert.QryReferenceIdeal.main_arg4) = m ((c.tc : Thread Cert.QryIdeal.nD Cert.QryIdeal.τ).loc Cert.QryIdeal.main_arg4)) →
    ∃ (v0 : (c : Dev Cert.QryIdeal.nD) → Buf (Elt Ideal) ((c.tc : Thread Cert.QryIdeal.nD Cert.QryIdeal.τ).loc Cert.QryIdeal.main_v0)),
      θ_run (Cert.QryIdeal.defs (F := Ideal)) (onTc (τ := Cert.QryIdeal.τ) (Cert.QryIdeal.main (F := Ideal))) ⟨m, fun _ => 0, g⟩ (fun r => ∀ c : Dev Cert.QryIdeal.nD,
          r.2.mem ((c.tc : Thread Cert.QryIdeal.nD Cert.QryIdeal.τ).loc Cert.QryIdeal.main_v0) = v0 c
          ∧ r.2.mem ((c.tc : Thread Cert.QryIdeal.nD Cert.QryIdeal.τ).loc Cert.QryIdeal.main_arg0) = m ((c.tc : Thread Cert.QryIdeal.nD Cert.QryIdeal.τ).loc Cert.QryIdeal.main_arg0)
          ∧ r.2.mem ((c.tc : Thread Cert.QryIdeal.nD Cert.QryIdeal.τ).loc Cert.QryIdeal.main_arg1) = m ((c.tc : Thread Cert.QryIdeal.nD Cert.QryIdeal.τ).loc Cert.QryIdeal.main_arg1)
          ∧ r.2.mem ((c.tc : Thread Cert.QryIdeal.nD Cert.QryIdeal.τ).loc Cert.QryIdeal.main_arg2) = m ((c.tc : Thread Cert.QryIdeal.nD Cert.QryIdeal.τ).loc Cert.QryIdeal.main_arg2)
          ∧ r.2.mem ((c.tc : Thread Cert.QryIdeal.nD Cert.QryIdeal.τ).loc Cert.QryIdeal.main_arg3) = m ((c.tc : Thread Cert.QryIdeal.nD Cert.QryIdeal.τ).loc Cert.QryIdeal.main_arg3)
          ∧ r.2.mem ((c.tc : Thread Cert.QryIdeal.nD Cert.QryIdeal.τ).loc Cert.QryIdeal.main_arg4) = m ((c.tc : Thread Cert.QryIdeal.nD Cert.QryIdeal.τ).loc Cert.QryIdeal.main_arg4))
      ∧ θ_run (Cert.QryReferenceIdeal.defs (F := Ideal)) (onTc (τ := Cert.QryReferenceIdeal.τ) (Cert.QryReferenceIdeal.main (F := Ideal))) ⟨m', fun _ => 0, g'⟩ (fun r => ∀ c : Dev Cert.QryReferenceIdeal.nD,
          r.2.mem ((c.tc : Thread Cert.QryReferenceIdeal.nD Cert.QryReferenceIdeal.τ).loc Cert.QryReferenceIdeal.main_v52) = v0 c
          ∧ r.2.mem ((c.tc : Thread Cert.QryReferenceIdeal.nD Cert.QryReferenceIdeal.τ).loc Cert.QryReferenceIdeal.main_arg0) = m' ((c.tc : Thread Cert.QryReferenceIdeal.nD Cert.QryReferenceIdeal.τ).loc Cert.QryReferenceIdeal.main_arg0)
          ∧ r.2.mem ((c.tc : Thread Cert.QryReferenceIdeal.nD Cert.QryReferenceIdeal.τ).loc Cert.QryReferenceIdeal.main_arg1) = m' ((c.tc : Thread Cert.QryReferenceIdeal.nD Cert.QryReferenceIdeal.τ).loc Cert.QryReferenceIdeal.main_arg1)
          ∧ r.2.mem ((c.tc : Thread Cert.QryReferenceIdeal.nD Cert.QryReferenceIdeal.τ).loc Cert.QryReferenceIdeal.main_arg2) = m' ((c.tc : Thread Cert.QryReferenceIdeal.nD Cert.QryReferenceIdeal.τ).loc Cert.QryReferenceIdeal.main_arg2)
          ∧ r.2.mem ((c.tc : Thread Cert.QryReferenceIdeal.nD Cert.QryReferenceIdeal.τ).loc Cert.QryReferenceIdeal.main_arg3) = m' ((c.tc : Thread Cert.QryReferenceIdeal.nD Cert.QryReferenceIdeal.τ).loc Cert.QryReferenceIdeal.main_arg3)
          ∧ r.2.mem ((c.tc : Thread Cert.QryReferenceIdeal.nD Cert.QryReferenceIdeal.τ).loc Cert.QryReferenceIdeal.main_arg4) = m' ((c.tc : Thread Cert.QryReferenceIdeal.nD Cert.QryReferenceIdeal.τ).loc Cert.QryReferenceIdeal.main_arg4))

def preserves_Key_KeyIdeal : Prop :=
  True

def algebraic_KeyIdeal_KeyReferenceIdeal [hKeyIdeal : Cert.KeyIdeal.Facts] [hKeyReferenceIdeal : Cert.KeyReferenceIdeal.Facts] : Prop :=
  ∀ (m : (ℓ : Loc Cert.KeyIdeal.nD Cert.KeyIdeal.τ Cert.KeyIdeal.sig) → Buf (Elt Ideal) ℓ) (g : Dev Cert.KeyIdeal.nD → PrngReg)
    (m' : (ℓ : Loc Cert.KeyReferenceIdeal.nD Cert.KeyReferenceIdeal.τ Cert.KeyReferenceIdeal.sig) → Buf (Elt Ideal) ℓ) (g' : Dev Cert.KeyReferenceIdeal.nD → PrngReg), Pre_KeyIdeal m →
    (∀ c : Dev Cert.KeyIdeal.nD,
      m' ((c.tc : Thread Cert.KeyReferenceIdeal.nD Cert.KeyReferenceIdeal.τ).loc Cert.KeyReferenceIdeal.main_arg0) = m ((c.tc : Thread Cert.KeyIdeal.nD Cert.KeyIdeal.τ).loc Cert.KeyIdeal.main_arg0)
      ∧ m' ((c.tc : Thread Cert.KeyReferenceIdeal.nD Cert.KeyReferenceIdeal.τ).loc Cert.KeyReferenceIdeal.main_arg1) = m ((c.tc : Thread Cert.KeyIdeal.nD Cert.KeyIdeal.τ).loc Cert.KeyIdeal.main_arg1)
      ∧ m' ((c.tc : Thread Cert.KeyReferenceIdeal.nD Cert.KeyReferenceIdeal.τ).loc Cert.KeyReferenceIdeal.main_arg2) = m ((c.tc : Thread Cert.KeyIdeal.nD Cert.KeyIdeal.τ).loc Cert.KeyIdeal.main_arg2)
      ∧ m' ((c.tc : Thread Cert.KeyReferenceIdeal.nD Cert.KeyReferenceIdeal.τ).loc Cert.KeyReferenceIdeal.main_arg3) = m ((c.tc : Thread Cert.KeyIdeal.nD Cert.KeyIdeal.τ).loc Cert.KeyIdeal.main_arg3)
      ∧ m' ((c.tc : Thread Cert.KeyReferenceIdeal.nD Cert.KeyReferenceIdeal.τ).loc Cert.KeyReferenceIdeal.main_arg4) = m ((c.tc : Thread Cert.KeyIdeal.nD Cert.KeyIdeal.τ).loc Cert.KeyIdeal.main_arg4)) →
    ∃ (v0 : (c : Dev Cert.KeyIdeal.nD) → Buf (Elt Ideal) ((c.tc : Thread Cert.KeyIdeal.nD Cert.KeyIdeal.τ).loc Cert.KeyIdeal.main_v0_0)) (v1 : (c : Dev Cert.KeyIdeal.nD) → Buf (Elt Ideal) ((c.tc : Thread Cert.KeyIdeal.nD Cert.KeyIdeal.τ).loc Cert.KeyIdeal.main_v0_1)),
      θ_run (Cert.KeyIdeal.defs (F := Ideal)) (onTc (τ := Cert.KeyIdeal.τ) (Cert.KeyIdeal.main (F := Ideal))) ⟨m, fun _ => 0, g⟩ (fun r => ∀ c : Dev Cert.KeyIdeal.nD,
          r.2.mem ((c.tc : Thread Cert.KeyIdeal.nD Cert.KeyIdeal.τ).loc Cert.KeyIdeal.main_v0_0) = v0 c
          ∧ r.2.mem ((c.tc : Thread Cert.KeyIdeal.nD Cert.KeyIdeal.τ).loc Cert.KeyIdeal.main_v0_1) = v1 c
          ∧ r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
          ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1)
          ∧ r.2.mem ((c.tc : Thread Cert.KeyIdeal.nD Cert.KeyIdeal.τ).loc Cert.KeyIdeal.main_arg2) = m ((c.tc : Thread Cert.KeyIdeal.nD Cert.KeyIdeal.τ).loc Cert.KeyIdeal.main_arg2)
          ∧ r.2.mem ((c.tc : Thread Cert.KeyIdeal.nD Cert.KeyIdeal.τ).loc Cert.KeyIdeal.main_arg3) = m ((c.tc : Thread Cert.KeyIdeal.nD Cert.KeyIdeal.τ).loc Cert.KeyIdeal.main_arg3)
          ∧ r.2.mem ((c.tc : Thread Cert.KeyIdeal.nD Cert.KeyIdeal.τ).loc Cert.KeyIdeal.main_arg4) = m ((c.tc : Thread Cert.KeyIdeal.nD Cert.KeyIdeal.τ).loc Cert.KeyIdeal.main_arg4))
      ∧ θ_run (Cert.KeyReferenceIdeal.defs (F := Ideal)) (onTc (τ := Cert.KeyReferenceIdeal.τ) (Cert.KeyReferenceIdeal.main (F := Ideal))) ⟨m', fun _ => 0, g'⟩ (fun r => ∀ c : Dev Cert.KeyReferenceIdeal.nD,
          r.2.mem ((c.tc : Thread Cert.KeyReferenceIdeal.nD Cert.KeyReferenceIdeal.τ).loc Cert.KeyReferenceIdeal.main_v52) = v0 c
          ∧ r.2.mem ((c.tc : Thread Cert.KeyReferenceIdeal.nD Cert.KeyReferenceIdeal.τ).loc Cert.KeyReferenceIdeal.main_v53) = v1 c
          ∧ r.2.mem ((c.tc : Thread Cert.KeyReferenceIdeal.nD Cert.KeyReferenceIdeal.τ).loc Cert.KeyReferenceIdeal.main_arg0) = m' ((c.tc : Thread Cert.KeyReferenceIdeal.nD Cert.KeyReferenceIdeal.τ).loc Cert.KeyReferenceIdeal.main_arg0)
          ∧ r.2.mem ((c.tc : Thread Cert.KeyReferenceIdeal.nD Cert.KeyReferenceIdeal.τ).loc Cert.KeyReferenceIdeal.main_arg1) = m' ((c.tc : Thread Cert.KeyReferenceIdeal.nD Cert.KeyReferenceIdeal.τ).loc Cert.KeyReferenceIdeal.main_arg1)
          ∧ r.2.mem ((c.tc : Thread Cert.KeyReferenceIdeal.nD Cert.KeyReferenceIdeal.τ).loc Cert.KeyReferenceIdeal.main_arg2) = m' ((c.tc : Thread Cert.KeyReferenceIdeal.nD Cert.KeyReferenceIdeal.τ).loc Cert.KeyReferenceIdeal.main_arg2)
          ∧ r.2.mem ((c.tc : Thread Cert.KeyReferenceIdeal.nD Cert.KeyReferenceIdeal.τ).loc Cert.KeyReferenceIdeal.main_arg3) = m' ((c.tc : Thread Cert.KeyReferenceIdeal.nD Cert.KeyReferenceIdeal.τ).loc Cert.KeyReferenceIdeal.main_arg3)
          ∧ r.2.mem ((c.tc : Thread Cert.KeyReferenceIdeal.nD Cert.KeyReferenceIdeal.τ).loc Cert.KeyReferenceIdeal.main_arg4) = m' ((c.tc : Thread Cert.KeyReferenceIdeal.nD Cert.KeyReferenceIdeal.τ).loc Cert.KeyReferenceIdeal.main_arg4))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v4) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v42) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def preserves_Start_StartIdeal : Prop :=
  True

def algebraic_StartIdeal_StartReferenceIdeal [hStartIdeal : Cert.StartIdeal.Facts] [hStartReferenceIdeal : Cert.StartReferenceIdeal.Facts] : Prop :=
  ∀ (m : (ℓ : Loc Cert.StartIdeal.nD Cert.StartIdeal.τ Cert.StartIdeal.sig) → Buf (Elt Ideal) ℓ) (g : Dev Cert.StartIdeal.nD → PrngReg)
    (m' : (ℓ : Loc Cert.StartReferenceIdeal.nD Cert.StartReferenceIdeal.τ Cert.StartReferenceIdeal.sig) → Buf (Elt Ideal) ℓ) (g' : Dev Cert.StartReferenceIdeal.nD → PrngReg), Pre_StartIdeal m →
    (∀ c : Dev Cert.StartIdeal.nD,
      m' ((c.tc : Thread Cert.StartReferenceIdeal.nD Cert.StartReferenceIdeal.τ).loc Cert.StartReferenceIdeal.main_arg0) = m ((c.tc : Thread Cert.StartIdeal.nD Cert.StartIdeal.τ).loc Cert.StartIdeal.main_arg0)
      ∧ m' ((c.tc : Thread Cert.StartReferenceIdeal.nD Cert.StartReferenceIdeal.τ).loc Cert.StartReferenceIdeal.main_arg1) = m ((c.tc : Thread Cert.StartIdeal.nD Cert.StartIdeal.τ).loc Cert.StartIdeal.main_arg1)
      ∧ m' ((c.tc : Thread Cert.StartReferenceIdeal.nD Cert.StartReferenceIdeal.τ).loc Cert.StartReferenceIdeal.main_arg2) = m ((c.tc : Thread Cert.StartIdeal.nD Cert.StartIdeal.τ).loc Cert.StartIdeal.main_arg2)
      ∧ m' ((c.tc : Thread Cert.StartReferenceIdeal.nD Cert.StartReferenceIdeal.τ).loc Cert.StartReferenceIdeal.main_arg3) = m ((c.tc : Thread Cert.StartIdeal.nD Cert.StartIdeal.τ).loc Cert.StartIdeal.main_arg3)) →
    ∃ (v0 : (c : Dev Cert.StartIdeal.nD) → Buf (Elt Ideal) ((c.tc : Thread Cert.StartIdeal.nD Cert.StartIdeal.τ).loc Cert.StartIdeal.main_v0)),
      θ_run (Cert.StartIdeal.defs (F := Ideal)) (onTc (τ := Cert.StartIdeal.τ) (Cert.StartIdeal.main (F := Ideal))) ⟨m, fun _ => 0, g⟩ (fun r => ∀ c : Dev Cert.StartIdeal.nD,
          r.2.mem ((c.tc : Thread Cert.StartIdeal.nD Cert.StartIdeal.τ).loc Cert.StartIdeal.main_v0) = v0 c
          ∧ r.2.mem ((c.tc : Thread Cert.StartIdeal.nD Cert.StartIdeal.τ).loc Cert.StartIdeal.main_arg0) = m ((c.tc : Thread Cert.StartIdeal.nD Cert.StartIdeal.τ).loc Cert.StartIdeal.main_arg0)
          ∧ r.2.mem ((c.tc : Thread Cert.StartIdeal.nD Cert.StartIdeal.τ).loc Cert.StartIdeal.main_arg1) = m ((c.tc : Thread Cert.StartIdeal.nD Cert.StartIdeal.τ).loc Cert.StartIdeal.main_arg1)
          ∧ r.2.mem ((c.tc : Thread Cert.StartIdeal.nD Cert.StartIdeal.τ).loc Cert.StartIdeal.main_arg2) = m ((c.tc : Thread Cert.StartIdeal.nD Cert.StartIdeal.τ).loc Cert.StartIdeal.main_arg2)
          ∧ r.2.mem ((c.tc : Thread Cert.StartIdeal.nD Cert.StartIdeal.τ).loc Cert.StartIdeal.main_arg3) = m ((c.tc : Thread Cert.StartIdeal.nD Cert.StartIdeal.τ).loc Cert.StartIdeal.main_arg3))
      ∧ θ_run (Cert.StartReferenceIdeal.defs (F := Ideal)) (onTc (τ := Cert.StartReferenceIdeal.τ) (Cert.StartReferenceIdeal.main (F := Ideal))) ⟨m', fun _ => 0, g'⟩ (fun r => ∀ c : Dev Cert.StartReferenceIdeal.nD,
          r.2.mem ((c.tc : Thread Cert.StartReferenceIdeal.nD Cert.StartReferenceIdeal.τ).loc Cert.StartReferenceIdeal.main_v55) = v0 c
          ∧ r.2.mem ((c.tc : Thread Cert.StartReferenceIdeal.nD Cert.StartReferenceIdeal.τ).loc Cert.StartReferenceIdeal.main_arg0) = m' ((c.tc : Thread Cert.StartReferenceIdeal.nD Cert.StartReferenceIdeal.τ).loc Cert.StartReferenceIdeal.main_arg0)
          ∧ r.2.mem ((c.tc : Thread Cert.StartReferenceIdeal.nD Cert.StartReferenceIdeal.τ).loc Cert.StartReferenceIdeal.main_arg1) = m' ((c.tc : Thread Cert.StartReferenceIdeal.nD Cert.StartReferenceIdeal.τ).loc Cert.StartReferenceIdeal.main_arg1)
          ∧ r.2.mem ((c.tc : Thread Cert.StartReferenceIdeal.nD Cert.StartReferenceIdeal.τ).loc Cert.StartReferenceIdeal.main_arg2) = m' ((c.tc : Thread Cert.StartReferenceIdeal.nD Cert.StartReferenceIdeal.τ).loc Cert.StartReferenceIdeal.main_arg2)
          ∧ r.2.mem ((c.tc : Thread Cert.StartReferenceIdeal.nD Cert.StartReferenceIdeal.τ).loc Cert.StartReferenceIdeal.main_arg3) = m' ((c.tc : Thread Cert.StartReferenceIdeal.nD Cert.StartReferenceIdeal.τ).loc Cert.StartReferenceIdeal.main_arg3))

def preserves_Ctx_CtxIdeal : Prop :=
  True

def algebraic_CtxIdeal_CtxReferenceIdeal_pre_finite_context [hCtxIdeal : Cert.CtxIdeal.Facts] [hCtxReferenceIdeal : Cert.CtxReferenceIdeal.Facts] [hPre_finite_context : Cert.Pre_finite_context.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxIdeal_finite_context m →
    (∀ c : Dev Cert.CtxIdeal.nD,
      m' ((c.tc : Thread Cert.CtxReferenceIdeal.nD Cert.CtxReferenceIdeal.τ).loc Cert.CtxReferenceIdeal.main_arg0) = m ((c.tc : Thread Cert.CtxIdeal.nD Cert.CtxIdeal.τ).loc Cert.CtxIdeal.main_arg0)
      ∧ m' ((c.tc : Thread Cert.CtxReferenceIdeal.nD Cert.CtxReferenceIdeal.τ).loc Cert.CtxReferenceIdeal.main_arg1) = m ((c.tc : Thread Cert.CtxIdeal.nD Cert.CtxIdeal.τ).loc Cert.CtxIdeal.main_arg1)
      ∧ m' ((c.tc : Thread Cert.CtxReferenceIdeal.nD Cert.CtxReferenceIdeal.τ).loc Cert.CtxReferenceIdeal.main_arg2) = m ((c.tc : Thread Cert.CtxIdeal.nD Cert.CtxIdeal.τ).loc Cert.CtxIdeal.main_arg2)) →
    ∃ (v0 : (c : Dev Cert.CtxIdeal.nD) → Buf (Elt Ideal) ((c.tc : Thread Cert.CtxIdeal.nD Cert.CtxIdeal.τ).loc Cert.CtxIdeal.main_v0)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v0) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v30) = v0 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0)
          ∧ r.2.mem ((c.tc : Thread Cert.CtxReferenceIdeal.nD Cert.CtxReferenceIdeal.τ).loc Cert.CtxReferenceIdeal.main_arg1) = m' ((c.tc : Thread Cert.CtxReferenceIdeal.nD Cert.CtxReferenceIdeal.τ).loc Cert.CtxReferenceIdeal.main_arg1)
          ∧ r.2.mem ((c.tc : Thread Cert.CtxReferenceIdeal.nD Cert.CtxReferenceIdeal.τ).loc Cert.CtxReferenceIdeal.main_arg2) = m' ((c.tc : Thread Cert.CtxReferenceIdeal.nD Cert.CtxReferenceIdeal.τ).loc Cert.CtxReferenceIdeal.main_arg2))

def preserves_Chan_ChanIdeal : Prop :=
  True

def algebraic_ChanIdeal_ChanReferenceIdeal [hChanIdeal : Cert.ChanIdeal.Facts] [hChanReferenceIdeal : Cert.ChanReferenceIdeal.Facts] : Prop :=
  ∀ (m : (ℓ : Loc Cert.ChanIdeal.nD Cert.ChanIdeal.τ Cert.ChanIdeal.sig) → Buf (Elt Ideal) ℓ) (g : Dev Cert.ChanIdeal.nD → PrngReg)
    (m' : (ℓ : Loc Cert.ChanReferenceIdeal.nD Cert.ChanReferenceIdeal.τ Cert.ChanReferenceIdeal.sig) → Buf (Elt Ideal) ℓ) (g' : Dev Cert.ChanReferenceIdeal.nD → PrngReg), Pre_ChanIdeal m →
    (∀ c : Dev Cert.ChanIdeal.nD,
      m' ((c.tc : Thread Cert.ChanReferenceIdeal.nD Cert.ChanReferenceIdeal.τ).loc Cert.ChanReferenceIdeal.main_arg0) = m ((c.tc : Thread Cert.ChanIdeal.nD Cert.ChanIdeal.τ).loc Cert.ChanIdeal.main_arg0)
      ∧ m' ((c.tc : Thread Cert.ChanReferenceIdeal.nD Cert.ChanReferenceIdeal.τ).loc Cert.ChanReferenceIdeal.main_arg1) = m ((c.tc : Thread Cert.ChanIdeal.nD Cert.ChanIdeal.τ).loc Cert.ChanIdeal.main_arg1)) →
    ∃ (v0 : (c : Dev Cert.ChanIdeal.nD) → Buf (Elt Ideal) ((c.tc : Thread Cert.ChanIdeal.nD Cert.ChanIdeal.τ).loc Cert.ChanIdeal.main_v0)),
      θ_run (Cert.ChanIdeal.defs (F := Ideal)) (onTc (τ := Cert.ChanIdeal.τ) (Cert.ChanIdeal.main (F := Ideal))) ⟨m, fun _ => 0, g⟩ (fun r => ∀ c : Dev Cert.ChanIdeal.nD,
          r.2.mem ((c.tc : Thread Cert.ChanIdeal.nD Cert.ChanIdeal.τ).loc Cert.ChanIdeal.main_v0) = v0 c
          ∧ r.2.mem ((c.tc : Thread Cert.ChanIdeal.nD Cert.ChanIdeal.τ).loc Cert.ChanIdeal.main_arg0) = m ((c.tc : Thread Cert.ChanIdeal.nD Cert.ChanIdeal.τ).loc Cert.ChanIdeal.main_arg0)
          ∧ r.2.mem ((c.tc : Thread Cert.ChanIdeal.nD Cert.ChanIdeal.τ).loc Cert.ChanIdeal.main_arg1) = m ((c.tc : Thread Cert.ChanIdeal.nD Cert.ChanIdeal.τ).loc Cert.ChanIdeal.main_arg1))
      ∧ θ_run (Cert.ChanReferenceIdeal.defs (F := Ideal)) (onTc (τ := Cert.ChanReferenceIdeal.τ) (Cert.ChanReferenceIdeal.main (F := Ideal))) ⟨m', fun _ => 0, g'⟩ (fun r => ∀ c : Dev Cert.ChanReferenceIdeal.nD,
          r.2.mem ((c.tc : Thread Cert.ChanReferenceIdeal.nD Cert.ChanReferenceIdeal.τ).loc Cert.ChanReferenceIdeal.main_v6) = v0 c
          ∧ r.2.mem ((c.tc : Thread Cert.ChanReferenceIdeal.nD Cert.ChanReferenceIdeal.τ).loc Cert.ChanReferenceIdeal.main_arg0) = m' ((c.tc : Thread Cert.ChanReferenceIdeal.nD Cert.ChanReferenceIdeal.τ).loc Cert.ChanReferenceIdeal.main_arg0)
          ∧ r.2.mem ((c.tc : Thread Cert.ChanReferenceIdeal.nD Cert.ChanReferenceIdeal.τ).loc Cert.ChanReferenceIdeal.main_arg1) = m' ((c.tc : Thread Cert.ChanReferenceIdeal.nD Cert.ChanReferenceIdeal.τ).loc Cert.ChanReferenceIdeal.main_arg1))

def preserves_Short_ShortIdeal : Prop :=
  True

def algebraic_ShortIdeal_ShortReferenceIdeal [hShortIdeal : Cert.ShortIdeal.Facts] [hShortReferenceIdeal : Cert.ShortReferenceIdeal.Facts] : Prop :=
  ∀ (m : (ℓ : Loc Cert.ShortIdeal.nD Cert.ShortIdeal.τ Cert.ShortIdeal.sig) → Buf (Elt Ideal) ℓ) (g : Dev Cert.ShortIdeal.nD → PrngReg)
    (m' : (ℓ : Loc Cert.ShortReferenceIdeal.nD Cert.ShortReferenceIdeal.τ Cert.ShortReferenceIdeal.sig) → Buf (Elt Ideal) ℓ) (g' : Dev Cert.ShortReferenceIdeal.nD → PrngReg), Pre_ShortIdeal m →
    (∀ c : Dev Cert.ShortIdeal.nD,
      m' ((c.tc : Thread Cert.ShortReferenceIdeal.nD Cert.ShortReferenceIdeal.τ).loc Cert.ShortReferenceIdeal.main_arg0) = m ((c.tc : Thread Cert.ShortIdeal.nD Cert.ShortIdeal.τ).loc Cert.ShortIdeal.main_arg0)
      ∧ m' ((c.tc : Thread Cert.ShortReferenceIdeal.nD Cert.ShortReferenceIdeal.τ).loc Cert.ShortReferenceIdeal.main_arg1) = m ((c.tc : Thread Cert.ShortIdeal.nD Cert.ShortIdeal.τ).loc Cert.ShortIdeal.main_arg1)
      ∧ m' ((c.tc : Thread Cert.ShortReferenceIdeal.nD Cert.ShortReferenceIdeal.τ).loc Cert.ShortReferenceIdeal.main_arg2) = m ((c.tc : Thread Cert.ShortIdeal.nD Cert.ShortIdeal.τ).loc Cert.ShortIdeal.main_arg2)
      ∧ m' ((c.tc : Thread Cert.ShortReferenceIdeal.nD Cert.ShortReferenceIdeal.τ).loc Cert.ShortReferenceIdeal.main_arg3) = m ((c.tc : Thread Cert.ShortIdeal.nD Cert.ShortIdeal.τ).loc Cert.ShortIdeal.main_arg3)) →
    ∃ (v0 : (c : Dev Cert.ShortIdeal.nD) → Buf (Elt Ideal) ((c.tc : Thread Cert.ShortIdeal.nD Cert.ShortIdeal.τ).loc Cert.ShortIdeal.main_v0)),
      θ_run (Cert.ShortIdeal.defs (F := Ideal)) (onTc (τ := Cert.ShortIdeal.τ) (Cert.ShortIdeal.main (F := Ideal))) ⟨m, fun _ => 0, g⟩ (fun r => ∀ c : Dev Cert.ShortIdeal.nD,
          r.2.mem ((c.tc : Thread Cert.ShortIdeal.nD Cert.ShortIdeal.τ).loc Cert.ShortIdeal.main_v0) = v0 c
          ∧ r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
          ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
          ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2)
          ∧ r.2.mem ((c.tc : Thread Cert.ShortIdeal.nD Cert.ShortIdeal.τ).loc Cert.ShortIdeal.main_arg3) = m ((c.tc : Thread Cert.ShortIdeal.nD Cert.ShortIdeal.τ).loc Cert.ShortIdeal.main_arg3))
      ∧ θ_run (Cert.ShortReferenceIdeal.defs (F := Ideal)) (onTc (τ := Cert.ShortReferenceIdeal.τ) (Cert.ShortReferenceIdeal.main (F := Ideal))) ⟨m', fun _ => 0, g'⟩ (fun r => ∀ c : Dev Cert.ShortReferenceIdeal.nD,
          r.2.mem ((c.tc : Thread Cert.ShortReferenceIdeal.nD Cert.ShortReferenceIdeal.τ).loc Cert.ShortReferenceIdeal.main_v18) = v0 c
          ∧ r.2.mem ((c.tc : Thread Cert.ShortReferenceIdeal.nD Cert.ShortReferenceIdeal.τ).loc Cert.ShortReferenceIdeal.main_arg0) = m' ((c.tc : Thread Cert.ShortReferenceIdeal.nD Cert.ShortReferenceIdeal.τ).loc Cert.ShortReferenceIdeal.main_arg0)
          ∧ r.2.mem ((c.tc : Thread Cert.ShortReferenceIdeal.nD Cert.ShortReferenceIdeal.τ).loc Cert.ShortReferenceIdeal.main_arg1) = m' ((c.tc : Thread Cert.ShortReferenceIdeal.nD Cert.ShortReferenceIdeal.τ).loc Cert.ShortReferenceIdeal.main_arg1)
          ∧ r.2.mem ((c.tc : Thread Cert.ShortReferenceIdeal.nD Cert.ShortReferenceIdeal.τ).loc Cert.ShortReferenceIdeal.main_arg2) = m' ((c.tc : Thread Cert.ShortReferenceIdeal.nD Cert.ShortReferenceIdeal.τ).loc Cert.ShortReferenceIdeal.main_arg2)
          ∧ r.2.mem ((c.tc : Thread Cert.ShortReferenceIdeal.nD Cert.ShortReferenceIdeal.τ).loc Cert.ShortReferenceIdeal.main_arg3) = m' ((c.tc : Thread Cert.ShortReferenceIdeal.nD Cert.ShortReferenceIdeal.τ).loc Cert.ShortReferenceIdeal.main_arg3))

def preserves_Long_LongIdeal : Prop :=
  True

def algebraic_LongIdeal_LongReferenceIdeal [hLongIdeal : Cert.LongIdeal.Facts] [hLongReferenceIdeal : Cert.LongReferenceIdeal.Facts] : Prop :=
  ∀ (m : (ℓ : Loc Cert.LongIdeal.nD Cert.LongIdeal.τ Cert.LongIdeal.sig) → Buf (Elt Ideal) ℓ) (g : Dev Cert.LongIdeal.nD → PrngReg)
    (m' : (ℓ : Loc Cert.LongReferenceIdeal.nD Cert.LongReferenceIdeal.τ Cert.LongReferenceIdeal.sig) → Buf (Elt Ideal) ℓ) (g' : Dev Cert.LongReferenceIdeal.nD → PrngReg), Pre_LongIdeal m →
    (∀ c : Dev Cert.LongIdeal.nD,
      m' ((c.tc : Thread Cert.LongReferenceIdeal.nD Cert.LongReferenceIdeal.τ).loc Cert.LongReferenceIdeal.main_arg0) = m ((c.tc : Thread Cert.LongIdeal.nD Cert.LongIdeal.τ).loc Cert.LongIdeal.main_arg0)
      ∧ m' ((c.tc : Thread Cert.LongReferenceIdeal.nD Cert.LongReferenceIdeal.τ).loc Cert.LongReferenceIdeal.main_arg1) = m ((c.tc : Thread Cert.LongIdeal.nD Cert.LongIdeal.τ).loc Cert.LongIdeal.main_arg1)
      ∧ m' ((c.tc : Thread Cert.LongReferenceIdeal.nD Cert.LongReferenceIdeal.τ).loc Cert.LongReferenceIdeal.main_arg2) = m ((c.tc : Thread Cert.LongIdeal.nD Cert.LongIdeal.τ).loc Cert.LongIdeal.main_arg2)
      ∧ m' ((c.tc : Thread Cert.LongReferenceIdeal.nD Cert.LongReferenceIdeal.τ).loc Cert.LongReferenceIdeal.main_arg3) = m ((c.tc : Thread Cert.LongIdeal.nD Cert.LongIdeal.τ).loc Cert.LongIdeal.main_arg3)
      ∧ m' ((c.tc : Thread Cert.LongReferenceIdeal.nD Cert.LongReferenceIdeal.τ).loc Cert.LongReferenceIdeal.main_arg4) = m ((c.tc : Thread Cert.LongIdeal.nD Cert.LongIdeal.τ).loc Cert.LongIdeal.main_arg4)) →
    ∃ (v0 : (c : Dev Cert.LongIdeal.nD) → Buf (Elt Ideal) ((c.tc : Thread Cert.LongIdeal.nD Cert.LongIdeal.τ).loc Cert.LongIdeal.main_v0)),
      θ_run (Cert.LongIdeal.defs (F := Ideal)) (onTc (τ := Cert.LongIdeal.τ) (Cert.LongIdeal.main (F := Ideal))) ⟨m, fun _ => 0, g⟩ (fun r => ∀ c : Dev Cert.LongIdeal.nD,
          r.2.mem ((c.tc : Thread Cert.LongIdeal.nD Cert.LongIdeal.τ).loc Cert.LongIdeal.main_v0) = v0 c
          ∧ r.2.mem ((c.tc : Thread Cert.LongIdeal.nD Cert.LongIdeal.τ).loc Cert.LongIdeal.main_arg0) = m ((c.tc : Thread Cert.LongIdeal.nD Cert.LongIdeal.τ).loc Cert.LongIdeal.main_arg0)
          ∧ r.2.mem ((c.tc : Thread Cert.LongIdeal.nD Cert.LongIdeal.τ).loc Cert.LongIdeal.main_arg1) = m ((c.tc : Thread Cert.LongIdeal.nD Cert.LongIdeal.τ).loc Cert.LongIdeal.main_arg1)
          ∧ r.2.mem ((c.tc : Thread Cert.LongIdeal.nD Cert.LongIdeal.τ).loc Cert.LongIdeal.main_arg2) = m ((c.tc : Thread Cert.LongIdeal.nD Cert.LongIdeal.τ).loc Cert.LongIdeal.main_arg2)
          ∧ r.2.mem ((c.tc : Thread Cert.LongIdeal.nD Cert.LongIdeal.τ).loc Cert.LongIdeal.main_arg3) = m ((c.tc : Thread Cert.LongIdeal.nD Cert.LongIdeal.τ).loc Cert.LongIdeal.main_arg3)
          ∧ r.2.mem ((c.tc : Thread Cert.LongIdeal.nD Cert.LongIdeal.τ).loc Cert.LongIdeal.main_arg4) = m ((c.tc : Thread Cert.LongIdeal.nD Cert.LongIdeal.τ).loc Cert.LongIdeal.main_arg4))
      ∧ θ_run (Cert.LongReferenceIdeal.defs (F := Ideal)) (onTc (τ := Cert.LongReferenceIdeal.τ) (Cert.LongReferenceIdeal.main (F := Ideal))) ⟨m', fun _ => 0, g'⟩ (fun r => ∀ c : Dev Cert.LongReferenceIdeal.nD,
          r.2.mem ((c.tc : Thread Cert.LongReferenceIdeal.nD Cert.LongReferenceIdeal.τ).loc Cert.LongReferenceIdeal.main_v18) = v0 c
          ∧ r.2.mem ((c.tc : Thread Cert.LongReferenceIdeal.nD Cert.LongReferenceIdeal.τ).loc Cert.LongReferenceIdeal.main_arg0) = m' ((c.tc : Thread Cert.LongReferenceIdeal.nD Cert.LongReferenceIdeal.τ).loc Cert.LongReferenceIdeal.main_arg0)
          ∧ r.2.mem ((c.tc : Thread Cert.LongReferenceIdeal.nD Cert.LongReferenceIdeal.τ).loc Cert.LongReferenceIdeal.main_arg1) = m' ((c.tc : Thread Cert.LongReferenceIdeal.nD Cert.LongReferenceIdeal.τ).loc Cert.LongReferenceIdeal.main_arg1)
          ∧ r.2.mem ((c.tc : Thread Cert.LongReferenceIdeal.nD Cert.LongReferenceIdeal.τ).loc Cert.LongReferenceIdeal.main_arg2) = m' ((c.tc : Thread Cert.LongReferenceIdeal.nD Cert.LongReferenceIdeal.τ).loc Cert.LongReferenceIdeal.main_arg2)
          ∧ r.2.mem ((c.tc : Thread Cert.LongReferenceIdeal.nD Cert.LongReferenceIdeal.τ).loc Cert.LongReferenceIdeal.main_arg3) = m' ((c.tc : Thread Cert.LongReferenceIdeal.nD Cert.LongReferenceIdeal.τ).loc Cert.LongReferenceIdeal.main_arg3)
          ∧ r.2.mem ((c.tc : Thread Cert.LongReferenceIdeal.nD Cert.LongReferenceIdeal.τ).loc Cert.LongReferenceIdeal.main_arg4) = m' ((c.tc : Thread Cert.LongReferenceIdeal.nD Cert.LongReferenceIdeal.τ).loc Cert.LongReferenceIdeal.main_arg4))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v26) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v15) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_Up_UpIdeal : Prop :=
  True

def algebraic_UpIdeal_UpReferenceIdeal [hUpIdeal : Cert.UpIdeal.Facts] [hUpReferenceIdeal : Cert.UpReferenceIdeal.Facts] [hPre_tables : Cert.Pre_tables.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v27) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4))

def preserves_Back_BackIdeal : Prop :=
  True

def algebraic_BackIdeal_BackReferenceIdeal [hBackIdeal : Cert.BackIdeal.Facts] [hBackReferenceIdeal : Cert.BackReferenceIdeal.Facts] [hPre_tables_back : Cert.Pre_tables_back.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackIdeal m →
    (∀ c : Dev Cert.BackIdeal.nD,
      m' ((c.tc : Thread Cert.BackReferenceIdeal.nD Cert.BackReferenceIdeal.τ).loc Cert.BackReferenceIdeal.main_arg0) = m ((c.tc : Thread Cert.BackIdeal.nD Cert.BackIdeal.τ).loc Cert.BackIdeal.main_arg0)
      ∧ m' ((c.tc : Thread Cert.BackReferenceIdeal.nD Cert.BackReferenceIdeal.τ).loc Cert.BackReferenceIdeal.main_arg1) = m ((c.tc : Thread Cert.BackIdeal.nD Cert.BackIdeal.τ).loc Cert.BackIdeal.main_arg1)
      ∧ m' ((c.tc : Thread Cert.BackReferenceIdeal.nD Cert.BackReferenceIdeal.τ).loc Cert.BackReferenceIdeal.main_arg2) = m ((c.tc : Thread Cert.BackIdeal.nD Cert.BackIdeal.τ).loc Cert.BackIdeal.main_arg2)
      ∧ m' ((c.tc : Thread Cert.BackReferenceIdeal.nD Cert.BackReferenceIdeal.τ).loc Cert.BackReferenceIdeal.main_arg3) = m ((c.tc : Thread Cert.BackIdeal.nD Cert.BackIdeal.τ).loc Cert.BackIdeal.main_arg3)) →
    ∃ (v0 : (c : Dev Cert.BackIdeal.nD) → Buf (Elt Ideal) ((c.tc : Thread Cert.BackIdeal.nD Cert.BackIdeal.τ).loc Cert.BackIdeal.main_v0)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v0) = v0 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v21) = v0 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1)
          ∧ r.2.mem ((c.tc : Thread Cert.BackReferenceIdeal.nD Cert.BackReferenceIdeal.τ).loc Cert.BackReferenceIdeal.main_arg2) = m' ((c.tc : Thread Cert.BackReferenceIdeal.nD Cert.BackReferenceIdeal.τ).loc Cert.BackReferenceIdeal.main_arg2)
          ∧ r.2.mem ((c.tc : Thread Cert.BackReferenceIdeal.nD Cert.BackReferenceIdeal.τ).loc Cert.BackReferenceIdeal.main_arg3) = m' ((c.tc : Thread Cert.BackReferenceIdeal.nD Cert.BackReferenceIdeal.τ).loc Cert.BackReferenceIdeal.main_arg3))

def Claim : Prop :=
  ∃ (hKernel : Cert.Kernel.Facts) (hKernelIdeal : Cert.KernelIdeal.Facts) (hReferenceIdeal : Cert.ReferenceIdeal.Facts) (hGlu : Cert.Glu.Facts) (hGluIdeal : Cert.GluIdeal.Facts) (hGluReferenceIdeal : Cert.GluReferenceIdeal.Facts) (hDown : Cert.Down.Facts) (hDownIdeal : Cert.DownIdeal.Facts) (hDownReferenceIdeal : Cert.DownReferenceIdeal.Facts) (hOut : Cert.Out.Facts) (hOutIdeal : Cert.OutIdeal.Facts) (hOutReferenceIdeal : Cert.OutReferenceIdeal.Facts) (hFirst : Cert.First.Facts) (hFirstIdeal : Cert.FirstIdeal.Facts) (hFirstReferenceIdeal : Cert.FirstReferenceIdeal.Facts) (hVal : Cert.Val.Facts) (hValIdeal : Cert.ValIdeal.Facts) (hValReferenceIdeal : Cert.ValReferenceIdeal.Facts) (hQry : Cert.Qry.Facts) (hQryIdeal : Cert.QryIdeal.Facts) (hQryReferenceIdeal : Cert.QryReferenceIdeal.Facts) (hKey : Cert.Key.Facts) (hKeyIdeal : Cert.KeyIdeal.Facts) (hKeyReferenceIdeal : Cert.KeyReferenceIdeal.Facts) (hAda : Cert.Ada.Facts) (hAdaIdeal : Cert.AdaIdeal.Facts) (hAdaReferenceIdeal : Cert.AdaReferenceIdeal.Facts) (hNorm : Cert.Norm.Facts) (hNormIdeal : Cert.NormIdeal.Facts) (hNormReferenceIdeal : Cert.NormReferenceIdeal.Facts) (hStart : Cert.Start.Facts) (hStartIdeal : Cert.StartIdeal.Facts) (hStartReferenceIdeal : Cert.StartReferenceIdeal.Facts) (hCtx : Cert.Ctx.Facts) (hCtxIdeal : Cert.CtxIdeal.Facts) (hCtxReferenceIdeal : Cert.CtxReferenceIdeal.Facts) (hChan : Cert.Chan.Facts) (hChanIdeal : Cert.ChanIdeal.Facts) (hChanReferenceIdeal : Cert.ChanReferenceIdeal.Facts) (hShort : Cert.Short.Facts) (hShortIdeal : Cert.ShortIdeal.Facts) (hShortReferenceIdeal : Cert.ShortReferenceIdeal.Facts) (hLong : Cert.Long.Facts) (hLongIdeal : Cert.LongIdeal.Facts) (hLongReferenceIdeal : Cert.LongReferenceIdeal.Facts) (hMix : Cert.Mix.Facts) (hMixIdeal : Cert.MixIdeal.Facts) (hMixReferenceIdeal : Cert.MixReferenceIdeal.Facts) (hConv : Cert.Conv.Facts) (hConvIdeal : Cert.ConvIdeal.Facts) (hConvReferenceIdeal : Cert.ConvReferenceIdeal.Facts) (hUp : Cert.Up.Facts) (hUpIdeal : Cert.UpIdeal.Facts) (hUpReferenceIdeal : Cert.UpReferenceIdeal.Facts) (hBack : Cert.Back.Facts) (hBackIdeal : Cert.BackIdeal.Facts) (hBackReferenceIdeal : Cert.BackReferenceIdeal.Facts) (hPre_finite_scores : Cert.Pre_finite_scores.Facts) (hPre_finite_context : Cert.Pre_finite_context.Facts) (hPre_tables : Cert.Pre_tables.Facts) (hPre_tables_back : Cert.Pre_tables_back.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Glu (hGlu := hGlu)
    ∧ quiescent_GluIdeal (hGluIdeal := hGluIdeal)
    ∧ quiescent_GluReferenceIdeal (hGluReferenceIdeal := hGluReferenceIdeal)
    ∧ quiescent_Down (hDown := hDown)
    ∧ quiescent_DownIdeal (hDownIdeal := hDownIdeal)
    ∧ quiescent_DownReferenceIdeal (hDownReferenceIdeal := hDownReferenceIdeal)
    ∧ quiescent_Out (hOut := hOut)
    ∧ quiescent_OutIdeal (hOutIdeal := hOutIdeal)
    ∧ quiescent_OutReferenceIdeal (hOutReferenceIdeal := hOutReferenceIdeal)
    ∧ quiescent_First (hFirst := hFirst)
    ∧ quiescent_FirstIdeal (hFirstIdeal := hFirstIdeal)
    ∧ quiescent_FirstReferenceIdeal (hFirstReferenceIdeal := hFirstReferenceIdeal)
    ∧ quiescent_Val (hVal := hVal)
    ∧ quiescent_ValIdeal (hValIdeal := hValIdeal)
    ∧ quiescent_ValReferenceIdeal (hValReferenceIdeal := hValReferenceIdeal)
    ∧ quiescent_Qry (hQry := hQry)
    ∧ quiescent_QryIdeal (hQryIdeal := hQryIdeal)
    ∧ quiescent_QryReferenceIdeal (hQryReferenceIdeal := hQryReferenceIdeal)
    ∧ quiescent_Key (hKey := hKey)
    ∧ quiescent_KeyIdeal (hKeyIdeal := hKeyIdeal)
    ∧ quiescent_KeyReferenceIdeal (hKeyReferenceIdeal := hKeyReferenceIdeal)
    ∧ quiescent_Ada (hAda := hAda)
    ∧ quiescent_AdaIdeal (hAdaIdeal := hAdaIdeal)
    ∧ quiescent_AdaReferenceIdeal (hAdaReferenceIdeal := hAdaReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Start (hStart := hStart)
    ∧ quiescent_StartIdeal (hStartIdeal := hStartIdeal)
    ∧ quiescent_StartReferenceIdeal (hStartReferenceIdeal := hStartReferenceIdeal)
    ∧ quiescent_Ctx (hCtx := hCtx)
    ∧ quiescent_CtxIdeal (hCtxIdeal := hCtxIdeal)
    ∧ quiescent_CtxIdeal_pre_finite_context (hCtxIdeal := hCtxIdeal) (hPre_finite_context := hPre_finite_context)
    ∧ quiescent_CtxReferenceIdeal (hCtxReferenceIdeal := hCtxReferenceIdeal)
    ∧ quiescent_CtxReferenceIdeal_pre_finite_context (hCtxReferenceIdeal := hCtxReferenceIdeal) (hPre_finite_context := hPre_finite_context)
    ∧ quiescent_Chan (hChan := hChan)
    ∧ quiescent_ChanIdeal (hChanIdeal := hChanIdeal)
    ∧ quiescent_ChanReferenceIdeal (hChanReferenceIdeal := hChanReferenceIdeal)
    ∧ quiescent_Short (hShort := hShort)
    ∧ quiescent_ShortIdeal (hShortIdeal := hShortIdeal)
    ∧ quiescent_ShortReferenceIdeal (hShortReferenceIdeal := hShortReferenceIdeal)
    ∧ quiescent_Long (hLong := hLong)
    ∧ quiescent_LongIdeal (hLongIdeal := hLongIdeal)
    ∧ quiescent_LongReferenceIdeal (hLongReferenceIdeal := hLongReferenceIdeal)
    ∧ quiescent_Mix (hMix := hMix)
    ∧ quiescent_MixIdeal (hMixIdeal := hMixIdeal)
    ∧ quiescent_MixReferenceIdeal (hMixReferenceIdeal := hMixReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_Up (hUp := hUp) (hPre_tables := hPre_tables)
    ∧ quiescent_UpIdeal (hUpIdeal := hUpIdeal) (hPre_tables := hPre_tables)
    ∧ quiescent_UpReferenceIdeal (hUpReferenceIdeal := hUpReferenceIdeal)
    ∧ quiescent_UpReferenceIdeal_pre_tables (hUpReferenceIdeal := hUpReferenceIdeal) (hPre_tables := hPre_tables)
    ∧ quiescent_Back (hBack := hBack) (hPre_tables_back := hPre_tables_back)
    ∧ quiescent_BackIdeal (hBackIdeal := hBackIdeal) (hPre_tables_back := hPre_tables_back)
    ∧ quiescent_BackReferenceIdeal (hBackReferenceIdeal := hBackReferenceIdeal)
    ∧ quiescent_BackReferenceIdeal_pre_tables_back (hBackReferenceIdeal := hBackReferenceIdeal) (hPre_tables_back := hPre_tables_back)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Glu_GluIdeal
    ∧ algebraic_GluIdeal_GluReferenceIdeal (hGluIdeal := hGluIdeal) (hGluReferenceIdeal := hGluReferenceIdeal)
    ∧ preserves_Down_DownIdeal
    ∧ algebraic_DownIdeal_DownReferenceIdeal (hDownIdeal := hDownIdeal) (hDownReferenceIdeal := hDownReferenceIdeal)
    ∧ preserves_Out_OutIdeal
    ∧ algebraic_OutIdeal_OutReferenceIdeal (hOutIdeal := hOutIdeal) (hOutReferenceIdeal := hOutReferenceIdeal)
    ∧ preserves_First_FirstIdeal
    ∧ algebraic_FirstIdeal_FirstReferenceIdeal (hFirstIdeal := hFirstIdeal) (hFirstReferenceIdeal := hFirstReferenceIdeal)
    ∧ preserves_Val_ValIdeal
    ∧ algebraic_ValIdeal_ValReferenceIdeal (hValIdeal := hValIdeal) (hValReferenceIdeal := hValReferenceIdeal)
    ∧ preserves_Qry_QryIdeal
    ∧ algebraic_QryIdeal_QryReferenceIdeal (hQryIdeal := hQryIdeal) (hQryReferenceIdeal := hQryReferenceIdeal)
    ∧ preserves_Key_KeyIdeal
    ∧ algebraic_KeyIdeal_KeyReferenceIdeal (hKeyIdeal := hKeyIdeal) (hKeyReferenceIdeal := hKeyReferenceIdeal)
    ∧ preserves_Ada_AdaIdeal
    ∧ algebraic_AdaIdeal_AdaReferenceIdeal (hAdaIdeal := hAdaIdeal) (hAdaReferenceIdeal := hAdaReferenceIdeal)
    ∧ preserves_Norm_NormIdeal
    ∧ algebraic_NormIdeal_NormReferenceIdeal (hNormIdeal := hNormIdeal) (hNormReferenceIdeal := hNormReferenceIdeal)
    ∧ preserves_Start_StartIdeal
    ∧ algebraic_StartIdeal_StartReferenceIdeal (hStartIdeal := hStartIdeal) (hStartReferenceIdeal := hStartReferenceIdeal)
    ∧ preserves_Ctx_CtxIdeal
    ∧ algebraic_CtxIdeal_CtxReferenceIdeal_pre_finite_context (hCtxIdeal := hCtxIdeal) (hCtxReferenceIdeal := hCtxReferenceIdeal) (hPre_finite_context := hPre_finite_context)
    ∧ preserves_Chan_ChanIdeal
    ∧ algebraic_ChanIdeal_ChanReferenceIdeal (hChanIdeal := hChanIdeal) (hChanReferenceIdeal := hChanReferenceIdeal)
    ∧ preserves_Short_ShortIdeal
    ∧ algebraic_ShortIdeal_ShortReferenceIdeal (hShortIdeal := hShortIdeal) (hShortReferenceIdeal := hShortReferenceIdeal)
    ∧ preserves_Long_LongIdeal
    ∧ algebraic_LongIdeal_LongReferenceIdeal (hLongIdeal := hLongIdeal) (hLongReferenceIdeal := hLongReferenceIdeal)
    ∧ preserves_Mix_MixIdeal
    ∧ algebraic_MixIdeal_MixReferenceIdeal (hMixIdeal := hMixIdeal) (hMixReferenceIdeal := hMixReferenceIdeal)
    ∧ preserves_Conv_ConvIdeal
    ∧ algebraic_ConvIdeal_ConvReferenceIdeal (hConvIdeal := hConvIdeal) (hConvReferenceIdeal := hConvReferenceIdeal)
    ∧ preserves_Up_UpIdeal
    ∧ algebraic_UpIdeal_UpReferenceIdeal (hUpIdeal := hUpIdeal) (hUpReferenceIdeal := hUpReferenceIdeal) (hPre_tables := hPre_tables)
    ∧ preserves_Back_BackIdeal
    ∧ algebraic_BackIdeal_BackReferenceIdeal (hBackIdeal := hBackIdeal) (hBackReferenceIdeal := hBackReferenceIdeal) (hPre_tables_back := hPre_tables_back)
-- ==== Pre_finite_context.lean ====
abbrev S24576x4096 : Shape := ⟨2, ![24576, 4096]⟩
abbrev S24576x1024 : Shape := ⟨2, ![24576, 1024]⟩
abbrev S_ : Shape := ⟨0, ![]⟩

class Facts : Prop where
  bitsLt_bf16_f32 : FTy.bits .bf16 < FTy.bits .f32
  bcast_S_S24576x4096 : S_.BroadcastsInDim S24576x4096 (![] : Fin 0 → Fin S24576x4096.rank)
  bcast_S_S24576x1024 : S_.BroadcastsInDim S24576x1024 (![] : Fin 0 → Fin S24576x1024.rank)

variable [Facts]

def fn {F : FTy → Type} [FloatOps F] (main_arg0 : FVec F S24576x4096 .bf16) (main_arg1 : FVec F S24576x1024 .bf16) (main_arg2 : FVec F S24576x1024 .bf16) : IVec S24576x4096 1 × IVec S24576x1024 1 :=
  let main_v0 : FVec F S24576x4096 .f32 := (extf .f32 · bitsLt_bf16_f32) main_arg0
  let main_v1 : FVec F S24576x4096 .f32 := Host.absf main_v0
  let main_cst : FVec F S_ .f32 := constant S_ .f32 0x7F800000#32
  let main_v2 : FVec F S24576x4096 .f32 := broadcastInDim S24576x4096 ![] bcast_S_S24576x4096 main_cst
  let main_v3 : IVec S24576x4096 1 := cmpf .olt main_v1 main_v2
  let main_v4 : FVec F S24576x1024 .f32 := (extf .f32 · bitsLt_bf16_f32) main_arg1
  let main_v5 : FVec F S24576x1024 .f32 := Host.absf main_v4
  let main_cst_0 : FVec F S_ .f32 := constant S_ .f32 0x7F800000#32
  let main_v6 : FVec F S24576x1024 .f32 := broadcastInDim S24576x1024 ![] bcast_S_S24576x1024 main_cst_0
  let main_v7 : IVec S24576x1024 1 := cmpf .olt main_v5 main_v6
  (main_v3, main_v7)
-- ==== Pre_finite_scores.lean ====
abbrev S24576x4096 : Shape := ⟨2, ![24576, 4096]⟩
abbrev S24576x1024 : Shape := ⟨2, ![24576, 1024]⟩
abbrev S4x256x1024 : Shape := ⟨3, ![4, 256, 1024]⟩
abbrev S_ : Shape := ⟨0, ![]⟩

class Facts : Prop where
  bitsLt_bf16_f32 : FTy.bits .bf16 < FTy.bits .f32
  bcast_S_S24576x4096 : S_.BroadcastsInDim S24576x4096 (![] : Fin 0 → Fin S24576x4096.rank)
  bcast_S_S24576x1024 : S_.BroadcastsInDim S24576x1024 (![] : Fin 0 → Fin S24576x1024.rank)
  bcast_S_S4x256x1024 : S_.BroadcastsInDim S4x256x1024 (![] : Fin 0 → Fin S4x256x1024.rank)

variable [Facts]

def fn {F : FTy → Type} [FloatOps F] (main_arg0 : FVec F S24576x4096 .bf16) (main_arg1 : FVec F S24576x1024 .bf16) (main_arg2 : FVec F S24576x1024 .bf16) (main_arg3 : FVec F S4x256x1024 .f32) (main_arg4 : FVec F S4x256x1024 .f32) (main_arg5 : FVec F S24576x4096 .bf16) : IVec S24576x4096 1 × IVec S24576x1024 1 × IVec S4x256x1024 1 :=
  let main_v0 : FVec F S24576x4096 .f32 := (extf .f32 · bitsLt_bf16_f32) main_arg0
  let main_v1 : FVec F S24576x4096 .f32 := Host.absf main_v0
  let main_cst : FVec F S_ .f32 := constant S_ .f32 0x7F800000#32
  let main_v2 : FVec F S24576x4096 .f32 := broadcastInDim S24576x4096 ![] bcast_S_S24576x4096 main_cst
  let main_v3 : IVec S24576x4096 1 := cmpf .olt main_v1 main_v2
  let main_v4 : FVec F S24576x1024 .f32 := (extf .f32 · bitsLt_bf16_f32) main_arg1
  let main_v5 : FVec F S24576x1024 .f32 := Host.absf main_v4
  let main_cst_0 : FVec F S_ .f32 := constant S_ .f32 0x7F800000#32
  let main_v6 : FVec F S24576x1024 .f32 := broadcastInDim S24576x1024 ![] bcast_S_S24576x1024 main_cst_0
  let main_v7 : IVec S24576x1024 1 := cmpf .olt main_v5 main_v6
  let main_v8 : FVec F S4x256x1024 .f32 := Host.absf main_arg3
  let main_cst_1 : FVec F S_ .f32 := constant S_ .f32 0x7F800000#32
  let main_v9 : FVec F S4x256x1024 .f32 := broadcastInDim S4x256x1024 ![] bcast_S_S4x256x1024 main_cst_1
  let main_v10 : IVec S4x256x1024 1 := cmpf .olt main_v8 main_v9
  (main_v3, main_v7, main_v10)
-- ==== Pre_tables.lean ====
abbrev S104 : Shape := ⟨1, ![104]⟩
abbrev S53248x4096 : Shape := ⟨2, ![53248, 4096]⟩
abbrev S2x8x4096x2048 : Shape := ⟨4, ![2, 8, 4096, 2048]⟩
abbrev S_ : Shape := ⟨0, ![]⟩

class Facts : Prop where
  bcast_S_S104 : S_.BroadcastsInDim S104 (![] : Fin 0 → Fin S104.rank)

variable [Facts]

def fn {F : FTy → Type} [FloatOps F] (main_arg0 : IVec S104 32) (main_arg1 : IVec S104 32) (main_arg2 : FVec F S53248x4096 .bf16) (main_arg3 : FVec F S2x8x4096x2048 .f32) (main_arg4 : FVec F S2x8x4096x2048 .f32) : IVec S104 1 × IVec S104 1 :=
  let main_c : IVec S_ 32 := constantI S_ 32 0#32
  let main_v0 : IVec S104 32 := broadcastInDim S104 ![] bcast_S_S104 main_c
  let main_v1 : IVec S104 1 := cmpi .sge main_arg0 main_v0
  let main_c_0 : IVec S_ 32 := constantI S_ 32 8#32
  let main_v2 : IVec S104 32 := broadcastInDim S104 ![] bcast_S_S104 main_c_0
  let main_v3 : IVec S104 1 := cmpi .slt main_arg0 main_v2
  let main_v4 : IVec S104 1 := andi main_v1 main_v3
  let main_c_1 : IVec S_ 32 := constantI S_ 32 0#32
  let main_v5 : IVec S104 32 := broadcastInDim S104 ![] bcast_S_S104 main_c_1
  let main_v6 : IVec S104 1 := cmpi .sge main_arg1 main_v5
  let main_c_2 : IVec S_ 32 := constantI S_ 32 1#32
  let main_v7 : IVec S104 32 := broadcastInDim S104 ![] bcast_S_S104 main_c_2
  let main_v8 : IVec S104 1 := cmpi .sle main_arg1 main_v7
  let main_v9 : IVec S104 1 := andi main_v6 main_v8
  (main_v4, main_v9)
-- ==== Pre_tables_back.lean ====
abbrev S104 : Shape := ⟨1, ![104]⟩
abbrev S53248x2048 : Shape := ⟨2, ![53248, 2048]⟩
abbrev S2x8x2048x4096 : Shape := ⟨4, ![2, 8, 2048, 4096]⟩
abbrev S_ : Shape := ⟨0, ![]⟩

class Facts : Prop where
  bcast_S_S104 : S_.BroadcastsInDim S104 (![] : Fin 0 → Fin S104.rank)

variable [Facts]

def fn {F : FTy → Type} [FloatOps F] (main_arg0 : IVec S104 32) (main_arg1 : IVec S104 32) (main_arg2 : FVec F S53248x2048 .bf16) (main_arg3 : FVec F S2x8x2048x4096 .f32) : IVec S104 1 × IVec S104 1 :=
  let main_c : IVec S_ 32 := constantI S_ 32 0#32
  let main_v0 : IVec S104 32 := broadcastInDim S104 ![] bcast_S_S104 main_c
  let main_v1 : IVec S104 1 := cmpi .sge main_arg0 main_v0
  let main_c_0 : IVec S_ 32 := constantI S_ 32 8#32
  let main_v2 : IVec S104 32 := broadcastInDim S104 ![] bcast_S_S104 main_c_0
  let main_v3 : IVec S104 1 := cmpi .slt main_arg0 main_v2
  let main_v4 : IVec S104 1 := andi main_v1 main_v3
  let main_c_1 : IVec S_ 32 := constantI S_ 32 0#32
  let main_v5 : IVec S104 32 := broadcastInDim S104 ![] bcast_S_S104 main_c_1
  let main_v6 : IVec S104 1 := cmpi .sge main_arg1 main_v5
  let main_c_2 : IVec S_ 32 := constantI S_ 32 1#32
  let main_v7 : IVec S104 32 := broadcastInDim S104 ![] bcast_S_S104 main_c_2
  let main_v8 : IVec S104 1 := cmpi .sle main_arg1 main_v7
  let main_v9 : IVec S104 1 := andi main_v6 main_v8
  (main_v4, main_v9)
-- ==== Kernel.lean ====
abbrev S24576x4096 : Shape := ⟨2, ![24576, 4096]⟩
abbrev S24576x1024 : Shape := ⟨2, ![24576, 1024]⟩
abbrev S4x256x1024 : Shape := ⟨3, ![4, 256, 1024]⟩
abbrev S256x512 : Shape := ⟨2, ![256, 512]⟩
abbrev S4096x128 : Shape := ⟨2, ![4096, 128]⟩
abbrev S1x256x128 : Shape := ⟨3, ![1, 256, 128]⟩
abbrev S256x128 : Shape := ⟨2, ![256, 128]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 7
  | .vmem => 12
  | .smem => 0
  | _ => 0

abbrev bufTy : (tb : Table) → Fin (tcTables nBuf tb) → BufTy
  | .hbm, ⟨0, _⟩ => ⟨S24576x4096, .bf16⟩
  | .hbm, ⟨1, _⟩ => ⟨S24576x1024, .bf16⟩
  | .hbm, ⟨2, _⟩ => ⟨S24576x1024, .bf16⟩
  | .hbm, ⟨3, _⟩ => ⟨S4x256x1024, .f32⟩
  | .hbm, ⟨4, _⟩ => ⟨S4x256x1024, .f32⟩
  | .hbm, ⟨5, _⟩ => ⟨S24576x4096, .bf16⟩
  | .hbm, ⟨6, _⟩ => ⟨S24576x4096, .bf16⟩
  | .local _ .vmem, ⟨0, _⟩ => ⟨S256x512, .bf16⟩
  | .local _ .vmem, ⟨1, _⟩ => ⟨S256x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S256x512, .bf16⟩
  | .local _ .vmem, ⟨11, _⟩ => ⟨S256x512, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c32_i32 : BitVec 32 := 32#32
  let v1 : BitVec 32 := Scalar.addi c32_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c32_i32 : BitVec 32 := 32#32
  let v1 : BitVec 32 := Scalar.addi c32_i32 v0
  let v2 : BitVec 32 := Scalar.addi v1 arg2
  let c0_i32 : BitVec 32 := 0#32
  ![v2.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S24576x4096 : Shape := ⟨2, ![24576, 4096]⟩
abbrev S24576x1024 : Shape := ⟨2, ![24576, 1024]⟩
abbrev S4x256x1024 : Shape := ⟨3, ![4, 256, 1024]⟩
abbrev S16384x4096 : Shape := ⟨2, ![16384, 4096]⟩
abbrev S4x4096x8x4x128 : Shape := ⟨5, ![4, 4096, 8, 4, 128]⟩
abbrev S16384x1024 : Shape := ⟨2, ![16384, 1024]⟩
abbrev S4x4096x8x128 : Shape := ⟨4, ![4, 4096, 8, 128]⟩
abbrev S4x256x8x128 : Shape := ⟨4, ![4, 256, 8, 128]⟩
abbrev S4x4352x8x128 : Shape := ⟨4, ![4, 4352, 8, 128]⟩
abbrev S4x8x4352x4096x4 : Shape := ⟨5, ![4, 8, 4352, 4096, 4]⟩
abbrev S4x8x4x4096x4352 : Shape := ⟨5, ![4, 8, 4, 4096, 4352]⟩
abbrev S_ : Shape := ⟨0, ![]⟩
abbrev S4x8x4x4096 : Shape := ⟨4, ![4, 8, 4, 4096]⟩
abbrev S4x8x4x4096x1 : Shape := ⟨5, ![4, 8, 4, 4096, 1]⟩
abbrev S4x8x128x4x4096 : Shape := ⟨5, ![4, 8, 128, 4, 4096]⟩
abbrev S8192x4096 : Shape := ⟨2, ![8192, 4096]⟩

abbrev nBuf : Space → Nat
  | .hbm => 45
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S24576x1024, .bf16⟩
  | .hbm, ⟨2, _⟩ => ⟨S24576x1024, .bf16⟩
  | .hbm, ⟨3, _⟩ => ⟨S4x256x1024, .f32⟩
  | .hbm, ⟨4, _⟩ => ⟨S4x256x1024, .f32⟩
  | .hbm, ⟨5, _⟩ => ⟨S24576x4096, .bf16⟩
  | .hbm, ⟨6, _⟩ => ⟨S16384x4096, .bf16⟩
  | .hbm, ⟨7, _⟩ => ⟨S16384x4096, .f32⟩
  | .hbm, ⟨8, _⟩ => ⟨S4x4096x8x4x128, .f32⟩
  | .hbm, ⟨9, _⟩ => ⟨S16384x1024, .bf16⟩
  | .hbm, ⟨10, _⟩ => ⟨S16384x1024, .f32⟩
  | .hbm, ⟨11, _⟩ => ⟨S4x4096x8x128, .f32⟩
  | .hbm, ⟨12, _⟩ => ⟨S16384x1024, .bf16⟩
  | .hbm, ⟨13, _⟩ => ⟨S16384x1024, .f32⟩
  | .hbm, ⟨14, _⟩ => ⟨S4x4096x8x128, .f32⟩
  | .hbm, ⟨15, _⟩ => ⟨S4x256x8x128, .f32⟩
  | .hbm, ⟨16, _⟩ => ⟨S4x256x8x128, .f32⟩
  | .hbm, ⟨17, _⟩ => ⟨S4x4352x8x128, .f32⟩
  | .hbm, ⟨18, _⟩ => ⟨S4x4352x8x128, .f32⟩
  | .hbm, ⟨19, _⟩ => ⟨S4x8x4352x4096x4, .f32⟩
  | .hbm, ⟨20, _⟩ => ⟨S4x8x4x4096x4352, .f32⟩
  | .hbm, ⟨21, _⟩ => ⟨S_, .f32⟩
  | .hbm, ⟨22, _⟩ => ⟨S_, .f32⟩
  | .hbm, ⟨23, _⟩ => ⟨S4x8x4x4096x4352, .f32⟩
  | .hbm, ⟨24, _⟩ => ⟨S4x8x4x4096x4352, .f32⟩
  | .hbm, ⟨25, _⟩ => ⟨S_, .f32⟩
  | .hbm, ⟨26, _⟩ => ⟨S4x8x4x4096, .f32⟩
  | .hbm, ⟨27, _⟩ => ⟨S_, .f32⟩
  | .hbm, ⟨28, _⟩ => ⟨S4x8x4x4096, .f32⟩
  | .hbm, ⟨29, _⟩ => ⟨S4x8x4x4096, .f32⟩
  | .hbm, ⟨30, _⟩ => ⟨S4x8x4x4096x1, .f32⟩
  | .hbm, ⟨31, _⟩ => ⟨S4x8x4x4096x4352, .f32⟩
  | .hbm, ⟨32, _⟩ => ⟨S4x8x4x4096x4352, .f32⟩
  | .hbm, ⟨33, _⟩ => ⟨S4x8x4x4096x4352, .f32⟩
  | .hbm, ⟨34, _⟩ => ⟨S_, .f32⟩
  | .hbm, ⟨35, _⟩ => ⟨S4x8x4x4096, .f32⟩
  | .hbm, ⟨36, _⟩ => ⟨S4x8x4x4096x1, .f32⟩
  | .hbm, ⟨37, _⟩ => ⟨S4x8x4x4096x4352, .f32⟩
  | .hbm, ⟨38, _⟩ => ⟨S4x8x4x4096x4352, .f32⟩
  | .hbm, ⟨39, _⟩ => ⟨S4x8x128x4x4096, .f32⟩
  | .hbm, ⟨40, _⟩ => ⟨S4x4096x8x4x128, .f32⟩
  | .hbm, ⟨41, _⟩ => ⟨S16384x4096, .f32⟩
  | .hbm, ⟨42, _⟩ => ⟨S8192x4096, .bf16⟩
  | .hbm, ⟨43, _⟩ => ⟨S16384x4096, .bf16⟩
  | .hbm, ⟨44, _⟩ => ⟨S24576x4096, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Glu.lean ====
abbrev S24576x4096 : Shape := ⟨2, ![24576, 4096]⟩
abbrev S2x4096x11008 : Shape := ⟨3, ![2, 4096, 11008]⟩
abbrev S24576x11008 : Shape := ⟨2, ![24576, 11008]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩

abbrev nBuf : Space → Nat
  | .hbm => 4
  | .vmem => 7
  | .smem => 0
  | _ => 0

abbrev bufTy : (tb : Table) → Fin (tcTables nBuf tb) → BufTy
  | .hbm, ⟨0, _⟩ => ⟨S24576x4096, .bf16⟩
  | .hbm, ⟨1, _⟩ => ⟨S2x4096x11008, .f32⟩
  | .hbm, ⟨2, _⟩ => ⟨S2x4096x11008, .f32⟩
  | .hbm, ⟨3, _⟩ => ⟨S24576x11008, .bf16⟩
  | .local _ .vmem, ⟨0, _⟩ => ⟨S2048x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S2048x256, .bf16⟩
  | .local _ .vmem, ⟨6, _⟩ => ⟨S2048x256, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![12, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluReferenceIdeal.lean ====
abbrev S24576x4096 : Shape := ⟨2, ![24576, 4096]⟩
abbrev S2x4096x11008 : Shape := ⟨3, ![2, 4096, 11008]⟩
abbrev S1x4096x11008 : Shape := ⟨3, ![1, 4096, 11008]⟩
abbrev S4096x11008 : Shape := ⟨2, ![4096, 11008]⟩
abbrev S24576x11008 : Shape := ⟨2, ![24576, 11008]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S2x4096x11008, .f32⟩
  | .hbm, ⟨2, _⟩ => ⟨S2x4096x11008, .f32⟩
  | .hbm, ⟨3, _⟩ => ⟨S24576x4096, .f32⟩
  | .hbm, ⟨4, _⟩ => ⟨S1x4096x11008, .f32⟩
  | .hbm, ⟨5, _⟩ => ⟨S4096x11008, .f32⟩
  | .hbm, ⟨6, _⟩ => ⟨S24576x11008, .f32⟩
  | .hbm, ⟨7, _⟩ => ⟨S24576x11008, .f32⟩
  | .hbm, ⟨8, _⟩ => ⟨S24576x11008, .f32⟩
  | .hbm, ⟨9, _⟩ => ⟨S_, .f32⟩
  | .hbm, ⟨10, _⟩ => ⟨S24576x11008, .f32⟩
  | .hbm, ⟨11, _⟩ => ⟨S24576x11008, .f32⟩
  | .hbm, ⟨12, _⟩ => ⟨S_, .f32⟩
  | .hbm, ⟨13, _⟩ => ⟨S24576x11008, .f32⟩
  | .hbm, ⟨14, _⟩ => ⟨S24576x11008, .f32⟩
  | .hbm, ⟨15, _⟩ => ⟨S24576x11008, .f32⟩
  | .hbm, ⟨16, _⟩ => ⟨S1x4096x11008, .f32⟩
  | .hbm, ⟨17, _⟩ => ⟨S4096x11008, .f32⟩
  | .hbm, ⟨18, _⟩ => ⟨S24576x11008, .f32⟩
  | .hbm, ⟨19, _⟩ => ⟨S24576x11008, .f32⟩
  | .hbm, ⟨20, _⟩ => ⟨S24576x11008, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Down.lean ====
abbrev S24576x11008 : Shape := ⟨2, ![24576, 11008]⟩
abbrev S2x11008x4096 : Shape := ⟨3, ![2, 11008, 4096]⟩
abbrev S24576x4096 : Shape := ⟨2, ![24576, 4096]⟩
abbrev S4x8x6x1x4096 : Shape := ⟨5, ![4, 8, 6, 1, 4096]⟩
abbrev S512x11008 : Shape := ⟨2, ![512, 11008]⟩
abbrev S1x11008x512 : Shape := ⟨3, ![1, 11008, 512]⟩
abbrev S512x512 : Shape := ⟨2, ![512, 512]⟩
abbrev S1x1x1x1x512 : Shape := ⟨5, ![1, 1, 1, 1, 512]⟩
abbrev S11008x512 : Shape := ⟨2, ![11008, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S24576x11008, .bf16⟩
  | .hbm, ⟨1, _⟩ => ⟨S2x11008x4096, .bf16⟩
  | .hbm, ⟨2, _⟩ => ⟨S24576x4096, .f32⟩
  | .hbm, ⟨3, _⟩ => ⟨S4x8x6x1x4096, .f32⟩
  | .hbm, ⟨4, _⟩ => ⟨S24576x4096, .f32⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .f32⟩
  | .local _ .vmem, ⟨5, _⟩ => ⟨S512x512, .f32⟩
  | .local _ .vmem, ⟨6, _⟩ => ⟨S1x1x1x1x512, .f32⟩
  | .local _ .vmem, ⟨7, _⟩ => ⟨S1x1x1x1x512, .f32⟩
  | .local _ .vmem, ⟨8, _⟩ => ⟨S512x512, .f32⟩
  | .local _ .vmem, ⟨9, _⟩ => ⟨S512x512, .f32⟩
  | _, _ => ⟨S24576x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![48, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 5 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c5_i32 : BitVec 32 := 5#32
  let c0_i32_8 : BitVec 32 := 0#32
  let c0_i32_9 : BitVec 32 := 0#32
  ![c0_i32_7.toNat, v21.toNat, c5_i32.toNat, c0_i32_8.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownReferenceIdeal.lean ====
abbrev S24576x11008 : Shape := ⟨2, ![24576, 11008]⟩
abbrev S2x11008x4096 : Shape := ⟨3, ![2, 11008, 4096]⟩
abbrev S24576x4096 : Shape := ⟨2, ![24576, 4096]⟩
abbrev S4x8x6x1x4096 : Shape := ⟨5, ![4, 8, 6, 1, 4096]⟩
abbrev S1x11008x4096 : Shape := ⟨3, ![1, 11008, 4096]⟩
abbrev S11008x4096 : Shape := ⟨2, ![11008, 4096]⟩
abbrev S1x5x1x1x4096 : Shape := ⟨5, ![1, 5, 1, 1, 4096]⟩
abbrev S5x4096 : Shape := ⟨2, ![5, 4096]⟩
abbrev S1x4096 : Shape := ⟨2, ![1, 4096]⟩
abbrev S4x4096 : Shape := ⟨2, ![4, 4096]⟩
abbrev S8192x4096 : Shape := ⟨2, ![8192, 4096]⟩
abbrev S16384x4096 : Shape := ⟨2, ![16384, 4096]⟩
abbrev S4x4096x4096 : Shape := ⟨3, ![4, 4096, 4096]⟩
abbrev S4x1x4096 : Shape := ⟨3, ![4, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S24576x11008, .bf16⟩
  | .hbm, ⟨1, _⟩ => ⟨S2x11008x4096, .bf16⟩
  | .hbm, ⟨2, _⟩ => ⟨S24576x4096, .f32⟩
  | .hbm, ⟨3, _⟩ => ⟨S4x8x6x1x4096, .f32⟩
  | .hbm, ⟨4, _⟩ => ⟨S24576x11008, .f32⟩
  | .hbm, ⟨5, _⟩ => ⟨S1x11008x4096, .bf16⟩
  | .hbm, ⟨6, _⟩ => ⟨S11008x4096, .bf16⟩
  | .hbm, ⟨7, _⟩ => ⟨S11008x4096, .f32⟩
  | .hbm, ⟨8, _⟩ => ⟨S24576x4096, .f32⟩
  | .hbm, ⟨9, _⟩ => ⟨S1x5x1x1x4096, .f32⟩
  | .hbm, ⟨10, _⟩ => ⟨S5x4096, .f32⟩
  | .hbm, ⟨11, _⟩ => ⟨S1x4096, .f32⟩
  | .hbm, ⟨12, _⟩ => ⟨S4x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S16384x4096, .f32⟩
  | .hbm, ⟨19, _⟩ => ⟨S4x4096x4096, .f32⟩
  | .hbm, ⟨20, _⟩ => ⟨S16384x4096, .f32⟩
  | .hbm, ⟨21, _⟩ => ⟨S4x4096x4096, .f32⟩
  | .hbm, ⟨22, _⟩ => ⟨S4x1x4096, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S16384x4096, .f32⟩
  | .hbm, ⟨27, _⟩ => ⟨S24576x4096, .f32⟩
  | _, _ => ⟨S24576x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== Out.lean ====
abbrev S24576x4096 : Shape := ⟨2, ![24576, 4096]⟩
abbrev S2x4096x4096 : Shape := ⟨3, ![2, 4096, 4096]⟩
abbrev S4x8x6x1x4096 : Shape := ⟨5, ![4, 8, 6, 1, 4096]⟩
abbrev S1024x4096 : Shape := ⟨2, ![1024, 4096]⟩
abbrev S1x4096x512 : Shape := ⟨3, ![1, 4096, 512]⟩
abbrev S1024x512 : Shape := ⟨2, ![1024, 512]⟩
abbrev S1x1x1x1x512 : Shape := ⟨5, ![1, 1, 1, 1, 512]⟩
abbrev S4096x512 : Shape := ⟨2, ![4096, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S24576x4096, .bf16⟩
  | .hbm, ⟨1, _⟩ => ⟨S2x4096x4096, .bf16⟩
  | .hbm, ⟨2, _⟩ => ⟨S24576x4096, .f32⟩
  | .hbm, ⟨3, _⟩ => ⟨S4x8x6x1x4096, .f32⟩
  | .hbm, ⟨4, _⟩ => ⟨S24576x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x1x1x512, .f32⟩
  | .local _ .vmem, ⟨7, _⟩ => ⟨S1x1x1x1x512, .f32⟩
  | .local _ .vmem, ⟨8, _⟩ => ⟨S1024x512, .f32⟩
  | .local _ .vmem, ⟨9, _⟩ => ⟨S1024x512, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![24, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 5 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c3_i32 : BitVec 32 := 3#32
  let c2_i32 : BitVec 32 := 2#32
  let c0_i32_7 : BitVec 32 := 0#32
  let c0_i32_8 : BitVec 32 := 0#32
  ![c3_i32.toNat, v21.toNat, c2_i32.toNat, c0_i32_7.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutReferenceIdeal.lean ====
abbrev S24576x4096 : Shape := ⟨2, ![24576, 4096]⟩
abbrev S2x4096x4096 : Shape := ⟨3, ![2, 4096, 4096]⟩
abbrev S4x8x6x1x4096 : Shape := ⟨5, ![4, 8, 6, 1, 4096]⟩
abbrev S1x4096x4096 : Shape := ⟨3, ![1, 4096, 4096]⟩
abbrev S4096x4096 : Shape := ⟨2, ![4096, 4096]⟩
abbrev S1x5x1x1x4096 : Shape := ⟨5, ![1, 5, 1, 1, 4096]⟩
abbrev S5x4096 : Shape := ⟨2, ![5, 4096]⟩
abbrev S1x4096 : Shape := ⟨2, ![1, 4096]⟩
abbrev S4x4096 : Shape := ⟨2, ![4, 4096]⟩
abbrev S8192x4096 : Shape := ⟨2, ![8192, 4096]⟩
abbrev S16384x4096 : Shape := ⟨2, ![16384, 4096]⟩
abbrev S4x4096x4096 : Shape := ⟨3, ![4, 4096, 4096]⟩
abbrev S4x1x4096 : Shape := ⟨3, ![4, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S2x4096x4096, .bf16⟩
  | .hbm, ⟨2, _⟩ => ⟨S24576x4096, .f32⟩
  | .hbm, ⟨3, _⟩ => ⟨S4x8x6x1x4096, .f32⟩
  | .hbm, ⟨4, _⟩ => ⟨S24576x4096, .f32⟩
  | .hbm, ⟨5, _⟩ => ⟨S1x4096x4096, .bf16⟩
  | .hbm, ⟨6, _⟩ => ⟨S4096x4096, .bf16⟩
  | .hbm, ⟨7, _⟩ => ⟨S4096x4096, .f32⟩
  | .hbm, ⟨8, _⟩ => ⟨S24576x4096, .f32⟩
  | .hbm, ⟨9, _⟩ => ⟨S1x5x1x1x4096, .f32⟩
  | .hbm, ⟨10, _⟩ => ⟨S5x4096, .f32⟩
  | .hbm, ⟨11, _⟩ => ⟨S1x4096, .f32⟩
  | .hbm, ⟨12, _⟩ => ⟨S4x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S16384x4096, .f32⟩
  | .hbm, ⟨19, _⟩ => ⟨S4x4096x4096, .f32⟩
  | .hbm, ⟨20, _⟩ => ⟨S16384x4096, .f32⟩
  | .hbm, ⟨21, _⟩ => ⟨S4x4096x4096, .f32⟩
  | .hbm, ⟨22, _⟩ => ⟨S4x1x4096, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S16384x4096, .f32⟩
  | .hbm, ⟨27, _⟩ => ⟨S24576x4096, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== First.lean ====
abbrev S24576x4096 : Shape := ⟨2, ![24576, 4096]⟩
abbrev S2x4096x4096 : Shape := ⟨3, ![2, 4096, 4096]⟩
abbrev S8192x4096 : Shape := ⟨2, ![8192, 4096]⟩
abbrev S16384x4096 : Shape := ⟨2, ![16384, 4096]⟩
abbrev S4x8x6x1x4096 : Shape := ⟨5, ![4, 8, 6, 1, 4096]⟩
abbrev S1024x4096 : Shape := ⟨2, ![1024, 4096]⟩
abbrev S1x4096x512 : Shape := ⟨3, ![1, 4096, 512]⟩
abbrev S1024x512 : Shape := ⟨2, ![1024, 512]⟩
abbrev S1x1x1x1x512 : Shape := ⟨5, ![1, 1, 1, 1, 512]⟩
abbrev S4096x512 : Shape := ⟨2, ![4096, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S24576x4096, .bf16⟩
  | .hbm, ⟨1, _⟩ => ⟨S2x4096x4096, .bf16⟩
  | .hbm, ⟨2, _⟩ => ⟨S8192x4096, .f32⟩
  | .hbm, ⟨3, _⟩ => ⟨S16384x4096, .f32⟩
  | .hbm, ⟨4, _⟩ => ⟨S4x8x6x1x4096, .f32⟩
  | .hbm, ⟨5, _⟩ => ⟨S24576x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x1x1x1x512, .f32⟩
  | .local _ .vmem, ⟨9, _⟩ => ⟨S1x1x1x1x512, .f32⟩
  | .local _ .vmem, ⟨10, _⟩ => ⟨S1024x512, .f32⟩
  | .local _ .vmem, ⟨11, _⟩ => ⟨S1024x512, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![24, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  ![v1.toNat, arg1.toNat]

def cc0_transform_4 (i : grid0.Coords) : Fin 5 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c2_i32 : BitVec 32 := 2#32
  let c0_i32_8 : BitVec 32 := 0#32
  let c0_i32_9 : BitVec 32 := 0#32
  ![c0_i32_7.toNat, v21.toNat, c2_i32.toNat, c0_i32_8.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FirstReferenceIdeal.lean ====
abbrev S24576x4096 : Shape := ⟨2, ![24576, 4096]⟩
abbrev S2x4096x4096 : Shape := ⟨3, ![2, 4096, 4096]⟩
abbrev S8192x4096 : Shape := ⟨2, ![8192, 4096]⟩
abbrev S16384x4096 : Shape := ⟨2, ![16384, 4096]⟩
abbrev S4x8x6x1x4096 : Shape := ⟨5, ![4, 8, 6, 1, 4096]⟩
abbrev S1x4096x4096 : Shape := ⟨3, ![1, 4096, 4096]⟩
abbrev S4096x4096 : Shape := ⟨2, ![4096, 4096]⟩
abbrev S1x5x1x1x4096 : Shape := ⟨5, ![1, 5, 1, 1, 4096]⟩
abbrev S5x4096 : Shape := ⟨2, ![5, 4096]⟩
abbrev S1x4096 : Shape := ⟨2, ![1, 4096]⟩
abbrev S4x4096 : Shape := ⟨2, ![4, 4096]⟩
abbrev S4x4096x4096 : Shape := ⟨3, ![4, 4096, 4096]⟩
abbrev S4x1x4096 : Shape := ⟨3, ![4, 1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S2x4096x4096, .bf16⟩
  | .hbm, ⟨2, _⟩ => ⟨S8192x4096, .f32⟩
  | .hbm, ⟨3, _⟩ => ⟨S16384x4096, .f32⟩
  | .hbm, ⟨4, _⟩ => ⟨S4x8x6x1x4096, .f32⟩
  | .hbm, ⟨5, _⟩ => ⟨S24576x4096, .f32⟩
  | .hbm, ⟨6, _⟩ => ⟨S1x4096x4096, .bf16⟩
  | .hbm, ⟨7, _⟩ => ⟨S4096x4096, .bf16⟩
  | .hbm, ⟨8, _⟩ => ⟨S4096x4096, .f32⟩
  | .hbm, ⟨9, _⟩ => ⟨S24576x4096, .f32⟩
  | .hbm, ⟨10, _⟩ => ⟨S1x5x1x1x4096, .f32⟩
  | .hbm, ⟨11, _⟩ => ⟨S5x4096, .f32⟩
  | .hbm, ⟨12, _⟩ => ⟨S1x4096, .f32⟩
  | .hbm, ⟨13, _⟩ => ⟨S4x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S16384x4096, .f32⟩
  | .hbm, ⟨19, _⟩ => ⟨S4x4096x4096, .f32⟩
  | .hbm, ⟨20, _⟩ => ⟨S4x4096x4096, .f32⟩
  | .hbm, ⟨21, _⟩ => ⟨S4x1x4096, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S16384x4096, .f32⟩
  | .hbm, ⟨26, _⟩ => ⟨S24576x4096, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Val.lean ====
abbrev S24576x4096 : Shape := ⟨2, ![24576, 4096]⟩
abbrev S2x4096x1024 : Shape := ⟨3, ![2, 4096, 1024]⟩
abbrev S24576x1024 : Shape := ⟨2, ![24576, 1024]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 4
  | .vmem => 7
  | .smem => 0
  | _ => 0

abbrev bufTy : (tb : Table) → Fin (tcTables nBuf tb) → BufTy
  | .hbm, ⟨0, _⟩ => ⟨S24576x4096, .bf16⟩
  | .hbm, ⟨1, _⟩ => ⟨S2x4096x1024, .bf16⟩
  | .hbm, ⟨2, _⟩ => ⟨S24576x1024, .bf16⟩
  | .hbm, ⟨3, _⟩ => ⟨S24576x1024, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![24, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ValReferenceIdeal.lean ====
abbrev S24576x4096 : Shape := ⟨2, ![24576, 4096]⟩
abbrev S2x4096x1024 : Shape := ⟨3, ![2, 4096, 1024]⟩
abbrev S1x4096x1024 : Shape := ⟨3, ![1, 4096, 1024]⟩
abbrev S4096x1024 : Shape := ⟨2, ![4096, 1024]⟩
abbrev S24576x1024 : Shape := ⟨2, ![24576, 1024]⟩

abbrev nBuf : Space → Nat
  | .hbm => 8
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S2x4096x1024, .bf16⟩
  | .hbm, ⟨2, _⟩ => ⟨S24576x4096, .f32⟩
  | .hbm, ⟨3, _⟩ => ⟨S1x4096x1024, .bf16⟩
  | .hbm, ⟨4, _⟩ => ⟨S4096x1024, .bf16⟩
  | .hbm, ⟨5, _⟩ => ⟨S4096x1024, .f32⟩
  | .hbm, ⟨6, _⟩ => ⟨S24576x1024, .f32⟩
  | .hbm, ⟨7, _⟩ => ⟨S24576x1024, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Qry.lean ====
abbrev S24576x4096 : Shape := ⟨2, ![24576, 4096]⟩
abbrev S2x4096x4096 : Shape := ⟨3, ![2, 4096, 4096]⟩
abbrev S2x1x128 : Shape := ⟨3, ![2, 1, 128]⟩
abbrev S5120x128 : Shape := ⟨2, ![5120, 128]⟩
abbrev S1024x4096 : Shape := ⟨2, ![1024, 4096]⟩
abbrev S1x4096x512 : Shape := ⟨3, ![1, 4096, 512]⟩
abbrev S1x1x128 : Shape := ⟨3, ![1, 1, 128]⟩
abbrev S1024x128 : Shape := ⟨2, ![1024, 128]⟩
abbrev S1024x512 : Shape := ⟨2, ![1024, 512]⟩
abbrev S1x128 : Shape := ⟨2, ![1, 128]⟩
abbrev S1024 : Shape := ⟨1, ![1024]⟩
abbrev S1024x1 : Shape := ⟨2, ![1024, 1]⟩
abbrev S4096x512 : Shape := ⟨2, ![4096, 512]⟩

abbrev nBuf : Space → Nat
  | .hbm => 6
  | .vmem => 13
  | .smem => 0
  | _ => 0

abbrev bufTy : (tb : Table) → Fin (tcTables nBuf tb) → BufTy
  | .hbm, ⟨0, _⟩ => ⟨S24576x4096, .bf16⟩
  | .hbm, ⟨1, _⟩ => ⟨S2x4096x4096, .bf16⟩
  | .hbm, ⟨2, _⟩ => ⟨S2x1x128, .f32⟩
  | .hbm, ⟨3, _⟩ => ⟨S5120x128, .f32⟩
  | .hbm, ⟨4, _⟩ => ⟨S5120x128, .f32⟩
  | .hbm, ⟨5, _⟩ => ⟨S24576x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x512, .bf16⟩
  | .local _ .vmem, ⟨10, _⟩ => ⟨S1024x512, .bf16⟩
  | .local _ .vmem, ⟨11, _⟩ => ⟨S1024x512, .f32⟩
  | .local _ .vmem, ⟨12, _⟩ => ⟨S1024x512, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![193], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c191_i32 : BitVec 32 := 191#32
  let v0 : BitVec 32 := Scalar.minsi arg0 c191_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 3 → Nat :=
  let arg0 : BitVec 32 := BitVec.ofNat 32 (i 0).val
  let c191_i32 : BitVec 32 := 191#32
  let v0 : BitVec 32 := Scalar.minsi arg0 c191_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  ![c0_i32_3.toNat, c0_i32_4.toNat, v10.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let v19 : BitVec 1 := Scalar.cmpi .sge v18 c8_i32_6
  let c8_i32_7 : BitVec 32 := 8#32
  let v20 : BitVec 1 := Scalar.cmpi .sge v18 c8_i32_7
  let c8_i32_8 : BitVec 32 := 8#32
  let v21 : BitVec 32 := Scalar.subi v18 c8_i32_8
  let c4_i32 : BitVec 32 := 4#32
  let c0_i32_9 : BitVec 32 := 0#32
  let v22 : BitVec 1 := Scalar.cmpi .eq c4_i32 c0_i32_9
  let c1_i32_10 : BitVec 32 := 1#32
  let v23 : BitVec 32 := Scalar.select v22 c1_i32_10 c4_i32
  let v24 : BitVec 32 := Scalar.remsi v21 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let c0_i32_14 : BitVec 32 := 0#32
  let v32 : BitVec 32 := Scalar.select v20 v31 c0_i32_14
  let c4_i32_15 : BitVec 32 := 4#32
  let v33 : BitVec 32 := Scalar.select v19 v32 c4_i32_15
  let c0_i32_16 : BitVec 32 := 0#32
  let c0_i32_17 : BitVec 32 := 0#32
  ![v33.toNat, c0_i32_16.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let v19 : BitVec 1 := Scalar.cmpi .sge v18 c8_i32_6
  let c8_i32_7 : BitVec 32 := 8#32
  let v20 : BitVec 1 := Scalar.cmpi .sge v18 c8_i32_7
  let c8_i32_8 : BitVec 32 := 8#32
  let v21 : BitVec 32 := Scalar.subi v18 c8_i32_8
  let c4_i32 : BitVec 32 := 4#32
  let c0_i32_9 : BitVec 32 := 0#32
  let v22 : BitVec 1 := Scalar.cmpi .eq c4_i32 c0_i32_9
  let c1_i32_10 : BitVec 32 := 1#32
  let v23 : BitVec 32 := Scalar.select v22 c1_i32_10 c4_i32
  let v24 : BitVec 32 := Scalar.remsi v21 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let c0_i32_14 : BitVec 32 := 0#32
  let v32 : BitVec 32 := Scalar.select v20 v31 c0_i32_14
  let c4_i32_15 : BitVec 32 := 4#32
  let v33 : BitVec 32 := Scalar.select v19 v32 c4_i32_15
  let c0_i32_16 : BitVec 32 := 0#32
  let c0_i32_17 : BitVec 32 := 0#32
  ![v33.toNat, c0_i32_16.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, v30.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QryReferenceIdeal.lean ====
abbrev S24576x4096 : Shape := ⟨2, ![24576, 4096]⟩
abbrev S2x4096x4096 : Shape := ⟨3, ![2, 4096, 4096]⟩
abbrev S2x1x128 : Shape := ⟨3, ![2, 1, 128]⟩
abbrev S5120x128 : Shape := ⟨2, ![5120, 128]⟩
abbrev S1x4096x4096 : Shape := ⟨3, ![1, 4096, 4096]⟩
abbrev S4096x4096 : Shape := ⟨2, ![4096, 4096]⟩
abbrev S1x1x128 : Shape := ⟨3, ![1, 1, 128]⟩
abbrev S128 : Shape := ⟨1, ![128]⟩
abbrev S24576x32x128 : Shape := ⟨3, ![24576, 32, 128]⟩
abbrev S_ : Shape := ⟨0, ![]⟩
abbrev S24576x32 : Shape := ⟨2, ![24576, 32]⟩
abbrev S24576x32x1 : Shape := ⟨3, ![24576, 32, 1]⟩
abbrev S24576x32x2x2x32 : Shape := ⟨5, ![24576, 32, 2, 2, 32]⟩
abbrev S24576x32x2x1x32 : Shape := ⟨5, ![24576, 32, 2, 1, 32]⟩
abbrev S1024x128 : Shape := ⟨2, ![1024, 128]⟩
abbrev S1x1024x128 : Shape := ⟨3, ![1, 1024, 128]⟩
abbrev S8x1024x128 : Shape := ⟨3, ![8, 1024, 128]⟩
abbrev S8192x128 : Shape := ⟨2, ![8192, 128]⟩
abbrev S4096x128 : Shape := ⟨2, ![4096, 128]⟩
abbrev S1x4096x128 : Shape := ⟨3, ![1, 4096, 128]⟩
abbrev S4x4096x128 : Shape := ⟨3, ![4, 4096, 128]⟩
abbrev S16384x128 : Shape := ⟨2, ![16384, 128]⟩
abbrev S24576x128 : Shape := ⟨2, ![24576, 128]⟩
abbrev S24576x1x128 : Shape := ⟨3, ![24576, 1, 128]⟩

abbrev nBuf : Space → Nat
  | .hbm => 61
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S2x4096x4096, .bf16⟩
  | .hbm, ⟨2, _⟩ => ⟨S2x1x128, .f32⟩
  | .hbm, ⟨3, _⟩ => ⟨S5120x128, .f32⟩
  | .hbm, ⟨4, _⟩ => ⟨S5120x128, .f32⟩
  | .hbm, ⟨5, _⟩ => ⟨S1x4096x4096, .bf16⟩
  | .hbm, ⟨6, _⟩ => ⟨S4096x4096, .bf16⟩
  | .hbm, ⟨7, _⟩ => ⟨S1x1x128, .f32⟩
  | .hbm, ⟨8, _⟩ => ⟨S128, .f32⟩
  | .hbm, ⟨9, _⟩ => ⟨S24576x4096, .f32⟩
  | .hbm, ⟨10, _⟩ => ⟨S4096x4096, .f32⟩
  | .hbm, ⟨11, _⟩ => ⟨S24576x4096, .f32⟩
  | .hbm, ⟨12, _⟩ => ⟨S24576x32x128, .f32⟩
  | .hbm, ⟨13, _⟩ => ⟨S24576x32x128, .f32⟩
  | .hbm, ⟨14, _⟩ => ⟨S_, .f32⟩
  | .hbm, ⟨15, _⟩ => ⟨S24576x32, .f32⟩
  | .hbm, ⟨16, _⟩ => ⟨S24576x32x1, .f32⟩
  | .hbm, ⟨17, _⟩ => ⟨S_, .f32⟩
  | .hbm, ⟨18, _⟩ => ⟨S24576x32x1, .f32⟩
  | .hbm, ⟨19, _⟩ => ⟨S24576x32x1, .f32⟩
  | .hbm, ⟨20, _⟩ => ⟨S_, .f32⟩
  | .hbm, ⟨21, _⟩ => ⟨S24576x32x1, .f32⟩
  | .hbm, ⟨22, _⟩ => ⟨S24576x32x1, .f32⟩
  | .hbm, ⟨23, _⟩ => ⟨S24576x32x1, .f32⟩
  | .hbm, ⟨24, _⟩ => ⟨S24576x32x128, .f32⟩
  | .hbm, ⟨25, _⟩ => ⟨S24576x32x128, .f32⟩
  | .hbm, ⟨26, _⟩ => ⟨S1x1x128, .f32⟩
  | .hbm, ⟨27, _⟩ => ⟨S24576x32x128, .f32⟩
  | .hbm, ⟨28, _⟩ => ⟨S24576x32x128, .f32⟩
  | .hbm, ⟨29, _⟩ => ⟨S24576x32x2x2x32, .f32⟩
  | .hbm, ⟨30, _⟩ => ⟨S24576x32x2x1x32, .f32⟩
  | .hbm, ⟨31, _⟩ => ⟨S24576x32x2x1x32, .f32⟩
  | .hbm, ⟨32, _⟩ => ⟨S24576x32x2x2x32, .f32⟩
  | .hbm, ⟨33, _⟩ => ⟨S24576x32x128, .f32⟩
  | .hbm, ⟨34, _⟩ => ⟨S1024x128, .f32⟩
  | .hbm, ⟨35, _⟩ => ⟨S1x1024x128, .f32⟩
  | .hbm, ⟨36, _⟩ => ⟨S8x1024x128, .f32⟩
  | .hbm, ⟨37, _⟩ => ⟨S8192x128, .f32⟩
  | .hbm, ⟨38, _⟩ => ⟨S4096x128, .f32⟩
  | .hbm, ⟨39, _⟩ => ⟨S1x4096x128, .f32⟩
  | .hbm, ⟨40, _⟩ => ⟨S4x4096x128, .f32⟩
  | .hbm, ⟨41, _⟩ => ⟨S16384x128, .f32⟩
  | .hbm, ⟨42, _⟩ => ⟨S24576x128, .f32⟩
  | .hbm, ⟨43, _⟩ => ⟨S24576x1x128, .f32⟩
  | .hbm, ⟨44, _⟩ => ⟨S24576x32x128, .f32⟩
  | .hbm, ⟨45, _⟩ => ⟨S24576x32x128, .f32⟩
  | .hbm, ⟨46, _⟩ => ⟨S1024x128, .f32⟩
  | .hbm, ⟨47, _⟩ => ⟨S1x1024x128, .f32⟩
  | .hbm, ⟨48, _⟩ => ⟨S8x1024x128, .f32⟩
  | .hbm, ⟨49, _⟩ => ⟨S8192x128, .f32⟩
  | .hbm, ⟨50, _⟩ => ⟨S4096x128, .f32⟩
  | .hbm, ⟨51, _⟩ => ⟨S1x4096x128, .f32⟩
  | .hbm, ⟨52, _⟩ => ⟨S4x4096x128, .f32⟩
  | .hbm, ⟨53, _⟩ => ⟨S16384x128, .f32⟩
  | .hbm, ⟨54, _⟩ => ⟨S24576x128, .f32⟩
  | .hbm, ⟨55, _⟩ => ⟨S24576x1x128, .f32⟩
  | .hbm, ⟨56, _⟩ => ⟨S24576x32x128, .f32⟩
  | .hbm, ⟨57, _⟩ => ⟨S24576x32x128, .f32⟩
  | .hbm, ⟨58, _⟩ => ⟨S24576x32x128, .f32⟩
  | .hbm, ⟨59, _⟩ => ⟨S24576x4096, .f32⟩
  | .hbm, ⟨60, _⟩ => ⟨S24576x4096, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩

abbrev nD : Nat := 1
abbrev τ : Topo := Topo.v7x

variable {F : FTy → Type} [FloatOps F]
-- ==== Key.lean ====
abbrev S24576x4096 : Shape := ⟨2, ![24576, 4096]⟩
abbrev S2x4096x1024 : Shape := ⟨3, ![2, 4096, 1024]⟩
abbrev S2x1x128 : Shape := ⟨3, ![2, 1, 128]⟩
abbrev S5120x128 : Shape := ⟨2, ![5120, 128]⟩
abbrev S24576x1024 : Shape := ⟨2, ![24576, 1024]⟩
abbrev S1024x4096 : Shape := ⟨2, ![1024, 4096]⟩
abbrev S1x4096x512 : Shape := ⟨3, ![1, 4096, 512]⟩
abbrev S1x1x128 : Shape := ⟨3, ![1, 1, 128]⟩
abbrev S1024x128 : Shape := ⟨2, ![1024, 128]⟩
abbrev S1024x512 : Shape := ⟨2, ![1024, 512]⟩
abbrev S1x128 : Shape := ⟨2, ![1, 128]⟩
abbrev S1024 : Shape := ⟨1, ![1024]⟩
abbrev S1024x1 : Shape := ⟨2, ![1024, 1]⟩
abbrev S4096x512 : Shape := ⟨2, ![4096, 512]⟩

abbrev nBuf : Space → Nat
  | .hbm => 7
  | .vmem => 15
  | .smem => 0
  | _ => 0

abbrev bufTy : (tb : Table) → Fin (tcTables nBuf tb) → BufTy
  | .hbm, ⟨0, _⟩ => ⟨S24576x4096, .bf16⟩
  | .hbm, ⟨1, _⟩ => ⟨S2x4096x1024, .bf16⟩
  | .hbm, ⟨2, _⟩ => ⟨S2x1x128, .f32⟩
  | .hbm, ⟨3, _⟩ => ⟨S5120x128, .f32⟩
  | .hbm, ⟨4, _⟩ => ⟨S5120x128, .f32⟩
  | .hbm, ⟨5, _⟩ => ⟨S24576x1024, .bf16⟩
  | .hbm, ⟨6, _⟩ => ⟨S24576x1024, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x512, .bf16⟩
  | .local _ .vmem, ⟨10, _⟩ => ⟨S1024x512, .bf16⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c47_i32 : BitVec 32 := 47#32
  let v0 : BitVec 32 := Scalar.minsi arg0 c47_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 3 → Nat :=
  let arg0 : BitVec 32 := BitVec.ofNat 32 (i 0).val
  let c47_i32 : BitVec 32 := 47#32
  let v0 : BitVec 32 := Scalar.minsi arg0 c47_i32
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  ![c0_i32_3.toNat, c0_i32_4.toNat, v10.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32 : BitVec 32 := 8#32
  let v19 : BitVec 1 := Scalar.cmpi .sge v18 c8_i32
  let c8_i32_6 : BitVec 32 := 8#32
  let v20 : BitVec 1 := Scalar.cmpi .sge v18 c8_i32_6
  let c8_i32_7 : BitVec 32 := 8#32
  let v21 : BitVec 32 := Scalar.subi v18 c8_i32_7
  let c4_i32 : BitVec 32 := 4#32
  let c0_i32_8 : BitVec 32 := 0#32
  let v22 : BitVec 1 := Scalar.cmpi .eq c4_i32 c0_i32_8
  let c1_i32_9 : BitVec 32 := 1#32
  let v23 : BitVec 32 := Scalar.select v22 c1_i32_9 c4_i32
  let v24 : BitVec 32 := Scalar.remsi v21 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let c0_i32_13 : BitVec 32 := 0#32
  let v32 : BitVec 32 := Scalar.select v20 v31 c0_i32_13
  let c4_i32_14 : BitVec 32 := 4#32
  let v33 : BitVec 32 := Scalar.select v19 v32 c4_i32_14
  let c0_i32_15 : BitVec 32 := 0#32
  let c0_i32_16 : BitVec 32 := 0#32
  ![v33.toNat, c0_i32_15.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32 : BitVec 32 := 8#32
  let v19 : BitVec 1 := Scalar.cmpi .sge v18 c8_i32
  let c8_i32_6 : BitVec 32 := 8#32
  let v20 : BitVec 1 := Scalar.cmpi .sge v18 c8_i32_6
  let c8_i32_7 : BitVec 32 := 8#32
  let v21 : BitVec 32 := Scalar.subi v18 c8_i32_7
  let c4_i32 : BitVec 32 := 4#32
  let c0_i32_8 : BitVec 32 := 0#32
  let v22 : BitVec 1 := Scalar.cmpi .eq c4_i32 c0_i32_8
  let c1_i32_9 : BitVec 32 := 1#32
  let v23 : BitVec 32 := Scalar.select v22 c1_i32_9 c4_i32
  let v24 : BitVec 32 := Scalar.remsi v21 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let c0_i32_13 : BitVec 32 := 0#32
  let v32 : BitVec 32 := Scalar.select v20 v31 c0_i32_13
  let c4_i32_14 : BitVec 32 := 4#32
  let v33 : BitVec 32 := Scalar.select v19 v32 c4_i32_14
  let c0_i32_15 : BitVec 32 := 0#32
  let c0_i32_16 : BitVec 32 := 0#32
  ![v33.toNat, c0_i32_15.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, v30.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c2_i32_8 : BitVec 32 := 2#32
  let c0_i32_9 : BitVec 32 := 0#32
  let v21 : BitVec 1 := Scalar.cmpi .eq c2_i32_8 c0_i32_9
  let c1_i32_10 : BitVec 32 := 1#32
  let v22 : BitVec 32 := Scalar.select v21 c1_i32_10 c2_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, v30.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KeyReferenceIdeal.lean ====
abbrev S24576x4096 : Shape := ⟨2, ![24576, 4096]⟩
abbrev S2x4096x1024 : Shape := ⟨3, ![2, 4096, 1024]⟩
abbrev S2x1x128 : Shape := ⟨3, ![2, 1, 128]⟩
abbrev S5120x128 : Shape := ⟨2, ![5120, 128]⟩
abbrev S1x4096x1024 : Shape := ⟨3, ![1, 4096, 1024]⟩
abbrev S4096x1024 : Shape := ⟨2, ![4096, 1024]⟩
abbrev S1x1x128 : Shape := ⟨3, ![1, 1, 128]⟩
abbrev S128 : Shape := ⟨1, ![128]⟩
abbrev S24576x1024 : Shape := ⟨2, ![24576, 1024]⟩
abbrev S24576x8x128 : Shape := ⟨3, ![24576, 8, 128]⟩
abbrev S_ : Shape := ⟨0, ![]⟩
abbrev S24576x8 : Shape := ⟨2, ![24576, 8]⟩
abbrev S24576x8x1 : Shape := ⟨3, ![24576, 8, 1]⟩
abbrev S24576x8x2x2x32 : Shape := ⟨5, ![24576, 8, 2, 2, 32]⟩
abbrev S24576x8x2x1x32 : Shape := ⟨5, ![24576, 8, 2, 1, 32]⟩
abbrev S1024x128 : Shape := ⟨2, ![1024, 128]⟩
abbrev S1x1024x128 : Shape := ⟨3, ![1, 1024, 128]⟩
abbrev S8x1024x128 : Shape := ⟨3, ![8, 1024, 128]⟩
abbrev S8192x128 : Shape := ⟨2, ![8192, 128]⟩
abbrev S4096x128 : Shape := ⟨2, ![4096, 128]⟩
abbrev S1x4096x128 : Shape := ⟨3, ![1, 4096, 128]⟩
abbrev S4x4096x128 : Shape := ⟨3, ![4, 4096, 128]⟩
abbrev S16384x128 : Shape := ⟨2, ![16384, 128]⟩
abbrev S24576x128 : Shape := ⟨2, ![24576, 128]⟩
abbrev S24576x1x128 : Shape := ⟨3, ![24576, 1, 128]⟩

abbrev nBuf : Space → Nat
  | .hbm => 62
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S2x4096x1024, .bf16⟩
  | .hbm, ⟨2, _⟩ => ⟨S2x1x128, .f32⟩
  | .hbm, ⟨3, _⟩ => ⟨S5120x128, .f32⟩
  | .hbm, ⟨4, _⟩ => ⟨S5120x128, .f32⟩
  | .hbm, ⟨5, _⟩ => ⟨S1x4096x1024, .bf16⟩
  | .hbm, ⟨6, _⟩ => ⟨S4096x1024, .bf16⟩
  | .hbm, ⟨7, _⟩ => ⟨S1x1x128, .f32⟩
  | .hbm, ⟨8, _⟩ => ⟨S128, .f32⟩
  | .hbm, ⟨9, _⟩ => ⟨S24576x4096, .f32⟩
  | .hbm, ⟨10, _⟩ => ⟨S4096x1024, .f32⟩
  | .hbm, ⟨11, _⟩ => ⟨S24576x1024, .f32⟩
  | .hbm, ⟨12, _⟩ => ⟨S24576x8x128, .f32⟩
  | .hbm, ⟨13, _⟩ => ⟨S24576x8x128, .f32⟩
  | .hbm, ⟨14, _⟩ => ⟨S_, .f32⟩
  | .hbm, ⟨15, _⟩ => ⟨S24576x8, .f32⟩
  | .hbm, ⟨16, _⟩ => ⟨S24576x8x1, .f32⟩
  | .hbm, ⟨17, _⟩ => ⟨S_, .f32⟩
  | .hbm, ⟨18, _⟩ => ⟨S24576x8x1, .f32⟩
  | .hbm, ⟨19, _⟩ => ⟨S24576x8x1, .f32⟩
  | .hbm, ⟨20, _⟩ => ⟨S_, .f32⟩
  | .hbm, ⟨21, _⟩ => ⟨S24576x8x1, .f32⟩
  | .hbm, ⟨22, _⟩ => ⟨S24576x8x1, .f32⟩
  | .hbm, ⟨23, _⟩ => ⟨S24576x8x1, .f32⟩
  | .hbm, ⟨24, _⟩ => ⟨S24576x8x128, .f32⟩
  | .hbm, ⟨25, _⟩ => ⟨S24576x8x128, .f32⟩
  | .hbm, ⟨26, _⟩ => ⟨S1x1x128, .f32⟩
  | .hbm, ⟨27, _⟩ => ⟨S24576x8x128, .f32⟩
  | .hbm, ⟨28, _⟩ => ⟨S24576x8x128, .f32⟩
  | .hbm, ⟨29, _⟩ => ⟨S24576x8x2x2x32, .f32⟩
  | .hbm, ⟨30, _⟩ => ⟨S24576x8x2x1x32, .f32⟩
  | .hbm, ⟨31, _⟩ => ⟨S24576x8x2x1x32, .f32⟩
  | .hbm, ⟨32, _⟩ => ⟨S24576x8x2x2x32, .f32⟩
  | .hbm, ⟨33, _⟩ => ⟨S24576x8x128, .f32⟩
  | .hbm, ⟨34, _⟩ => ⟨S1024x128, .f32⟩
  | .hbm, ⟨35, _⟩ => ⟨S1x1024x128, .f32⟩
  | .hbm, ⟨36, _⟩ => ⟨S8x1024x128, .f32⟩
  | .hbm, ⟨37, _⟩ => ⟨S8192x128, .f32⟩
  | .hbm, ⟨38, _⟩ => ⟨S4096x128, .f32⟩
  | .hbm, ⟨39, _⟩ => ⟨S1x4096x128, .f32⟩
  | .hbm, ⟨40, _⟩ => ⟨S4x4096x128, .f32⟩
  | .hbm, ⟨41, _⟩ => ⟨S16384x128, .f32⟩
  | .hbm, ⟨42, _⟩ => ⟨S24576x128, .f32⟩
  | .hbm, ⟨43, _⟩ => ⟨S24576x1x128, .f32⟩
  | .hbm, ⟨44, _⟩ => ⟨S24576x8x128, .f32⟩
  | .hbm, ⟨45, _⟩ => ⟨S24576x8x128, .f32⟩
  | .hbm, ⟨46, _⟩ => ⟨S1024x128, .f32⟩
  | .hbm, ⟨47, _⟩ => ⟨S1x1024x128, .f32⟩
  | .hbm, ⟨48, _⟩ => ⟨S8x1024x128, .f32⟩
  | .hbm, ⟨49, _⟩ => ⟨S8192x128, .f32⟩
  | .hbm, ⟨50, _⟩ => ⟨S4096x128, .f32⟩
  | .hbm, ⟨51, _⟩ => ⟨S1x4096x128, .f32⟩
  | .hbm, ⟨52, _⟩ => ⟨S4x4096x128, .f32⟩
  | .hbm, ⟨53, _⟩ => ⟨S16384x128, .f32⟩
  | .hbm, ⟨54, _⟩ => ⟨S24576x128, .f32⟩
  | .hbm, ⟨55, _⟩ => ⟨S24576x1x128, .f32⟩
  | .hbm, ⟨56, _⟩ => ⟨S24576x8x128, .f32⟩
  | .hbm, ⟨57, _⟩ => ⟨S24576x8x128, .f32⟩
  | .hbm, ⟨58, _⟩ => ⟨S24576x8x128, .f32⟩
  | .hbm, ⟨59, _⟩ => ⟨S24576x1024, .f32⟩
  | .hbm, ⟨60, _⟩ => ⟨S24576x1024, .bf16⟩
  | .hbm, ⟨61, _⟩ => ⟨S24576x1024, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩

abbrev nD : Nat := 1
abbrev τ : Topo := Topo.v7x

variable {F : FTy → Type} [FloatOps F]
-- ==== Ada.lean ====
abbrev S8x4096 : Shape := ⟨2, ![8, 4096]⟩
abbrev S4x4096x24576 : Shape := ⟨3, ![4, 4096, 24576]⟩
abbrev S4x1x24576 : Shape := ⟨3, ![4, 1, 24576]⟩
abbrev S4x8x24576 : Shape := ⟨3, ![4, 8, 24576]⟩
abbrev S1x4096x1024 : Shape := ⟨3, ![1, 4096, 1024]⟩
abbrev S1x1x1024 : Shape := ⟨3, ![1, 1, 1024]⟩
abbrev S1x8x1024 : Shape := ⟨3, ![1, 8, 1024]⟩
abbrev S4096x1024 : Shape := ⟨2, ![4096, 1024]⟩
abbrev S8x1024 : Shape := ⟨2, ![8, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S4x4096x24576, .f32⟩
  | .hbm, ⟨2, _⟩ => ⟨S4x1x24576, .f32⟩
  | .hbm, ⟨3, _⟩ => ⟨S4x8x24576, .f32⟩
  | .local _ .vmem, ⟨0, _⟩ => ⟨S8x4096, .f32⟩
  | .local _ .vmem, ⟨1, _⟩ => ⟨S1x4096x1024, .f32⟩
  | .local _ .vmem, ⟨2, _⟩ => ⟨S1x4096x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaReferenceIdeal.lean ====
abbrev S8x4096 : Shape := ⟨2, ![8, 4096]⟩
abbrev S4x4096x24576 : Shape := ⟨3, ![4, 4096, 24576]⟩
abbrev S4x1x24576 : Shape := ⟨3, ![4, 1, 24576]⟩
abbrev S_ : Shape := ⟨0, ![]⟩
abbrev S4x24576x8 : Shape := ⟨3, ![4, 24576, 8]⟩
abbrev S4x8x24576 : Shape := ⟨3, ![4, 8, 24576]⟩

abbrev nBuf : Space → Nat
  | .hbm => 16
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4x4096x24576, .f32⟩
  | .hbm, ⟨2, _⟩ => ⟨S4x1x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S4x24576x8, .f32⟩
  | .hbm, ⟨13, _⟩ => ⟨S4x8x24576, .f32⟩
  | .hbm, ⟨14, _⟩ => ⟨S4x8x24576, .f32⟩
  | .hbm, ⟨15, _⟩ => ⟨S4x8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Norm.lean ====
abbrev S24576x4096 : Shape := ⟨2, ![24576, 4096]⟩
abbrev S4x2x1x4096 : Shape := ⟨4, ![4, 2, 1, 4096]⟩
abbrev S4x8x6x1x4096 : Shape := ⟨5, ![4, 8, 6, 1, 4096]⟩
abbrev S512x4096 : Shape := ⟨2, ![512, 4096]⟩
abbrev S1x1x1x4096 : Shape := ⟨4, ![1, 1, 1, 4096]⟩
abbrev S1x1x1x1x4096 : Shape := ⟨5, ![1, 1, 1, 1, 4096]⟩
abbrev S512 : Shape := ⟨1, ![512]⟩
abbrev S512x1 : Shape := ⟨2, ![512, 1]⟩
abbrev S1x4096 : Shape := ⟨2, ![1, 4096]⟩

abbrev nBuf : Space → Nat
  | .hbm => 4
  | .vmem => 9
  | .smem => 0
  | _ => 0

abbrev bufTy : (tb : Table) → Fin (tcTables nBuf tb) → BufTy
  | .hbm, ⟨0, _⟩ => ⟨S24576x4096, .f32⟩
  | .hbm, ⟨1, _⟩ => ⟨S4x2x1x4096, .f32⟩
  | .hbm, ⟨2, _⟩ => ⟨S4x8x6x1x4096, .f32⟩
  | .hbm, ⟨3, _⟩ => ⟨S24576x4096, .bf16⟩
  | .local _ .vmem, ⟨0, _⟩ => ⟨S512x4096, .f32⟩
  | .local _ .vmem, ⟨1, _⟩ => ⟨S512x4096, .f32⟩
  | .local _ .vmem, ⟨2, _⟩ => ⟨S1x1x1x4096, .f32⟩
  | .local _ .vmem, ⟨3, _⟩ => ⟨S1x1x1x1x4096, .f32⟩
  | .local _ .vmem, ⟨4, _⟩ => ⟨S1x1x1x1x4096, .f32⟩
  | .local _ .vmem, ⟨5, _⟩ => ⟨S1x1x1x1x4096, .f32⟩
  | .local _ .vmem, ⟨6, _⟩ => ⟨S1x1x1x1x4096, .f32⟩
  | .local _ .vmem, ⟨7, _⟩ => ⟨S512x4096, .bf16⟩
  | .local _ .vmem, ⟨8, _⟩ => ⟨S512x4096, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 5 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c3_i32 : BitVec 32 := 3#32
  let c0_i32_8 : BitVec 32 := 0#32
  let c0_i32_9 : BitVec 32 := 0#32
  let c0_i32_10 : BitVec 32 := 0#32
  ![c0_i32_7.toNat, v21.toNat, c3_i32.toNat, c0_i32_8.toNat, c0_i32_9.toNat]

def cc0_transform_3 (i : grid0.Coords) : Fin 5 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c4_i32 : BitVec 32 := 4#32
  let c0_i32_8 : BitVec 32 := 0#32
  let c0_i32_9 : BitVec 32 := 0#32
  let c0_i32_10 : BitVec 32 := 0#32
  ![c0_i32_7.toNat, v21.toNat, c4_i32.toNat, c0_i32_8.toNat, c0_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormReferenceIdeal.lean ====
abbrev S24576x4096 : Shape := ⟨2, ![24576, 4096]⟩
abbrev S4x2x1x4096 : Shape := ⟨4, ![4, 2, 1, 4096]⟩
abbrev S4x8x6x1x4096 : Shape := ⟨5, ![4, 8, 6, 1, 4096]⟩
abbrev S1x1x1x4096 : Shape := ⟨4, ![1, 1, 1, 4096]⟩
abbrev S4096 : Shape := ⟨1, ![4096]⟩
abbrev S_ : Shape := ⟨0, ![]⟩
abbrev S24576 : Shape := ⟨1, ![24576]⟩
abbrev S24576x1 : Shape := ⟨2, ![24576, 1]⟩
abbrev S1x4096 : Shape := ⟨2, ![1, 4096]⟩
abbrev S1x5x1x1x4096 : Shape := ⟨5, ![1, 5, 1, 1, 4096]⟩
abbrev S5x4096 : Shape := ⟨2, ![5, 4096]⟩
abbrev S8192x4096 : Shape := ⟨2, ![8192, 4096]⟩
abbrev S16384x4096 : Shape := ⟨2, ![16384, 4096]⟩
abbrev S4x4096x4096 : Shape := ⟨3, ![4, 4096, 4096]⟩
abbrev S4x4096 : Shape := ⟨2, ![4, 4096]⟩
abbrev S4x1x4096 : Shape := ⟨3, ![4, 1, 4096]⟩

abbrev nBuf : Space → Nat
  | .hbm => 51
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4x2x1x4096, .f32⟩
  | .hbm, ⟨2, _⟩ => ⟨S4x8x6x1x4096, .f32⟩
  | .hbm, ⟨3, _⟩ => ⟨S1x1x1x4096, .f32⟩
  | .hbm, ⟨4, _⟩ => ⟨S4096, .f32⟩
  | .hbm, ⟨5, _⟩ => ⟨S24576x4096, .f32⟩
  | .hbm, ⟨6, _⟩ => ⟨S_, .f32⟩
  | .hbm, ⟨7, _⟩ => ⟨S24576, .f32⟩
  | .hbm, ⟨8, _⟩ => ⟨S24576x1, .f32⟩
  | .hbm, ⟨9, _⟩ => ⟨S_, .f32⟩
  | .hbm, ⟨10, _⟩ => ⟨S24576x1, .f32⟩
  | .hbm, ⟨11, _⟩ => ⟨S24576x1, .f32⟩
  | .hbm, ⟨12, _⟩ => ⟨S_, .f32⟩
  | .hbm, ⟨13, _⟩ => ⟨S24576x1, .f32⟩
  | .hbm, ⟨14, _⟩ => ⟨S24576x1, .f32⟩
  | .hbm, ⟨15, _⟩ => ⟨S24576x1, .f32⟩
  | .hbm, ⟨16, _⟩ => ⟨S24576x4096, .f32⟩
  | .hbm, ⟨17, _⟩ => ⟨S24576x4096, .f32⟩
  | .hbm, ⟨18, _⟩ => ⟨S1x4096, .f32⟩
  | .hbm, ⟨19, _⟩ => ⟨S24576x4096, .f32⟩
  | .hbm, ⟨20, _⟩ => ⟨S24576x4096, .f32⟩
  | .hbm, ⟨21, _⟩ => ⟨S1x5x1x1x4096, .f32⟩
  | .hbm, ⟨22, _⟩ => ⟨S5x4096, .f32⟩
  | .hbm, ⟨23, _⟩ => ⟨S1x5x1x1x4096, .f32⟩
  | .hbm, ⟨24, _⟩ => ⟨S5x4096, .f32⟩
  | .hbm, ⟨25, _⟩ => ⟨S8192x4096, .f32⟩
  | .hbm, ⟨26, _⟩ => ⟨S1x4096, .f32⟩
  | .hbm, ⟨27, _⟩ => ⟨S_, .f32⟩
  | .hbm, ⟨28, _⟩ => ⟨S1x4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S1x4096, .f32⟩
  | .hbm, ⟨33, _⟩ => ⟨S8192x4096, .f32⟩
  | .hbm, ⟨34, _⟩ => ⟨S8192x4096, .f32⟩
  | .hbm, ⟨35, _⟩ => ⟨S16384x4096, .f32⟩
  | .hbm, ⟨36, _⟩ => ⟨S4x4096x4096, .f32⟩
  | .hbm, ⟨37, _⟩ => ⟨S4x4096, .f32⟩
  | .hbm, ⟨38, _⟩ => ⟨S4x1x4096, .f32⟩
  | .hbm, ⟨39, _⟩ => ⟨S_, .f32⟩
  | .hbm, ⟨40, _⟩ => ⟨S4x1x4096, .f32⟩
  | .hbm, ⟨41, _⟩ => ⟨S4x1x4096, .f32⟩
  | .hbm, ⟨42, _⟩ => ⟨S4x4096x4096, .f32⟩
  | .hbm, ⟨43, _⟩ => ⟨S4x4096x4096, .f32⟩
  | .hbm, ⟨44, _⟩ => ⟨S4x4096, .f32⟩
  | .hbm, ⟨45, _⟩ => ⟨S4x1x4096, .f32⟩
  | .hbm, ⟨46, _⟩ => ⟨S4x4096x4096, .f32⟩
  | .hbm, ⟨47, _⟩ => ⟨S4x4096x4096, .f32⟩
  | .hbm, ⟨48, _⟩ => ⟨S16384x4096, .f32⟩
  | .hbm, ⟨49, _⟩ => ⟨S24576x4096, .f32⟩
  | .hbm, ⟨50, _⟩ => ⟨S24576x4096, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== Start.lean ====
abbrev S8192x4096 : Shape := ⟨2, ![8192, 4096]⟩
abbrev S16384x4096 : Shape := ⟨2, ![16384, 4096]⟩
abbrev S4x2x1x4096 : Shape := ⟨4, ![4, 2, 1, 4096]⟩
abbrev S4x8x6x1x4096 : Shape := ⟨5, ![4, 8, 6, 1, 4096]⟩
abbrev S24576x4096 : Shape := ⟨2, ![24576, 4096]⟩
abbrev S512x4096 : Shape := ⟨2, ![512, 4096]⟩
abbrev S1x1x1x4096 : Shape := ⟨4, ![1, 1, 1, 4096]⟩
abbrev S1x1x1x1x4096 : Shape := ⟨5, ![1, 1, 1, 1, 4096]⟩
abbrev S512 : Shape := ⟨1, ![512]⟩
abbrev S512x1 : Shape := ⟨2, ![512, 1]⟩
abbrev S1x4096 : Shape := ⟨2, ![1, 4096]⟩

abbrev nBuf : Space → Nat
  | .hbm => 5
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S4x2x1x4096, .f32⟩
  | .hbm, ⟨3, _⟩ => ⟨S4x8x6x1x4096, .f32⟩
  | .hbm, ⟨4, _⟩ => ⟨S24576x4096, .bf16⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S1x1x1x4096, .f32⟩
  | .local _ .vmem, ⟨5, _⟩ => ⟨S1x1x1x1x4096, .f32⟩
  | .local _ .vmem, ⟨6, _⟩ => ⟨S1x1x1x1x4096, .f32⟩
  | .local _ .vmem, ⟨7, _⟩ => ⟨S1x1x1x1x4096, .f32⟩
  | .local _ .vmem, ⟨8, _⟩ => ⟨S1x1x1x1x4096, .f32⟩
  | .local _ .vmem, ⟨9, _⟩ => ⟨S512x4096, .bf16⟩
  | .local _ .vmem, ⟨10, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 5 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  let c0_i32_10 : BitVec 32 := 0#32
  let c0_i32_11 : BitVec 32 := 0#32
  ![c0_i32_7.toNat, v21.toNat, c0_i32_8.toNat, c0_i32_9.toNat, c0_i32_10.toNat]

def cc0_transform_4 (i : grid0.Coords) : Fin 5 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c1_i32_8 : BitVec 32 := 1#32
  let c0_i32_9 : BitVec 32 := 0#32
  let c0_i32_10 : BitVec 32 := 0#32
  let c0_i32_11 : BitVec 32 := 0#32
  ![c0_i32_7.toNat, v21.toNat, c1_i32_8.toNat, c0_i32_9.toNat, c0_i32_10.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== StartReferenceIdeal.lean ====
abbrev S8192x4096 : Shape := ⟨2, ![8192, 4096]⟩
abbrev S16384x4096 : Shape := ⟨2, ![16384, 4096]⟩
abbrev S4x2x1x4096 : Shape := ⟨4, ![4, 2, 1, 4096]⟩
abbrev S4x8x6x1x4096 : Shape := ⟨5, ![4, 8, 6, 1, 4096]⟩
abbrev S1x5x1x1x4096 : Shape := ⟨5, ![1, 5, 1, 1, 4096]⟩
abbrev S5x4096 : Shape := ⟨2, ![5, 4096]⟩
abbrev S1x1x1x4096 : Shape := ⟨4, ![1, 1, 1, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S16384 : Shape := ⟨1, ![16384]⟩
abbrev S16384x1 : Shape := ⟨2, ![16384, 1]⟩
abbrev S4x4096x4096 : Shape := ⟨3, ![4, 4096, 4096]⟩
abbrev S4x4096 : Shape := ⟨2, ![4, 4096]⟩
abbrev S4x1x4096 : Shape := ⟨3, ![4, 1, 4096]⟩
abbrev S24576x4096 : Shape := ⟨2, ![24576, 4096]⟩

abbrev nBuf : Space → Nat
  | .hbm => 68
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S4x2x1x4096, .f32⟩
  | .hbm, ⟨3, _⟩ => ⟨S4x8x6x1x4096, .f32⟩
  | .hbm, ⟨4, _⟩ => ⟨S1x5x1x1x4096, .f32⟩
  | .hbm, ⟨5, _⟩ => ⟨S5x4096, .f32⟩
  | .hbm, ⟨6, _⟩ => ⟨S1x5x1x1x4096, .f32⟩
  | .hbm, ⟨7, _⟩ => ⟨S5x4096, .f32⟩
  | .hbm, ⟨8, _⟩ => ⟨S1x1x1x4096, .f32⟩
  | .hbm, ⟨9, _⟩ => ⟨S4096, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S1x4096, .f32⟩
  | .hbm, ⟨27, _⟩ => ⟨S_, .f32⟩
  | .hbm, ⟨28, _⟩ => ⟨S1x4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S1x4096, .f32⟩
  | .hbm, ⟨33, _⟩ => ⟨S8192x4096, .f32⟩
  | .hbm, ⟨34, _⟩ => ⟨S8192x4096, .f32⟩
  | .hbm, ⟨35, _⟩ => ⟨S1x1x1x4096, .f32⟩
  | .hbm, ⟨36, _⟩ => ⟨S4096, .f32⟩
  | .hbm, ⟨37, _⟩ => ⟨S16384x4096, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x4096, .f32⟩
  | .hbm, ⟨49, _⟩ => ⟨S16384x4096, .f32⟩
  | .hbm, ⟨50, _⟩ => ⟨S1x4096, .f32⟩
  | .hbm, ⟨51, _⟩ => ⟨S16384x4096, .f32⟩
  | .hbm, ⟨52, _⟩ => ⟨S16384x4096, .f32⟩
  | .hbm, ⟨53, _⟩ => ⟨S4x4096x4096, .f32⟩
  | .hbm, ⟨54, _⟩ => ⟨S4x4096, .f32⟩
  | .hbm, ⟨55, _⟩ => ⟨S4x1x4096, .f32⟩
  | .hbm, ⟨56, _⟩ => ⟨S_, .f32⟩
  | .hbm, ⟨57, _⟩ => ⟨S4x1x4096, .f32⟩
  | .hbm, ⟨58, _⟩ => ⟨S4x1x4096, .f32⟩
  | .hbm, ⟨59, _⟩ => ⟨S4x4096x4096, .f32⟩
  | .hbm, ⟨60, _⟩ => ⟨S4x4096x4096, .f32⟩
  | .hbm, ⟨61, _⟩ => ⟨S4x4096, .f32⟩
  | .hbm, ⟨62, _⟩ => ⟨S4x1x4096, .f32⟩
  | .hbm, ⟨63, _⟩ => ⟨S4x4096x4096, .f32⟩
  | .hbm, ⟨64, _⟩ => ⟨S4x4096x4096, .f32⟩
  | .hbm, ⟨65, _⟩ => ⟨S16384x4096, .f32⟩
  | .hbm, ⟨66, _⟩ => ⟨S24576x4096, .f32⟩
  | .hbm, ⟨67, _⟩ => ⟨S24576x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩

abbrev nD : Nat := 1
abbrev τ : Topo := Topo.v7x

variable {F : FTy → Type} [FloatOps F]
-- ==== Ctx.lean ====
abbrev S24576x4096 : Shape := ⟨2, ![24576, 4096]⟩
abbrev S24576x1024 : Shape := ⟨2, ![24576, 1024]⟩
abbrev S256x4096 : Shape := ⟨2, ![256, 4096]⟩
abbrev S256x1024 : Shape := ⟨2, ![256, 1024]⟩
abbrev S256x128 : Shape := ⟨2, ![256, 128]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S24576x4096, .bf16⟩
  | .hbm, ⟨1, _⟩ => ⟨S24576x1024, .bf16⟩
  | .hbm, ⟨2, _⟩ => ⟨S24576x1024, .bf16⟩
  | .hbm, ⟨3, _⟩ => ⟨S24576x4096, .bf16⟩
  | .local _ .vmem, ⟨0, _⟩ => ⟨S256x4096, .bf16⟩
  | .local _ .vmem, ⟨1, _⟩ => ⟨S256x4096, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x4096, .bf16⟩
  | .local _ .vmem, ⟨7, _⟩ => ⟨S256x4096, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![96], ![false]⟩

def k0_cond1 (i : grid0.Coords) : BitVec 1 :=
  let arg0 : BitVec 32 := BitVec.ofNat 32 (i 0).val
  let c32_i32 : BitVec 32 := 32#32
  let v0 : BitVec 1 := Scalar.cmpi .sge arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .slt arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CtxReferenceIdeal.lean ====
abbrev S24576x4096 : Shape := ⟨2, ![24576, 4096]⟩
abbrev S24576x1024 : Shape := ⟨2, ![24576, 1024]⟩
abbrev S8192x4096 : Shape := ⟨2, ![8192, 4096]⟩
abbrev S32x256x8x4x128 : Shape := ⟨5, ![32, 256, 8, 4, 128]⟩
abbrev S8192x1024 : Shape := ⟨2, ![8192, 1024]⟩
abbrev S32x256x8x128 : Shape := ⟨4, ![32, 256, 8, 128]⟩
abbrev S32x8x256x256x4 : Shape := ⟨5, ![32, 8, 256, 256, 4]⟩
abbrev S32x8x4x256x256 : Shape := ⟨5, ![32, 8, 4, 256, 256]⟩
abbrev S_ : Shape := ⟨0, ![]⟩
abbrev S32x8x4x256 : Shape := ⟨4, ![32, 8, 4, 256]⟩
abbrev S32x8x4x256x1 : Shape := ⟨5, ![32, 8, 4, 256, 1]⟩
abbrev S32x8x128x4x256 : Shape := ⟨5, ![32, 8, 128, 4, 256]⟩
abbrev S16384x4096 : Shape := ⟨2, ![16384, 4096]⟩

abbrev nBuf : Space → Nat
  | .hbm => 39
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S24576x1024, .bf16⟩
  | .hbm, ⟨2, _⟩ => ⟨S24576x1024, .bf16⟩
  | .hbm, ⟨3, _⟩ => ⟨S8192x4096, .bf16⟩
  | .hbm, ⟨4, _⟩ => ⟨S8192x4096, .f32⟩
  | .hbm, ⟨5, _⟩ => ⟨S32x256x8x4x128, .f32⟩
  | .hbm, ⟨6, _⟩ => ⟨S8192x1024, .bf16⟩
  | .hbm, ⟨7, _⟩ => ⟨S8192x1024, .f32⟩
  | .hbm, ⟨8, _⟩ => ⟨S32x256x8x128, .f32⟩
  | .hbm, ⟨9, _⟩ => ⟨S8192x1024, .bf16⟩
  | .hbm, ⟨10, _⟩ => ⟨S8192x1024, .f32⟩
  | .hbm, ⟨11, _⟩ => ⟨S32x256x8x128, .f32⟩
  | .hbm, ⟨12, _⟩ => ⟨S32x8x256x256x4, .f32⟩
  | .hbm, ⟨13, _⟩ => ⟨S32x8x4x256x256, .f32⟩
  | .hbm, ⟨14, _⟩ => ⟨S_, .f32⟩
  | .hbm, ⟨15, _⟩ => ⟨S_, .f32⟩
  | .hbm, ⟨16, _⟩ => ⟨S32x8x4x256x256, .f32⟩
  | .hbm, ⟨17, _⟩ => ⟨S32x8x4x256x256, .f32⟩
  | .hbm, ⟨18, _⟩ => ⟨S_, .f32⟩
  | .hbm, ⟨19, _⟩ => ⟨S32x8x4x256, .f32⟩
  | .hbm, ⟨20, _⟩ => ⟨S_, .f32⟩
  | .hbm, ⟨21, _⟩ => ⟨S32x8x4x256, .f32⟩
  | .hbm, ⟨22, _⟩ => ⟨S32x8x4x256, .f32⟩
  | .hbm, ⟨23, _⟩ => ⟨S32x8x4x256x1, .f32⟩
  | .hbm, ⟨24, _⟩ => ⟨S32x8x4x256x256, .f32⟩
  | .hbm, ⟨25, _⟩ => ⟨S32x8x4x256x256, .f32⟩
  | .hbm, ⟨26, _⟩ => ⟨S32x8x4x256x256, .f32⟩
  | .hbm, ⟨27, _⟩ => ⟨S_, .f32⟩
  | .hbm, ⟨28, _⟩ => ⟨S32x8x4x256, .f32⟩
  | .hbm, ⟨29, _⟩ => ⟨S32x8x4x256x1, .f32⟩
  | .hbm, ⟨30, _⟩ => ⟨S32x8x4x256x256, .f32⟩
  | .hbm, ⟨31, _⟩ => ⟨S32x8x4x256x256, .f32⟩
  | .hbm, ⟨32, _⟩ => ⟨S32x8x128x4x256, .f32⟩
  | .hbm, ⟨33, _⟩ => ⟨S32x256x8x4x128, .f32⟩
  | .hbm, ⟨34, _⟩ => ⟨S8192x4096, .f32⟩
  | .hbm, ⟨35, _⟩ => ⟨S8192x4096, .bf16⟩
  | .hbm, ⟨36, _⟩ => ⟨S_, .bf16⟩
  | .hbm, ⟨37, _⟩ => ⟨S16384x4096, .bf16⟩
  | .hbm, ⟨38, _⟩ => ⟨S24576x4096, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Chan.lean ====
abbrev S24576x4096 : Shape := ⟨2, ![24576, 4096]⟩
abbrev S1x512x512 : Shape := ⟨3, ![1, 512, 512]⟩
abbrev S2048x512 : Shape := ⟨2, ![2048, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S24576x4096, .bf16⟩
  | .hbm, ⟨1, _⟩ => ⟨S1x512x512, .bf16⟩
  | .hbm, ⟨2, _⟩ => ⟨S24576x4096, .bf16⟩
  | .local _ .vmem, ⟨0, _⟩ => ⟨S2048x512, .bf16⟩
  | .local _ .vmem, ⟨1, _⟩ => ⟨S2048x512, .bf16⟩
  | .local _ .vmem, ⟨2, _⟩ => ⟨S1x512x512, .bf16⟩
  | .local _ .vmem, ⟨3, _⟩ => ⟨S2048x512, .bf16⟩
  | .local _ .vmem, ⟨4, _⟩ => ⟨S2048x512, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ChanReferenceIdeal.lean ====
abbrev S24576x4096 : Shape := ⟨2, ![24576, 4096]⟩
abbrev S1x512x512 : Shape := ⟨3, ![1, 512, 512]⟩
abbrev S24576x8x512 : Shape := ⟨3, ![24576, 8, 512]⟩
abbrev S512x512 : Shape := ⟨2, ![512, 512]⟩

abbrev nBuf : Space → Nat
  | .hbm => 9
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S1x512x512, .bf16⟩
  | .hbm, ⟨2, _⟩ => ⟨S24576x4096, .f32⟩
  | .hbm, ⟨3, _⟩ => ⟨S24576x8x512, .f32⟩
  | .hbm, ⟨4, _⟩ => ⟨S512x512, .bf16⟩
  | .hbm, ⟨5, _⟩ => ⟨S512x512, .f32⟩
  | .hbm, ⟨6, _⟩ => ⟨S24576x8x512, .f32⟩
  | .hbm, ⟨7, _⟩ => ⟨S24576x4096, .f32⟩
  | .hbm, ⟨8, _⟩ => ⟨S24576x4096, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Short.lean ====
abbrev S256x256 : Shape := ⟨2, ![256, 256]⟩
abbrev S24576x4096 : Shape := ⟨2, ![24576, 4096]⟩
abbrev S256x2048 : Shape := ⟨2, ![256, 2048]⟩

abbrev nBuf : Space → Nat
  | .hbm => 5
  | .vmem => 8
  | .smem => 0
  | _ => 0

abbrev bufTy : (tb : Table) → Fin (tcTables nBuf tb) → BufTy
  | .hbm, ⟨0, _⟩ => ⟨S256x256, .bf16⟩
  | .hbm, ⟨1, _⟩ => ⟨S256x256, .bf16⟩
  | .hbm, ⟨2, _⟩ => ⟨S24576x4096, .bf16⟩
  | .hbm, ⟨3, _⟩ => ⟨S24576x4096, .bf16⟩
  | .hbm, ⟨4, _⟩ => ⟨S24576x4096, .bf16⟩
  | .local _ .vmem, ⟨0, _⟩ => ⟨S256x256, .bf16⟩
  | .local _ .vmem, ⟨1, _⟩ => ⟨S256x256, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![1, 96, 2], ![false, false, false]⟩

def k0_cond1 (i : grid0.Coords) : BitVec 1 :=
  let arg1 : BitVec 32 := BitVec.ofNat 32 (i 1).val
  let c32_i32 : BitVec 32 := 32#32
  let v0 : BitVec 1 := Scalar.cmpi .slt arg1 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c32_i32_0 : BitVec 32 := 32#32
  let v3 : BitVec 1 := Scalar.cmpi .sge arg1 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.minsi arg1 c31_i32
  let c0_i32 : BitVec 32 := 0#32
  let v1 : BitVec 32 := Scalar.addi c0_i32 v0
  let c0_i32_0 : BitVec 32 := 0#32
  ![v1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.minsi arg1 c31_i32
  let c0_i32 : BitVec 32 := 0#32
  let v1 : BitVec 32 := Scalar.addi c0_i32 v0
  let c0_i32_0 : BitVec 32 := 0#32
  ![v1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi c0_i32 v0
  let v2 : BitVec 32 := Scalar.addi v1 arg0
  let c0_i32_0 : BitVec 32 := 0#32
  ![v2.toNat, arg2.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ShortReferenceIdeal.lean ====
abbrev S256x256 : Shape := ⟨2, ![256, 256]⟩
abbrev S24576x4096 : Shape := ⟨2, ![24576, 4096]⟩
abbrev S8192x4096 : Shape := ⟨2, ![8192, 4096]⟩
abbrev S32x256x4096 : Shape := ⟨3, ![32, 256, 4096]⟩
abbrev S32x4096x256 : Shape := ⟨3, ![32, 4096, 256]⟩
abbrev S_ : Shape := ⟨0, ![]⟩
abbrev S16384x4096 : Shape := ⟨2, ![16384, 4096]⟩

abbrev nBuf : Space → Nat
  | .hbm => 25
  | .vmem => 0
  | .smem => 0
  | _ => 0

abbrev bufTy : (tb : Table) → Fin (tcTables nBuf tb) → BufTy
  | .hbm, ⟨0, _⟩ => ⟨S256x256, .bf16⟩
  | .hbm, ⟨1, _⟩ => ⟨S256x256, .bf16⟩
  | .hbm, ⟨2, _⟩ => ⟨S24576x4096, .bf16⟩
  | .hbm, ⟨3, _⟩ => ⟨S24576x4096, .bf16⟩
  | .hbm, ⟨4, _⟩ => ⟨S8192x4096, .bf16⟩
  | .hbm, ⟨5, _⟩ => ⟨S8192x4096, .f32⟩
  | .hbm, ⟨6, _⟩ => ⟨S32x256x4096, .f32⟩
  | .hbm, ⟨7, _⟩ => ⟨S8192x4096, .bf16⟩
  | .hbm, ⟨8, _⟩ => ⟨S8192x4096, .f32⟩
  | .hbm, ⟨9, _⟩ => ⟨S32x256x4096, .f32⟩
  | .hbm, ⟨10, _⟩ => ⟨S256x256, .f32⟩
  | .hbm, ⟨11, _⟩ => ⟨S32x4096x256, .f32⟩
  | .hbm, ⟨12, _⟩ => ⟨S32x256x4096, .f32⟩
  | .hbm, ⟨13, _⟩ => ⟨S256x256, .f32⟩
  | .hbm, ⟨14, _⟩ => ⟨S32x4096x256, .f32⟩
  | .hbm, ⟨15, _⟩ => ⟨S32x256x4096, .f32⟩
  | .hbm, ⟨16, _⟩ => ⟨S32x256x4096, .f32⟩
  | .hbm, ⟨17, _⟩ => ⟨S_, .f32⟩
  | .hbm, ⟨18, _⟩ => ⟨S32x256x4096, .f32⟩
  | .hbm, ⟨19, _⟩ => ⟨S32x256x4096, .f32⟩
  | .hbm, ⟨20, _⟩ => ⟨S8192x4096, .f32⟩
  | .hbm, ⟨21, _⟩ => ⟨S8192x4096, .bf16⟩
  | .hbm, ⟨22, _⟩ => ⟨S_, .bf16⟩
  | .hbm, ⟨23, _⟩ => ⟨S16384x4096, .bf16⟩
  | .hbm, ⟨24, _⟩ => ⟨S24576x4096, .bf16⟩
  | _, _ => ⟨S256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Long.lean ====
abbrev S4096x4096 : Shape := ⟨2, ![4096, 4096]⟩
abbrev S24576x4096 : Shape := ⟨2, ![24576, 4096]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S24576x4096, .bf16⟩
  | .hbm, ⟨3, _⟩ => ⟨S24576x4096, .bf16⟩
  | .hbm, ⟨4, _⟩ => ⟨S24576x4096, .bf16⟩
  | .hbm, ⟨5, _⟩ => ⟨S24576x4096, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S512x512, .bf16⟩
  | .local _ .vmem, ⟨9, _⟩ => ⟨S512x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c4_i32_0 : BitVec 32 := 4#32
  let v3 : BitVec 1 := Scalar.cmpi .sge arg1 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg1 c3_i32
  let c2_i32 : BitVec 32 := 2#32
  let v1 : BitVec 32 := Scalar.addi c2_i32 v0
  let c0_i32 : BitVec 32 := 0#32
  ![v1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg1 c3_i32
  let c2_i32 : BitVec 32 := 2#32
  let v1 : BitVec 32 := Scalar.addi c2_i32 v0
  let c0_i32 : BitVec 32 := 0#32
  ![v1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let c16_i32 : BitVec 32 := 16#32
  let v1 : BitVec 32 := Scalar.addi c16_i32 v0
  let v2 : BitVec 32 := Scalar.addi v1 arg0
  let c0_i32 : BitVec 32 := 0#32
  ![v2.toNat, arg2.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== LongReferenceIdeal.lean ====
abbrev S4096x4096 : Shape := ⟨2, ![4096, 4096]⟩
abbrev S24576x4096 : Shape := ⟨2, ![24576, 4096]⟩
abbrev S16384x4096 : Shape := ⟨2, ![16384, 4096]⟩
abbrev S4x4096x4096 : Shape := ⟨3, ![4, 4096, 4096]⟩
abbrev S_ : Shape := ⟨0, ![]⟩
abbrev S8192x4096 : Shape := ⟨2, ![8192, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S24576x4096, .bf16⟩
  | .hbm, ⟨3, _⟩ => ⟨S24576x4096, .bf16⟩
  | .hbm, ⟨4, _⟩ => ⟨S24576x4096, .bf16⟩
  | .hbm, ⟨5, _⟩ => ⟨S16384x4096, .bf16⟩
  | .hbm, ⟨6, _⟩ => ⟨S16384x4096, .f32⟩
  | .hbm, ⟨7, _⟩ => ⟨S4x4096x4096, .f32⟩
  | .hbm, ⟨8, _⟩ => ⟨S16384x4096, .bf16⟩
  | .hbm, ⟨9, _⟩ => ⟨S16384x4096, .f32⟩
  | .hbm, ⟨10, _⟩ => ⟨S4x4096x4096, .f32⟩
  | .hbm, ⟨11, _⟩ => ⟨S4096x4096, .f32⟩
  | .hbm, ⟨12, _⟩ => ⟨S4x4096x4096, .f32⟩
  | .hbm, ⟨13, _⟩ => ⟨S4x4096x4096, .f32⟩
  | .hbm, ⟨14, _⟩ => ⟨S4096x4096, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S16384x4096, .f32⟩
  | .hbm, ⟨22, _⟩ => ⟨S16384x4096, .bf16⟩
  | .hbm, ⟨23, _⟩ => ⟨S8192x4096, .bf16⟩
  | .hbm, ⟨24, _⟩ => ⟨S24576x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Mix.lean ====
abbrev S24576x4096 : Shape := ⟨2, ![24576, 4096]⟩
abbrev S1x4096x4096 : Shape := ⟨3, ![1, 4096, 4096]⟩
abbrev S1x1x4096 : Shape := ⟨3, ![1, 1, 4096]⟩
abbrev S4x8x6x1x4096 : Shape := ⟨5, ![4, 8, 6, 1, 4096]⟩
abbrev S1024x4096 : Shape := ⟨2, ![1024, 4096]⟩
abbrev S1x4096x512 : Shape := ⟨3, ![1, 4096, 512]⟩
abbrev S1x1x512 : Shape := ⟨3, ![1, 1, 512]⟩
abbrev S1024x512 : Shape := ⟨2, ![1024, 512]⟩
abbrev S1x1x1x1x512 : Shape := ⟨5, ![1, 1, 1, 1, 512]⟩
abbrev S4096x512 : Shape := ⟨2, ![4096, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S24576x4096, .bf16⟩
  | .hbm, ⟨1, _⟩ => ⟨S1x4096x4096, .bf16⟩
  | .hbm, ⟨2, _⟩ => ⟨S1x1x4096, .f32⟩
  | .hbm, ⟨3, _⟩ => ⟨S24576x4096, .f32⟩
  | .hbm, ⟨4, _⟩ => ⟨S4x8x6x1x4096, .f32⟩
  | .hbm, ⟨5, _⟩ => ⟨S24576x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1x512, .f32⟩
  | .local _ .vmem, ⟨5, _⟩ => ⟨S1x1x512, .f32⟩
  | .local _ .vmem, ⟨6, _⟩ => ⟨S1024x512, .f32⟩
  | .local _ .vmem, ⟨7, _⟩ => ⟨S1024x512, .f32⟩
  | .local _ .vmem, ⟨8, _⟩ => ⟨S1x1x1x1x512, .f32⟩
  | .local _ .vmem, ⟨9, _⟩ => ⟨S1x1x1x1x512, .f32⟩
  | .local _ .vmem, ⟨10, _⟩ => ⟨S1024x512, .f32⟩
  | .local _ .vmem, ⟨11, _⟩ => ⟨S1024x512, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![24, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 5 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c1_i32_7 : BitVec 32 := 1#32
  let c2_i32 : BitVec 32 := 2#32
  let c0_i32_8 : BitVec 32 := 0#32
  let c0_i32_9 : BitVec 32 := 0#32
  ![c1_i32_7.toNat, v21.toNat, c2_i32.toNat, c0_i32_8.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixReferenceIdeal.lean ====
abbrev S24576x4096 : Shape := ⟨2, ![24576, 4096]⟩
abbrev S1x4096x4096 : Shape := ⟨3, ![1, 4096, 4096]⟩
abbrev S1x1x4096 : Shape := ⟨3, ![1, 1, 4096]⟩
abbrev S4x8x6x1x4096 : Shape := ⟨5, ![4, 8, 6, 1, 4096]⟩
abbrev S4096x4096 : Shape := ⟨2, ![4096, 4096]⟩
abbrev S4096 : Shape := ⟨1, ![4096]⟩
abbrev S1x4096 : Shape := ⟨2, ![1, 4096]⟩
abbrev S1x5x1x1x4096 : Shape := ⟨5, ![1, 5, 1, 1, 4096]⟩
abbrev S5x4096 : Shape := ⟨2, ![5, 4096]⟩
abbrev S4x4096 : Shape := ⟨2, ![4, 4096]⟩
abbrev S8192x4096 : Shape := ⟨2, ![8192, 4096]⟩
abbrev S16384x4096 : Shape := ⟨2, ![16384, 4096]⟩
abbrev S4x4096x4096 : Shape := ⟨3, ![4, 4096, 4096]⟩
abbrev S4x1x4096 : Shape := ⟨3, ![4, 1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S1x4096x4096, .bf16⟩
  | .hbm, ⟨2, _⟩ => ⟨S1x1x4096, .f32⟩
  | .hbm, ⟨3, _⟩ => ⟨S24576x4096, .f32⟩
  | .hbm, ⟨4, _⟩ => ⟨S4x8x6x1x4096, .f32⟩
  | .hbm, ⟨5, _⟩ => ⟨S24576x4096, .f32⟩
  | .hbm, ⟨6, _⟩ => ⟨S4096x4096, .bf16⟩
  | .hbm, ⟨7, _⟩ => ⟨S4096x4096, .f32⟩
  | .hbm, ⟨8, _⟩ => ⟨S24576x4096, .f32⟩
  | .hbm, ⟨9, _⟩ => ⟨S4096, .f32⟩
  | .hbm, ⟨10, _⟩ => ⟨S1x4096, .f32⟩
  | .hbm, ⟨11, _⟩ => ⟨S24576x4096, .f32⟩
  | .hbm, ⟨12, _⟩ => ⟨S24576x4096, .f32⟩
  | .hbm, ⟨13, _⟩ => ⟨S1x5x1x1x4096, .f32⟩
  | .hbm, ⟨14, _⟩ => ⟨S5x4096, .f32⟩
  | .hbm, ⟨15, _⟩ => ⟨S1x4096, .f32⟩
  | .hbm, ⟨16, _⟩ => ⟨S4x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S16384x4096, .f32⟩
  | .hbm, ⟨23, _⟩ => ⟨S4x4096x4096, .f32⟩
  | .hbm, ⟨24, _⟩ => ⟨S16384x4096, .f32⟩
  | .hbm, ⟨25, _⟩ => ⟨S4x4096x4096, .f32⟩
  | .hbm, ⟨26, _⟩ => ⟨S4x1x4096, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S16384x4096, .f32⟩
  | .hbm, ⟨31, _⟩ => ⟨S24576x4096, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== Conv.lean ====
abbrev S24576x4096 : Shape := ⟨2, ![24576, 4096]⟩
abbrev S1x4096x8192 : Shape := ⟨3, ![1, 4096, 8192]⟩
abbrev S1x1x8192 : Shape := ⟨3, ![1, 1, 8192]⟩
abbrev S1024x4096 : Shape := ⟨2, ![1024, 4096]⟩
abbrev S1x4096x256 : Shape := ⟨3, ![1, 4096, 256]⟩
abbrev S1x1x256 : Shape := ⟨3, ![1, 1, 256]⟩
abbrev S1024x256 : Shape := ⟨2, ![1024, 256]⟩
abbrev S4096x256 : Shape := ⟨2, ![4096, 256]⟩
abbrev S1x256 : Shape := ⟨2, ![1, 256]⟩

abbrev nBuf : Space → Nat
  | .hbm => 4
  | .vmem => 12
  | .smem => 0
  | _ => 0

abbrev bufTy : (tb : Table) → Fin (tcTables nBuf tb) → BufTy
  | .hbm, ⟨0, _⟩ => ⟨S24576x4096, .bf16⟩
  | .hbm, ⟨1, _⟩ => ⟨S1x4096x8192, .f32⟩
  | .hbm, ⟨2, _⟩ => ⟨S1x1x8192, .f32⟩
  | .hbm, ⟨3, _⟩ => ⟨S24576x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1024x256, .f32⟩
  | .local _ .vmem, ⟨11, _⟩ => ⟨S1024x256, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![24, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvReferenceIdeal.lean ====
abbrev S24576x4096 : Shape := ⟨2, ![24576, 4096]⟩
abbrev S1x4096x8192 : Shape := ⟨3, ![1, 4096, 8192]⟩
abbrev S1x1x8192 : Shape := ⟨3, ![1, 1, 8192]⟩
abbrev S4096x8192 : Shape := ⟨2, ![4096, 8192]⟩
abbrev S24576x8192 : Shape := ⟨2, ![24576, 8192]⟩
abbrev S8192 : Shape := ⟨1, ![8192]⟩
abbrev S1x8192 : Shape := ⟨2, ![1, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S1x4096x8192, .f32⟩
  | .hbm, ⟨2, _⟩ => ⟨S1x1x8192, .f32⟩
  | .hbm, ⟨3, _⟩ => ⟨S24576x4096, .f32⟩
  | .hbm, ⟨4, _⟩ => ⟨S4096x8192, .f32⟩
  | .hbm, ⟨5, _⟩ => ⟨S24576x8192, .f32⟩
  | .hbm, ⟨6, _⟩ => ⟨S8192, .f32⟩
  | .hbm, ⟨7, _⟩ => ⟨S1x8192, .f32⟩
  | .hbm, ⟨8, _⟩ => ⟨S24576x8192, .f32⟩
  | .hbm, ⟨9, _⟩ => ⟨S24576x8192, .f32⟩
  | .hbm, ⟨10, _⟩ => ⟨S24576x4096, .f32⟩
  | .hbm, ⟨11, _⟩ => ⟨S24576x4096, .f32⟩
  | .hbm, ⟨12, _⟩ => ⟨S24576x4096, .f32⟩
  | .hbm, ⟨13, _⟩ => ⟨S24576x4096, .f32⟩
  | .hbm, ⟨14, _⟩ => ⟨S_, .f32⟩
  | .hbm, ⟨15, _⟩ => ⟨S24576x4096, .f32⟩
  | .hbm, ⟨16, _⟩ => ⟨S24576x4096, .f32⟩
  | .hbm, ⟨17, _⟩ => ⟨S_, .f32⟩
  | .hbm, ⟨18, _⟩ => ⟨S24576x4096, .f32⟩
  | .hbm, ⟨19, _⟩ => ⟨S24576x4096, .f32⟩
  | .hbm, ⟨20, _⟩ => ⟨S24576x4096, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Up.lean ====
abbrev S104 : Shape := ⟨1, ![104]⟩
abbrev S53248x4096 : Shape := ⟨2, ![53248, 4096]⟩
abbrev S2x8x4096x2048 : Shape := ⟨4, ![2, 8, 4096, 2048]⟩
abbrev S53248x2048 : Shape := ⟨2, ![53248, 2048]⟩
abbrev S512x4096 : Shape := ⟨2, ![512, 4096]⟩
abbrev S1x1x4096x512 : Shape := ⟨4, ![1, 1, 4096, 512]⟩
abbrev S1 : Shape := ⟨1, ![1]⟩
abbrev S512x512 : Shape := ⟨2, ![512, 512]⟩
abbrev S4096x512 : Shape := ⟨2, ![4096, 512]⟩

abbrev nBuf : Space → Nat
  | .hbm => 4
  | .vmem => 8
  | .smem => 2
  | _ => 0

abbrev bufTy : (tb : Table) → Fin (tcTables nBuf tb) → BufTy
  | .hbm, ⟨0, _⟩ => ⟨S53248x4096, .bf16⟩
  | .hbm, ⟨1, _⟩ => ⟨S2x8x4096x2048, .f32⟩
  | .hbm, ⟨2, _⟩ => ⟨S2x8x4096x2048, .f32⟩
  | .hbm, ⟨3, _⟩ => ⟨S53248x2048, .bf16⟩
  | .local _ .vmem, ⟨0, _⟩ => ⟨S512x4096, .bf16⟩
  | .local _ .vmem, ⟨1, _⟩ => ⟨S512x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S512x512, .bf16⟩
  | .local _ .vmem, ⟨7, _⟩ => ⟨S512x512, .bf16⟩
  | .local _ .smem, ⟨0, _⟩ => ⟨S104, .i32⟩
  | .local _ .smem, ⟨1, _⟩ => ⟨S104, .i32⟩
  | _, _ => ⟨S53248x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 104], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v5 : Index := Scalar.indexCast arg1
  ![v5.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (v6 : BitVec 32) : BitVec 1 :=
  let c0_i32_0 : BitVec 32 := 0#32
  let v7 : BitVec 1 := Scalar.cmpi .eq v6 c0_i32_0
  let v8 : BitVec 32 := Scalar.extui v7
  let c0_i32_1 : BitVec 32 := 0#32
  let v9 : BitVec 1 := Scalar.cmpi .ne v8 c0_i32_1
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S104.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S104.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S104 : Shape := ⟨1, ![104]⟩
abbrev S53248x4096 : Shape := ⟨2, ![53248, 4096]⟩
abbrev S2x8x4096x2048 : Shape := ⟨4, ![2, 8, 4096, 2048]⟩
abbrev S104x512 : Shape := ⟨2, ![104, 512]⟩
abbrev S53248 : Shape := ⟨1, ![53248]⟩
abbrev S53248x1 : Shape := ⟨2, ![53248, 1]⟩
abbrev S8 : Shape := ⟨1, ![8]⟩
abbrev S1x8 : Shape := ⟨2, ![1, 8]⟩
abbrev S53248x8 : Shape := ⟨2, ![53248, 8]⟩
abbrev S_ : Shape := ⟨0, ![]⟩
abbrev S1x8x4096x2048 : Shape := ⟨4, ![1, 8, 4096, 2048]⟩
abbrev S8x4096x2048 : Shape := ⟨3, ![8, 4096, 2048]⟩
abbrev S53248x8x2048 : Shape := ⟨3, ![53248, 8, 2048]⟩
abbrev S53248x8x1 : Shape := ⟨3, ![53248, 8, 1]⟩
abbrev S53248x2048 : Shape := ⟨2, ![53248, 2048]⟩

abbrev nBuf : Space → Nat
  | .hbm => 47
  | .vmem => 0
  | .smem => 0
  | _ => 0

abbrev bufTy : (tb : Table) → Fin (tcTables nBuf tb) → BufTy
  | .hbm, ⟨0, _⟩ => ⟨S104, .i32⟩
  | .hbm, ⟨1, _⟩ => ⟨S104, .i32⟩
  | .hbm, ⟨2, _⟩ => ⟨S53248x4096, .bf16⟩
  | .hbm, ⟨3, _⟩ => ⟨S2x8x4096x2048, .f32⟩
  | .hbm, ⟨4, _⟩ => ⟨S2x8x4096x2048, .f32⟩
  | .hbm, ⟨5, _⟩ => ⟨S53248x4096, .f32⟩
  | .hbm, ⟨6, _⟩ => ⟨S104x512, .i32⟩
  | .hbm, ⟨7, _⟩ => ⟨S53248, .i32⟩
  | .hbm, ⟨8, _⟩ => ⟨S53248x1, .i32⟩
  | .hbm, ⟨9, _⟩ => ⟨S8, .i32⟩
  | .hbm, ⟨10, _⟩ => ⟨S1x8, .i32⟩
  | .hbm, ⟨11, _⟩ => ⟨S53248x8, .i32⟩
  | .hbm, ⟨12, _⟩ => ⟨S53248x8, .i32⟩
  | .hbm, ⟨13, _⟩ => ⟨S53248x8, .i1⟩
  | .hbm, ⟨14, _⟩ => ⟨S104x512, .i32⟩
  | .hbm, ⟨15, _⟩ => ⟨S53248, .i32⟩
  | .hbm, ⟨16, _⟩ => ⟨S53248x1, .i32⟩
  | .hbm, ⟨17, _⟩ => ⟨S_, .i32⟩
  | .hbm, ⟨18, _⟩ => ⟨S53248x1, .i32⟩
  | .hbm, ⟨19, _⟩ => ⟨S53248x1, .i1⟩
  | .hbm, ⟨20, _⟩ => ⟨S53248x8, .i1⟩
  | .hbm, ⟨21, _⟩ => ⟨S53248x8, .i1⟩
  | .hbm, ⟨22, _⟩ => ⟨S1x8x4096x2048, .f32⟩
  | .hbm, ⟨23, _⟩ => ⟨S8x4096x2048, .f32⟩
  | .hbm, ⟨24, _⟩ => ⟨S53248x8x2048, .f32⟩
  | .hbm, ⟨25, _⟩ => ⟨S53248x8x2048, .f32⟩
  | .hbm, ⟨26, _⟩ => ⟨S53248x8x2048, .f32⟩
  | .hbm, ⟨27, _⟩ => ⟨S_, .f32⟩
  | .hbm, ⟨28, _⟩ => ⟨S53248x8x2048, .f32⟩
  | .hbm, ⟨29, _⟩ => ⟨S53248x8x2048, .f32⟩
  | .hbm, ⟨30, _⟩ => ⟨S_, .f32⟩
  | .hbm, ⟨31, _⟩ => ⟨S53248x8x2048, .f32⟩
  | .hbm, ⟨32, _⟩ => ⟨S53248x8x2048, .f32⟩
  | .hbm, ⟨33, _⟩ => ⟨S53248x8x2048, .f32⟩
  | .hbm, ⟨34, _⟩ => ⟨S1x8x4096x2048, .f32⟩
  | .hbm, ⟨35, _⟩ => ⟨S8x4096x2048, .f32⟩
  | .hbm, ⟨36, _⟩ => ⟨S53248x8x2048, .f32⟩
  | .hbm, ⟨37, _⟩ => ⟨S53248x8x2048, .f32⟩
  | .hbm, ⟨38, _⟩ => ⟨S53248x8x1, .i1⟩
  | .hbm, ⟨39, _⟩ => ⟨S_, .f32⟩
  | .hbm, ⟨40, _⟩ => ⟨S_, .f32⟩
  | .hbm, ⟨41, _⟩ => ⟨S53248x8x2048, .i1⟩
  | .hbm, ⟨42, _⟩ => ⟨S53248x8x2048, .f32⟩
  | .hbm, ⟨43, _⟩ => ⟨S53248x8x2048, .f32⟩
  | .hbm, ⟨44, _⟩ => ⟨S_, .f32⟩
  | .hbm, ⟨45, _⟩ => ⟨S53248x2048, .f32⟩
  | .hbm, ⟨46, _⟩ => ⟨S53248x2048, .bf16⟩
  | _, _ => ⟨S104, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v25 : Ref sig .tc := ⟨.hbm, 43, rfl⟩
abbrev main_cst_0 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== Back.lean ====
abbrev S104 : Shape := ⟨1, ![104]⟩
abbrev S53248x2048 : Shape := ⟨2, ![53248, 2048]⟩
abbrev S2x8x2048x4096 : Shape := ⟨4, ![2, 8, 2048, 4096]⟩
abbrev S53248x4096 : Shape := ⟨2, ![53248, 4096]⟩
abbrev S512x2048 : Shape := ⟨2, ![512, 2048]⟩
abbrev S1x1x2048x1024 : Shape := ⟨4, ![1, 1, 2048, 1024]⟩
abbrev S1 : Shape := ⟨1, ![1]⟩
abbrev S512x1024 : Shape := ⟨2, ![512, 1024]⟩
abbrev S2048x1024 : Shape := ⟨2, ![2048, 1024]⟩

abbrev nBuf : Space → Nat
  | .hbm => 3
  | .vmem => 6
  | .smem => 2
  | _ => 0

abbrev bufTy : (tb : Table) → Fin (tcTables nBuf tb) → BufTy
  | .hbm, ⟨0, _⟩ => ⟨S53248x2048, .bf16⟩
  | .hbm, ⟨1, _⟩ => ⟨S2x8x2048x4096, .f32⟩
  | .hbm, ⟨2, _⟩ => ⟨S53248x4096, .f32⟩
  | .local _ .vmem, ⟨0, _⟩ => ⟨S512x2048, .bf16⟩
  | .local _ .vmem, ⟨1, _⟩ => ⟨S512x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S512x1024, .f32⟩
  | .local _ .vmem, ⟨5, _⟩ => ⟨S512x1024, .f32⟩
  | .local _ .smem, ⟨0, _⟩ => ⟨S104, .i32⟩
  | .local _ .smem, ⟨1, _⟩ => ⟨S104, .i32⟩
  | _, _ => ⟨S53248x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 104], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v5 : Index := Scalar.indexCast arg1
  ![v5.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (v6 : BitVec 32) : BitVec 1 :=
  let c0_i32_0 : BitVec 32 := 0#32
  let v7 : BitVec 1 := Scalar.cmpi .eq v6 c0_i32_0
  let v8 : BitVec 32 := Scalar.extui v7
  let c0_i32_1 : BitVec 32 := 0#32
  let v9 : BitVec 1 := Scalar.cmpi .ne v8 c0_i32_1
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S104.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S104) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BackReferenceIdeal.lean ====
abbrev S104 : Shape := ⟨1, ![104]⟩
abbrev S53248x2048 : Shape := ⟨2, ![53248, 2048]⟩
abbrev S2x8x2048x4096 : Shape := ⟨4, ![2, 8, 2048, 4096]⟩
abbrev S104x512 : Shape := ⟨2, ![104, 512]⟩
abbrev S53248 : Shape := ⟨1, ![53248]⟩
abbrev S53248x1 : Shape := ⟨2, ![53248, 1]⟩
abbrev S8 : Shape := ⟨1, ![8]⟩
abbrev S1x8 : Shape := ⟨2, ![1, 8]⟩
abbrev S53248x8 : Shape := ⟨2, ![53248, 8]⟩
abbrev S_ : Shape := ⟨0, ![]⟩
abbrev S53248x8x1 : Shape := ⟨3, ![53248, 8, 1]⟩
abbrev S1x8x2048x4096 : Shape := ⟨4, ![1, 8, 2048, 4096]⟩
abbrev S8x2048x4096 : Shape := ⟨3, ![8, 2048, 4096]⟩
abbrev S53248x8x4096 : Shape := ⟨3, ![53248, 8, 4096]⟩
abbrev S53248x4096 : Shape := ⟨2, ![53248, 4096]⟩

abbrev nBuf : Space → Nat
  | .hbm => 32
  | .vmem => 0
  | .smem => 0
  | _ => 0

abbrev bufTy : (tb : Table) → Fin (tcTables nBuf tb) → BufTy
  | .hbm, ⟨0, _⟩ => ⟨S104, .i32⟩
  | .hbm, ⟨1, _⟩ => ⟨S104, .i32⟩
  | .hbm, ⟨2, _⟩ => ⟨S53248x2048, .bf16⟩
  | .hbm, ⟨3, _⟩ => ⟨S2x8x2048x4096, .f32⟩
  | .hbm, ⟨4, _⟩ => ⟨S104x512, .i32⟩
  | .hbm, ⟨5, _⟩ => ⟨S53248, .i32⟩
  | .hbm, ⟨6, _⟩ => ⟨S53248x1, .i32⟩
  | .hbm, ⟨7, _⟩ => ⟨S8, .i32⟩
  | .hbm, ⟨8, _⟩ => ⟨S1x8, .i32⟩
  | .hbm, ⟨9, _⟩ => ⟨S53248x8, .i32⟩
  | .hbm, ⟨10, _⟩ => ⟨S53248x8, .i32⟩
  | .hbm, ⟨11, _⟩ => ⟨S53248x8, .i1⟩
  | .hbm, ⟨12, _⟩ => ⟨S104x512, .i32⟩
  | .hbm, ⟨13, _⟩ => ⟨S53248, .i32⟩
  | .hbm, ⟨14, _⟩ => ⟨S53248x1, .i32⟩
  | .hbm, ⟨15, _⟩ => ⟨S_, .i32⟩
  | .hbm, ⟨16, _⟩ => ⟨S53248x1, .i32⟩
  | .hbm, ⟨17, _⟩ => ⟨S53248x1, .i1⟩
  | .hbm, ⟨18, _⟩ => ⟨S53248x8, .i1⟩
  | .hbm, ⟨19, _⟩ => ⟨S53248x8, .i1⟩
  | .hbm, ⟨20, _⟩ => ⟨S53248x8x1, .i1⟩
  | .hbm, ⟨21, _⟩ => ⟨S53248x2048, .f32⟩
  | .hbm, ⟨22, _⟩ => ⟨S1x8x2048x4096, .f32⟩
  | .hbm, ⟨23, _⟩ => ⟨S8x2048x4096, .f32⟩
  | .hbm, ⟨24, _⟩ => ⟨S53248x8x4096, .f32⟩
  | .hbm, ⟨25, _⟩ => ⟨S_, .f32⟩
  | .hbm, ⟨26, _⟩ => ⟨S_, .f32⟩
  | .hbm, ⟨27, _⟩ => ⟨S53248x8x4096, .i1⟩
  | .hbm, ⟨28, _⟩ => ⟨S53248x8x4096, .f32⟩
  | .hbm, ⟨29, _⟩ => ⟨S53248x8x4096, .f32⟩
  | .hbm, ⟨30, _⟩ => ⟨S_, .f32⟩
  | .hbm, ⟨31, _⟩ => ⟨S53248x4096, .f32⟩
  | _, _ => ⟨S104, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Proof.Words.lean ====
/-
  Facts the value proofs of every call share: what a few constant words denote at the extended reals, and a matrix
  product with a zero accumulator read at one entry.
-/
module

public import Idealize.ShloMosaic.Lib.ValueIdx
public import Idealize.ShloMosaic.Lib.Pointwise
public import Idealize.ShloMosaic.Lib.MatmulPlain
public import Idealize.ShloMosaic.PureOps.Ideal.Laws

@[expose] public section

noncomputable section

open Idealize.ShloMosaic
open scoped BigOperators

namespace Cert.Shared

/-- The all-zero word is the number zero. -/
theorem ofBits_zero : (FloatOps.ofBits .f32 0x00000000#32 : Ideal .f32) = (0 : EReal) := Ideal.ofBits_zero_f32

/-- The word `0x3F800000` is the number one. -/
theorem ofBits_one : (FloatOps.ofBits .f32 0x3F800000#32 : Ideal .f32) = (1 : EReal) := by
  show Ideal.ofBits .f32 0x3F800000#32 = 1
  simp [Ideal.ofBits, Ideal.ieee]
  rw [← EReal.coe_mul]
  norm_num

/-- The word `0x40000000` is the number two. -/
theorem ofBits_two : (FloatOps.ofBits .f32 0x40000000#32 : Ideal .f32) = ((2 : ℝ) : EReal) := by
  show Ideal.ofBits .f32 0x40000000#32 = ((2 : ℝ) : EReal)
  simp [Ideal.ofBits, Ideal.ieee]
  rw [← EReal.coe_mul]
  norm_num

/-- The word `0xFF800000` is minus infinity. -/
theorem ofBits_bot : (FloatOps.ofBits .f32 0xFF800000#32 : Ideal .f32) = (⊥ : EReal) := by
  show Ideal.ofBits .f32 0xFF800000#32 = ⊥
  simp [Ideal.ofBits, Ideal.ieee]

/-- Rows times columns onto zero, at one entry. -/
theorem plain_zero {M K N : ℕ} {φ₁ φ₂ : FTy} (x : FVec Ideal ⟨2, ![M, K]⟩ φ₁) (y : FVec Ideal ⟨2, ![K, N]⟩ φ₂) (r : Fin M) (c : Fin N) :
    (FloatOps.matmul (DotDims.plain M K N) none x y (constant ⟨2, ![M, N]⟩ .f32 0x00000000#32) (ix2 r c) : EReal)
      = ∑ k : Fin K, (x (ix2 r k) : EReal) * y (ix2 k c) := by
  refine (Ideal.matmul_plain_apply none x y _ r c).trans ?_
  rw [ValueIdx.constant_apply]
  exact (congrArg (· + _) ofBits_zero).trans (zero_add _)

/-- Rows times rows onto zero, at one entry. -/
theorem transposed_zero {M K N : ℕ} {φ₁ φ₂ : FTy} (x : FVec Ideal ⟨2, ![M, K]⟩ φ₁) (y : FVec Ideal ⟨2, ![N, K]⟩ φ₂) (r : Fin M) (c : Fin N) :
    (FloatOps.matmul (DotDims.transposedRhs M K N) none x y (constant ⟨2, ![M, N]⟩ .f32 0x00000000#32) (ix2 r c) : EReal)
      = ∑ k : Fin K, (x (ix2 r k) : EReal) * y (ix2 c k) := by
  refine (Ideal.matmul_transposedRhs_apply none x y _ r c).trans ?_
  rw [ValueIdx.constant_apply]
  exact (congrArg (· + _) ofBits_zero).trans (zero_add _)

/-- A leading unit axis dropped from a rank-three block, at one entry. -/
theorem drop_lead {α : Type} {a b : ℕ} (x : (⟨3, ![1, a, b]⟩ : Shape).Idx → α) (h : (⟨3, ![1, a, b]⟩ : Shape).ShapeCasts ⟨2, ![a, b]⟩)
    (i : Fin a) (j : Fin b) : shapeCast ⟨2, ![a, b]⟩ x h (ix2 i j) = x (ix3 (0 : Fin 1) i j) :=
  (shapeCast_dropUnit_apply ![a, b] x h _).trans (congrArg x (funext fun t => by fin_cases t <;> rfl))

end Cert.Shared

end
-- ==== Proof.AttnFinite.lean ====
/-
  The attention's precondition, read: entries whose absolute value is below plus infinity are real numbers.
-/
module

public import proofs.«01_k».proof.Defs
public import proofs.«01_k».proof.Proof.Gen.Pre_finite_scores
public import proofs.«01_k».proof.Proof.Words
public import Idealize.ShloMosaic.Lib.Pipeline.ValueKit

@[expose] public section

noncomputable section

open Idealize.ShloMosaic

namespace Cert.Attention

/-- The word `0x7F800000` is plus infinity. -/
theorem ofBits_top : (FloatOps.ofBits .f32 0x7F800000#32 : Ideal .f32) = (⊤ : EReal) := by
  show Ideal.ofBits .f32 0x7F800000#32 = ⊤
  simp [Ideal.ofBits, Ideal.ieee]

/-- An extended real whose absolute value compares below plus infinity is a real number. -/
theorem real_of_below (x : EReal) (h : FloatOps.cmpf (F := Ideal) (φ := .f32) .olt (max x (-x) : EReal) (⊤ : EReal) = 1#1) :
    ∃ a : ℝ, x = a := by
  have hlt : max x (-x) < ⊤ := by
    by_contra hc
    have : FloatOps.cmpf (F := Ideal) (φ := .f32) .olt (max x (-x) : EReal) (⊤ : EReal) = 0#1 := by
      show Ideal.cmp .olt _ _ = 0#1
      simp [Ideal.cmp, hc]
    rw [this] at h
    exact absurd h (by decide)
  induction x with
  | bot => simp at hlt
  | coe a => exact ⟨a, rfl⟩
  | top => simp at hlt

/-- Where the precondition holds of six arrays, the queries, keys and cached keys are real numbers. -/
theorem real_of_pre (x0 : FVec Ideal ⟨2, ![24576, 4096]⟩ .bf16) (x1 x2 : FVec Ideal ⟨2, ![24576, 1024]⟩ .bf16)
    (x3 x4 : FVec Ideal ⟨3, ![4, 256, 1024]⟩ .f32) (x5 : FVec Ideal ⟨2, ![24576, 4096]⟩ .bf16)
    (h : (Cert.Pre_finite_scores.fn (F := Ideal) x0 x1 x2 x3 x4 x5).1 = (fun _ => 1#1)
      ∧ (Cert.Pre_finite_scores.fn (F := Ideal) x0 x1 x2 x3 x4 x5).2.1 = (fun _ => 1#1)
      ∧ (Cert.Pre_finite_scores.fn (F := Ideal) x0 x1 x2 x3 x4 x5).2.2 = (fun _ => 1#1)) :
    (∀ i, ∃ a : ℝ, (x0 i : EReal) = a) ∧ (∀ i, ∃ a : ℝ, (x1 i : EReal) = a) ∧ (∀ i, ∃ a : ℝ, (x3 i : EReal) = a) := by
  refine ⟨fun i => real_of_below _ ?_, fun i => real_of_below _ ?_, fun i => real_of_below _ ?_⟩
  · have := congrFun h.1 i
    rw [← ofBits_top]; exact this
  · have := congrFun h.2.1 i
    rw [← ofBits_top]; exact this
  · have := congrFun h.2.2 i
    rw [← ofBits_top]; exact this

end Cert.Attention

end
-- ==== Proof.Softmax.lean ====
module
public import Idealize.ShloMosaic.PureOps.Ideal
public import Idealize.ShloMosaic.PureOps.Ideal.Laws
@[expose] public section

noncomputable section

namespace Cert.Shared

open Idealize.ShloMosaic
open scoped BigOperators

/-! Attention of one query over a list of keys, on extended reals.

A query meets key number `i` with score `s i` (read in base two) and value `v i`; the first `n` keys take part.
The kernel keeps a reference level `μ`, the weights' sum and the weighted sum, each relative to that level. -/

/-- The sum of the first `n` values, each weighted by two to the power of its score over the level `μ`. -/
def weighted (μ : EReal) (n : ℕ) (s v : ℕ → EReal) : EReal :=
  ∑ i ∈ Finset.range n, Ideal.exp2 (s i - μ) * v i

/-- The weights' own sum: the weighted sum of ones. -/
def weight (μ : EReal) (n : ℕ) (s : ℕ → EReal) : EReal :=
  ∑ i ∈ Finset.range n, Ideal.exp2 (s i - μ)

/-- Base-two softmax attention over the first `n` keys: the weighted sum over the weights' sum. -/
def attend (n : ℕ) (s v : ℕ → EReal) : EReal :=
  Ideal.div (∑ i ∈ Finset.range n, Ideal.exp2 (s i) * v i) (∑ i ∈ Finset.range n, Ideal.exp2 (s i))

/-- A nonnegative real factor goes into a finite sum of extended reals. -/
theorem factor_into {ι : Type*} (c : ℝ) (hc : 0 ≤ c) (t : Finset ι) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha,
      EReal.left_distrib_of_nonneg_of_ne_top (by exact_mod_cast hc) (EReal.coe_ne_top c), ih]

/-- A finite sum of real numbers is the same sum taken in the extended reals. -/
theorem sum_real {ι : Type*} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- Two to a difference of reals splits off the factor that moves the level. -/
theorem exp2_shift (a μ ν : ℝ) :
    Ideal.exp2 ((μ : EReal) - ν) * Ideal.exp2 ((a : EReal) - μ) = Ideal.exp2 ((a : EReal) - ν) := by
  rw [← EReal.coe_sub, ← EReal.coe_sub, ← EReal.coe_sub, Ideal.exp2_coe, Ideal.exp2_coe, Ideal.exp2_coe, ← EReal.coe_mul]
  congr 1
  show (2 : ℝ) ^ (μ - ν) * (2 : ℝ) ^ (a - μ) = (2 : ℝ) ^ (a - ν)
  rw [← Real.rpow_add (by norm_num)]
  congr 1; ring

/-- Two to a real power is a real, and not negative. -/
theorem exp2_real (a b : ℝ) : ∃ c : ℝ, 0 < c ∧ Ideal.exp2 ((a : EReal) - b) = c :=
  ⟨Real.rpow 2 (a - b), Real.rpow_pos_of_pos (by norm_num) _, by rw [← EReal.coe_sub, Ideal.exp2_coe]⟩

/-- Moving the level of a weighted sum from `μ` to `ν` multiplies it by two to `μ - ν`. -/
theorem weighted_shift (μ ν : ℝ) (n : ℕ) (s v : ℕ → EReal) (hs : ∀ i < n, ∃ a : ℝ, s i = a) :
    Ideal.exp2 ((μ : EReal) - ν) * weighted μ n s v = weighted ν n s v := by
  obtain ⟨c, hc, e⟩ := exp2_real μ ν
  unfold weighted
  rw [e, factor_into c hc.le, ← e]
  refine Finset.sum_congr rfl fun i hi => ?_
  obtain ⟨a, ha⟩ := hs i (Finset.mem_range.1 hi)
  rw [ha, ← mul_assoc, exp2_shift]

/-- The weights' sum is the weighted sum of ones. -/
theorem weight_eq (μ : EReal) (n : ℕ) (s : ℕ → EReal) : weight μ n s = weighted μ n s fun _ => 1 := by
  unfold weight weighted; simp

/-- Moving the level of the weights' sum. -/
theorem weight_shift (μ ν : ℝ) (n : ℕ) (s : ℕ → EReal) (hs : ∀ i < n, ∃ a : ℝ, s i = a) :
    Ideal.exp2 ((μ : EReal) - ν) * weight μ n s = weight ν n s := by
  rw [weight_eq, weight_eq, weighted_shift μ ν n s _ hs]

/-- A weighted sum over `n + k` keys is the one over the first `n` and the one over the next `k`. -/
theorem weighted_add (μ : EReal) (n k : ℕ) (s v : ℕ → EReal) :
    weighted μ (n + k) s v = weighted μ n s v + ∑ j : Fin k, Ideal.exp2 (s (n + j.val) - μ) * v (n + j.val) := by
  unfold weighted
  rw [Finset.sum_range_add, Fin.sum_univ_eq_sum_range (fun j => Ideal.exp2 (s (n + j) - μ) * v (n + j)) k]

/-- The weights' sum over `n + k` keys, likewise. -/
theorem weight_add (μ : EReal) (n k : ℕ) (s : ℕ → EReal) :
    weight μ (n + k) s = weight μ n s + ∑ j : Fin k, Ideal.exp2 (s (n + j.val) - μ) := by
  unfold weight
  rw [Finset.sum_range_add, Fin.sum_univ_eq_sum_range (fun j => Ideal.exp2 (s (n + j) - μ)) k]

/-- The greatest of a nonempty finite family of reals is a real. -/
theorem fold_max_real {k : ℕ} (hk : 0 < k) (f : Fin k → EReal) (hf : ∀ j, ∃ a : ℝ, f j = a) :
    ∃ a : ℝ, (Finset.univ : Finset (Fin k)).fold max ⊥ f = a := by
  have h1 : (Finset.univ : Finset (Fin k)).fold max ⊥ f < ⊤ := by
    rw [Finset.fold_max_lt]
    refine ⟨bot_lt_top, fun j _ => ?_⟩
    obtain ⟨a, ha⟩ := hf j
    rw [ha]; exact EReal.coe_lt_top a
  have h2 : ⊥ < (Finset.univ : Finset (Fin k)).fold max ⊥ f := by
    rw [Finset.lt_fold_max]
    obtain ⟨a, ha⟩ := hf ⟨0, hk⟩
    exact Or.inr ⟨⟨0, hk⟩, Finset.mem_univ _, by rw [ha]; exact EReal.bot_lt_coe a⟩
  exact ⟨_, (EReal.coe_toReal h1.ne h2.ne').symm⟩

/-- The quotient of the two sums relative to a level is attention: the level cancels. -/
theorem quotient_eq (μ : ℝ) (n : ℕ) (hn : 0 < n) (s v : ℕ → EReal) (hs : ∀ i < n, ∃ a : ℝ, s i = a) :
    Ideal.div (weighted μ n s v) (weight μ n s) = attend n s v := by
  have hz : ∀ x : EReal, x - ((0 : ℝ) : EReal) = x := fun x => by simp
  have e0 : weighted ((0 : ℝ) : EReal) n s v = ∑ i ∈ Finset.range n, Ideal.exp2 (s i) * v i := by
    unfold weighted; simp only [hz]
  have e1 : weight ((0 : ℝ) : EReal) n s = ∑ i ∈ Finset.range n, Ideal.exp2 (s i) := by
    unfold weight; simp only [hz]
  obtain ⟨L, hL, eL⟩ : ∃ L : ℝ, 0 < L ∧ weight ((0 : ℝ) : EReal) n s = L := by
    choose! a ha using hs
    refine ⟨∑ i ∈ Finset.range n, Real.rpow 2 (a i),
      Finset.sum_pos (fun i _ => Real.rpow_pos_of_pos (by norm_num) _) ⟨0, Finset.mem_range.2 hn⟩, ?_⟩
    rw [e1, ← sum_real]
    exact Finset.sum_congr rfl fun i hi => by rw [ha i (Finset.mem_range.1 hi), Ideal.exp2_coe]
  obtain ⟨c, hc, ec⟩ := exp2_real 0 μ
  rw [← weighted_shift 0 μ n s v hs, ← weight_shift 0 μ n s hs]
  unfold attend
  rw [← e0, ← e1, eL, ec, ← EReal.coe_mul]
  unfold Ideal.div
  have n1 : ((c * L : ℝ) : EReal) ≠ 0 := by exact_mod_cast (mul_pos hc hL).ne'
  have n2 : ((L : ℝ) : EReal) ≠ 0 := by exact_mod_cast hL.ne'
  rw [if_neg n1, if_neg n2, ← EReal.coe_inv, ← EReal.coe_inv, mul_comm (c : EReal), mul_assoc, ← EReal.coe_mul]
  congr 2
  field_simp

/-- The base of the powers does not matter: softmax in base e of the scores times the logarithm of two, each weight
    divided before the sum is taken and every exponent taken over a level `μ`, is attention in base two. -/
theorem softmax_eq (μ : ℝ) (n : ℕ) (hn : 0 < n) (s v : ℕ → EReal) (hs : ∀ i < n, ∃ a : ℝ, s i = a) :
    (∑ j : Fin n, v j.val * Ideal.div (Ideal.exp (s j.val * (Real.log 2 : ℝ) - μ))
        (∑ i : Fin n, Ideal.exp (s i.val * (Real.log 2 : ℝ) - μ))) = attend n s v := by
  have key : ∀ i < n, Ideal.exp (s i * (Real.log 2 : ℝ) - μ)
      = Ideal.exp2 (s i - ((μ / Real.log 2 : ℝ) : EReal)) := by
    intro i hi
    obtain ⟨a, ha⟩ := hs i hi
    rw [ha, ← EReal.coe_mul, ← EReal.coe_sub, ← EReal.coe_sub, Ideal.exp_coe, Ideal.exp2_coe]
    congr 1
    show _ = (2 : ℝ) ^ (a - μ / Real.log 2)
    rw [Real.rpow_def_of_pos (by norm_num)]
    congr 1
    have : Real.log 2 ≠ 0 := (Real.log_pos (by norm_num)).ne'
    field_simp
  set ν : ℝ := μ / Real.log 2
  have eL : (∑ i : Fin n, Ideal.exp (s i.val * (Real.log 2 : ℝ) - μ)) = weight ν n s := by
    unfold weight
    rw [← Fin.sum_univ_eq_sum_range (fun i => Ideal.exp2 (s i - (ν : EReal))) n]
    exact Finset.sum_congr rfl fun i _ => key i.val i.isLt
  obtain ⟨L, hL, eW⟩ : ∃ L : ℝ, 0 < L ∧ weight ν n s = L := by
    choose! a ha using hs
    refine ⟨∑ i ∈ Finset.range n, Real.rpow 2 (a i - ν),
      Finset.sum_pos (fun i _ => Real.rpow_pos_of_pos (by norm_num) _) ⟨0, Finset.mem_range.2 hn⟩, ?_⟩
    unfold weight
    rw [← sum_real]
    exact Finset.sum_congr rfl fun i hi => by
      rw [ha i (Finset.mem_range.1 hi), ← EReal.coe_sub, Ideal.exp2_coe]
  have nL : ((L : ℝ) : EReal) ≠ 0 := by exact_mod_cast hL.ne'
  rw [← quotient_eq ν n hn s v hs, eL, eW]
  unfold Ideal.div
  simp only [if_neg nL]
  rw [← EReal.coe_inv, mul_comm (weighted _ _ _ _)]
  unfold weighted
  rw [factor_into _ (inv_nonneg.2 hL.le),
    ← Fin.sum_univ_eq_sum_range (fun i => ((L⁻¹ : ℝ) : EReal) * (Ideal.exp2 (s i - (ν : EReal)) * v i)) n]
  refine Finset.sum_congr rfl fun i _ => ?_
  rw [key i.val i.isLt, mul_comm (v i.val), mul_comm (Ideal.exp2 _), mul_assoc]

end Cert.Shared
end
-- ==== Proof.AttnBlock.lean ====
/-
  One block of the attention (`attn_lat`) at the extended reals: the running maximum, the running weights' sum and the
  running weighted sum of a block of queries after each chunk of keys, and what the body's payloads compute.
-/
module

public import proofs.«01_k».proof.Proof.Gen.KernelIdeal.Value
public import proofs.«01_k».proof.Proof.Words
public import proofs.«01_k».proof.Proof.Softmax
public import Idealize.ShloMosaic.Lib.Pipeline.Value
public import Idealize.ShloMosaic.Lib.Pipeline.ValueKit
public import Idealize.ShloMosaic.Lib.ValueIdx
public import Idealize.ShloMosaic.Lib.ValueLayoutCasts
public import Idealize.ShloMosaic.Lib.MatmulPlain
public import Idealize.ShloMosaic.PureOps.Ideal.Laws

@[expose] public section

set_option maxRecDepth 16384

noncomputable section

open Idealize.ShloMosaic Idealize.ShloMosaic.TcCoe Idealize.SL.Sem
open Cert.Shared
open scoped BigOperators

namespace Cert.KernelIdeal.Hand

open Cert.KernelIdeal Cert.KernelIdeal.Gen

/-- A row's reduced column read back as a one-column matrix. -/
theorem column_apply (x : FVec Ideal S1024 .f32) (r : Fin 1024) :
    shapeCast S1024x1 x shapeCasts_S1024_S1024x1 (ix2 r (0 : Fin 1)) = x (ix1 r) :=
  ValueIdx.shapeCast_a_a1_apply (a := 1024) x _ r 0

/-- The maximum over a row of a matrix of scores, as one column. -/
theorem rowMax_apply {n : Nat} (X : FVec Ideal ⟨2, ![1024, n]⟩ .f32) (h : (⟨2, ![1024, n]⟩ : Shape).Reduces [1] S1024)
    (r : Fin 1024) :
    (shapeCast S1024x1 (multiReduction .maximumf [1] S1024 X 0xFF800000#32 h (.inl rfl) rfl) shapeCasts_S1024_S1024x1
        (ix2 r (0 : Fin 1)) : EReal) = (Finset.univ : Finset (Fin n)).fold max ⊥ fun k => X (ix2 r k) := by
  refine (column_apply _ r).trans ((Ideal.multiReduction_maximumf_single X _ h _ _ (ix1 r)).trans ?_)
  refine congrArg₂ (fun (b : EReal) (f : Fin n → EReal) => (Finset.univ : Finset (Fin n)).fold max b f) ofBits_bot
    (funext fun k => ?_)
  exact congrArg X (funext fun c => Fin.ext (by rw [h.lift_val]; match c with | ⟨0, _⟩ => rfl | ⟨1, _⟩ => rfl))

/-- The sum over a row of a matrix, as one column. -/
theorem rowSum_apply {n : Nat} (X : FVec Ideal ⟨2, ![1024, n]⟩ .f32) (h : (⟨2, ![1024, n]⟩ : Shape).Reduces [1] S1024)
    (r : Fin 1024) :
    (shapeCast S1024x1 (multiReduction .add [1] S1024 X 0x00000000#32 h (.inl rfl) rfl) shapeCasts_S1024_S1024x1
        (ix2 r (0 : Fin 1)) : EReal) = ∑ k : Fin n, X (ix2 r k) := by
  refine (column_apply _ r).trans ((Ideal.multiReduction_add_single X _ h _ _ (ix1 r)).trans ?_)
  refine Finset.sum_congr rfl fun k _ => ?_
  exact congrArg X (funext fun c => Fin.ext (by rw [h.lift_val]; match c with | ⟨0, _⟩ => rfl | ⟨1, _⟩ => rfl))

/-- A column broadcast along the rows, read at an entry. -/
theorem spread_apply {n : Nat} (x : FVec Ideal S1024x1 .f32) (h : S1024x1.Broadcasts ⟨2, ![1024, n]⟩) (r : Fin 1024) (k : Fin n) :
    broadcastTo ⟨2, ![1024, n]⟩ x h (ix2 r k) = x (ix2 r (0 : Fin 1)) :=
  broadcastTo_apply x h (ix2 r k) (ix2 r (0 : Fin 1)) (fun a => match a with | ⟨0, _⟩ => rfl | ⟨1, _⟩ => rfl)

/-- What a block of queries carries after the first `n` keys: for each query row a real level (the running maximum `M`),
    and relative to it the weights' sum `L` and, for each value column, the weighted sum `A`. -/
def Carries (n : ℕ) (s : Fin 1024 → ℕ → EReal) (v : Fin 128 → ℕ → EReal) (M L : FVec Ideal S1024x1 .f32)
    (A : FVec Ideal S1024x128 .f32) : Prop :=
  ∀ r d, ∃ μ : ℝ, (M (ix2 r (0 : Fin 1)) : EReal) = μ ∧ (L (ix2 r (0 : Fin 1)) : EReal) = weight μ n (s r)
    ∧ (A (ix2 r d) : EReal) = weighted μ n (s r) (v d)

/-- A chunk of `k` more keys: the maximum is raised, the two sums are rescaled to it and the chunk's terms added. -/
theorem carries_step {n k : ℕ} (hk : 0 < k) {s : Fin 1024 → ℕ → EReal} {v : Fin 128 → ℕ → EReal}
    {M L : FVec Ideal S1024x1 .f32} {A : FVec Ideal S1024x128 .f32} (hc : Carries n s v M L A)
    (hs : ∀ r i, i < n + k → ∃ a : ℝ, s r i = a)
    {M' L' : FVec Ideal S1024x1 .f32} {A' : FVec Ideal S1024x128 .f32}
    (hM : ∀ r, (M' (ix2 r (0 : Fin 1)) : EReal) = max (M (ix2 r (0 : Fin 1)) : EReal)
      ((Finset.univ : Finset (Fin k)).fold max ⊥ fun j => s r (n + j.val)))
    (hL : ∀ r, (L' (ix2 r (0 : Fin 1)) : EReal)
      = Ideal.exp2 ((M (ix2 r (0 : Fin 1)) : EReal) - (M' (ix2 r (0 : Fin 1)) : EReal)) * (L (ix2 r (0 : Fin 1)) : EReal)
        + ∑ j : Fin k, Ideal.exp2 (s r (n + j.val) - (M' (ix2 r (0 : Fin 1)) : EReal)))
    (hA : ∀ r d, (A' (ix2 r d) : EReal)
      = Ideal.exp2 ((M (ix2 r (0 : Fin 1)) : EReal) - (M' (ix2 r (0 : Fin 1)) : EReal)) * (A (ix2 r d) : EReal)
        + ∑ j : Fin k, Ideal.exp2 (s r (n + j.val) - (M' (ix2 r (0 : Fin 1)) : EReal)) * v d (n + j.val)) :
    Carries (n + k) s v M' L' A' := by
  intro r d
  obtain ⟨μ, h1, h2, h3⟩ := hc r d
  obtain ⟨b, hb⟩ := fold_max_real hk (fun j : Fin k => s r (n + j.val)) fun j => hs r _ (by omega)
  have e : (M' (ix2 r (0 : Fin 1)) : EReal) = ((max μ b : ℝ) : EReal) := by
    rw [hM, h1, hb]; exact (EReal.coe_strictMono.monotone.map_max).symm
  have hs' : ∀ i < n, ∃ a : ℝ, s r i = a := fun i hi => hs r i (by omega)
  refine ⟨max μ b, e, ?_, ?_⟩
  · rw [hL, e, h1, h2, weight_shift _ _ _ _ hs', weight_add]
  · rw [hA, e, h1, h3, weighted_shift _ _ _ _ _ hs', weighted_add]

/-- The first chunk: the maximum of its scores, and the two sums over it. -/
theorem carries_first {k : ℕ} (hk : 0 < k) {s : Fin 1024 → ℕ → EReal} {v : Fin 128 → ℕ → EReal}
    (hs : ∀ r i, i < k → ∃ a : ℝ, s r i = a)
    {M L : FVec Ideal S1024x1 .f32} {A : FVec Ideal S1024x128 .f32}
    (hM : ∀ r, (M (ix2 r (0 : Fin 1)) : EReal) = (Finset.univ : Finset (Fin k)).fold max ⊥ fun j => s r j.val)
    (hL : ∀ r, (L (ix2 r (0 : Fin 1)) : EReal) = ∑ j : Fin k, Ideal.exp2 (s r j.val - (M (ix2 r (0 : Fin 1)) : EReal)))
    (hA : ∀ r d, (A (ix2 r d) : EReal)
      = ∑ j : Fin k, Ideal.exp2 (s r j.val - (M (ix2 r (0 : Fin 1)) : EReal)) * v d j.val) :
    Carries k s v M L A := by
  intro r d
  obtain ⟨b, hb⟩ := fold_max_real hk (fun j : Fin k => s r j.val) fun j => hs r _ j.isLt
  have e : (M (ix2 r (0 : Fin 1)) : EReal) = (b : EReal) := by rw [hM, hb]
  refine ⟨b, e, ?_, ?_⟩
  · rw [hL, e]; exact Fin.sum_univ_eq_sum_range (fun j => Ideal.exp2 (s r j - (b : EReal))) k
  · rw [hA, e]; exact Fin.sum_univ_eq_sum_range (fun j => Ideal.exp2 (s r j - (b : EReal)) * v d j) k

/-- Dividing the weighted sum by the weights' sum gives attention. -/
theorem carries_divide {n N : ℕ} {s : Fin 1024 → ℕ → EReal} {v : Fin 128 → ℕ → EReal}
    {M L : FVec Ideal S1024x1 .f32} {A : FVec Ideal S1024x128 .f32} (hc : Carries n s v M L A) (hn : n = N ∧ 0 < N)
    (hs : ∀ r i, i < N → ∃ a : ℝ, s r i = a) (r : Fin 1024) (d : Fin 128) :
    (divf A (broadcastTo S1024x128 L broadcasts_S1024x1_S1024x128) (ix2 r d) : EReal) = attend N (s r) (v d) := by
  obtain ⟨rfl, h0⟩ := hn
  obtain ⟨μ, _, e2, e3⟩ := hc r d
  refine Eq.trans ?_ (quotient_eq μ n h0 (s r) (v d) (fun i hi => hs r i hi))
  exact congrArg₂ (fun a b : EReal => Ideal.div a b) e3 ((spread_apply (n := 128) L _ r d).trans e2)

/-- One score of a block: a query row against a key row. -/
def dot (q : FVec Ideal S1024x128 .bf16) {n : Nat} (K : FVec Ideal ⟨2, ![n, 128]⟩ .bf16) (r : Fin 1024) (k : Fin n) : EReal :=
  ∑ e : Fin 128, q (ix2 r e) * K (ix2 k e)

section chunk

variable (q : FVec Ideal S1024x128 .bf16) (K V : FVec Ideal S1024x128 .bf16)

/-- The scores of a chunk of 1024 latent keys. -/
theorem scores_apply (r k : Fin 1024) :
    (matmul (F := Ideal) (φ₁ := .bf16) dot_S1024x128_S1024x128_S1024x1024_1_1_0_0_n_n none q K
      (constant S1024x1024 .f32 0x00000000#32) (ix2 r k) : EReal) = dot q K r k :=
  transposed_zero (M := 1024) (K := 128) (N := 1024) q K r k

/-- One pass of the body over a chunk of 1024 latent keys carries the block's sums over that chunk. -/
theorem carries_chunk {n : ℕ} {s : Fin 1024 → ℕ → EReal} {v : Fin 128 → ℕ → EReal}
    {M L : FVec Ideal S1024x1 .f32} {A : FVec Ideal S1024x128 .f32} (hc : Carries n s v M L A)
    (hs : ∀ r i, i < n + 1024 → ∃ a : ℝ, s r i = a)
    (X : FVec Ideal S1024x1024 .f32) (hX : ∀ r k, (X (ix2 r k) : EReal) = s r (n + k.val))
    (hV : ∀ k d, (V (ix2 k d) : EReal) = v d (n + k.val))
    (M' : FVec Ideal S1024x1 .f32)
    (hM' : M' = maximumf M (shapeCast S1024x1 (multiReduction .maximumf [1] S1024 X 0xFF800000#32
      reduces_S1024x1024_S1024 (.inl rfl) rfl) shapeCasts_S1024_S1024x1)) :
    Carries (n + 1024) s v M'
      (addf (mulf (exp2 (subf M M')) L)
        (shapeCast S1024x1 (multiReduction .add [1] S1024
          (exp2 (subf X (broadcastTo S1024x1024 M' broadcasts_S1024x1_S1024x1024)))
          0x00000000#32 reduces_S1024x1024_S1024 (.inl rfl) rfl) shapeCasts_S1024_S1024x1))
      (addf (mulf (broadcastTo S1024x128 (exp2 (subf M M')) broadcasts_S1024x1_S1024x128) A)
        (matmul (F := Ideal) (φ₁ := .bf16) dot_S1024x1024_S1024x128_S1024x128_1_0_0_1_n_n none
          (truncf .bf16 (exp2 (subf X (broadcastTo S1024x1024 M' broadcasts_S1024x1_S1024x1024))) bitsLt_bf16_f32)
          V (constant S1024x128 .f32 0x00000000#32))) := by
  have hp (r k : Fin 1024) : ((exp2 (subf X (broadcastTo S1024x1024 M' broadcasts_S1024x1_S1024x1024))
      : FVec Ideal S1024x1024 .f32) (ix2 r k) : EReal) = Ideal.exp2 (s r (n + k.val) - (M' (ix2 r (0 : Fin 1)) : EReal)) := by
    show Ideal.exp2 ((X (ix2 r k) : EReal) - (broadcastTo S1024x1024 M' broadcasts_S1024x1_S1024x1024 (ix2 r k) : EReal)) = _
    rw [hX, spread_apply (n := 1024)]
  refine carries_step (k := 1024) (by norm_num) hc hs (fun r => ?_) (fun r => ?_) (fun r d => ?_)
  · rw [hM']
    show max _ _ = _
    rw [rowMax_apply (n := 1024)]
    exact congrArg (fun f : Fin 1024 → EReal => max (M (ix2 r (0 : Fin 1)) : EReal)
      ((Finset.univ : Finset (Fin 1024)).fold max ⊥ f)) (funext fun k => hX r k)
  · show Ideal.exp2 _ * _ + (shapeCast _ _ _ _ : EReal) = _
    rw [rowSum_apply (n := 1024)]
    refine congrArg (fun z : EReal => _ + z) (Finset.sum_congr rfl fun k _ => hp r k)
  · refine congrArg₂ (fun a b : EReal => a + b) (congrArg (fun z : EReal => z * (A (ix2 r d) : EReal))
      (spread_apply (n := 128) (exp2 (subf M M')) broadcasts_S1024x1_S1024x128 r d)) ((plain_zero (M := 1024) (K := 1024) (N := 128) _ V r d).trans ?_)
    refine Finset.sum_congr rfl fun k _ => ?_
    exact congrArg₂ (fun a b : EReal => a * b) (hp r k) (hV k d)

end chunk

section block

variable (v0 v1 v2 v3 : Vec Ideal S256x128 .bf16) (v5 v8 : Vec Ideal S1x256x128 .f32)
variable (v11 v12 v13 v14 v15 v16 v17 v18 : Vec Ideal S1024x128 .bf16)

/-- The scores of the 256 cached keys. -/
theorem cached_apply (r : Fin 1024) (k : Fin 256) :
    (k0_pay3 v0 v1 v2 v3 v5 (ix2 r k) : EReal)
      = ∑ e : Fin 128, k0_pay1 v0 v1 v2 v3 (ix2 r e) * v5 (ix3 (0 : Fin 1) k e) := by
  refine (transposed_zero (M := 1024) (K := 128) (N := 256) (k0_pay1 v0 v1 v2 v3) _ r k).trans ?_
  exact Finset.sum_congr rfl fun e _ =>
    congrArg (fun z : EReal => (k0_pay1 v0 v1 v2 v3 (ix2 r e) : EReal) * z) (drop_lead v5 _ k e)

/-- The body over its five chunks of keys: with every score `s` real, what it divides out is attention over the 4352
    keys, the value columns `v` being any extended reals. -/
theorem block_apply {s : Fin 1024 → ℕ → EReal} {v : Fin 128 → ℕ → EReal}
    (hs : ∀ r i, i < 4352 → ∃ a : ℝ, s r i = a)
    (hc : ∀ r (k : Fin 256), ∑ e : Fin 128, (k0_pay1 v0 v1 v2 v3 (ix2 r e) * v5 (ix3 (0 : Fin 1) k e) : EReal) = s r k.val)
    (h1 : ∀ r k, dot (k0_pay1 v0 v1 v2 v3) v11 r k = s r (256 + k.val))
    (h2 : ∀ r k, dot (k0_pay1 v0 v1 v2 v3) v13 r k = s r (1280 + k.val))
    (h3 : ∀ r k, dot (k0_pay1 v0 v1 v2 v3) v15 r k = s r (2304 + k.val))
    (h4 : ∀ r k, dot (k0_pay1 v0 v1 v2 v3) v17 r k = s r (3328 + k.val))
    (gc : ∀ (k : Fin 256) d, (v8 (ix3 (0 : Fin 1) k d) : EReal) = v d k.val)
    (g1 : ∀ k d, (v12 (ix2 k d) : EReal) = v d (256 + k.val))
    (g2 : ∀ k d, (v14 (ix2 k d) : EReal) = v d (1280 + k.val))
    (g3 : ∀ k d, (v16 (ix2 k d) : EReal) = v d (2304 + k.val))
    (g4 : ∀ k d, (v18 (ix2 k d) : EReal) = v d (3328 + k.val))
    (r : Fin 1024) (d : Fin 128) :
    (k0_pay20 (k0_pay1 v0 v1 v2 v3) v16 v17 v18
        (k0_pay14 (k0_pay1 v0 v1 v2 v3) v11 v13 (k0_pay4 v0 v1 v2 v3 v5) (k0_pay5 v0 v1 v2 v3 v5))
        (k0_pay15 (k0_pay1 v0 v1 v2 v3) (k0_pay2 v8) v11 v12 v13 v14 (k0_pay4 v0 v1 v2 v3 v5) (k0_pay5 v0 v1 v2 v3 v5))
        (k0_pay17 (k0_pay1 v0 v1 v2 v3) v11 v13 v15 (k0_pay4 v0 v1 v2 v3 v5))
        (k0_pay18 (k0_pay1 v0 v1 v2 v3) v11 v13 v15 (k0_pay4 v0 v1 v2 v3 v5))
        (k0_pay19 (k0_pay1 v0 v1 v2 v3) v11 v13 v15 (k0_pay4 v0 v1 v2 v3 v5)) (ix2 r d) : EReal)
      = attend 4352 (s r) (v d) := by
  set q := k0_pay1 v0 v1 v2 v3 with hq
  have hm (r : Fin 1024) : (k0_pay4 v0 v1 v2 v3 v5 (ix2 r (0 : Fin 1)) : EReal)
      = (Finset.univ : Finset (Fin 256)).fold max ⊥ fun j => s r j.val :=
    (rowMax_apply (n := 256) (k0_pay3 v0 v1 v2 v3 v5) _ r).trans
      (congrArg (fun f : Fin 256 → EReal => (Finset.univ : Finset (Fin 256)).fold max ⊥ f)
        (funext fun k => (cached_apply v0 v1 v2 v3 v5 r k).trans (hc r k)))
  have hp (r : Fin 1024) (k : Fin 256) : (k0_pay5 v0 v1 v2 v3 v5 (ix2 r k) : EReal)
      = Ideal.exp2 (s r k.val - (k0_pay4 v0 v1 v2 v3 v5 (ix2 r (0 : Fin 1)) : EReal)) :=
    congrArg₂ (fun a b : EReal => Ideal.exp2 (a - b)) ((cached_apply v0 v1 v2 v3 v5 r k).trans (hc r k))
      (spread_apply (n := 256) (k0_pay4 v0 v1 v2 v3 v5) _ r k)
  have c0 : Carries 256 s v (k0_pay4 v0 v1 v2 v3 v5)
      (shapeCast S1024x1 (multiReduction .add [1] S1024 (k0_pay5 v0 v1 v2 v3 v5) 0x00000000#32
        reduces_S1024x256_S1024 (.inl rfl) rfl) shapeCasts_S1024_S1024x1)
      (matmul (F := Ideal) (φ₁ := .bf16) dot_S1024x256_S256x128_S1024x128_1_0_0_1_n_n none
        (truncf .bf16 (k0_pay5 v0 v1 v2 v3 v5) bitsLt_bf16_f32) (k0_pay2 v8) (constant S1024x128 .f32 0x00000000#32)) := by
    refine carries_first (by norm_num) (fun r i hi => hs r i (by omega)) hm (fun r => ?_) (fun r d => ?_)
    · exact (rowSum_apply (n := 256) (k0_pay5 v0 v1 v2 v3 v5) _ r).trans (Finset.sum_congr rfl fun k _ => hp r k)
    · refine (plain_zero (M := 1024) (K := 256) (N := 128) _ (k0_pay2 v8) r d).trans (Finset.sum_congr rfl fun k _ => ?_)
      exact congrArg₂ (fun a b : EReal => a * b) (hp r k) ((drop_lead v8 _ k d).trans (gc k d))
  have c1 := carries_chunk v12 c0 (fun r i hi => hs r i (by omega)) (k0_pay6 q v11)
    (fun r k => (scores_apply q v11 r k).trans (h1 r k)) g1 (k0_pay7 q v11 (k0_pay4 v0 v1 v2 v3 v5)) rfl
  have c2 := carries_chunk v14 c1 (fun r i hi => hs r i (by omega)) (k0_pay10 q v13)
    (fun r k => (scores_apply q v13 r k).trans (h2 r k)) g2 (k0_pay11 q v11 v13 (k0_pay4 v0 v1 v2 v3 v5)) rfl
  have c3 := carries_chunk v16 c2 (fun r i hi => hs r i (by omega)) (k0_pay16 q v15)
    (fun r k => (scores_apply q v15 r k).trans (h3 r k)) g3 (k0_pay17 q v11 v13 v15 (k0_pay4 v0 v1 v2 v3 v5)) rfl
  have c4 := carries_chunk v18 c3 (fun r i hi => hs r i (by omega))
    (matmul (F := Ideal) (φ₁ := .bf16) dot_S1024x128_S1024x128_S1024x1024_1_1_0_0_n_n none q v17
      (constant S1024x1024 .f32 0x00000000#32))
    (fun r k => (scores_apply q v17 r k).trans (h4 r k)) g4 _ rfl
  unfold k0_pay20
  exact carries_divide c4 (by norm_num) hs r d

end block

end Cert.KernelIdeal.Hand

end
-- ==== Proof.AttnTile.lean ====
/-
  The four tiles a grid point of the attention (`attn_lat`) stores, in terms of its input blocks: query head `g` of the
  point's group is attention of that head's query rows over the block's cached and latent keys.
-/
module

public import proofs.«01_k».proof.Proof.AttnBlock

@[expose] public section

set_option maxRecDepth 16384

noncomputable section

open Idealize.ShloMosaic Idealize.ShloMosaic.TcCoe Idealize.SL.Sem
open Cert.Shared
open scoped BigOperators

namespace Cert.KernelIdeal.Hand

open Cert.KernelIdeal Cert.KernelIdeal.Gen

/-- Row `256 g + r` of the stacked queries is row `r` of head `g`. -/
theorem stacked_apply (x : Fin 4 → Vec Ideal S256x128 .bf16) (g : Fin 4) (r : Fin 256) (e : Fin 128) (R : Fin 1024)
    (hR : R.val = 256 * g.val + r.val) :
    (k0_pay1 (x 0) (x 1) (x 2) (x 3) (ix2 R e) : EReal) = x g (ix2 r e) := by
  unfold k0_pay1
  refine concatenate_apply_piece (0 : Fin S1024x128.rank)
    [⟨S256x128, x 0⟩, ⟨S256x128, x 1⟩, ⟨S256x128, x 2⟩, ⟨S256x128, x 3⟩] concatenates_S256x128_S256x128_S256x128_S256x128_S1024x128_d0
    (ix2 R e) g.val g.isLt S256x128 (x g) ?_ rfl (256 * g.val) ?_ (ix2 r e) ?_ ?_
  · match g with
    | ⟨0, _⟩ => rfl
    | ⟨1, _⟩ => rfl
    | ⟨2, _⟩ => rfl
    | ⟨3, _⟩ => rfl
  · match g with
    | ⟨0, _⟩ => rfl
    | ⟨1, _⟩ => rfl
    | ⟨2, _⟩ => rfl
    | ⟨3, _⟩ => rfl
  · intro b hb
    match b with
    | ⟨0, _⟩ => exact absurd rfl hb
    | ⟨1, _⟩ => rfl
  · exact hR.symm

section tile

variable (x0 : Vec Ideal S256x512 .bf16) (x1 x2 : Vec Ideal S4096x128 .bf16) (x3 x4 : Vec Ideal S1x256x128 .f32)

/-- Column `e` of the row of key number `n` in a point's blocks: the 256 cached rows first, then the 4096 latent rows. -/
def rowOf (y : Vec Ideal S4096x128 .bf16) (z : Vec Ideal S1x256x128 .f32) (n : ℕ) (e : Fin 128) : EReal :=
  if h : n < 256 then z (ix3 (0 : Fin 1) ⟨n, h⟩ e) else if h' : n - 256 < 4096 then y (ix2 ⟨n - 256, h'⟩ e) else 0

/-- The score of query row `r` of head `g` against key number `n`, in a point's blocks. -/
def tileScore (g : Fin 4) (r : Fin 256) (n : ℕ) : EReal :=
  ∑ e : Fin 128, (x0 (ix2 r (⟨g.val * 128 + e.val, by omega⟩ : Fin 512)) : EReal) * rowOf x1 x3 n e

/-- A load of 1024 rows from row `o` on, at an entry, is the row of key number `256 + o + k`. -/
theorem rows_apply (y : Vec Ideal S4096x128 .bf16) (z : Vec Ideal S1x256x128 .f32) (o : ℕ)
    (h : ∀ a : Fin 2, (![o, 0] : Fin 2 → ℕ) a + (![1024, 128] : Fin 2 → ℕ) a ≤ S4096x128.size a)
    (k : Fin 1024) (e : Fin 128) (N : ℕ) (hN : N = 256 + o) :
    (View.ld y (Rect.unit ![o, 0] ![1024, 128] h) (ix2 k e) : EReal) = rowOf y z (N + k.val) e := by
  subst hN
  have ho : o + 1024 ≤ 4096 := h 0
  unfold rowOf
  rw [dif_neg (by omega), dif_pos (by omega)]
  refine congrArg y (funext fun a => Fin.ext ?_)
  match a with
  | ⟨0, _⟩ => show o + 1 * k.val = 256 + o + k.val - 256; omega
  | ⟨1, _⟩ => show 0 + 1 * e.val = e.val; omega

/-- A load of one head's 128 query columns, at an entry. -/
theorem cols_apply (o : ℕ)
    (h : ∀ a : Fin 2, (![0, o] : Fin 2 → ℕ) a + (![256, 128] : Fin 2 → ℕ) a ≤ S256x512.size a)
    (g : Fin 4) (hg : o = g.val * 128) (r : Fin 256) (e : Fin 128) :
    (View.ld x0 (Rect.unit ![0, o] ![256, 128] h) (ix2 r e) : EReal) = x0 (ix2 r (⟨g.val * 128 + e.val, by omega⟩ : Fin 512)) := by
  subst hg
  refine congrArg x0 (funext fun a => Fin.ext ?_)
  match a with
  | ⟨0, _⟩ => show 0 + 1 * r.val = r.val; omega
  | ⟨1, _⟩ => show g.val * 128 + 1 * e.val = g.val * 128 + e.val; omega

/-- The four heads' query rows as the body loads them. -/
abbrev head : Fin 4 → Vec Ideal S256x128 .bf16 :=
  ![View.ld x0 (Rect.unit ![0, 0] ![256, 128] inb_S256x512_S256x128_0_0),
    View.ld x0 (Rect.unit ![0, 128] ![256, 128] inb_S256x512_S256x128_0_128),
    View.ld x0 (Rect.unit ![0, 256] ![256, 128] inb_S256x512_S256x128_0_256),
    View.ld x0 (Rect.unit ![0, 384] ![256, 128] inb_S256x512_S256x128_0_384)]

/-- One head's query row at an entry. -/
theorem head_apply (g : Fin 4) (r : Fin 256) (e : Fin 128) :
    (head x0 g (ix2 r e) : EReal) = x0 (ix2 r (⟨g.val * 128 + e.val, by omega⟩ : Fin 512)) := by
  match g with
  | ⟨0, h⟩ => exact cols_apply x0 0 _ ⟨0, h⟩ rfl r e
  | ⟨1, h⟩ => exact cols_apply x0 128 _ ⟨1, h⟩ rfl r e
  | ⟨2, h⟩ => exact cols_apply x0 256 _ ⟨2, h⟩ rfl r e
  | ⟨3, h⟩ => exact cols_apply x0 384 _ ⟨3, h⟩ rfl r e

/-- The chunk's rows of the latent keys or values from row `o` on. -/
abbrev rows (y : Vec Ideal S4096x128 .bf16) : Fin 4 → Vec Ideal S1024x128 .bf16 :=
  ![View.ld y (Rect.unit ![0, 0] ![1024, 128] inb_S4096x128_S1024x128_0_0),
    View.ld y (Rect.unit ![1024, 0] ![1024, 128] inb_S4096x128_S1024x128_1024_0),
    View.ld y (Rect.unit ![2048, 0] ![1024, 128] inb_S4096x128_S1024x128_2048_0),
    View.ld y (Rect.unit ![3072, 0] ![1024, 128] inb_S4096x128_S1024x128_3072_0)]

/-- The quotient of the attention accumulators the body computes from its blocks, all four heads' rows in one. -/
abbrev quotient : FVec Ideal S1024x128 .f32 :=
  k0_pay20 (k0_pay1 (head x0 0) (head x0 1) (head x0 2) (head x0 3)) (rows x2 2) (rows x1 3) (rows x2 3)
        (k0_pay14 (k0_pay1 (head x0 0) (head x0 1) (head x0 2) (head x0 3)) (rows x1 0) (rows x1 1)
          (k0_pay4 (head x0 0) (head x0 1) (head x0 2) (head x0 3) x3) (k0_pay5 (head x0 0) (head x0 1) (head x0 2) (head x0 3) x3))
        (k0_pay15 (k0_pay1 (head x0 0) (head x0 1) (head x0 2) (head x0 3)) (k0_pay2 x4) (rows x1 0) (rows x2 0) (rows x1 1)
          (rows x2 1) (k0_pay4 (head x0 0) (head x0 1) (head x0 2) (head x0 3) x3)
          (k0_pay5 (head x0 0) (head x0 1) (head x0 2) (head x0 3) x3))
        (k0_pay17 (k0_pay1 (head x0 0) (head x0 1) (head x0 2) (head x0 3)) (rows x1 0) (rows x1 1) (rows x1 2)
          (k0_pay4 (head x0 0) (head x0 1) (head x0 2) (head x0 3) x3))
        (k0_pay18 (k0_pay1 (head x0 0) (head x0 1) (head x0 2) (head x0 3)) (rows x1 0) (rows x1 1) (rows x1 2)
          (k0_pay4 (head x0 0) (head x0 1) (head x0 2) (head x0 3) x3))
        (k0_pay19 (k0_pay1 (head x0 0) (head x0 1) (head x0 2) (head x0 3)) (rows x1 0) (rows x1 1) (rows x1 2)
          (k0_pay4 (head x0 0) (head x0 1) (head x0 2) (head x0 3) x3))

/-- The quotient the body computes, at row `r` of head `g` and column `d`: attention over the blocks' keys and values. -/
theorem quotient_apply (f0 : ∀ i, ∃ a : ℝ, (x0 i : EReal) = a) (f1 : ∀ i, ∃ a : ℝ, (x1 i : EReal) = a)
    (f3 : ∀ i, ∃ a : ℝ, (x3 i : EReal) = a) (g : Fin 4) (r : Fin 256) (d : Fin 128) (R : Fin 1024)
    (hR : R.val = 256 * g.val + r.val) :
    (quotient x0 x1 x2 x3 x4 (ix2 R d) : EReal)
      = attend 4352 (tileScore x0 x1 x3 g r) (fun n => rowOf x2 x4 n d) := by
  let s : Fin 1024 → ℕ → EReal := fun R n => tileScore x0 x1 x3 ⟨R.val / 256, by omega⟩ ⟨R.val % 256, by omega⟩ n
  have hq (R : Fin 1024) (e : Fin 128) : (k0_pay1 (head x0 0) (head x0 1) (head x0 2) (head x0 3) (ix2 R e) : EReal)
      = x0 (ix2 (⟨R.val % 256, by omega⟩ : Fin 256) (⟨R.val / 256 * 128 + e.val, by omega⟩ : Fin 512)) :=
    (stacked_apply (head x0) ⟨R.val / 256, by omega⟩ ⟨R.val % 256, by omega⟩ e R (by show _ = 256 * (R.val / 256) + R.val % 256; omega)).trans
      (head_apply x0 _ _ e)
  have hrow (n : ℕ) (e : Fin 128) : ∃ a : ℝ, rowOf x1 x3 n e = a := by
    unfold rowOf
    split
    · exact f3 _
    · split
      · exact f1 _
      · exact ⟨0, rfl⟩
  have hs : ∀ R i, i < 4352 → ∃ a : ℝ, s R i = a := by
    intro R i _
    choose a ha using fun e : Fin 128 => f0 (ix2 (⟨R.val % 256, by omega⟩ : Fin 256) (⟨R.val / 256 * 128 + e.val, by omega⟩ : Fin 512))
    choose b hb using hrow i
    refine ⟨∑ e, a e * b e, ?_⟩
    rw [← sum_real]
    exact Finset.sum_congr rfl fun e _ => by rw [ha e, hb e, EReal.coe_mul]
  have hdot (K : Vec Ideal S1024x128 .bf16) (N : ℕ) (hK : ∀ k e, (K (ix2 k e) : EReal) = rowOf x1 x3 (N + k.val) e) (R k : Fin 1024) :
      dot (k0_pay1 (head x0 0) (head x0 1) (head x0 2) (head x0 3)) K R k = s R (N + k.val) :=
    Finset.sum_congr rfl fun e _ => congrArg₂ (fun a b : EReal => a * b) (hq R e) (hK k e)
  have e := block_apply (head x0 0) (head x0 1) (head x0 2) (head x0 3) x3 x4 (rows x1 0) (rows x2 0) (rows x1 1) (rows x2 1)
    (rows x1 2) (rows x2 2) (rows x1 3) (rows x2 3) (s := s) (v := fun d n => rowOf x2 x4 n d) hs
    (fun R k => Finset.sum_congr rfl fun e _ => congrArg₂ (fun a b : EReal => a * b) (hq R e) (by
      unfold rowOf; rw [dif_pos k.isLt]))
    (hdot _ 256 fun k e => rows_apply x1 x3 0 _ k e 256 rfl) (hdot _ 1280 fun k e => rows_apply x1 x3 1024 _ k e 1280 rfl)
    (hdot _ 2304 fun k e => rows_apply x1 x3 2048 _ k e 2304 rfl) (hdot _ 3328 fun k e => rows_apply x1 x3 3072 _ k e 3328 rfl)
    (fun k d => by show _ = rowOf x2 x4 k.val d; unfold rowOf; rw [dif_pos k.isLt])
    (fun k e => rows_apply x2 x4 0 _ k e 256 rfl) (fun k e => rows_apply x2 x4 1024 _ k e 1280 rfl)
    (fun k e => rows_apply x2 x4 2048 _ k e 2304 rfl) (fun k e => rows_apply x2 x4 3072 _ k e 3328 rfl) R d
  refine e.trans ?_
  have eg : (⟨R.val / 256, by omega⟩ : Fin 4) = g := Fin.ext (by show R.val / 256 = g.val; omega)
  have er : (⟨R.val % 256, by omega⟩ : Fin 256) = r := Fin.ext (by show R.val % 256 = r.val; omega)
  show attend 4352 (tileScore x0 x1 x3 _ _) _ = _
  rw [eg, er]

end tile

end Cert.KernelIdeal.Hand

end
-- ==== Proof.AttnSpec.lean ====
/-
  What the attention of the latent tokens computes, from whole arrays: no program is named here.
-/
module

public import proofs.«01_k».proof.Proof.Softmax
public import proofs.«01_k».proof.Proof.Words

@[expose] public section

noncomputable section

open Idealize.ShloMosaic
open Cert.Shared
open scoped BigOperators

namespace Cert.Attention

/-- Column `e` of key (or value) head `h` of key number `n` of latent sequence `b`: the 256 cached rows first, then the
    sequence's 4096 rows, which lie behind the 8192 context rows. -/
def keyAt (x : FVec Ideal ⟨2, ![24576, 1024]⟩ .bf16) (z : FVec Ideal ⟨3, ![4, 256, 1024]⟩ .f32) (b : Fin 4) (h : Fin 8) (n : ℕ)
    (e : Fin 128) : EReal :=
  if h1 : n < 256 then z (ix3 b ⟨n, h1⟩ (⟨h.val * 128 + e.val, by omega⟩ : Fin 1024))
  else if h2 : n - 256 < 4096 then
    x (ix2 (⟨8192 + b.val * 4096 + (n - 256), by omega⟩ : Fin 24576) (⟨h.val * 128 + e.val, by omega⟩ : Fin 1024))
  else 0

/-- The score of the query in row `R`, query head `j`, against key number `n`. -/
def scoreAt (q : FVec Ideal ⟨2, ![24576, 4096]⟩ .bf16) (k : FVec Ideal ⟨2, ![24576, 1024]⟩ .bf16) (ck : FVec Ideal ⟨3, ![4, 256, 1024]⟩ .f32)
    (R : Fin 24576) (j : Fin 32) (n : ℕ) : EReal :=
  ∑ e : Fin 128, q (ix2 R (⟨j.val * 128 + e.val, by omega⟩ : Fin 4096))
    * keyAt k ck ⟨(R.val - 8192) / 4096, by omega⟩ ⟨j.val / 4, by omega⟩ n e

/-- Attention of the latent rows, entry by entry: softmax in base two over the cached and the latent keys. -/
def attention (q : FVec Ideal ⟨2, ![24576, 4096]⟩ .bf16) (k v : FVec Ideal ⟨2, ![24576, 1024]⟩ .bf16) (ck cv : FVec Ideal ⟨3, ![4, 256, 1024]⟩ .f32) :
    FVec Ideal ⟨2, ![24576, 4096]⟩ .bf16 :=
  fun i => attend 4352 (scoreAt q k ck (i (0 : Fin 2)) ⟨(i (1 : Fin 2)).val / 128, by have := (i (1 : Fin 2)).isLt; show _ < 32; change _ < 4096 at this; omega⟩)
    fun n => keyAt v cv ⟨((i (0 : Fin 2)).val - 8192) / 4096, by have := (i (0 : Fin 2)).isLt; change _ < 24576 at this; omega⟩
      ⟨(i (1 : Fin 2)).val / 512, by have := (i (1 : Fin 2)).isLt; change _ < 4096 at this; omega⟩ n
      ⟨(i (1 : Fin 2)).val % 128, by omega⟩

/-- The attention at row `r` and column `d`. -/
theorem attention_apply (q : FVec Ideal ⟨2, ![24576, 4096]⟩ .bf16) (k v : FVec Ideal ⟨2, ![24576, 1024]⟩ .bf16)
    (ck cv : FVec Ideal ⟨3, ![4, 256, 1024]⟩ .f32) (r : Fin 24576) (d : Fin 4096) :
    attention q k v ck cv (ix2 r d) = attend 4352 (scoreAt q k ck r ⟨d.val / 128, by omega⟩)
      fun n => keyAt v cv ⟨(r.val - 8192) / 4096, by omega⟩ ⟨d.val / 512, by omega⟩ n ⟨d.val % 128, by omega⟩ := rfl

/-- The call's result: the context rows as they came, attention in the latent rows. -/
def answer (q : FVec Ideal ⟨2, ![24576, 4096]⟩ .bf16) (k v : FVec Ideal ⟨2, ![24576, 1024]⟩ .bf16) (ck cv : FVec Ideal ⟨3, ![4, 256, 1024]⟩ .f32)
    (ctx : FVec Ideal ⟨2, ![24576, 4096]⟩ .bf16) : FVec Ideal ⟨2, ![24576, 4096]⟩ .bf16 :=
  fun i => if 32 ≤ (i (0 : Fin 2)).val / 256 then attention q k v ck cv i else ctx i

/-- The scores of real queries, keys and cached keys are real. -/
theorem scoreAt_real (q : FVec Ideal ⟨2, ![24576, 4096]⟩ .bf16) (k : FVec Ideal ⟨2, ![24576, 1024]⟩ .bf16) (ck : FVec Ideal ⟨3, ![4, 256, 1024]⟩ .f32)
    (fq : ∀ i, ∃ a : ℝ, (q i : EReal) = a) (fk : ∀ i, ∃ a : ℝ, (k i : EReal) = a) (fc : ∀ i, ∃ a : ℝ, (ck i : EReal) = a)
    (R : Fin 24576) (j : Fin 32) (n : ℕ) : ∃ a : ℝ, scoreAt q k ck R j n = a := by
  have hk (e : Fin 128) : ∃ b : ℝ, keyAt k ck ⟨(R.val - 8192) / 4096, by omega⟩ ⟨j.val / 4, by omega⟩ n e = b := by
    unfold keyAt
    split
    · exact fc _
    · split
      · exact fk _
      · exact ⟨0, rfl⟩
  choose a ha using fun e : Fin 128 => fq (ix2 R (⟨j.val * 128 + e.val, by omega⟩ : Fin 4096))
  choose b hb using hk
  refine ⟨∑ e, a e * b e, ?_⟩
  unfold scoreAt
  rw [← sum_real]
  exact Finset.sum_congr rfl fun e _ => (congrArg₂ (fun s t : EReal => s * t) (ha e) (hb e)).trans (EReal.coe_mul _ _).symm

end Cert.Attention

end
-- ==== Proof.AttnValue.lean ====
/-
  The attention of the latent tokens (`attn_lat`) at the extended reals: what its result array ends holding.
-/
module

public import proofs.«01_k».proof.Proof.AttnTile
public import proofs.«01_k».proof.Proof.AttnSpec
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)
open Cert.Shared
open scoped BigOperators

namespace Cert.KernelIdeal.Hand

open Cert.KernelIdeal Cert.KernelIdeal.Gen
open Cert.Attention

variable (m : (ℓ : Loc nD τ sig) → Buf (Elt Ideal) ℓ)

/-- The call's result at device `c`'s argument arrays. -/
abbrev result (c : Dev nD) : Buf (Elt Ideal) ((c : Thread nD τ).loc main_v0) :=
  answer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The queries, keys and cached keys of device `c` are real numbers. -/
structure Finite (c : Dev nD) : Prop where
  q : ∀ i, ∃ a : ℝ, (m ((c : Thread nD τ).loc main_arg0) i : EReal) = (a : EReal)
  k : ∀ i, ∃ a : ℝ, (m ((c : Thread nD τ).loc main_arg1) i : EReal) = (a : EReal)
  ck : ∀ i, ∃ a : ℝ, (m ((c : Thread nD τ).loc main_arg3) i : EReal) = (a : EReal)

/-- Point `t` reads query tile `t % 16` of latent sequence `t / 128`, key head `t / 16 % 8`. -/
theorem index_0 : ∀ t : Fin grid0.N, win0_0.index t = ![32 + t.val / 128 * 16 + t.val % 16, t.val / 16 % 8] := by decide +kernel
/-- Point `t` reads latent sequence `t / 128` of the keys. -/
theorem index_1 : ∀ t : Fin grid0.N, win0_1.index t = ![2 + t.val / 128, t.val / 16 % 8] := by decide +kernel
/-- Point `t` reads latent sequence `t / 128` of the values. -/
theorem index_2 : ∀ t : Fin grid0.N, win0_2.index t = ![2 + t.val / 128, t.val / 16 % 8] := by decide +kernel
/-- Point `t` reads sequence `t / 128` of the cached keys. -/
theorem index_3 : ∀ t : Fin grid0.N, win0_3.index t = ![t.val / 128, 0, t.val / 16 % 8] := by decide +kernel
/-- Point `t` reads sequence `t / 128` of the cached values. -/
theorem index_4 : ∀ t : Fin grid0.N, win0_4.index t = ![t.val / 128, 0, t.val / 16 % 8] := by decide +kernel
/-- Point `t` writes the tile it reads the queries of. -/
theorem index_5 : ∀ t : Fin grid0.N, win0_5.index t = ![32 + t.val / 128 * 16 + t.val % 16, t.val / 16 % 8] := by decide +kernel

/-- The grid has 512 points. -/
theorem point_lt (t : Fin grid0.N) : t.val < 512 := lt_of_lt_of_eq t.isLt (by decide +kernel)

/-- A point's query block at an entry. -/
theorem block_0 (c : Dev nD) (t : Fin grid0.N) (r : Fin 256) (e : Fin 512) :
    (iblk m c 0 t (ix2 r e) : EReal) = m ((c : Thread nD τ).loc main_arg0)
      (ix2 (⟨(32 + t.val / 128 * 16 + t.val % 16) * 256 + r.val, by have := point_lt t; omega⟩ : Fin 24576)
        (⟨t.val / 16 % 8 * 512 + e.val, by omega⟩ : Fin 4096)) := by
  blk_ext [iblk, V, index_0 t]

/-- A point's key block at an entry. -/
theorem block_1 (c : Dev nD) (t : Fin grid0.N) (r : Fin 4096) (e : Fin 128) :
    (iblk m c 1 t (ix2 r e) : EReal) = m ((c : Thread nD τ).loc main_arg1)
      (ix2 (⟨(2 + t.val / 128) * 4096 + r.val, by have := point_lt t; omega⟩ : Fin 24576)
        (⟨t.val / 16 % 8 * 128 + e.val, by omega⟩ : Fin 1024)) := by
  blk_ext [iblk, V, index_1 t]

/-- A point's value block at an entry. -/
theorem block_2 (c : Dev nD) (t : Fin grid0.N) (r : Fin 4096) (e : Fin 128) :
    (iblk m c 2 t (ix2 r e) : EReal) = m ((c : Thread nD τ).loc main_arg2)
      (ix2 (⟨(2 + t.val / 128) * 4096 + r.val, by have := point_lt t; omega⟩ : Fin 24576)
        (⟨t.val / 16 % 8 * 128 + e.val, by omega⟩ : Fin 1024)) := by
  blk_ext [iblk, V, index_2 t]

/-- A point's block of cached keys at an entry. -/
theorem block_3 (c : Dev nD) (t : Fin grid0.N) (r : Fin 256) (e : Fin 128) :
    (iblk m c 3 t (ix3 (0 : Fin 1) r e) : EReal) = m ((c : Thread nD τ).loc main_arg3)
      (ix3 (⟨t.val / 128, by have := point_lt t; omega⟩ : Fin 4) r (⟨t.val / 16 % 8 * 128 + e.val, by omega⟩ : Fin 1024)) := by
  blk_ext [iblk, V, index_3 t]

/-- A point's block of cached values at an entry. -/
theorem block_4 (c : Dev nD) (t : Fin grid0.N) (r : Fin 256) (e : Fin 128) :
    (iblk m c 4 t (ix3 (0 : Fin 1) r e) : EReal) = m ((c : Thread nD τ).loc main_arg4)
      (ix3 (⟨t.val / 128, by have := point_lt t; omega⟩ : Fin 4) r (⟨t.val / 16 % 8 * 128 + e.val, by omega⟩ : Fin 1024)) := by
  blk_ext [iblk, V, index_4 t]

/-- The rows of keys a point's blocks list are the rows of the arrays. -/
theorem rowOf_keys (c : Dev nD) (t : Fin grid0.N) (b : Fin 4) (h : Fin 8) (hb : b.val = t.val / 128) (hh : h.val = t.val / 16 % 8)
    (n : ℕ) (e : Fin 128) :
    rowOf (iblk m c 1 t) (iblk m c 3 t) n e
      = keyAt (m ((c : Thread nD τ).loc main_arg1)) (m ((c : Thread nD τ).loc main_arg3)) b h n e := by
  unfold rowOf keyAt
  split
  · refine (block_3 m c t _ e).trans (congrArg _ ?_)
    idx_ext
  · split
    · refine (block_1 m c t _ e).trans (congrArg _ ?_)
      idx_ext
    · rfl

/-- The rows of values a point's blocks list are the rows of the arrays. -/
theorem rowOf_values (c : Dev nD) (t : Fin grid0.N) (b : Fin 4) (h : Fin 8) (hb : b.val = t.val / 128) (hh : h.val = t.val / 16 % 8)
    (n : ℕ) (e : Fin 128) :
    rowOf (iblk m c 2 t) (iblk m c 4 t) n e
      = keyAt (m ((c : Thread nD τ).loc main_arg2)) (m ((c : Thread nD τ).loc main_arg4)) b h n e := by
  unfold rowOf keyAt
  split
  · refine (block_4 m c t _ e).trans (congrArg _ ?_)
    idx_ext
  · split
    · refine (block_2 m c t _ e).trans (congrArg _ ?_)
      idx_ext
    · rfl

/-- What a point's quotient holds at row `r` of head `g` and column `d` is attention at the array entry it is stored to. -/
theorem tile_eq (c : Dev nD) (t : Fin grid0.N) (g : Fin 4) (r : Fin 256) (d : Fin 128) (i : S24576x4096.Idx)
    (h0 : (i (0 : Fin 2)).val = (32 + t.val / 128 * 16 + t.val % 16) * 256 + r.val)
    (h1 : (i (1 : Fin 2)).val = t.val / 16 % 8 * 512 + (g.val * 128 + d.val)) :
    attend 4352 (tileScore (iblk m c 0 t) (iblk m c 1 t) (iblk m c 3 t) g r) (fun n => rowOf (iblk m c 2 t) (iblk m c 4 t) n d)
      = attention (m ((c : Thread nD τ).loc main_arg0)) (m ((c : Thread nD τ).loc main_arg1)) (m ((c : Thread nD τ).loc main_arg2))
        (m ((c : Thread nD τ).loc main_arg3)) (m ((c : Thread nD τ).loc main_arg4)) i := by
  have ht := point_lt t
  unfold attention
  refine congrArg₂ (attend 4352) (funext fun n => ?_) (funext fun n => ?_)
  · unfold tileScore scoreAt
    refine Finset.sum_congr rfl fun e _ => congrArg₂ (fun a b : EReal => a * b) ?_ ?_
    · refine (block_0 m c t r _).trans (congrArg _ (funext fun a => Fin.ext ?_))
      match a with
      | ⟨0, _⟩ => exact h0.symm
      | ⟨1, _⟩ => show t.val / 16 % 8 * 512 + (g.val * 128 + e.val) = (i (1 : Fin 2)).val / 128 * 128 + e.val; omega
    · refine rowOf_keys m c t _ _ ?_ ?_ n e
      · show ((i (0 : Fin 2)).val - 8192) / 4096 = t.val / 128; omega
      · show (i (1 : Fin 2)).val / 128 / 4 = t.val / 16 % 8; omega
  · have hd : d = ⟨(i (1 : Fin 2)).val % 128, by omega⟩ := Fin.ext (by show d.val = (i (1 : Fin 2)).val % 128; omega)
    rw [← hd]
    refine rowOf_values m c t _ _ ?_ ?_ n d
    · show ((i (0 : Fin 2)).val - 8192) / 4096 = t.val / 128; omega
    · show (i (1 : Fin 2)).val / 512 = t.val / 16 % 8; omega

/-- A point's query block holds real numbers. -/
theorem real_0 (c : Dev nD) (hf : Finite m c) (t : Fin grid0.N) (i : S256x512.Idx) : ∃ a : ℝ, (iblk m c 0 t i : EReal) = (a : EReal) := by
  obtain ⟨r, e, rfl⟩ : ∃ (r : Fin 256) (e : Fin 512), i = ix2 r e := ⟨i 0, i 1, eq_ix2 i⟩
  obtain ⟨a, ha⟩ := hf.q _
  exact ⟨a, (block_0 m c t r e).trans ha⟩

/-- A point's key block holds real numbers. -/
theorem real_1 (c : Dev nD) (hf : Finite m c) (t : Fin grid0.N) (i : S4096x128.Idx) : ∃ a : ℝ, (iblk m c 1 t i : EReal) = (a : EReal) := by
  obtain ⟨r, e, rfl⟩ : ∃ (r : Fin 4096) (e : Fin 128), i = ix2 r e := ⟨i 0, i 1, eq_ix2 i⟩
  obtain ⟨a, ha⟩ := hf.k _
  exact ⟨a, (block_1 m c t r e).trans ha⟩

/-- A point's block of cached keys holds real numbers. -/
theorem real_3 (c : Dev nD) (hf : Finite m c) (t : Fin grid0.N) (i : S1x256x128.Idx) : ∃ a : ℝ, (iblk m c 3 t i : EReal) = (a : EReal) := by
  obtain ⟨r, e, rfl⟩ : ∃ (r : Fin 256) (e : Fin 128), i = ix3 (0 : Fin 1) r e :=
    ⟨i 1, i 2, funext fun a => Fin.ext (match a with
      | ⟨0, _⟩ => by have := (i 0).isLt; change _ < 1 at this; show (i 0).val = 0; omega
      | ⟨1, _⟩ => rfl
      | ⟨2, _⟩ => rfl)⟩
  obtain ⟨a, ha⟩ := hf.ck _
  exact ⟨a, (block_3 m c t r e).trans ha⟩

/-- The result's buffer enters the call as a copy of the context argument. -/
theorem entry (c : Dev nD) : V m c main_v0 = m ((c : Thread nD τ).loc main_arg5) := by
  unfold V
  after_results
  rfl

/-- The row of the array a point's tile puts its row at. -/
theorem emb_0 (t : Fin grid0.N) (y : S256x512.Idx) :
    ((((View.whole main_v0).slice (win0_5.rect t)).emb y) (0 : Fin 2)).val
      = (32 + t.val / 128 * 16 + t.val % 16) * 256 + (y 0).val := by
  show win0_5.index t 0 * 256 + 1 * (y 0).val = _
  rw [index_5 t, Nat.one_mul]
  rfl

/-- The column of the array a point's tile puts its column at. -/
theorem emb_1 (t : Fin grid0.N) (y : S256x512.Idx) :
    ((((View.whole main_v0).slice (win0_5.rect t)).emb y) (1 : Fin 2)).val = t.val / 16 % 8 * 512 + (y 1).val := by
  show win0_5.index t 1 * 512 + 1 * (y 1).val = _
  rw [index_5 t, Nat.one_mul]
  rfl

/-- A head's 256 rows cut out of the 1024 rows the four heads stand in, at an entry. -/
theorem cut_apply (z : FVec Ideal S1024x128 .f32) (o : ℕ) (h : S1024x128.Slices ![o, 0] S256x128) (g : Fin 4) (ho : o = 256 * g.val)
    (x : S256x128.Idx) (i : S1024x128.Idx) (h0 : (i 0).val = 256 * g.val + (x 0).val) (h1 : (i 1).val = (x 1).val) :
    (extractStridedSlice S256x128 ![o, 0] z h x : EReal) = z i :=
  extractStridedSlice_apply ![o, 0] z h x i (fun a => match a with
    | ⟨0, _⟩ => by show (i 0).val = o + (x 0).val; omega
    | ⟨1, _⟩ => by show (i 1).val = 0 + (x 1).val; omega)

/-- What the four stores put is the quotient's rows, head by head. -/
theorem stored_apply (v4 : FVec Ideal S1024x128 .bf16) (v16 v17 v18 : Vec Ideal S1024x128 .bf16) (v59 : FVec Ideal S1024x1 .f32)
    (v64 : FVec Ideal S1024x128 .f32) (v68 v70 : FVec Ideal S1024x1 .f32) (v72 : FVec Ideal S1024x1024 .f32)
    (x : S256x128.Idx) (i : S1024x128.Idx) (h1 : (i 1).val = (x 1).val) :
    ((i 0).val = 256 * ((0 : Fin 4)).val + (x 0).val → (k0_pay21 v4 v16 v17 v18 v59 v64 v68 v70 v72 x : EReal) = k0_pay20 v4 v16 v17 v18 v59 v64 v68 v70 v72 i)
      ∧ ((i 0).val = 256 * ((1 : Fin 4)).val + (x 0).val → (k0_pay22 v4 v16 v17 v18 v59 v64 v68 v70 v72 x : EReal) = k0_pay20 v4 v16 v17 v18 v59 v64 v68 v70 v72 i)
      ∧ ((i 0).val = 256 * ((2 : Fin 4)).val + (x 0).val → (k0_pay23 v4 v16 v17 v18 v59 v64 v68 v70 v72 x : EReal) = k0_pay20 v4 v16 v17 v18 v59 v64 v68 v70 v72 i)
      ∧ ((i 0).val = 256 * ((3 : Fin 4)).val + (x 0).val → (k0_pay24 v4 v16 v17 v18 v59 v64 v68 v70 v72 x : EReal) = k0_pay20 v4 v16 v17 v18 v59 v64 v68 v70 v72 i) := by
  unfold k0_pay21 k0_pay22 k0_pay23 k0_pay24
  generalize k0_pay20 v4 v16 v17 v18 v59 v64 v68 v70 v72 = z
  exact ⟨fun h0 => cut_apply z 0 slices_S1024x128_o0_0_S256x128 0 rfl x i h0 h1,
    fun h0 => cut_apply z 256 slices_S1024x128_o256_0_S256x128 1 rfl x i h0 h1,
    fun h0 => cut_apply z 512 slices_S1024x128_o512_0_S256x128 2 rfl x i h0 h1,
    fun h0 => cut_apply z 768 slices_S1024x128_o768_0_S256x128 3 rfl x i h0 h1⟩

/-- What a point stores for head `g` at an entry of its tile is attention at the array entry behind it; `p` is the
    head's rows of the quotient. -/
theorem piece_eq (c : Dev nD) (hf : Finite m c) (t : Fin grid0.N) (g : Fin 4) (y : S256x512.Idx) (x : S256x128.Idx)
    (h0 : (y 0).val = (x 0).val) (h1 : (y 1).val = g.val * 128 + (x 1).val) (p : FVec Ideal S256x128 .bf16)
    (hp : ∀ i : S1024x128.Idx, (i 0).val = 256 * g.val + (x 0).val → (i 1).val = (x 1).val →
      (p x : EReal) = quotient (iblk m c 0 t) (iblk m c 1 t) (iblk m c 2 t) (iblk m c 3 t) (iblk m c 4 t) i) :
    (p x : EReal) = attention (m ((c : Thread nD τ).loc main_arg0)) (m ((c : Thread nD τ).loc main_arg1))
      (m ((c : Thread nD τ).loc main_arg2)) (m ((c : Thread nD τ).loc main_arg3)) (m ((c : Thread nD τ).loc main_arg4))
      (((View.whole main_v0).slice (win0_5.rect t)).emb y) := by
  obtain ⟨r, d, rfl⟩ : ∃ (r : Fin 256) (d : Fin 128), x = ix2 r d := ⟨x 0, x 1, eq_ix2 x⟩
  have e0 : (y 0).val = r.val := h0
  have e1 : (y 1).val = g.val * 128 + d.val := h1
  refine (hp (ix2 (⟨256 * g.val + r.val, by omega⟩ : Fin 1024) d) rfl rfl).trans ?_
  exact (quotient_apply _ _ _ _ _ (real_0 m c hf t) (real_1 m c hf t) (real_3 m c hf t) g r d _ rfl).trans
    (tile_eq m c t g r d _ ((emb_0 t y).trans (by rw [e0])) ((emb_1 t y).trans (by rw [e1])))

set_option maxHeartbeats 6400000 in
/-- The result array after the run: each point writes its tile of the attention, the tiles cover the latent rows, and
    the context rows keep what they held. -/
theorem final (c : Dev nD) (hf : Finite m c) : (dats m 0 c).arrAt 5 cfg0.N = result m c := by
  refine ((dats m 0 c).arrAt_eq_of_coversWhere 5 (attention (m ((c : Thread nD τ).loc main_arg0)) (m ((c : Thread nD τ).loc main_arg1))
    (m ((c : Thread nD τ).loc main_arg2)) (m ((c : Thread nD τ).loc main_arg3)) (m ((c : Thread nD τ).loc main_arg4)))
    (fun β => 32 ≤ β (0 : Fin _)) (by decide +kernel) (fun t _ y => ?_)
    (P := fun i => 32 ≤ (i (0 : Fin 2) : ℕ) / 256) (fun j => Iff.rfl)).trans ?_
  · have ht := point_lt t
    blk_simp
    rw [after0_5]
    unfold outsAt0
    frame_out
    canon_tiles x h
    · exact piece_eq m c hf t 3 y x h0 h1 _ fun i i0 i1 => (stored_apply _ _ _ _ _ _ _ _ _ x i i1).2.2.2 i0
    · exact piece_eq m c hf t 2 y x h0 h1 _ fun i i0 i1 => (stored_apply _ _ _ _ _ _ _ _ _ x i i1).2.2.1 i0
    · exact piece_eq m c hf t 1 y x h0 h1 _ fun i i0 i1 => (stored_apply _ _ _ _ _ _ _ _ _ x i i1).2.1 i0
    · exact piece_eq m c hf t 0 y x h0 (h1.trans (by show (x 1).val = 0 * 128 + (x 1).val; omega)) _ fun i i0 i1 => (stored_apply _ _ _ _ _ _ _ _ _ x i i1).1 i0
  · funext i
    exact if_congr Iff.rfl rfl (congrFun (entry m c) i)

variable (ρ : Dev nD → PrngReg)

/-- The kernel's run, read: the result array at the attention over the context, the arguments unchanged. -/
theorem run (hf : ∀ c, Finite m c) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs (onTc (τ := τ) (main (F := Ideal))) ⟨m, fun _ => 0, ρ⟩).mono
    (fun _ hr c => ⟨(hr c).1.trans (final m c (hf c)), (hr c).2⟩) (Value.run_blocks m ρ)

end Cert.KernelIdeal.Hand

end
-- ==== Proof.AttnReference.lean ====
/-
  The attention's reference at the extended reals: its result, entry by entry, is the same attention the kernel's is.
-/
module

public import proofs.«01_k».proof.Proof.AttnSpec
public import proofs.«01_k».proof.Proof.Gen.ReferenceIdeal.Read
public import Idealize.ShloMosaic.Lib.Pipeline.ValueKit

@[expose] public section

set_option maxRecDepth 16384

noncomputable section

open Idealize.ShloMosaic Idealize.ShloMosaic.TcCoe Idealize.SL.Sem
open Cert.Shared
open scoped BigOperators

namespace Cert.ReferenceIdeal.Hand

open Cert.ReferenceIdeal Cert.ReferenceIdeal.Gen Cert.ReferenceIdeal.Read
open Cert.Attention

variable (x0 : FVec Ideal S24576x4096 .bf16) (x1 x2 : FVec Ideal S24576x1024 .bf16) (x3 x4 : FVec Ideal S4x256x1024 .f32)
  (x5 : FVec Ideal S24576x4096 .bf16)

/-- The keys: the cached rows, then the latent sequence's. -/
theorem keys_apply (b : Fin 4) (n : Fin 4352) (h : Fin 8) (e : Fin 128) :
    (val_main_v11 (F := Ideal) x1 x3 (ix4 b n h e) : EReal) = keyAt x1 x3 b h n.val e := by
  unfold val_main_v11 keyAt
  by_cases hn : n.val < 256
  · rw [dif_pos hn]
    refine (concatenate_pair_apply_left 1 _ _ concatenates_S4x256x8x128_S4x4096x8x128_S4x4352x8x128_d1 (ix4 b n h e) rfl
      (ix4 b (⟨n.val, hn⟩ : Fin 256) h e) (fun a => match a with
        | ⟨0, _⟩ => rfl | ⟨1, _⟩ => rfl | ⟨2, _⟩ => rfl | ⟨3, _⟩ => rfl)).trans ?_
    rw [val_main_v9_apply]
    refine congrArg x3 ?_
    idx_ext
  · rw [dif_neg hn, dif_pos (by omega)]
    refine (concatenate_pair_apply_right 1 _ _ concatenates_S4x256x8x128_S4x4096x8x128_S4x4352x8x128_d1 (ix4 b n h e) rfl rfl
      (ix4 b (⟨n.val - 256, by omega⟩ : Fin 4096) h e) (fun a ha => match a with
        | ⟨0, _⟩ => rfl | ⟨1, _⟩ => absurd rfl ha | ⟨2, _⟩ => rfl | ⟨3, _⟩ => rfl) (by show n.val - 256 + 256 = n.val; omega)).trans ?_
    rw [val_main_v5_apply, val_main_v4_apply, val_main_v3_apply]
    refine congrArg x1 ?_
    idx_ext

/-- The values likewise: they go through the same operations. -/
theorem values_apply (b : Fin 4) (n : Fin 4352) (h : Fin 8) (e : Fin 128) :
    (val_main_v12 (F := Ideal) x2 x4 (ix4 b n h e) : EReal) = keyAt x2 x4 b h n.val e := keys_apply x2 x4 b n h e

/-- The raw scores: query row `q` of latent sequence `b`, query head `4 h + g`, against key `n`. -/
theorem scores_apply (b : Fin 4) (h : Fin 8) (g : Fin 4) (q : Fin 4096) (n : Fin 4352) :
    (val_main_v14 (F := Ideal) x0 x1 x3 (ix5 b h g q n) : EReal)
      = scoreAt x0 x1 x3 ⟨8192 + b.val * 4096 + q.val, by omega⟩ ⟨h.val * 4 + g.val, by omega⟩ n.val := by
  rw [val_main_v14_apply, val_main_v13_apply]
  unfold scoreAt
  refine Finset.sum_congr rfl fun e _ => ?_
  rw [mul_comm]
  refine congrArg₂ (fun a b : EReal => a * b) ?_ ?_
  · rw [val_main_v2_apply, val_main_v1_apply, val_main_v0_apply]
    refine congrArg x0 ?_
    idx_ext
  · have e0 : lidx_main_v13 (idx_main_v14 (ix5 b h g q n)) e = ix4 b n h e := by idx_ext
    rw [e0, keys_apply]
    refine congrArg₂ (fun s j => keyAt x1 x3 s j n.val e) (Fin.ext ?_) (Fin.ext ?_)
    · show b.val = (8192 + b.val * 4096 + q.val - 8192) / 4096; omega
    · show h.val = (h.val * 4 + g.val) / 4; omega

/-- The scale `log 2` as the reference spells it. -/
theorem scale_apply (i : S4x8x4x4096x4352.Idx) : (val_main_v16 (F := Ideal) i : EReal) = (Real.log 2 : ℝ) := by
  rw [val_main_v16_apply, val_main_v15_apply, val_main_cst_apply]
  refine (congrArg Ideal.log ofBits_two).trans ?_
  rw [Ideal.log_coe, if_neg (by norm_num)]

variable (f0 : ∀ i, ∃ a : ℝ, (x0 i : EReal) = a) (f1 : ∀ i, ∃ a : ℝ, (x1 i : EReal) = a) (f3 : ∀ i, ∃ a : ℝ, (x3 i : EReal) = a)

include f0 f1 f3 in
/-- The scaled scores are real numbers. -/
theorem scaled_real (i : S4x8x4x4096x4352.Idx) : ∃ a : ℝ, (val_main_v17 (F := Ideal) x0 x1 x3 i : EReal) = a := by
  obtain ⟨b, h, g, q, n, rfl⟩ : ∃ (b : Fin 4) (h : Fin 8) (g : Fin 4) (q : Fin 4096) (n : Fin 4352), i = ix5 b h g q n :=
    ⟨i 0, i 1, i 2, i 3, i 4, eq_ix5 i⟩
  obtain ⟨a, ha⟩ := scoreAt_real x0 x1 x3 f0 f1 f3 ⟨8192 + b.val * 4096 + q.val, by omega⟩ ⟨h.val * 4 + g.val, by omega⟩ n.val
  refine ⟨a * Real.log 2, ?_⟩
  rw [val_main_v17_apply]
  refine (congrArg₂ (fun s t : EReal => s * t) ((scores_apply x0 x1 x3 b h g q n).trans ha) (scale_apply _)).trans ?_
  exact (EReal.coe_mul _ _).symm

include f0 f1 f3 in
/-- So is each row's maximum. -/
theorem rowMax_real (j : S4x8x4x4096.Idx) : ∃ a : ℝ, (val_main_v20 (F := Ideal) x0 x1 x3 j : EReal) = a := by
  have hred : S4x8x4x4096x4352.Reduces [4] S4x8x4x4096 := by decide
  obtain ⟨a, ha⟩ := fold_max_real (k := 4352) (by norm_num) (val_main_v17 (F := Ideal) x0 x1 x3 ∘ hred.lift j)
    (fun n => scaled_real x0 x1 x3 f0 f1 f3 _)
  refine ⟨a, ?_⟩
  rw [val_main_v20_apply, val_main_v19_apply, val_main_cst_1_apply]
  have h18 : (val_main_v18 (F := Ideal) x0 x1 x3 j : EReal) = a := by
    unfold val_main_v18
    refine (Host.reduce_eq_fold_single (FloatOps.maximumf (F := Ideal) (φ := .f32)) _ _ _ hred h_S_ j).trans ?_
    rw [val_main_cst_0_apply, ofBits_bot]
    exact ha
  rw [ofBits_bot, h18]
  exact max_eq_right bot_le

include f0 f1 f3 in
/-- One entry of the product of the weights with the values is attention. -/
theorem product_apply (b : Fin 4) (h : Fin 8) (e : Fin 128) (g : Fin 4) (q : Fin 4096) :
    (val_main_v29 (F := Ideal) x0 x1 x2 x3 x4 (ix5 b h e g q) : EReal)
      = attend 4352 (scoreAt x0 x1 x3 ⟨8192 + b.val * 4096 + q.val, by omega⟩ ⟨h.val * 4 + g.val, by omega⟩)
          (fun n => keyAt x2 x4 b h n e) := by
  set s := scoreAt x0 x1 x3 ⟨8192 + b.val * 4096 + q.val, by omega⟩ ⟨h.val * 4 + g.val, by omega⟩ with hs
  obtain ⟨μ, hμ⟩ := rowMax_real x0 x1 x3 f0 f1 f3 (ix4 b h g q)
  have h24 (n : Fin 4352) : (val_main_v24 (F := Ideal) x0 x1 x3 (ix5 b h g q n) : EReal)
      = Ideal.exp (s n.val * (Real.log 2 : ℝ) - μ) := by
    rw [val_main_v24_apply, val_main_v23_apply, val_main_v17_apply, val_main_v22_apply, val_main_v21_apply]
    have e0 : idx_main_v21 (idx_main_v22 (ix5 b h g q n)) = ix4 b h g q := by idx_ext
    rw [e0, hμ]
    refine congrArg Ideal.exp (congrArg (fun t : EReal => t - μ) ?_)
    exact congrArg₂ (fun s t : EReal => s * t) (scores_apply x0 x1 x3 b h g q n) (scale_apply _)
  have h25 : (val_main_v25 (F := Ideal) x0 x1 x3 (ix4 b h g q) : EReal)
      = ∑ n : Fin 4352, Ideal.exp (s n.val * (Real.log 2 : ℝ) - μ) := by
    rw [val_main_v25_apply, val_main_cst_2_apply, ofBits_zero]
    refine (zero_add _).trans (Finset.sum_congr rfl fun n _ => ?_)
    have e0 : idx_main_v25 (ix4 b h g q) n = ix5 b h g q n := by idx_ext
    rw [e0, h24]
  rw [val_main_v29_apply]
  refine Eq.trans (Finset.sum_congr rfl fun n _ => ?_) (softmax_eq μ 4352 (by norm_num) s (fun n => keyAt x2 x4 b h n e)
    (fun i _ => scoreAt_real x0 x1 x3 f0 f1 f3 _ _ i))
  have el : lidx_main_v29 (ix5 b h e g q) n = ix4 b n h e := by idx_ext
  have er : ridx_main_v29 (ix5 b h e g q) n = ix5 b h g q n := by idx_ext
  rw [el, er]
  refine congrArg₂ (fun s t : EReal => s * t) (values_apply x2 x4 b n h e) ?_
  rw [val_main_v28_apply, val_main_v27_apply, val_main_v26_apply, h24]
  have e0 : idx_main_v26 (idx_main_v27 (ix5 b h g q n)) = ix4 b h g q := by idx_ext
  rw [e0, h25]
  rfl

include f0 f1 f3 in
/-- The reference's result is the attention in the latent rows and the context in the others. -/
theorem val_eq : val_main_v34 (F := Ideal) x0 x1 x2 x3 x4 x5 = answer x0 x1 x2 x3 x4 x5 := by
  funext i
  obtain ⟨r, d, rfl⟩ : ∃ (r : Fin 24576) (d : Fin 4096), i = ix2 r d := ⟨i 0, i 1, eq_ix2 i⟩
  unfold val_main_v34 answer
  by_cases hr : 8192 ≤ r.val
  · refine Eq.trans ?_ (if_pos (show 32 ≤ r.val / 256 by omega)).symm
    refine (concatenate_pair_apply_right 0 _ _ concatenates_S8192x4096_S16384x4096_S24576x4096_d0 (ix2 r d) rfl rfl
      (ix2 (⟨r.val - 8192, by omega⟩ : Fin 16384) d) (fun a ha => match a with
        | ⟨0, _⟩ => absurd rfl ha | ⟨1, _⟩ => rfl) (by show r.val - 8192 + 8192 = r.val; omega)).trans ?_
    rw [val_main_v33_apply, val_main_v31_apply, val_main_v30_apply]
    have e0 : idx_main_v30 (idx_main_v31 (ix2 (⟨r.val - 8192, by omega⟩ : Fin 16384) d))
        = ix5 (⟨(r.val - 8192) / 4096, by omega⟩ : Fin 4) (⟨d.val / 512, by omega⟩ : Fin 8) (⟨d.val % 128, by omega⟩ : Fin 128)
          (⟨d.val / 128 % 4, by omega⟩ : Fin 4) (⟨(r.val - 8192) % 4096, by omega⟩ : Fin 4096) := funext fun a => Fin.ext (match a with
        | ⟨0, _⟩ => by show ((r.val - 8192) * 4096 + d.val) / 16777216 = (r.val - 8192) / 4096; omega
        | ⟨1, _⟩ => by show ((r.val - 8192) * 4096 + d.val) / 512 % 8 = d.val / 512; omega
        | ⟨2, _⟩ => by show ((r.val - 8192) * 4096 + d.val) % 128 = d.val % 128; omega
        | ⟨3, _⟩ => by show ((r.val - 8192) * 4096 + d.val) / 128 % 4 = d.val / 128 % 4; omega
        | ⟨4, _⟩ => by show ((r.val - 8192) * 4096 + d.val) / 4096 % 4096 = (r.val - 8192) % 4096; omega)
    rw [e0]
    refine (product_apply x0 x1 x2 x3 x4 f0 f1 f3 _ _ _ _ _).trans ?_
    rw [attention_apply]
    refine congrArg₂ (attend 4352) (congrArg₂ (scoreAt x0 x1 x3) (Fin.ext ?_) (Fin.ext ?_)) rfl
    · show 8192 + (r.val - 8192) / 4096 * 4096 + (r.val - 8192) % 4096 = r.val; omega
    · show d.val / 512 * 4 + d.val / 128 % 4 = d.val / 128; omega
  · refine Eq.trans ?_ (if_neg (show ¬ 32 ≤ r.val / 256 by omega)).symm
    refine (concatenate_pair_apply_left 0 _ _ concatenates_S8192x4096_S16384x4096_S24576x4096_d0 (ix2 r d) rfl
      (ix2 (⟨r.val, by omega⟩ : Fin 8192) d) (fun a => match a with | ⟨0, _⟩ => rfl | ⟨1, _⟩ => rfl)).trans ?_
    rw [val_main_v32_apply]
    refine congrArg x5 ?_
    idx_ext

variable (m : (ℓ : Loc nD τ sig) → Buf (Elt Ideal) ℓ) (ρ : Dev nD → PrngReg)

/-- The reference's result array at device `c`'s argument arrays, which hold real queries, keys and cached keys. -/
theorem res_eq (c : Dev nD) (f0 : ∀ i, ∃ a : ℝ, (m ((c.tc : Thread nD τ).loc main_arg0) i : EReal) = (a : EReal))
    (f1 : ∀ i, ∃ a : ℝ, (m ((c.tc : Thread nD τ).loc main_arg1) i : EReal) = (a : EReal))
    (f3 : ∀ i, ∃ a : ℝ, (m ((c.tc : Thread nD τ).loc main_arg3) i : EReal) = (a : EReal)) :
    Cert.ReferenceIdeal.Value.res_main_v34 m c
      = answer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) :=
  (val_main_v34_eq m c).trans (val_eq _ _ _ _ _ _ f0 f1 f3)

end Cert.ReferenceIdeal.Hand

end
-- ==== Proof.AttnClaims.lean ====
/-
  The claims about the attention of the latent tokens.
-/
module

public import proofs.«01_k».proof.Defs
public import proofs.«01_k».proof.Proof.AttnFinite
public import proofs.«01_k».proof.Proof.AttnValue
public import proofs.«01_k».proof.Proof.AttnReference
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof.AttnClaims

/-- The kernel's program terminates and leaves its arguments alone, and the machine ends quiescent. -/
theorem frame_kernel : Cert.quiescent_Kernel := fun m ρ _ => Cert.Kernel.Gen.frame m ρ
/-- Its idealization likewise. -/
theorem frame_ideal : Cert.quiescent_KernelIdeal := fun m ρ _ => Cert.KernelIdeal.Gen.frame m ρ
/-- And under the precondition. -/
theorem frame_ideal_pre : Cert.quiescent_KernelIdeal_pre_finite_scores := fun m ρ _ => Cert.KernelIdeal.Gen.frame m ρ
/-- The reference's program likewise: it is host operations only and declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
/-- And under the precondition. -/
theorem frame_reference_pre : Cert.quiescent_ReferenceIdeal_pre_finite_scores := fun m ρ _ => frame_reference m ρ trivial

/-- At the extended reals, where queries, keys and cached keys are real, the kernel and the reference compute the same
    array. -/
theorem algebraic : Cert.algebraic_KernelIdeal_ReferenceIdeal_pre_finite_scores := by
  intro m ρ m' ρ' hpre hagree
  have hreal := fun c => Cert.Attention.real_of_pre _ _ _ _ _ _ (hpre c)
  refine ⟨fun c => Cert.KernelIdeal.Hand.result m c,
    Cert.KernelIdeal.Hand.run m ρ fun c => ⟨(hreal c).1, (hreal c).2.1, (hreal c).2.2⟩, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  refine (Cert.ReferenceIdeal.Hand.res_eq m' c ?_ ?_ ?_).trans ?_
  · rw [a0]; exact (hreal c).1
  · rw [a1]; exact (hreal c).2.1
  · rw [a3]; exact (hreal c).2.2
  · rw [a0, a1, a2, a3, a4, a5]

end Cert.Proof.AttnClaims

end
-- ==== Proof.GluValue.lean ====
/-
  The gated product (`kernel_glu`) at the extended reals: what one block of it computes, what its result array ends
  holding, and that the reference computes the same.
-/
module

public import proofs.«01_k».proof.Defs
public import proofs.«01_k».proof.Proof.Gen.Glu.Frame
public import proofs.«01_k».proof.Proof.Gen.GluIdeal.Value
public import proofs.«01_k».proof.Proof.Gen.GluReferenceIdeal.Read
public import proofs.«01_k».proof.Proof.Words
public import Idealize.ShloMosaic.Lib.Pipeline.Value
public import Idealize.ShloMosaic.Lib.Pipeline.ValueKit
public import Idealize.ShloMosaic.Lib.Pipeline.Covers
public import Idealize.ShloMosaic.Lib.ValueIdx
public import Idealize.ShloMosaic.Lib.Quiescent
public import Idealize.ShloMosaic.Lib.MatmulPlain
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)
open scoped BigOperators

namespace Cert.GluIdeal.Hand

open Cert.GluIdeal Cert.GluIdeal.Gen

/-- One entry of the product of the rows `h` with layer 0 of the weights `w`: the sum over the 4096 features. -/
def proj (h : FVec Ideal S24576x4096 .bf16) (w : FVec Ideal S2x4096x11008 .f32) (r : Fin 24576) (n : Fin 11008) : EReal :=
  ∑ k : Fin 4096, h (ix2 r k) * w (ix3 (0 : Fin 2) k n)

/-- The gated product: `silu (h · w1) * (h · w3)`, entry by entry. -/
def glu (h : FVec Ideal S24576x4096 .bf16) (w1 w3 : FVec Ideal S2x4096x11008 .f32) : FVec Ideal S24576x11008 .bf16 :=
  fun i => proj h w1 (i 0) (i 1) * Ideal.logistic (proj h w1 (i 0) (i 1)) * proj h w3 (i 0) (i 1)

/-- What the body stores, read at one entry of the block. -/
theorem pay_apply (x0 : Vec Ideal S2048x4096 .bf16) (x1 x2 : Vec Ideal S1x4096x256 .f32) (r : Fin 2048) (n : Fin 256) :
    (k0_pay1 x0 x1 x2 (ix2 r n) : EReal)
      = (∑ k : Fin 4096, x0 (ix2 r k) * x1 (ix3 (0 : Fin 1) k n))
          * Ideal.logistic (∑ k : Fin 4096, x0 (ix2 r k) * x1 (ix3 (0 : Fin 1) k n))
          * (∑ k : Fin 4096, x0 (ix2 r k) * x2 (ix3 (0 : Fin 1) k n)) := by
  have hm (x : Vec Ideal S1x4096x256 .f32) :
      (matmul (F := Ideal) (φ₁ := .bf16) dot_S2048x4096_S4096x256_S2048x256_1_0_0_1_n_n none x0
          (truncf .bf16 (shapeCast S4096x256 x shapeCasts_S1x4096x256_S4096x256) bitsLt_bf16_f32)
          (constant S2048x256 .f32 0x00000000#32) : FVec Ideal S2048x256 .f32) (ix2 r n)
        = ∑ k : Fin 4096, x0 (ix2 r k) * x (ix3 (0 : Fin 1) k n) := by
    refine (Cert.Shared.plain_zero (M := 2048) (K := 4096) (N := 256) x0 _ r n).trans ?_
    exact Finset.sum_congr rfl fun k _ => congrArg (fun z : EReal => x0 (ix2 r k) * z) (Cert.Shared.drop_lead x _ k n)
  have e : ∀ y, (k0_pay1 x0 x1 x2 y : EReal) = _ := fun y => by
    unfold k0_pay1
    rw [ValueIdx.truncf_apply, ValueIdx.mulf_apply, ValueIdx.mulf_apply, logistic_apply]
  rw [e, hm x1, hm x2]
  rfl

variable (m : (ℓ : Loc nD τ sig) → Buf (Elt Ideal) ℓ)

/-- The gated product of device `c`'s argument arrays, as contents of the result array. -/
abbrev result (c : Dev nD) : Buf (Elt Ideal) ((c : Thread nD τ).loc main_v0) :=
  glu (m ((c : Thread nD τ).loc main_arg0)) (m ((c : Thread nD τ).loc main_arg1)) (m ((c : Thread nD τ).loc main_arg2))

/-- Point `t` reads row tile `t / 43`. -/
theorem index_0 : ∀ t : Fin grid0.N, win0_0.index t = ![t.val / 43, 0] := by decide +kernel
/-- Point `t` reads column tile `t % 43` of layer 0's gate weights. -/
theorem index_1 : ∀ t : Fin grid0.N, win0_1.index t = ![0, 0, t.val % 43] := by decide +kernel
/-- Point `t` reads column tile `t % 43` of layer 0's value weights. -/
theorem index_2 : ∀ t : Fin grid0.N, win0_2.index t = ![0, 0, t.val % 43] := by decide +kernel
/-- Point `t` writes tile (`t / 43`, `t % 43`) of the result. -/
theorem index_3 : ∀ t : Fin grid0.N, win0_3.index t = ![t.val / 43, t.val % 43] := by decide +kernel

/-- The result array after the run is the gated product: each point writes its tile of it, and the tiles cover it. -/
theorem final (c : Dev nD) : (dats m 0 c).arrAt 3 cfg0.N = result m c := by
  refine (dats m 0 c).arrAt_eq_of_covers 3 _ (by decide +kernel) fun t hf y => ?_
  blk_simp
  rw [after0_3]
  frame_out
  obtain ⟨r, n, rfl⟩ : ∃ (r : Fin 2048) (n : Fin 256), y = ix2 r n := ⟨y 0, y 1, eq_ix2 y⟩
  rw [pay_apply]
  unfold result glu proj
  blk_point [iblk, V, index_0 t, index_1 t, index_2 t, index_3 t]

variable (ρ : Dev nD → PrngReg)

/-- The kernel's run, read: the result array at the gated product, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final m c), (h c).2⟩) (Value.run_blocks m ρ)

end Cert.GluIdeal.Hand

namespace Cert.GluReferenceIdeal.Hand

open Cert.GluReferenceIdeal Cert.GluReferenceIdeal.Gen Cert.GluReferenceIdeal.Read

/-- The reference's result, entry by entry, is the gated product. -/
theorem val_eq (x0 : FVec Ideal S24576x4096 .bf16) (x1 x2 : FVec Ideal S2x4096x11008 .f32) :
    val_main_v9 (F := Ideal) x0 x1 x2 = Cert.GluIdeal.Hand.glu x0 x1 x2 := by
  have h3 (x : FVec Ideal S2x4096x11008 .f32) (i : S24576x11008.Idx) :
      val_main_v3 (F := Ideal) x0 x i = Cert.GluIdeal.Hand.proj x0 x (i 0) (i 1) := by
    rw [val_main_v3_apply]
    refine Finset.sum_congr rfl fun k _ => ?_
    rw [val_main_v0_apply, val_main_v2_apply, val_main_v1_apply]
    have e0 : lidx_main_v3 i k = ix2 (i 0) k := by idx_ext
    have e1 : idx_main_v1 (idx_main_v2 (ridx_main_v3 i k)) = ix3 (0 : Fin 2) k (i 1) := by idx_ext
    exact congrArg₂ (fun a b : EReal => a * b) (congrArg x0 e0) (congrArg x e1)
  have h7 (i : S24576x11008.Idx) : val_main_v7 (F := Ideal) x0 x2 i = Cert.GluIdeal.Hand.proj x0 x2 (i 0) (i 1) := h3 x2 i
  have one : ∀ j, val_main_call0_v4 (F := Ideal) j = (1 : EReal) := fun j => by
    rw [val_main_call0_v4_apply, val_main_call0_cst_0_apply, Cert.Shared.ofBits_one]
  have one' : ∀ j, val_main_call0_v2 (F := Ideal) j = (1 : EReal) := fun j => by
    rw [val_main_call0_v2_apply, val_main_call0_cst_apply, Cert.Shared.ofBits_one]
  funext i
  rw [val_main_v9_apply, val_main_v8_apply, val_main_v4_apply, val_main_call0_v5_apply, val_main_call0_v3_apply,
    val_main_call0_v1_apply, val_main_call0_v0_apply, h3 x1, h7, one, one']
  rfl

variable (m : (ℓ : Loc nD τ sig) → Buf (Elt Ideal) ℓ) (ρ : Dev nD → PrngReg)

/-- The reference's run, read: the result array at the gated product, the arguments unchanged. -/
theorem run : θ_run defs (onTc (τ := τ) (main (F := Ideal))) ⟨m, fun _ => 0, ρ⟩ fun r => ∀ c : Dev nD,
      r.2.mem ((c.tc : Thread nD τ).loc main_v9) = Cert.GluIdeal.Hand.glu (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1).trans ((val_main_v9_eq _ _ _).trans (val_eq _ _ _)), (h c).2⟩)
    (Value.run (F := Ideal) m ρ)

end Cert.GluReferenceIdeal.Hand

/-! ## The claims -/

namespace Cert.Proof.GluClaims

/-- The kernel's program terminates and leaves its arguments alone, and the machine ends quiescent. -/
theorem frame_kernel : Cert.quiescent_Glu := fun m ρ _ => Cert.Glu.Gen.frame m ρ
/-- Its idealization likewise. -/
theorem frame_ideal : Cert.quiescent_GluIdeal := fun m ρ _ => Cert.GluIdeal.Gen.frame m ρ
/-- The reference's program likewise: it is host operations only and declares no semaphore. -/
theorem frame_reference : Cert.quiescent_GluReferenceIdeal := fun m ρ _ =>
  (θ_run Cert.GluReferenceIdeal.defs _ _).mono (fun r h => ⟨fun c => (h c).2, Idealize.ShloMosaic.sem_eq_zero_of_no_sems (by decide) r.2⟩)
    (Cert.GluReferenceIdeal.Value.run (F := Ideal) m ρ)

/-- At the extended reals the kernel and the reference compute the same array. -/
theorem algebraic : Cert.algebraic_GluIdeal_GluReferenceIdeal := by
  intro m ρ m' ρ' _ hagree
  refine ⟨fun c => Cert.GluIdeal.Hand.result m c, Cert.GluIdeal.Hand.run m ρ, ?_⟩
  refine (θ_run Cert.GluReferenceIdeal.defs _ _).mono (fun _ h c => ⟨(h c).1.trans ?_, (h c).2⟩) (Cert.GluReferenceIdeal.Hand.run m' ρ')
  rw [(hagree c).1, (hagree c).2.1, (hagree c).2.2]

end Cert.Proof.GluClaims

end
-- ==== Proof.Streams.lean ====
/-
  The rows of the flat streams: 8192 context rows, then four latent sequences of 4096 rows each. Which stream a row
  belongs to, how an array built from its context part and its latent part reads, and how a block of one row (a bias, or
  the gate of a stream) reads when spread over the rows of a tile.
-/
module

public import Idealize.ShloMosaic.Lib.ValueIdx
public import Idealize.ShloMosaic.Lib.ValueLayout
public import Idealize.ShloMosaic.Lib.Pointwise
public import Idealize.ShloMosaic.Lib.Pipeline.Value
public import Idealize.ShloMosaic.Lib.Pipeline.ValueKit

@[expose] public section

noncomputable section

open Idealize.ShloMosaic

namespace Cert.Shared

/-- The stream of row `r`: 0 for the 8192 context rows, 1 to 4 for the four latent sequences of 4096 rows behind them. -/
def stream (r : Fin 24576) : Fin 8 := ⟨(r.val - 4096) / 4096, by omega⟩

/-- Context row `r`, as a row of the flat streams. -/
def low (r : Fin 8192) : Fin 24576 := ⟨r.val, by omega⟩
/-- Row `q` of latent sequence `b`, as a row of the flat streams. -/
def high (b : Fin 4) (q : Fin 4096) : Fin 24576 := ⟨8192 + b.val * 4096 + q.val, by omega⟩
/-- Row `q` of latent sequence `b`, as a row of the latent part alone. -/
def behind (b : Fin 4) (q : Fin 4096) : Fin 16384 := ⟨b.val * 4096 + q.val, by omega⟩

/-- A context row is in stream 0. -/
theorem stream_low (r : Fin 8192) : stream (low r) = (0 : Fin 8) := Fin.ext (by
  show (r.val - 4096) / 4096 = 0; omega)

/-- A row of latent sequence `b` is in stream `1 + b`. -/
theorem stream_high (b : Fin 4) (q : Fin 4096) : stream (high b q) = (⟨1 + b.val, by omega⟩ : Fin 8) := Fin.ext (by
  show (8192 + b.val * 4096 + q.val - 4096) / 4096 = 1 + b.val; omega)

/-- An array joined from a context part and a latent part is `target`, when both parts are. -/
theorem rejoin {α : Type} (top : (⟨2, ![8192, 4096]⟩ : Shape).Idx → α) (rest : (⟨2, ![16384, 4096]⟩ : Shape).Idx → α)
    (target : (⟨2, ![24576, 4096]⟩ : Shape).Idx → α)
    (h : Shape.Concatenates [⟨2, ![8192, 4096]⟩, ⟨2, ![16384, 4096]⟩] ⟨2, ![24576, 4096]⟩ 0)
    (htop : ∀ (r : Fin 8192) (d : Fin 4096), top (ix2 r d) = target (ix2 (low r) d))
    (hrest : ∀ (b : Fin 4) (q d : Fin 4096), rest (ix2 (behind b q) d) = target (ix2 (high b q) d)) :
    concatenate ⟨2, ![24576, 4096]⟩ 0 [⟨⟨2, ![8192, 4096]⟩, top⟩, ⟨⟨2, ![16384, 4096]⟩, rest⟩] h = target := by
  funext i
  obtain ⟨r, d, rfl⟩ : ∃ (r : Fin 24576) (d : Fin 4096), i = ix2 r d := ⟨i 0, i 1, eq_ix2 i⟩
  by_cases hr : 8192 ≤ r.val
  · obtain ⟨b, q, rfl⟩ : ∃ (b : Fin 4) (q : Fin 4096), r = high b q :=
      ⟨⟨(r.val - 8192) / 4096, by omega⟩, ⟨(r.val - 8192) % 4096, by omega⟩, Fin.ext (by
        show r.val = 8192 + (r.val - 8192) / 4096 * 4096 + (r.val - 8192) % 4096; omega)⟩
    refine (concatenate_pair_apply_right 0 top rest h (ix2 (high b q) d) rfl rfl (ix2 (behind b q) d) (fun a ha => match a with
        | ⟨0, _⟩ => absurd rfl ha | ⟨1, _⟩ => rfl) ?_).trans (hrest b q d)
    show b.val * 4096 + q.val + 8192 = 8192 + b.val * 4096 + q.val
    omega
  · obtain ⟨r', rfl⟩ : ∃ r' : Fin 8192, r = low r' := ⟨⟨r.val, by omega⟩, rfl⟩
    exact (concatenate_pair_apply_left 0 top rest h (ix2 (low r') d) rfl (ix2 r' d) (fun a => match a with
      | ⟨0, _⟩ => rfl | ⟨1, _⟩ => rfl)).trans (htop r' d)

/-- One row of a stream's gate spread over a tile's rows, at one entry. -/
theorem gate_row {α : Type} {M N : ℕ} (x : (⟨5, ![1, 1, 1, 1, N]⟩ : Shape).Idx → α)
    (hc : (⟨5, ![1, 1, 1, 1, N]⟩ : Shape).ShapeCasts ⟨2, ![1, N]⟩) (hb : (⟨2, ![1, N]⟩ : Shape).Broadcasts ⟨2, ![M, N]⟩)
    (r : Fin M) (n : Fin N) :
    broadcastTo ⟨2, ![M, N]⟩ (shapeCast ⟨2, ![1, N]⟩ x hc) hb (ix2 r n)
      = x (ix5 (0 : Fin 1) (0 : Fin 1) (0 : Fin 1) (0 : Fin 1) n) := by
  refine (ValueIdx.broadcastTo_1b_ab_apply _ _ r n).trans ?_
  refine shapeCast_apply x hc _ _ ?_
  rewrite [Shape.rowMajor_val_five, Shape.rowMajor_val_two]
  show (((0 * 1 + 0) * 1 + 0) * 1 + 0) * N + n.val = 0 * N + n.val
  simp only [Nat.zero_mul, Nat.add_zero]

/-- One row of a bias spread over a tile's rows, at one entry. -/
theorem bias_row {α : Type} {M N : ℕ} (x : (⟨3, ![1, 1, N]⟩ : Shape).Idx → α)
    (hc : (⟨3, ![1, 1, N]⟩ : Shape).ShapeCasts ⟨2, ![1, N]⟩) (hb : (⟨2, ![1, N]⟩ : Shape).Broadcasts ⟨2, ![M, N]⟩)
    (r : Fin M) (n : Fin N) :
    broadcastTo ⟨2, ![M, N]⟩ (shapeCast ⟨2, ![1, N]⟩ x hc) hb (ix2 r n) = x (ix3 (0 : Fin 1) (0 : Fin 1) n) := by
  refine (ValueIdx.broadcastTo_1b_ab_apply _ _ r n).trans ?_
  refine shapeCast_apply x hc _ _ ?_
  rewrite [Shape.rowMajor_val_three, Shape.rowMajor_val_two]
  show (0 * 1 + 0) * N + n.val = 0 * N + n.val
  simp only [Nat.zero_mul, Nat.add_zero]

end Cert.Shared

end
-- ==== Proof.DownValue.lean ====
/-
  The down projection with its gated residual (`mm_resid`) at the extended reals: what one block of it computes, what
  its result array ends holding, and that the reference computes the same.
-/
module

public import proofs.«01_k».proof.Defs
public import proofs.«01_k».proof.Proof.Gen.Down.Frame
public import proofs.«01_k».proof.Proof.Gen.DownIdeal.Value
public import proofs.«01_k».proof.Proof.Gen.DownReferenceIdeal.Read
public import proofs.«01_k».proof.Proof.Words
public import proofs.«01_k».proof.Proof.Streams
public import Idealize.ShloMosaic.Lib.Pipeline.Value
public import Idealize.ShloMosaic.Lib.Pipeline.ValueKit
public import Idealize.ShloMosaic.Lib.Pipeline.Covers
public import Idealize.ShloMosaic.Lib.ValueIdx
public import Idealize.ShloMosaic.Lib.ValueLayout
public import Idealize.ShloMosaic.Lib.Quiescent
public import Idealize.ShloMosaic.Lib.MatmulPlain
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)
open scoped BigOperators

namespace Cert.DownIdeal.Hand

open Cert.DownIdeal Cert.DownIdeal.Gen

/-- The residual plus the gated product, entry by entry. -/
def down (g : FVec Ideal S24576x11008 .bf16) (w : FVec Ideal S2x11008x4096 .bf16) (y : FVec Ideal S24576x4096 .f32)
    (mods : FVec Ideal S4x8x6x1x4096 .f32) : FVec Ideal S24576x4096 .f32 :=
  fun i => y i + mods (ix5 (0 : Fin 4) (Cert.Shared.stream (i 0)) (5 : Fin 6) (0 : Fin 1) (i 1))
    * ∑ k : Fin 11008, g (ix2 (i 0) k) * w (ix3 (0 : Fin 2) k (i 1))

/-- What the body stores, read at one entry of the block. -/
theorem pay_apply (x0 : Vec Ideal S512x11008 .bf16) (x1 : Vec Ideal S1x11008x512 .bf16) (x2 : Vec Ideal S512x512 .f32)
    (x3 : Vec Ideal S1x1x1x1x512 .f32) (r n : Fin 512) :
    (k0_pay1 x0 x1 x2 x3 (ix2 r n) : EReal)
      = x2 (ix2 r n) + x3 (ix5 (0 : Fin 1) (0 : Fin 1) (0 : Fin 1) (0 : Fin 1) n)
          * ∑ k : Fin 11008, x0 (ix2 r k) * x1 (ix3 (0 : Fin 1) k n) := by
  have hm : (matmul (F := Ideal) (φ₁ := .bf16) dot_S512x11008_S11008x512_S512x512_1_0_0_1_n_n none x0
          (shapeCast S11008x512 x1 shapeCasts_S1x11008x512_S11008x512 : FVec Ideal S11008x512 .bf16)
          (constant S512x512 .f32 0x00000000#32) : FVec Ideal S512x512 .f32) (ix2 r n)
        = ∑ k : Fin 11008, x0 (ix2 r k) * x1 (ix3 (0 : Fin 1) k n) := by
    refine (Cert.Shared.plain_zero (M := 512) (K := 11008) (N := 512) x0 _ r n).trans ?_
    exact Finset.sum_congr rfl fun k _ => congrArg (fun z : EReal => x0 (ix2 r k) * z) (Cert.Shared.drop_lead x1 _ k n)
  have hg := Cert.Shared.gate_row x3 shapeCasts_S1x1x1x1x512_S1x512 broadcasts_S1x512_S512x512 r n
  have e : ∀ y, (k0_pay1 x0 x1 x2 x3 y : EReal) = _ := fun y => by
    unfold k0_pay1
    rw [ValueIdx.addf_apply, ValueIdx.mulf_apply]
  rw [e, hm]
  exact congrArg (fun z : EReal => x2 (ix2 r n) + z * _) hg

variable (m : (ℓ : Loc nD τ sig) → Buf (Elt Ideal) ℓ)

/-- The call's result at device `c`'s argument arrays. -/
abbrev result (c : Dev nD) : Buf (Elt Ideal) ((c : Thread nD τ).loc main_v0) :=
  down (m ((c : Thread nD τ).loc main_arg0)) (m ((c : Thread nD τ).loc main_arg1)) (m ((c : Thread nD τ).loc main_arg2))
    (m ((c : Thread nD τ).loc main_arg3))

/-- Point `t` reads row tile `t / 8`. -/
theorem index_0 : ∀ t : Fin grid0.N, win0_0.index t = ![t.val / 8, 0] := by decide +kernel
/-- Point `t` reads column tile `t % 8` of layer 0's weights. -/
theorem index_1 : ∀ t : Fin grid0.N, win0_1.index t = ![0, 0, t.val % 8] := by decide +kernel
/-- Point `t` reads tile (`t / 8`, `t % 8`) of the residual. -/
theorem index_2 : ∀ t : Fin grid0.N, win0_2.index t = ![t.val / 8, t.val % 8] := by decide +kernel
/-- Point `t` reads column tile `t % 8` of the gate of its rows' stream. -/
theorem index_3 : ∀ t : Fin grid0.N, win0_3.index t = ![0, (t.val / 8 - 8) / 8, 5, 0, t.val % 8] := by decide +kernel
/-- Point `t` writes tile (`t / 8`, `t % 8`) of the result. -/
theorem index_4 : ∀ t : Fin grid0.N, win0_4.index t = ![t.val / 8, t.val % 8] := by decide +kernel

/-- The result array after the run: each point writes its tile of it, and the tiles cover it. -/
theorem final (c : Dev nD) : (dats m 0 c).arrAt 4 cfg0.N = result m c := by
  refine (dats m 0 c).arrAt_eq_of_covers 4 _ (by decide +kernel) fun t hf y => ?_
  blk_simp
  rw [after0_4]
  frame_out
  obtain ⟨r, n, rfl⟩ : ∃ (r : Fin 512) (n : Fin 512), y = ix2 r n := ⟨y 0, y 1, eq_ix2 y⟩
  rw [pay_apply]
  unfold result down Cert.Shared.stream
  blk_point [iblk, V, index_0 t, index_1 t, index_2 t, index_3 t, index_4 t]

variable (ρ : Dev nD → PrngReg)

/-- The kernel's run, read: the result array at the gated residual, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1).trans (final m c), (h c).2⟩) (Value.run_blocks m ρ)

end Cert.DownIdeal.Hand

namespace Cert.DownReferenceIdeal.Hand

open Cert.DownReferenceIdeal Cert.DownReferenceIdeal.Gen Cert.DownReferenceIdeal.Read
open Cert.Shared (stream low high behind stream_low stream_high rejoin)

variable (x0 : FVec Ideal S24576x11008 .bf16) (x1 : FVec Ideal S2x11008x4096 .bf16) (x2 : FVec Ideal S24576x4096 .f32)
  (x3 : FVec Ideal S4x8x6x1x4096 .f32)

/-- The reference's product at an entry. -/
theorem product_apply (i : S24576x4096.Idx) :
    (val_main_v4 (F := Ideal) x0 x1 i : EReal) = ∑ k : Fin 11008, x0 (ix2 (i 0) k) * x1 (ix3 (0 : Fin 2) k (i 1)) := by
  rw [val_main_v4_apply]
  refine Finset.sum_congr rfl fun k _ => ?_
  rw [val_main_v0_apply, val_main_v3_apply, val_main_v2_apply, val_main_v1_apply]
  have e0 : lidx_main_v4 i k = ix2 (i 0) k := by idx_ext
  have e1 : idx_main_v1 (idx_main_v2 (ridx_main_v4 i k)) = ix3 (0 : Fin 2) k (i 1) := by idx_ext
  exact congrArg₂ (fun a b : EReal => a * b) (congrArg x0 e0) (congrArg x1 e1)

/-- The reference's result, entry by entry: the context rows and the latent rows have their own gates. -/
theorem val_eq : val_main_v23 (F := Ideal) x0 x1 x2 x3 = Cert.DownIdeal.Hand.down x0 x1 x2 x3 := by
  unfold val_main_v23
  refine rejoin _ _ _ concatenates_S8192x4096_S16384x4096_S24576x4096_d0 (fun r d => ?_) (fun b q d => ?_)
  · rw [val_main_v13_apply, val_main_v12_apply, val_main_v9_apply, val_main_v11_apply, val_main_v10_apply, val_main_v7_apply,
      val_main_v6_apply, val_main_v5_apply, product_apply]
    have ey : idx_main_v9 (ix2 r d) = ix2 (low r) d := by unfold low; idx_ext
    have ef : idx_main_v10 (ix2 r d) = ix2 (low r) d := by unfold low; idx_ext
    have em : idx_main_v5 (idx_main_v6 (idx_main_v7 (idx_main_v11 (ix2 r d))))
        = ix5 (0 : Fin 4) (stream (low r)) (5 : Fin 6) (0 : Fin 1) d := by
      rw [stream_low]; idx_ext
    rw [ey, ef, em]
    rfl
  · rw [val_main_v22_apply]
    have e0 : idx_main_v22 (ix2 (behind b q) d) = ix3 b q d :=
      funext fun a => Fin.ext (match a with
        | ⟨0, _⟩ => by show ((b.val * 4096 + q.val) * 4096 + d.val) / 16777216 = b.val; omega
        | ⟨1, _⟩ => by show ((b.val * 4096 + q.val) * 4096 + d.val) / 4096 % 4096 = q.val; omega
        | ⟨2, _⟩ => by show ((b.val * 4096 + q.val) * 4096 + d.val) % 4096 = d.val; omega)
    rw [e0, val_main_v21_apply, val_main_v20_apply, val_main_v17_apply, val_main_v16_apply, val_main_v19_apply, val_main_v18_apply,
      val_main_v15_apply, val_main_v14_apply, val_main_v8_apply, val_main_v6_apply, val_main_v5_apply, product_apply]
    have ey : idx_main_v16 (idx_main_v17 (ix3 b q d)) = ix2 (high b q) d := by unfold high; idx_ext
    have ef : idx_main_v14 (idx_main_v15 (ix3 b q d)) = ix2 (high b q) d := by unfold high; idx_ext
    have em : idx_main_v5 (idx_main_v6 (idx_main_v8 (idx_main_v18 (idx_main_v19 (ix3 b q d)))))
        = ix5 (0 : Fin 4) (stream (high b q)) (5 : Fin 6) (0 : Fin 1) d := by
      rw [stream_high]; idx_ext
    rw [ey, ef, em]
    rfl

variable (m : (ℓ : Loc nD τ sig) → Buf (Elt Ideal) ℓ) (ρ : Dev nD → PrngReg)

/-- The reference's run, read: the result array at the gated residual, the arguments unchanged. -/
theorem run : θ_run defs (onTc (τ := τ) (main (F := Ideal))) ⟨m, fun _ => 0, ρ⟩ fun r => ∀ c : Dev nD,
      r.2.mem ((c.tc : Thread nD τ).loc main_v23) = Cert.DownIdeal.Hand.down (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1).trans ((val_main_v23_eq _ _ _ _).trans (val_eq _ _ _ _)), (h c).2⟩)
    (Value.run (F := Ideal) m ρ)

end Cert.DownReferenceIdeal.Hand

/-! ## The claims -/

namespace Cert.Proof.DownClaims

/-- The kernel's program terminates and leaves its arguments alone, and the machine ends quiescent. -/
theorem frame_kernel : Cert.quiescent_Down := fun m ρ _ => Cert.Down.Gen.frame m ρ
/-- Its idealization likewise. -/
theorem frame_ideal : Cert.quiescent_DownIdeal := fun m ρ _ => Cert.DownIdeal.Gen.frame m ρ
/-- The reference's program likewise: it is host operations only and declares no semaphore. -/
theorem frame_reference : Cert.quiescent_DownReferenceIdeal := fun m ρ _ =>
  (θ_run Cert.DownReferenceIdeal.defs _ _).mono (fun r h => ⟨fun c => (h c).2, Idealize.ShloMosaic.sem_eq_zero_of_no_sems (by decide) r.2⟩)
    (Cert.DownReferenceIdeal.Value.run (F := Ideal) m ρ)

/-- At the extended reals the kernel and the reference compute the same array. -/
theorem algebraic : Cert.algebraic_DownIdeal_DownReferenceIdeal := by
  intro m ρ m' ρ' _ hagree
  refine ⟨fun c => Cert.DownIdeal.Hand.result m c, Cert.DownIdeal.Hand.run m ρ, ?_⟩
  refine (θ_run Cert.DownReferenceIdeal.defs _ _).mono (fun _ h c => ⟨(h c).1.trans ?_, (h c).2⟩) (Cert.DownReferenceIdeal.Hand.run m' ρ')
  rw [(hagree c).1, (hagree c).2.1, (hagree c).2.2.1, (hagree c).2.2.2]

end Cert.Proof.DownClaims

end
-- ==== Proof.OutValue.lean ====
/-
  The output product of the attention with its gated residual (`kernel_out`) at the extended reals: what one block of it
  computes, what its result array ends holding, and that the reference computes the same.
-/
module

public import proofs.«01_k».proof.Defs
public import proofs.«01_k».proof.Proof.Gen.Out.Frame
public import proofs.«01_k».proof.Proof.Gen.OutIdeal.Value
public import proofs.«01_k».proof.Proof.Gen.OutReferenceIdeal.Read
public import proofs.«01_k».proof.Proof.Words
public import proofs.«01_k».proof.Proof.Streams
public import Idealize.ShloMosaic.Lib.Pipeline.Value
public import Idealize.ShloMosaic.Lib.Pipeline.ValueKit
public import Idealize.ShloMosaic.Lib.Pipeline.Covers
public import Idealize.ShloMosaic.Lib.ValueIdx
public import Idealize.ShloMosaic.Lib.ValueLayout
public import Idealize.ShloMosaic.Lib.Quiescent
public import Idealize.ShloMosaic.Lib.MatmulPlain
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)
open scoped BigOperators

namespace Cert.OutIdeal.Hand

open Cert.OutIdeal Cert.OutIdeal.Gen

/-- The residual plus the gated product, entry by entry. -/
def out (a : FVec Ideal S24576x4096 .bf16) (w : FVec Ideal S2x4096x4096 .bf16) (y : FVec Ideal S24576x4096 .f32)
    (mods : FVec Ideal S4x8x6x1x4096 .f32) : FVec Ideal S24576x4096 .f32 :=
  fun i => y i + mods (ix5 (3 : Fin 4) (Cert.Shared.stream (i 0)) (2 : Fin 6) (0 : Fin 1) (i 1))
    * ∑ k : Fin 4096, a (ix2 (i 0) k) * w (ix3 (1 : Fin 2) k (i 1))

/-- What the body stores, read at one entry of the block. -/
theorem pay_apply (x0 : Vec Ideal S1024x4096 .bf16) (x1 : Vec Ideal S1x4096x512 .bf16) (x2 : Vec Ideal S1024x512 .f32)
    (x3 : Vec Ideal S1x1x1x1x512 .f32) (r : Fin 1024) (n : Fin 512) :
    (k0_pay1 x0 x1 x2 x3 (ix2 r n) : EReal)
      = x2 (ix2 r n) + x3 (ix5 (0 : Fin 1) (0 : Fin 1) (0 : Fin 1) (0 : Fin 1) n)
          * ∑ k : Fin 4096, x0 (ix2 r k) * x1 (ix3 (0 : Fin 1) k n) := by
  have hm : (matmul (F := Ideal) (φ₁ := .bf16) dot_S1024x4096_S4096x512_S1024x512_1_0_0_1_n_n none x0
          (shapeCast S4096x512 x1 shapeCasts_S1x4096x512_S4096x512 : FVec Ideal S4096x512 .bf16)
          (constant S1024x512 .f32 0x00000000#32) : FVec Ideal S1024x512 .f32) (ix2 r n)
        = ∑ k : Fin 4096, x0 (ix2 r k) * x1 (ix3 (0 : Fin 1) k n) := by
    refine (Cert.Shared.plain_zero (M := 1024) (K := 4096) (N := 512) x0 _ r n).trans ?_
    exact Finset.sum_congr rfl fun k _ => congrArg (fun z : EReal => x0 (ix2 r k) * z) (Cert.Shared.drop_lead x1 _ k n)
  have hg := Cert.Shared.gate_row x3 shapeCasts_S1x1x1x1x512_S1x512 broadcasts_S1x512_S1024x512 r n
  have e : ∀ y, (k0_pay1 x0 x1 x2 x3 y : EReal) = _ := fun y => by
    unfold k0_pay1
    rw [ValueIdx.addf_apply, ValueIdx.mulf_apply]
  rw [e, hm]
  exact congrArg (fun z : EReal => x2 (ix2 r n) + z * _) hg

variable (m : (ℓ : Loc nD τ sig) → Buf (Elt Ideal) ℓ)

/-- The call's result at device `c`'s argument arrays. -/
abbrev result (c : Dev nD) : Buf (Elt Ideal) ((c : Thread nD τ).loc main_v0) :=
  out (m ((c : Thread nD τ).loc main_arg0)) (m ((c : Thread nD τ).loc main_arg1)) (m ((c : Thread nD τ).loc main_arg2))
    (m ((c : Thread nD τ).loc main_arg3))

/-- Point `t` reads row tile `t / 8`. -/
theorem index_0 : ∀ t : Fin grid0.N, win0_0.index t = ![t.val / 8, 0] := by decide +kernel
/-- Point `t` reads column tile `t % 8` of layer 1's weights. -/
theorem index_1 : ∀ t : Fin grid0.N, win0_1.index t = ![1, 0, t.val % 8] := by decide +kernel
/-- Point `t` reads tile (`t / 8`, `t % 8`) of the residual. -/
theorem index_2 : ∀ t : Fin grid0.N, win0_2.index t = ![t.val / 8, t.val % 8] := by decide +kernel
/-- Point `t` reads column tile `t % 8` of the gate of its rows' stream. -/
theorem index_3 : ∀ t : Fin grid0.N, win0_3.index t = ![3, (t.val / 8 - 4) / 4, 2, 0, t.val % 8] := by decide +kernel
/-- Point `t` writes tile (`t / 8`, `t % 8`) of the result. -/
theorem index_4 : ∀ t : Fin grid0.N, win0_4.index t = ![t.val / 8, t.val % 8] := by decide +kernel

/-- The result array after the run: each point writes its tile of it, and the tiles cover it. -/
theorem final (c : Dev nD) : (dats m 0 c).arrAt 4 cfg0.N = result m c := by
  refine (dats m 0 c).arrAt_eq_of_covers 4 _ (by decide +kernel) fun t hf y => ?_
  blk_simp
  rw [after0_4]
  frame_out
  obtain ⟨r, n, rfl⟩ : ∃ (r : Fin 1024) (n : Fin 512), y = ix2 r n := ⟨y 0, y 1, eq_ix2 y⟩
  rw [pay_apply]
  unfold result out Cert.Shared.stream
  blk_point [iblk, V, index_0 t, index_1 t, index_2 t, index_3 t, index_4 t]

variable (ρ : Dev nD → PrngReg)

/-- The kernel's run, read: the result array at the gated residual, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1).trans (final m c), (h c).2⟩) (Value.run_blocks m ρ)

end Cert.OutIdeal.Hand

namespace Cert.OutReferenceIdeal.Hand

open Cert.OutReferenceIdeal Cert.OutReferenceIdeal.Gen Cert.OutReferenceIdeal.Read
open Cert.Shared (stream low high behind stream_low stream_high rejoin)

variable (x0 : FVec Ideal S24576x4096 .bf16) (x1 : FVec Ideal S2x4096x4096 .bf16) (x2 : FVec Ideal S24576x4096 .f32)
  (x3 : FVec Ideal S4x8x6x1x4096 .f32)

/-- The reference's product at an entry. -/
theorem product_apply (i : S24576x4096.Idx) :
    (val_main_v4 (F := Ideal) x0 x1 i : EReal) = ∑ k : Fin 4096, x0 (ix2 (i 0) k) * x1 (ix3 (1 : Fin 2) k (i 1)) := by
  rw [val_main_v4_apply]
  refine Finset.sum_congr rfl fun k _ => ?_
  rw [val_main_v0_apply, val_main_v3_apply, val_main_v2_apply, val_main_v1_apply]
  have e0 : lidx_main_v4 i k = ix2 (i 0) k := by idx_ext
  have e1 : idx_main_v1 (idx_main_v2 (ridx_main_v4 i k)) = ix3 (1 : Fin 2) k (i 1) := by idx_ext
  exact congrArg₂ (fun a b : EReal => a * b) (congrArg x0 e0) (congrArg x1 e1)

/-- The reference's result, entry by entry: the context rows and the latent rows have their own gates. -/
theorem val_eq : val_main_v23 (F := Ideal) x0 x1 x2 x3 = Cert.OutIdeal.Hand.out x0 x1 x2 x3 := by
  unfold val_main_v23
  refine rejoin _ _ _ concatenates_S8192x4096_S16384x4096_S24576x4096_d0 (fun r d => ?_) (fun b q d => ?_)
  · rw [val_main_v13_apply, val_main_v12_apply, val_main_v9_apply, val_main_v11_apply, val_main_v10_apply, val_main_v7_apply,
      val_main_v6_apply, val_main_v5_apply, product_apply]
    have ey : idx_main_v9 (ix2 r d) = ix2 (low r) d := by unfold low; idx_ext
    have ef : idx_main_v10 (ix2 r d) = ix2 (low r) d := by unfold low; idx_ext
    have em : idx_main_v5 (idx_main_v6 (idx_main_v7 (idx_main_v11 (ix2 r d))))
        = ix5 (3 : Fin 4) (stream (low r)) (2 : Fin 6) (0 : Fin 1) d := by
      rw [stream_low]; idx_ext
    rw [ey, ef, em]
    rfl
  · rw [val_main_v22_apply]
    have e0 : idx_main_v22 (ix2 (behind b q) d) = ix3 b q d :=
      funext fun a => Fin.ext (match a with
        | ⟨0, _⟩ => by show ((b.val * 4096 + q.val) * 4096 + d.val) / 16777216 = b.val; omega
        | ⟨1, _⟩ => by show ((b.val * 4096 + q.val) * 4096 + d.val) / 4096 % 4096 = q.val; omega
        | ⟨2, _⟩ => by show ((b.val * 4096 + q.val) * 4096 + d.val) % 4096 = d.val; omega)
    rw [e0, val_main_v21_apply, val_main_v20_apply, val_main_v17_apply, val_main_v16_apply, val_main_v19_apply, val_main_v18_apply,
      val_main_v15_apply, val_main_v14_apply, val_main_v8_apply, val_main_v6_apply, val_main_v5_apply, product_apply]
    have ey : idx_main_v16 (idx_main_v17 (ix3 b q d)) = ix2 (high b q) d := by unfold high; idx_ext
    have ef : idx_main_v14 (idx_main_v15 (ix3 b q d)) = ix2 (high b q) d := by unfold high; idx_ext
    have em : idx_main_v5 (idx_main_v6 (idx_main_v8 (idx_main_v18 (idx_main_v19 (ix3 b q d)))))
        = ix5 (3 : Fin 4) (stream (high b q)) (2 : Fin 6) (0 : Fin 1) d := by
      rw [stream_high]; idx_ext
    rw [ey, ef, em]
    rfl

variable (m : (ℓ : Loc nD τ sig) → Buf (Elt Ideal) ℓ) (ρ : Dev nD → PrngReg)

/-- The reference's run, read: the result array at the gated residual, the arguments unchanged. -/
theorem run : θ_run defs (onTc (τ := τ) (main (F := Ideal))) ⟨m, fun _ => 0, ρ⟩ fun r => ∀ c : Dev nD,
      r.2.mem ((c.tc : Thread nD τ).loc main_v23) = Cert.OutIdeal.Hand.out (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1).trans ((val_main_v23_eq _ _ _ _).trans (val_eq _ _ _ _)), (h c).2⟩)
    (Value.run (F := Ideal) m ρ)

end Cert.OutReferenceIdeal.Hand

/-! ## The claims -/

namespace Cert.Proof.OutClaims

/-- The kernel's program terminates and leaves its arguments alone, and the machine ends quiescent. -/
theorem frame_kernel : Cert.quiescent_Out := fun m ρ _ => Cert.Out.Gen.frame m ρ
/-- Its idealization likewise. -/
theorem frame_ideal : Cert.quiescent_OutIdeal := fun m ρ _ => Cert.OutIdeal.Gen.frame m ρ
/-- The reference's program likewise: it is host operations only and declares no semaphore. -/
theorem frame_reference : Cert.quiescent_OutReferenceIdeal := fun m ρ _ =>
  (θ_run Cert.OutReferenceIdeal.defs _ _).mono (fun r h => ⟨fun c => (h c).2, Idealize.ShloMosaic.sem_eq_zero_of_no_sems (by decide) r.2⟩)
    (Cert.OutReferenceIdeal.Value.run (F := Ideal) m ρ)

/-- At the extended reals the kernel and the reference compute the same array. -/
theorem algebraic : Cert.algebraic_OutIdeal_OutReferenceIdeal := by
  intro m ρ m' ρ' _ hagree
  refine ⟨fun c => Cert.OutIdeal.Hand.result m c, Cert.OutIdeal.Hand.run m ρ, ?_⟩
  refine (θ_run Cert.OutReferenceIdeal.defs _ _).mono (fun _ h c => ⟨(h c).1.trans ?_, (h c).2⟩) (Cert.OutReferenceIdeal.Hand.run m' ρ')
  rw [(hagree c).1, (hagree c).2.1, (hagree c).2.2.1, (hagree c).2.2.2]

end Cert.Proof.OutClaims

end
-- ==== Proof.FirstValue.lean ====
/-
  The output product of the first attention layer (`kernel_first`) at the extended reals, where the residual comes in two
  arrays: what one block of it computes, what its result array ends holding, and that the reference computes the same.
-/
module

public import proofs.«01_k».proof.Defs
public import proofs.«01_k».proof.Proof.Gen.First.Frame
public import proofs.«01_k».proof.Proof.Gen.FirstIdeal.Value
public import proofs.«01_k».proof.Proof.Gen.FirstReferenceIdeal.Read
public import proofs.«01_k».proof.Proof.Words
public import proofs.«01_k».proof.Proof.Streams
public import Idealize.ShloMosaic.Lib.Pipeline.Value
public import Idealize.ShloMosaic.Lib.Pipeline.ValueKit
public import Idealize.ShloMosaic.Lib.Pipeline.Covers
public import Idealize.ShloMosaic.Lib.ValueIdx
public import Idealize.ShloMosaic.Lib.ValueLayout
public import Idealize.ShloMosaic.Lib.Quiescent
public import Idealize.ShloMosaic.Lib.MatmulPlain
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)
open scoped BigOperators

namespace Cert.FirstIdeal.Hand

open Cert.FirstIdeal Cert.FirstIdeal.Gen

/-- The context residual and the latent one as one array. -/
def joined (yp : FVec Ideal S8192x4096 .f32) (ys : FVec Ideal S16384x4096 .f32) (r : Fin 24576) (d : Fin 4096) : EReal :=
  if h : r.val < 8192 then yp (ix2 (⟨r.val, h⟩ : Fin 8192) d) else ys (ix2 (⟨r.val - 8192, by omega⟩ : Fin 16384) d)

/-- The residual plus the gated product, entry by entry. -/
def out (a : FVec Ideal S24576x4096 .bf16) (w : FVec Ideal S2x4096x4096 .bf16) (yp : FVec Ideal S8192x4096 .f32)
    (ys : FVec Ideal S16384x4096 .f32) (mods : FVec Ideal S4x8x6x1x4096 .f32) : FVec Ideal S24576x4096 .f32 :=
  fun i => joined yp ys (i 0) (i 1) + mods (ix5 (0 : Fin 4) (Cert.Shared.stream (i 0)) (2 : Fin 6) (0 : Fin 1) (i 1))
    * ∑ k : Fin 4096, a (ix2 (i 0) k) * w (ix3 (0 : Fin 2) k (i 1))

/-- Points before the 64th are those of context rows. -/
theorem early : ∀ t : Fin grid0.N, Scalar.cmpi .slt (BitVec.ofNat 32 (grid0.coords t 0).val) 8#32
    = if t.val < 64 then 1#1 else 0#1 := by decide +kernel

/-- What the body stores at point `t`, read at one entry of the block. -/
theorem pay_apply (t : Fin grid0.N) (x0 : Vec Ideal S1024x4096 .bf16) (x1 : Vec Ideal S1x4096x512 .bf16)
    (x2 x3 : Vec Ideal S1024x512 .f32) (x4 : Vec Ideal S1x1x1x1x512 .f32) (r : Fin 1024) (n : Fin 512) :
    (k0_pay1 (grid0.coords t) x0 x1 x2 x3 x4 (ix2 r n) : EReal)
      = (if t.val < 64 then x2 (ix2 r n) else x3 (ix2 r n)) + x4 (ix5 (0 : Fin 1) (0 : Fin 1) (0 : Fin 1) (0 : Fin 1) n)
          * ∑ k : Fin 4096, x0 (ix2 r k) * x1 (ix3 (0 : Fin 1) k n) := by
  have hm : (matmul (F := Ideal) (φ₁ := .bf16) dot_S1024x4096_S4096x512_S1024x512_1_0_0_1_n_n none x0
          (shapeCast S4096x512 x1 shapeCasts_S1x4096x512_S4096x512 : FVec Ideal S4096x512 .bf16)
          (constant S1024x512 .f32 0x00000000#32) : FVec Ideal S1024x512 .f32) (ix2 r n)
        = ∑ k : Fin 4096, x0 (ix2 r k) * x1 (ix3 (0 : Fin 1) k n) := by
    refine (Cert.Shared.plain_zero (M := 1024) (K := 4096) (N := 512) x0 _ r n).trans ?_
    exact Finset.sum_congr rfl fun k _ => congrArg (fun z : EReal => x0 (ix2 r k) * z) (Cert.Shared.drop_lead x1 _ k n)
  have hg := Cert.Shared.gate_row x4 shapeCasts_S1x1x1x1x512_S1x512 broadcasts_S1x512_S1024x512 r n
  have hs : (Scalar.select (Scalar.cmpi .slt (BitVec.ofNat 32 (grid0.coords t 0).val) 8#32) x2 x3 : Vec Ideal S1024x512 .f32) (ix2 r n)
      = if t.val < 64 then x2 (ix2 r n) else x3 (ix2 r n) := by
    rw [early t]
    split <;> rfl
  have e : ∀ y, (k0_pay1 (grid0.coords t) x0 x1 x2 x3 x4 y : EReal) = _ := fun y => by
    unfold k0_pay1
    rw [ValueIdx.addf_apply, ValueIdx.mulf_apply]
  rw [e, hm]
  exact congrArg₂ (fun y z : EReal => y + z * ∑ k : Fin 4096, x0 (ix2 r k) * x1 (ix3 (0 : Fin 1) k n)) hs hg

variable (m : (ℓ : Loc nD τ sig) → Buf (Elt Ideal) ℓ)

/-- The call's result at device `c`'s argument arrays. -/
abbrev result (c : Dev nD) : Buf (Elt Ideal) ((c : Thread nD τ).loc main_v0) :=
  out (m ((c : Thread nD τ).loc main_arg0)) (m ((c : Thread nD τ).loc main_arg1)) (m ((c : Thread nD τ).loc main_arg2))
    (m ((c : Thread nD τ).loc main_arg3)) (m ((c : Thread nD τ).loc main_arg4))

/-- Point `t` reads row tile `t / 8`. -/
theorem index_0 : ∀ t : Fin grid0.N, win0_0.index t = ![t.val / 8, 0] := by decide +kernel
/-- Point `t` reads column tile `t % 8` of the first layer's weights. -/
theorem index_1 : ∀ t : Fin grid0.N, win0_1.index t = ![0, 0, t.val % 8] := by decide +kernel
/-- Point `t` reads tile (`t / 8`, `t % 8`) of the context residual, the last row of tiles after the context rows. -/
theorem index_2 : ∀ t : Fin grid0.N, win0_2.index t = ![min (t.val / 8) 7, t.val % 8] := by decide +kernel
/-- Point `t` reads tile (`t / 8 - 8`, `t % 8`) of the latent residual, the first row of tiles before the latent rows. -/
theorem index_3 : ∀ t : Fin grid0.N, win0_3.index t = ![t.val / 8 - 8, t.val % 8] := by decide +kernel
/-- Point `t` reads column tile `t % 8` of the gate of its rows' stream. -/
theorem index_4 : ∀ t : Fin grid0.N, win0_4.index t = ![0, (t.val / 8 - 4) / 4, 2, 0, t.val % 8] := by decide +kernel
/-- Point `t` writes tile (`t / 8`, `t % 8`) of the result. -/
theorem index_5 : ∀ t : Fin grid0.N, win0_5.index t = ![t.val / 8, t.val % 8] := by decide +kernel

/-- The result array after the run: each point writes its tile of it, and the tiles cover it. -/
theorem final (c : Dev nD) : (dats m 0 c).arrAt 5 cfg0.N = result m c := by
  refine (dats m 0 c).arrAt_eq_of_covers 5 _ (by decide +kernel) fun t hf y => ?_
  blk_simp
  rw [after0_5]
  frame_out
  obtain ⟨r, n, rfl⟩ : ∃ (r : Fin 1024) (n : Fin 512), y = ix2 r n := ⟨y 0, y 1, eq_ix2 y⟩
  rw [pay_apply]
  unfold result out joined Cert.Shared.stream
  by_cases ht : t.val < 64
  · rw [if_pos ht, dif_pos]
    blk_point [iblk, V, index_0 t, index_1 t, index_2 t, index_3 t, index_4 t, index_5 t]
    have hr := r.isLt
    blk_simp [index_5 t]
    omega
  · rw [if_neg ht, dif_neg]
    blk_point [iblk, V, index_0 t, index_1 t, index_2 t, index_3 t, index_4 t, index_5 t]
    have hr := r.isLt
    blk_simp [index_5 t]
    omega

variable (ρ : Dev nD → PrngReg)

/-- The kernel's run, read: the result array at the gated residual, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1).trans (final m c), (h c).2⟩) (Value.run_blocks m ρ)

end Cert.FirstIdeal.Hand

namespace Cert.FirstReferenceIdeal.Hand

open Cert.FirstReferenceIdeal Cert.FirstReferenceIdeal.Gen Cert.FirstReferenceIdeal.Read
open Cert.Shared (stream low high behind stream_low stream_high rejoin)

variable (x0 : FVec Ideal S24576x4096 .bf16) (x1 : FVec Ideal S2x4096x4096 .bf16) (x2 : FVec Ideal S8192x4096 .f32)
  (x3 : FVec Ideal S16384x4096 .f32) (x4 : FVec Ideal S4x8x6x1x4096 .f32)

/-- The reference's product at an entry. -/
theorem product_apply (i : S24576x4096.Idx) :
    (val_main_v4 (F := Ideal) x0 x1 i : EReal) = ∑ k : Fin 4096, x0 (ix2 (i 0) k) * x1 (ix3 (0 : Fin 2) k (i 1)) := by
  rw [val_main_v4_apply]
  refine Finset.sum_congr rfl fun k _ => ?_
  rw [val_main_v0_apply, val_main_v3_apply, val_main_v2_apply, val_main_v1_apply]
  have e0 : lidx_main_v4 i k = ix2 (i 0) k := by idx_ext
  have e1 : idx_main_v1 (idx_main_v2 (ridx_main_v4 i k)) = ix3 (0 : Fin 2) k (i 1) := by idx_ext
  exact congrArg₂ (fun a b : EReal => a * b) (congrArg x0 e0) (congrArg x1 e1)

/-- The reference's result, entry by entry: the context rows and the latent rows have their own gates. -/
theorem val_eq : val_main_v21 (F := Ideal) x0 x1 x2 x3 x4 = Cert.FirstIdeal.Hand.out x0 x1 x2 x3 x4 := by
  unfold val_main_v21
  refine rejoin _ _ _ concatenates_S8192x4096_S16384x4096_S24576x4096_d0 (fun r d => ?_) (fun b q d => ?_)
  · rw [val_main_v12_apply, val_main_v11_apply, val_main_v10_apply, val_main_v9_apply, val_main_v7_apply,
      val_main_v6_apply, val_main_v5_apply, product_apply]
    have ef : idx_main_v9 (ix2 r d) = ix2 (low r) d := by unfold low; idx_ext
    have em : idx_main_v5 (idx_main_v6 (idx_main_v7 (idx_main_v10 (ix2 r d))))
        = ix5 (0 : Fin 4) (stream (low r)) (2 : Fin 6) (0 : Fin 1) d := by
      rw [stream_low]; idx_ext
    have ey : Cert.FirstIdeal.Hand.joined x2 x3 (low r) d = x2 (ix2 r d) := dif_pos r.isLt
    rw [ef, em, ← ey]
    rfl
  · rw [val_main_v20_apply]
    have e0 : idx_main_v20 (ix2 (behind b q) d) = ix3 b q d :=
      funext fun a => Fin.ext (match a with
        | ⟨0, _⟩ => by show ((b.val * 4096 + q.val) * 4096 + d.val) / 16777216 = b.val; omega
        | ⟨1, _⟩ => by show ((b.val * 4096 + q.val) * 4096 + d.val) / 4096 % 4096 = q.val; omega
        | ⟨2, _⟩ => by show ((b.val * 4096 + q.val) * 4096 + d.val) % 4096 = d.val; omega)
    rw [e0, val_main_v19_apply, val_main_v18_apply, val_main_v15_apply, val_main_v17_apply, val_main_v16_apply,
      val_main_v14_apply, val_main_v13_apply, val_main_v8_apply, val_main_v6_apply, val_main_v5_apply, product_apply]
    have ef : idx_main_v13 (idx_main_v14 (ix3 b q d)) = ix2 (high b q) d := by unfold high; idx_ext
    have ey : x3 (idx_main_v15 (ix3 b q d)) = Cert.FirstIdeal.Hand.joined x2 x3 (high b q) d := by
      have hh : ¬ (high b q).val < 8192 := by show ¬ 8192 + b.val * 4096 + q.val < 8192; omega
      refine Eq.trans ?_ (dif_neg hh).symm
      exact congrArg x3 (funext fun a => Fin.ext (match a with
        | ⟨0, _⟩ => by
          show ((b.val * 4096 + q.val) * 4096 + d.val) / 4096 = 8192 + b.val * 4096 + q.val - 8192; omega
        | ⟨1, _⟩ => by show ((b.val * 4096 + q.val) * 4096 + d.val) % 4096 = d.val; omega))
    have em : idx_main_v5 (idx_main_v6 (idx_main_v8 (idx_main_v16 (idx_main_v17 (ix3 b q d)))))
        = ix5 (0 : Fin 4) (stream (high b q)) (2 : Fin 6) (0 : Fin 1) d := by
      rw [stream_high]; idx_ext
    rw [ef, em, ey]
    rfl

variable (m : (ℓ : Loc nD τ sig) → Buf (Elt Ideal) ℓ) (ρ : Dev nD → PrngReg)

/-- The reference's run, read: the result array at the gated residual, the arguments unchanged. -/
theorem run : θ_run defs (onTc (τ := τ) (main (F := Ideal))) ⟨m, fun _ => 0, ρ⟩ fun r => ∀ c : Dev nD,
      r.2.mem ((c.tc : Thread nD τ).loc main_v21) = Cert.FirstIdeal.Hand.out (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1).trans ((val_main_v21_eq _ _ _ _ _).trans (val_eq _ _ _ _ _)), (h c).2⟩)
    (Value.run (F := Ideal) m ρ)

end Cert.FirstReferenceIdeal.Hand

/-! ## The claims -/

namespace Cert.Proof.FirstClaims

/-- The kernel's program terminates and leaves its arguments alone, and the machine ends quiescent. -/
theorem frame_kernel : Cert.quiescent_First := fun m ρ _ => Cert.First.Gen.frame m ρ
/-- Its idealization likewise. -/
theorem frame_ideal : Cert.quiescent_FirstIdeal := fun m ρ _ => Cert.FirstIdeal.Gen.frame m ρ
/-- The reference's program likewise: it is host operations only and declares no semaphore. -/
theorem frame_reference : Cert.quiescent_FirstReferenceIdeal := fun m ρ _ =>
  (θ_run Cert.FirstReferenceIdeal.defs _ _).mono (fun r h => ⟨fun c => (h c).2, Idealize.ShloMosaic.sem_eq_zero_of_no_sems (by decide) r.2⟩)
    (Cert.FirstReferenceIdeal.Value.run (F := Ideal) m ρ)

/-- At the extended reals the kernel and the reference compute the same array. -/
theorem algebraic : Cert.algebraic_FirstIdeal_FirstReferenceIdeal := by
  intro m ρ m' ρ' _ hagree
  refine ⟨fun c => Cert.FirstIdeal.Hand.result m c, Cert.FirstIdeal.Hand.run m ρ, ?_⟩
  refine (θ_run Cert.FirstReferenceIdeal.defs _ _).mono (fun _ h c => ⟨(h c).1.trans ?_, (h c).2⟩) (Cert.FirstReferenceIdeal.Hand.run m' ρ')
  rw [(hagree c).1, (hagree c).2.1, (hagree c).2.2.1, (hagree c).2.2.2.1, (hagree c).2.2.2.2]

end Cert.Proof.FirstClaims

end
-- ==== Proof.ValValue.lean ====
/-
  The value projection (`kernel_val`) at the extended reals: what one block of it computes, what its two result arrays end
  holding, and that the reference computes the same.
-/
module

public import proofs.«01_k».proof.Defs
public import proofs.«01_k».proof.Proof.Gen.Val.Frame
public import proofs.«01_k».proof.Proof.Gen.ValIdeal.Value
public import proofs.«01_k».proof.Proof.Gen.ValReferenceIdeal.Read
public import proofs.«01_k».proof.Proof.Words
public import Idealize.ShloMosaic.Lib.Pipeline.Value
public import Idealize.ShloMosaic.Lib.Pipeline.ValueKit
public import Idealize.ShloMosaic.Lib.Pipeline.Covers
public import Idealize.ShloMosaic.Lib.ValueIdx
public import Idealize.ShloMosaic.Lib.ValueLayout
public import Idealize.ShloMosaic.Lib.Quiescent
public import Idealize.ShloMosaic.Lib.MatmulPlain
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)
open scoped BigOperators

namespace Cert.ValIdeal.Hand

open Cert.ValIdeal Cert.ValIdeal.Gen

/-- The product of the rows with layer 0 of the weights, entry by entry. Its two types hold the same numbers. -/
def value {φ : FTy} (h : FVec Ideal S24576x4096 .bf16) (w : FVec Ideal S2x4096x1024 .bf16) : FVec Ideal S24576x1024 φ :=
  fun i => (∑ k : Fin 4096, h (ix2 (i 0) k) * w (ix3 (0 : Fin 2) k (i 1)) : EReal)

/-- What the body stores in the wide type, read at one entry of the block. -/
theorem pay1_apply (x0 : Vec Ideal S1024x4096 .bf16) (x1 : Vec Ideal S1x4096x1024 .bf16) (r n : Fin 1024) :
    (k0_pay1 x0 x1 (ix2 r n) : EReal) = ∑ k : Fin 4096, x0 (ix2 r k) * x1 (ix3 (0 : Fin 1) k n) := by
  unfold k0_pay1
  refine (Cert.Shared.plain_zero (M := 1024) (K := 4096) (N := 1024) x0 _ r n).trans ?_
  exact Finset.sum_congr rfl fun k _ => congrArg (fun z : EReal => x0 (ix2 r k) * z) (Cert.Shared.drop_lead x1 _ k n)

/-- What the body stores in the narrow type: the same number. -/
theorem pay2_apply (x0 : Vec Ideal S1024x4096 .bf16) (x1 : Vec Ideal S1x4096x1024 .bf16) (r n : Fin 1024) :
    (k0_pay2 x0 x1 (ix2 r n) : EReal) = ∑ k : Fin 4096, x0 (ix2 r k) * x1 (ix3 (0 : Fin 1) k n) := by
  unfold k0_pay2
  rw [ValueIdx.truncf_apply]
  exact pay1_apply x0 x1 r n

variable (m : (ℓ : Loc nD τ sig) → Buf (Elt Ideal) ℓ)

/-- The call's narrow result at device `c`'s argument arrays. -/
abbrev result0 (c : Dev nD) : Buf (Elt Ideal) ((c : Thread nD τ).loc main_v0_0) :=
  value (φ := .bf16) (m ((c : Thread nD τ).loc main_arg0)) (m ((c : Thread nD τ).loc main_arg1))
/-- The call's wide result at device `c`'s argument arrays. -/
abbrev result1 (c : Dev nD) : Buf (Elt Ideal) ((c : Thread nD τ).loc main_v0_1) :=
  value (φ := .f32) (m ((c : Thread nD τ).loc main_arg0)) (m ((c : Thread nD τ).loc main_arg1))

/-- Point `t` reads row tile `t`. -/
theorem index_0 : ∀ t : Fin grid0.N, win0_0.index t = ![t.val, 0] := by decide +kernel
/-- Every point reads the whole of layer 0's weights. -/
theorem index_1 : ∀ t : Fin grid0.N, win0_1.index t = ![0, 0, 0] := by decide +kernel
/-- Point `t` writes row tile `t` of the narrow result. -/
theorem index_2 : ∀ t : Fin grid0.N, win0_2.index t = ![t.val, 0] := by decide +kernel
/-- Point `t` writes row tile `t` of the wide result. -/
theorem index_3 : ∀ t : Fin grid0.N, win0_3.index t = ![t.val, 0] := by decide +kernel

/-- The narrow result array after the run: each point writes its tile of it, and the tiles cover it. -/
theorem final0 (c : Dev nD) : (dats m 0 c).arrAt 2 cfg0.N = result0 m c := by
  refine (dats m 0 c).arrAt_eq_of_covers 2 _ (by decide +kernel) fun t hf y => ?_
  blk_simp
  rw [after0_2]
  frame_out
  obtain ⟨r, n, rfl⟩ : ∃ (r n : Fin 1024), y = ix2 r n := ⟨y 0, y 1, eq_ix2 y⟩
  rw [pay2_apply]
  unfold result0 value
  blk_point [iblk, V, index_0 t, index_1 t, index_2 t, index_3 t]

/-- The wide result array after the run, likewise. -/
theorem final1 (c : Dev nD) : (dats m 0 c).arrAt 3 cfg0.N = result1 m c := by
  refine (dats m 0 c).arrAt_eq_of_covers 3 _ (by decide +kernel) fun t hf y => ?_
  blk_simp
  rw [after0_3]
  frame_out
  obtain ⟨r, n, rfl⟩ : ∃ (r n : Fin 1024), y = ix2 r n := ⟨y 0, y 1, eq_ix2 y⟩
  rw [pay1_apply]
  unfold result1 value
  blk_point [iblk, V, index_0 t, index_1 t, index_2 t, index_3 t]

variable (ρ : Dev nD → PrngReg)

/-- The kernel's run, read: both result arrays at the product, the arguments unchanged. -/
theorem run : θ_run defs (onTc (τ := τ) (main (F := Ideal))) ⟨m, fun _ => 0, ρ⟩ fun r => ∀ c : Dev nD,
      r.2.mem ((c : Thread nD τ).loc main_v0_0) = result0 m c
      ∧ r.2.mem ((c : Thread nD τ).loc main_v0_1) = result1 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans (final0 m c), ((h c).2.1).trans (final1 m c), (h c).2.2⟩)
    (Value.run_blocks m ρ)

end Cert.ValIdeal.Hand

namespace Cert.ValReferenceIdeal.Hand

open Cert.ValReferenceIdeal Cert.ValReferenceIdeal.Gen Cert.ValReferenceIdeal.Read

variable (x0 : FVec Ideal S24576x4096 .bf16) (x1 : FVec Ideal S2x4096x1024 .bf16)

/-- The reference's product is the kernel's. -/
theorem val_eq : val_main_v4 (F := Ideal) x0 x1 = Cert.ValIdeal.Hand.value (φ := .f32) x0 x1 := by
  funext i
  rw [val_main_v4_apply]
  refine Finset.sum_congr rfl fun k _ => ?_
  rw [val_main_v0_apply, val_main_v3_apply, val_main_v2_apply, val_main_v1_apply]
  have e0 : lidx_main_v4 i k = ix2 (i 0) k := by idx_ext
  have e1 : idx_main_v1 (idx_main_v2 (ridx_main_v4 i k)) = ix3 (0 : Fin 2) k (i 1) := by idx_ext
  exact congrArg₂ (fun a b : EReal => a * b) (congrArg x0 e0) (congrArg x1 e1)

/-- So is its narrow copy. -/
theorem val_eq_narrow : val_main_v5 (F := Ideal) x0 x1 = Cert.ValIdeal.Hand.value (φ := .bf16) x0 x1 := by
  funext i
  rw [val_main_v5_apply, val_eq]
  rfl

variable (m : (ℓ : Loc nD τ sig) → Buf (Elt Ideal) ℓ) (ρ : Dev nD → PrngReg)

/-- The reference's run, read: both result arrays at the product, the arguments unchanged. -/
theorem run : θ_run defs (onTc (τ := τ) (main (F := Ideal))) ⟨m, fun _ => 0, ρ⟩ fun r => ∀ c : Dev nD,
      r.2.mem ((c.tc : Thread nD τ).loc main_v5) = Cert.ValIdeal.Hand.value (φ := .bf16)
          (m ((c.tc : Thread nD τ).loc main_arg0)) (m ((c.tc : Thread nD τ).loc main_arg1))
      ∧ r.2.mem ((c.tc : Thread nD τ).loc main_v4) = Cert.ValIdeal.Hand.value (φ := .f32)
          (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1).trans ((val_main_v5_eq _ _).trans (val_eq_narrow _ _)),
      ((h c).2.1).trans ((val_main_v4_eq _ _).trans (val_eq _ _)), (h c).2.2⟩)
    (Value.run (F := Ideal) m ρ)

end Cert.ValReferenceIdeal.Hand

/-! ## The claims -/

namespace Cert.Proof.ValClaims

/-- The kernel's program terminates and leaves its arguments alone, and the machine ends quiescent. -/
theorem frame_kernel : Cert.quiescent_Val := fun m ρ _ => Cert.Val.Gen.frame m ρ
/-- Its idealization likewise. -/
theorem frame_ideal : Cert.quiescent_ValIdeal := fun m ρ _ => Cert.ValIdeal.Gen.frame m ρ
/-- The reference's program likewise: it is host operations only and declares no semaphore. -/
theorem frame_reference : Cert.quiescent_ValReferenceIdeal := fun m ρ _ =>
  (θ_run Cert.ValReferenceIdeal.defs _ _).mono (fun r h => ⟨fun c => (h c).2.2, Idealize.ShloMosaic.sem_eq_zero_of_no_sems (by decide) r.2⟩)
    (Cert.ValReferenceIdeal.Value.run (F := Ideal) m ρ)

/-- At the extended reals the kernel and the reference compute the same array. -/
theorem algebraic : Cert.algebraic_ValIdeal_ValReferenceIdeal := by
  intro m ρ m' ρ' _ hagree
  refine ⟨fun c => Cert.ValIdeal.Hand.result0 m c, fun c => Cert.ValIdeal.Hand.result1 m c, Cert.ValIdeal.Hand.run m ρ, ?_⟩
  refine (θ_run Cert.ValReferenceIdeal.defs _ _).mono (fun _ h c => ⟨(h c).1.trans ?_, (h c).2.1.trans ?_, (h c).2.2⟩)
    (Cert.ValReferenceIdeal.Hand.run m' ρ')
  all_goals rw [(hagree c).1, (hagree c).2]

end Cert.Proof.ValClaims

end
-- ==== Proof.Heads.lean ====
/-
  A query or key head of one token: its 128 lanes divided by their root mean square, scaled lane by lane, and rotated by a
  table of cosines and sines, where the rotation's partner of a lane is the lane 32 away in the same half of 64. What a
  tile of 1024 tokens of one head holds after each step, at the extended reals.
-/
module

public import Idealize.ShloMosaic.Lib.ValueIdx
public import Idealize.ShloMosaic.Lib.ValueLayout
public import Idealize.ShloMosaic.Lib.Pointwise
public import Idealize.ShloMosaic.Lib.KernelVsHost
public import Idealize.ShloMosaic.Lib.Pipeline.Value
public import Idealize.ShloMosaic.Lib.Pipeline.ValueKit
public import Idealize.ShloMosaic.Lib.Pipeline.ReadBack
public import Idealize.ShloMosaic.PureOps.Ideal.Laws
public import proofs.«01_k».proof.Proof.Words

@[expose] public section

set_option maxRecDepth 16384

noncomputable section

open Idealize.ShloMosaic
open scoped BigOperators

namespace Cert.Heads

/-- Lane `d` of a head `a` after the norm with gain `g`. -/
def normed (a g : Fin 128 → EReal) (d : Fin 128) : EReal :=
  a d * Ideal.rsqrt (Ideal.div (∑ e : Fin 128, a e * a e) (Ideal.ofBits .f32 0x43000000#32)
    + Ideal.ofBits .f32 0x358637BD#32) * g d

/-- The lane a lane is rotated with. -/
def partner (d : Fin 128) : Fin 128 := if d.val % 64 < 32 then ⟨(d.val + 32) % 128, by omega⟩ else ⟨d.val - 32, by omega⟩

/-- Lane `d` of a head after the norm and the rotation by the cosine `c` and the signed sine `s`. -/
def turned (a g : Fin 128 → EReal) (c s : EReal) (d : Fin 128) : EReal :=
  normed a g d * c + normed a g (partner d) * s

/-- The row of the rotation tables for row `r` of the flat streams: every context sequence of 1024 rows reads rows 4096
    to 5119, every latent sequence of 4096 rows reads the rows before. -/
def tableRow (r : Fin 24576) : Fin 5120 :=
  if r.val < 8192 then ⟨4096 + r.val % 1024, by omega⟩ else ⟨(r.val - 8192) % 4096, by omega⟩

/-- A projection of the flat streams: rows times the first layer's weights. -/
def product {N : ℕ} (x : FVec Ideal ⟨2, ![24576, 4096]⟩ .bf16) (w : FVec Ideal ⟨3, ![2, 4096, N]⟩ .bf16) (r : Fin 24576) (n : Fin N) :
    EReal :=
  ∑ k : Fin 4096, x (ix2 r k) * w (ix3 (0 : Fin 2) k n)

/-- Lane `e` of the head column `n` lies in. -/
def sibling {N : ℕ} (h : N % 128 = 0) (n : Fin N) (e : Fin 128) : Fin N := ⟨n.val / 128 * 128 + e.val, by omega⟩

/-- Column `n`'s lane in its head. -/
def lane {N : ℕ} (n : Fin N) : Fin 128 := ⟨n.val % 128, by omega⟩

/-- Every head of every row of the projection, after the norm by the first layer's gain. -/
def normedHeads {N : ℕ} (h : N % 128 = 0) (x : FVec Ideal ⟨2, ![24576, 4096]⟩ .bf16) (w : FVec Ideal ⟨3, ![2, 4096, N]⟩ .bf16)
    (g : FVec Ideal ⟨3, ![2, 1, 128]⟩ .f32) : FVec Ideal ⟨2, ![24576, N]⟩ .f32 :=
  fun i => normed (fun e => product x w (i 0) (sibling h (i 1) e)) (fun e => g (ix3 (0 : Fin 2) (0 : Fin 1) e)) (lane (i 1))

/-- Every head of every row of the projection, after the norm and the rotation. -/
def rotatedHeads {N : ℕ} (h : N % 128 = 0) (x : FVec Ideal ⟨2, ![24576, 4096]⟩ .bf16) (w : FVec Ideal ⟨3, ![2, 4096, N]⟩ .bf16)
    (g : FVec Ideal ⟨3, ![2, 1, 128]⟩ .f32) (cos sin : FVec Ideal ⟨2, ![5120, 128]⟩ .f32) : FVec Ideal ⟨2, ![24576, N]⟩ .bf16 :=
  fun i => turned (fun e => product x w (i 0) (sibling h (i 1) e)) (fun e => g (ix3 (0 : Fin 2) (0 : Fin 1) e))
    (cos (ix2 (tableRow (i 0)) (lane (i 1)))) (sin (ix2 (tableRow (i 0)) (lane (i 1)))) (lane (i 1))

/-- A tile of one head. -/
abbrev Tile : Shape := ⟨2, ![1024, 128]⟩
/-- One number for each token of a tile. -/
abbrev Column : Shape := ⟨2, ![1024, 1]⟩

/-- A head loaded from an accumulator is its 128 columns. -/
theorem loaded (A : FVec Ideal ⟨2, ![1024, 512]⟩ .f32) (o : ℕ) (h : ∀ a, (![0, o] : Fin 2 → ℕ) a + Tile.size a ≤ (⟨2, ![1024, 512]⟩ : Shape).size a)
    (r : Fin 1024) (e : Fin 128) (n : Fin 512) (hn : n.val = o + e.val) :
    View.ld (Val := Elt Ideal) (e' := .f32) A (Rect.unit (s := ⟨2, ![1024, 512]⟩) ![0, o] Tile.size h) (ix2 r e) = A (ix2 r n) := by
  refine congrArg A (funext fun b => Fin.ext ((Rect.idx_unit_val _ _ _ _ b).trans ?_))
  match b with
  | ⟨0, _⟩ => exact Nat.zero_add _
  | ⟨1, _⟩ => exact hn.symm

/-- The tile after the norm. -/
def normedTile (hr : Tile.Reduces [1] ⟨1, ![1024]⟩) (hs : (⟨1, ![1024]⟩ : Shape).ShapeCasts Column) (hb : Column.Broadcasts Tile)
    (hg : (⟨2, ![1, 128]⟩ : Shape).Broadcasts Tile) (g : FVec Ideal ⟨2, ![1, 128]⟩ .f32) (a : FVec Ideal Tile .f32) :
    FVec Ideal Tile .f32 :=
  mulf (mulf a (broadcastTo Tile (rsqrt (addf (divf (shapeCast Column
      (multiReduction .add [1] ⟨1, ![1024]⟩ (mulf a a) 0x00000000#32 hr (.inl rfl) rfl) hs)
      (broadcast Column (Scalar.ofBits .f32 0x43000000#32))) (broadcast Column (Scalar.ofBits .f32 0x358637BD#32)))) hb))
    (broadcastTo Tile g hg)

/-- The tile after the norm, read at a token and a lane. -/
theorem normedTile_apply (hr : Tile.Reduces [1] ⟨1, ![1024]⟩) (hs : (⟨1, ![1024]⟩ : Shape).ShapeCasts Column)
    (hb : Column.Broadcasts Tile) (hg : (⟨2, ![1, 128]⟩ : Shape).Broadcasts Tile) (g : FVec Ideal ⟨2, ![1, 128]⟩ .f32) (a : FVec Ideal Tile .f32)
    (r : Fin 1024) (d : Fin 128) :
    (normedTile hr hs hb hg g a (ix2 r d) : EReal)
      = normed (fun e => a (ix2 r e)) (fun e => g (ix2 (0 : Fin 1) e)) d := by
  have hsum : (shapeCast Column (multiReduction .add [1] ⟨1, ![1024]⟩ (mulf a a) 0x00000000#32 hr (.inl rfl) rfl) hs
      (ix2 r (0 : Fin 1)) : EReal) = ∑ e : Fin 128, (a (ix2 r e) : EReal) * a (ix2 r e) := by
    refine (shapeCast_apply _ hs (ix2 r (0 : Fin 1)) (ix1 r) ?_).trans
      ((Ideal.multiReduction_add_single (mulf a a) _ hr _ _ (ix1 r)).trans ?_)
    · rw [Shape.rowMajor_val_one, Shape.rowMajor_val_two]; show r.val = r.val * 1 + 0; omega
    · refine Finset.sum_congr rfl fun k _ => ?_
      exact congrArg (mulf a a) (funext fun c => Fin.ext (by rw [hr.lift_val]; match c with | ⟨0, _⟩ => rfl | ⟨1, _⟩ => rfl))
  unfold normedTile normed
  rw [ValueIdx.mulf_apply, ValueIdx.mulf_apply, broadcastTo_apply _ hb (ix2 r d) (ix2 r (0 : Fin 1))
      (fun c => match c with | ⟨0, _⟩ => rfl | ⟨1, _⟩ => rfl), broadcastTo_apply g hg (ix2 r d) (ix2 (0 : Fin 1) d)
      (fun c => match c with | ⟨0, _⟩ => rfl | ⟨1, _⟩ => rfl), ← hsum]
  rfl

/-- The lanes whose partner lies behind them, as the kernel finds them. -/
def lowLanes (hi : Tile.Iotas .tc 32 [1]) (hb : Tile.Broadcasts Tile) : IVec Tile 1 :=
  have period : BitVec 32 := Scalar.select (Scalar.cmpi .eq 64#32 0#32) 1#32 64#32
  have rem : IVec Tile 32 := remsi (iota .tc Tile 32 [1] hi) (broadcast Tile period)
  cmpi .slt (select (andi (xori (cmpi .slt rem (broadcast Tile 0#32))
      (broadcastTo Tile (broadcast Tile (Scalar.cmpi .slt period 0#32)) hb)) (cmpi .ne rem (broadcast Tile 0#32)))
    (addi rem (broadcast Tile period)) rem) (broadcast Tile 32#32)

/-- Each lane's test, from its number. -/
def lowLane (n : BitVec 32) : BitVec 1 :=
  have period : BitVec 32 := Scalar.select (Scalar.cmpi .eq 64#32 0#32) 1#32 64#32
  have rem : BitVec 32 := IntOp.remsi .vector n period
  Scalar.cmpi .slt (Scalar.select (IntOp.andi (IntOp.xori (Scalar.cmpi .slt rem 0#32) (Scalar.cmpi .slt period 0#32))
    (Scalar.cmpi .ne rem 0#32)) (IntOp.addi rem period) rem) 32#32

/-- The lanes found are those in the first 32 of each 64. -/
theorem lowLane_eq : ∀ d : Fin 128, lowLane (BitVec.ofNat 32 d.val) = if d.val % 64 < 32 then 1#1 else 0#1 := by
  decide +kernel

/-- The same, for the whole tile. -/
theorem lowLanes_apply (hi : Tile.Iotas .tc 32 [1]) (hb : Tile.Broadcasts Tile) (r : Fin 1024) (d : Fin 128) :
    lowLanes hi hb (ix2 r d) = if d.val % 64 < 32 then 1#1 else 0#1 := by
  refine Eq.trans ?_ (lowLane_eq d)
  have e : iota .tc Tile 32 [1] hi (ix2 r d) = BitVec.ofNat 32 d.val := iota_single_apply .tc Tile 32 1 hi (ix2 r d)
  rw [← e]
  rfl

/-- The normed tile `n` rotated, where `back` is it with every lane moved 32 up and `ahead` with every lane moved 32
    down. -/
def turnedTile (mask : IVec Tile 1) (c s n ahead back : FVec Ideal Tile .f32) (hl : FTy.bf16.bits < FTy.f32.bits) : FVec Ideal Tile .bf16 :=
  truncf .bf16 (addf (mulf n c) (mulf (select mask ahead back) s)) hl

/-- The rotated tile, read at a token and a lane. -/
theorem turnedTile_apply (hi : Tile.Iotas .tc 32 [1]) (hbb : Tile.Broadcasts Tile) (hr : Tile.Reduces [1] ⟨1, ![1024]⟩)
    (hs : (⟨1, ![1024]⟩ : Shape).ShapeCasts Column) (hb : Column.Broadcasts Tile) (hg : (⟨2, ![1, 128]⟩ : Shape).Broadcasts Tile)
    (ht : Tile.Rotates 1 none) (hl : FTy.bf16.bits < FTy.f32.bits)
    (g : FVec Ideal ⟨2, ![1, 128]⟩ .f32) (c s a : FVec Ideal Tile .f32) (r : Fin 1024) (d : Fin 128) :
    (turnedTile (lowLanes hi hbb) c s (normedTile hr hs hb hg g a)
        (dynamicRotate 1 96#32 none (normedTile hr hs hb hg g a) ht)
        (dynamicRotate 1 32#32 none (normedTile hr hs hb hg g a) ht) hl (ix2 r d) : EReal)
      = turned (fun e => a (ix2 r e)) (fun e => g (ix2 (0 : Fin 1) e)) (c (ix2 r d)) (s (ix2 r d)) d := by
  have hp : (select (lowLanes hi hbb) (dynamicRotate 1 96#32 none (normedTile hr hs hb hg g a) ht)
        (dynamicRotate 1 32#32 none (normedTile hr hs hb hg g a) ht) (ix2 r d) : EReal)
      = normedTile hr hs hb hg g a (ix2 r (partner d)) := by
    rw [ValueIdx.select_apply, lowLanes_apply]
    by_cases h : d.val % 64 < 32
    · rw [if_pos h, ValueIdx.select_one]
      refine dynamicRotate_apply 1 96#32 _ ht (ix2 r d) (ix2 r (partner d)) fun b => ?_
      match b with
      | ⟨0, _⟩ => rfl
      | ⟨1, _⟩ =>
        show (partner d).val = (d.val + 128 - 96 % 128) % 128
        unfold partner; rw [if_pos h]
        show (d.val + 32) % 128 = _
        omega
    · rw [if_neg h, ValueIdx.select_zero]
      refine dynamicRotate_apply 1 32#32 _ ht (ix2 r d) (ix2 r (partner d)) fun b => ?_
      match b with
      | ⟨0, _⟩ => rfl
      | ⟨1, _⟩ =>
        show (partner d).val = (d.val + 128 - 32 % 128) % 128
        unfold partner; rw [if_neg h]
        show d.val - 32 = _
        omega
  unfold turnedTile turned
  rw [ValueIdx.truncf_apply, ValueIdx.addf_apply, ValueIdx.mulf_apply, ValueIdx.mulf_apply, hp, normedTile_apply, normedTile_apply]

/-- The tables of the context rows and of the latent rows, joined, read at a row of the flat streams. -/
theorem table_apply {α : Type} (top : (⟨2, ![8192, 128]⟩ : Shape).Idx → α) (rest : (⟨2, ![16384, 128]⟩ : Shape).Idx → α)
    (table : (⟨2, ![5120, 128]⟩ : Shape).Idx → α)
    (h : Shape.Concatenates [⟨2, ![8192, 128]⟩, ⟨2, ![16384, 128]⟩] ⟨2, ![24576, 128]⟩ 0)
    (htop : ∀ (r : Fin 8192) (d : Fin 128), top (ix2 r d) = table (ix2 (⟨4096 + r.val % 1024, by omega⟩ : Fin 5120) d))
    (hrest : ∀ (r : Fin 16384) (d : Fin 128), rest (ix2 r d) = table (ix2 (⟨r.val % 4096, by omega⟩ : Fin 5120) d))
    (r : Fin 24576) (d : Fin 128) :
    concatenate ⟨2, ![24576, 128]⟩ 0 [⟨⟨2, ![8192, 128]⟩, top⟩, ⟨⟨2, ![16384, 128]⟩, rest⟩] h (ix2 r d)
      = table (ix2 (tableRow r) d) := by
  unfold tableRow
  by_cases hr : r.val < 8192
  · rw [if_pos hr]
    exact (concatenate_pair_apply_left 0 top rest h (ix2 r d) rfl (ix2 (⟨r.val, hr⟩ : Fin 8192) d) (fun a => match a with
        | ⟨0, _⟩ => rfl | ⟨1, _⟩ => rfl)).trans (htop _ d)
  · rw [if_neg hr]
    refine (concatenate_pair_apply_right 0 top rest h (ix2 r d) rfl rfl (ix2 (⟨r.val - 8192, by omega⟩ : Fin 16384) d) (fun a ha =>
      match a with | ⟨0, _⟩ => absurd rfl ha | ⟨1, _⟩ => rfl) ?_).trans (hrest _ d)
    show r.val - 8192 + 8192 = r.val
    omega

/-- Heads cut into two halves of two times 32 lanes, the 32s of each half exchanged, read at a lane: the lane's partner. -/
theorem exchanged_apply {α : Type} {H : ℕ} (first second : (⟨5, ![24576, H, 2, 1, 32]⟩ : Shape).Idx → α)
    (n : (⟨3, ![24576, H, 128]⟩ : Shape).Idx → α)
    (h : Shape.Concatenates [⟨5, ![24576, H, 2, 1, 32]⟩, ⟨5, ![24576, H, 2, 1, 32]⟩] ⟨5, ![24576, H, 2, 2, 32]⟩ 3)
    (hfirst : ∀ (r : Fin 24576) (k : Fin H) (b : Fin 2) (e : Fin 32), first (ix5 r k b (0 : Fin 1) e)
      = n (ix3 r k (⟨b.val * 64 + 32 + e.val, by omega⟩ : Fin 128)))
    (hsecond : ∀ (r : Fin 24576) (k : Fin H) (b : Fin 2) (e : Fin 32), second (ix5 r k b (0 : Fin 1) e)
      = n (ix3 r k (⟨b.val * 64 + e.val, by omega⟩ : Fin 128)))
    (r : Fin 24576) (k : Fin H) (d : Fin 128) :
    concatenate ⟨5, ![24576, H, 2, 2, 32]⟩ 3 [⟨⟨5, ![24576, H, 2, 1, 32]⟩, first⟩, ⟨⟨5, ![24576, H, 2, 1, 32]⟩, second⟩] h
        (ix5 r k (⟨d.val / 64, by omega⟩ : Fin 2) (⟨d.val / 32 % 2, by omega⟩ : Fin 2) (⟨d.val % 32, by omega⟩ : Fin 32))
      = n (ix3 r k (partner d)) := by
  by_cases hd : d.val % 64 < 32
  · refine (concatenate_pair_apply_left 3 first second h _ rfl (ix5 r k (⟨d.val / 64, by omega⟩ : Fin 2) (0 : Fin 1)
      (⟨d.val % 32, by omega⟩ : Fin 32)) (fun a => match a with
        | ⟨0, _⟩ => rfl | ⟨1, _⟩ => rfl | ⟨2, _⟩ => rfl | ⟨3, _⟩ => by show 0 = d.val / 32 % 2; omega | ⟨4, _⟩ => rfl)).trans
      ((hfirst _ _ _ _).trans ?_)
    refine congrArg (fun z => n (ix3 r k z)) (Fin.ext ?_)
    unfold partner; rw [if_pos hd]
    show d.val / 64 * 64 + 32 + d.val % 32 = (d.val + 32) % 128
    omega
  · refine (concatenate_pair_apply_right 3 first second h _ rfl rfl (ix5 r k (⟨d.val / 64, by omega⟩ : Fin 2) (0 : Fin 1)
      (⟨d.val % 32, by omega⟩ : Fin 32)) (fun a ha => match a with
        | ⟨0, _⟩ => rfl | ⟨1, _⟩ => rfl | ⟨2, _⟩ => rfl | ⟨3, _⟩ => absurd rfl ha | ⟨4, _⟩ => rfl)
      (by show 0 + 1 = d.val / 32 % 2; omega)).trans ((hsecond _ _ _ _).trans ?_)
    refine congrArg (fun z => n (ix3 r k z)) (Fin.ext ?_)
    unfold partner; rw [if_neg hd]
    show d.val / 64 * 64 + d.val % 32 = d.val - 32
    omega

end Cert.Heads

end
-- ==== Proof.QryValue.lean ====
/-
  The queries' projection (`kernel_qry`) at the extended reals, each head after its norm and its rotation: what one block
  of it computes, what its result array ends holding, and that the reference computes the same.
-/
module

public import proofs.«01_k».proof.Defs
public import proofs.«01_k».proof.Proof.Gen.Qry.Frame
public import proofs.«01_k».proof.Proof.Gen.QryIdeal.Value
public import proofs.«01_k».proof.Proof.Gen.QryReferenceIdeal.Read
public import proofs.«01_k».proof.Proof.Words
public import proofs.«01_k».proof.Proof.Heads
public import Idealize.ShloMosaic.Lib.Pipeline.Value
public import Idealize.ShloMosaic.Lib.Pipeline.ValueKit
public import Idealize.ShloMosaic.Lib.Pipeline.Covers
public import Idealize.ShloMosaic.Lib.Pipeline.ReadBack
public import Idealize.ShloMosaic.Lib.ValueIdx
public import Idealize.ShloMosaic.Lib.ValueLayout
public import Idealize.ShloMosaic.Lib.Quiescent
public import Idealize.ShloMosaic.Lib.MatmulPlain
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)
open scoped BigOperators

namespace Cert.QryIdeal.Hand

open Cert.QryIdeal Cert.QryIdeal.Gen
open Cert.Heads (tableRow lane sibling product rotatedHeads loaded)

/-- A tile of the projection. -/
theorem pay_apply (x0 : Vec Ideal S1024x4096 .bf16) (x1 : Vec Ideal S1x4096x512 .bf16) (r : Fin 1024) (n : Fin 512) :
    (k0_pay4 x0 x1 (ix2 r n) : EReal) = ∑ k : Fin 4096, x0 (ix2 r k) * x1 (ix3 (0 : Fin 1) k n) := by
  unfold k0_pay4
  refine (congrFun (shapeCast_self _ _) _).trans ((Cert.Shared.plain_zero (M := 1024) (K := 4096) (N := 512) x0 _ r n).trans ?_)
  exact Finset.sum_congr rfl fun k _ => congrArg (fun z : EReal => x0 (ix2 r k) * z) (Cert.Shared.drop_lead x1 _ k n)

variable (m : (ℓ : Loc nD τ sig) → Buf (Elt Ideal) ℓ)

/-- The call's result at device `c`'s argument arrays. -/
abbrev result (c : Dev nD) : Buf (Elt Ideal) ((c : Thread nD τ).loc main_v0) :=
  rotatedHeads (N := 4096) rfl (m ((c : Thread nD τ).loc main_arg0)) (m ((c : Thread nD τ).loc main_arg1)) (m ((c : Thread nD τ).loc main_arg2))
    (m ((c : Thread nD τ).loc main_arg3)) (m ((c : Thread nD τ).loc main_arg4))

/-- Point `t` reads row tile `t / 8`, the last point row tile 23 once more. -/
theorem index_0 : ∀ t : Fin grid0.N, win0_0.index t = ![min t.val 191 / 8, 0] := by decide +kernel
/-- Point `t` reads column tile `t % 8` of the first layer's weights. -/
theorem index_1 : ∀ t : Fin grid0.N, win0_1.index t = ![0, 0, min t.val 191 % 8] := by decide +kernel
/-- Every point reads the first layer's gain. -/
theorem index_2 : ∀ t : Fin grid0.N, win0_2.index t = ![0, 0, 0] := by decide +kernel
/-- Point `t` reads the cosines of the rows it writes. -/
theorem index_3 : ∀ t : Fin grid0.N, win0_3.index t = ![if (t.val - 1) / 8 < 8 then 4 else ((t.val - 1) / 8 - 8) % 4, 0] := by
  decide +kernel
/-- Point `t` reads the sines of the rows it writes. -/
theorem index_4 : ∀ t : Fin grid0.N, win0_4.index t = ![if (t.val - 1) / 8 < 8 then 4 else ((t.val - 1) / 8 - 8) % 4, 0] := by
  decide +kernel
/-- Point `t` writes the tile the point before it multiplied. -/
theorem index_5 : ∀ t : Fin grid0.N, win0_5.index t = ![(t.val - 1) / 8, (t.val - 1) % 8] := by decide +kernel
/-- No tile is written back at the first point. -/
theorem late : ∀ t : Fin grid0.N, win0_5.flush t = true → t.val ≠ 0 := by decide +kernel
/-- The grid has 193 points. -/
theorem point_lt (t : Fin grid0.N) : t.val < 193 := lt_of_lt_of_eq t.isLt (by decide +kernel)

/-- What an even point leaves in the first accumulator. -/
theorem even_left (c : Dev nD) (t : Fin grid0.N) (h : t.val % 2 = 0) :
    (outsAt0 m c t.val t.isLt).2.1 = k0_pay4 (iblk m c 0 t) (iblk m c 1 t) := by
  by_cases h0 : t.val % 193 = 0
  · rw [outsAt0_A m c t h0 h (by omega)]
    frame_out
  · rw [outsAt0_C m c t h0 h (by omega)]
    frame_out

/-- What an odd point leaves in the second accumulator. -/
theorem odd_left (c : Dev nD) (t : Fin grid0.N) (h : t.val % 2 = 1) :
    (outsAt0 m c t.val t.isLt).2.2 = k0_pay4 (iblk m c 0 t) (iblk m c 1 t) := by
  have h0 : ¬ t.val % 193 = 0 := by have := point_lt t; omega
  rw [outsAt0_B m c t h0 (by omega) h]
  frame_out
  rfl

/-- The tile point `t` writes, entry by entry, from the accumulator the point before it filled. -/
theorem entry (c : Dev nD) (t s : Fin grid0.N) (hs : t.val = s.val + 1) (r : Fin 1024) (n : Fin 512) :
    (k0_pay4 (iblk m c 0 s) (iblk m c 1 s) (ix2 r n) : EReal)
      = product (m ((c : Thread nD τ).loc main_arg0)) (m ((c : Thread nD τ).loc main_arg1))
          ⟨(t.val - 1) / 8 * 1024 + r.val, by have := point_lt t; omega⟩ ⟨(t.val - 1) % 8 * 512 + n.val, by omega⟩ := by
  have ht := point_lt t
  rw [pay_apply]
  unfold product
  blk_point [iblk, V, index_0 s, index_1 s]

/-- One head of the tile point `t` writes. -/
theorem head_eq (c : Dev nD) (t s : Fin grid0.N) (hs : t.val = s.val + 1) (y : ((cfg0.win 5).xblock (cfg0.grid.coords t)).Idx)
    (o : ℕ) (ho : o % 128 = 0) (h : ∀ a, (![0, o] : Fin 2 → ℕ) a + S1024x128.size a ≤ S1024x512.size a)
    (x : S1024x128.Idx) (h0 : (y 0).val = (x 0).val) (h1 : (y 1).val = o + (x 1).val) :
    k0_pay13 (F := Ideal) k0_pay8 (k0_pay9 (iblk m c 2 t)) (iblk m c 3 t) (iblk m c 4 t)
        (View.ld (k0_pay4 (iblk m c 0 s) (iblk m c 1 s)) (Rect.unit (s := S1024x512) ![0, o] S1024x128.size h)) x
      = result m c (((View.whole main_v0).slice (win0_5.rect t)).emb y) := by
  obtain ⟨r, d, rfl⟩ : ∃ (r : Fin 1024) (d : Fin 128), x = ix2 r d := ⟨x 0, x 1, eq_ix2 x⟩
  have ht := point_lt t
  refine (Cert.Heads.turnedTile_apply iota_S1024x128_d1_w32 broadcasts_S1024x128_S1024x128 reduces_S1024x128_S1024
    shapeCasts_S1024_S1024x1 broadcasts_S1024x1_S1024x128 broadcasts_S1x128_S1024x128 rotates_S1024x128_d1 bitsLt_bf16_f32
    (k0_pay9 (iblk m c 2 t)) (iblk m c 3 t) (iblk m c 4 t) _ r d).trans ?_
  have ho' : o + 128 ≤ 512 := h 1
  have e0 : ((((View.whole main_v0).slice (win0_5.rect t)).emb y) 0).val = (t.val - 1) / 8 * 1024 + r.val := by
    have h0 : (y 0).val = r.val := h0
    blk_simp [index_5 t]; omega
  have e1 : ((((View.whole main_v0).slice (win0_5.rect t)).emb y) 1).val = (t.val - 1) % 8 * 512 + o + d.val := by
    have h1 : (y 1).val = o + d.val := h1
    blk_simp [index_5 t]; omega
  unfold result rotatedHeads
  generalize ((View.whole main_v0).slice (win0_5.rect t)).emb y = i at e0 e1 ⊢
  have el : lane (i 1) = d := Fin.ext (by show (i 1).val % 128 = d.val; omega)
  have ht : ∀ e : Fin 128, ((View.ld (Val := Elt Ideal) (e' := .f32) (k0_pay4 (iblk m c 0 s) (iblk m c 1 s)) (Rect.unit (s := S1024x512) ![0, o] S1024x128.size h)
      : Vec Ideal S1024x128 .f32) (ix2 r e) : EReal) = product (m ((c : Thread nD τ).loc main_arg0)) (m ((c : Thread nD τ).loc main_arg1)) (i 0) (sibling (N := 4096) rfl (i 1) e) :=
    fun e => (loaded _ o h r e (⟨o + e.val, by omega⟩ : Fin 512) rfl).trans ((entry m c t s hs r _).trans
      (congrArg₂ (product _ _) (show _ = i 0 from Fin.ext e0.symm) (show _ = sibling (N := 4096) rfl (i 1) e from Fin.ext (by
        show (t.val - 1) % 8 * 512 + (o + e.val) = (i 1).val / 128 * 128 + e.val; omega))))
  have hg : ∀ e : Fin 128, (k0_pay9 (iblk m c 2 t) (ix2 (0 : Fin 1) e) : EReal)
      = m ((c : Thread nD τ).loc main_arg2) (ix3 (0 : Fin 2) (0 : Fin 1) e) := fun e => by
    refine (Cert.Shared.drop_lead (iblk m c 2 t : FVec Ideal S1x1x128 .f32) shapeCasts_S1x1x128_S1x128 (0 : Fin 1) e).trans ?_
    blk_point [iblk, V, index_2 t]
  have hR : (tableRow (i 0)).val = (if (t.val - 1) / 8 < 8 then 4 else ((t.val - 1) / 8 - 8) % 4) * 1024 + r.val := by
    unfold tableRow
    split <;> split <;> (dsimp only; omega)
  have hc : (iblk m c 3 t (ix2 r d) : EReal) = m ((c : Thread nD τ).loc main_arg3) (ix2 (tableRow (i 0)) d) := by
    blk_point [iblk, V, index_3 t]
  have hn : (iblk m c 4 t (ix2 r d) : EReal) = m ((c : Thread nD τ).loc main_arg4) (ix2 (tableRow (i 0)) d) := by
    blk_point [iblk, V, index_4 t]
  rw [el, hc, hn, funext ht, funext hg]

/-- The result array after the run: each point writes the tile before its own, and the tiles cover it. -/
theorem final (c : Dev nD) : (dats m 0 c).arrAt 5 cfg0.N = result m c := by
  refine (dats m 0 c).arrAt_eq_of_covers 5 _ (by decide +kernel) fun t hf y => ?_
  have ht := late t hf
  obtain ⟨s, hs⟩ : ∃ s : Fin grid0.N, t.val = s.val + 1 := ⟨⟨t.val - 1, lt_of_le_of_lt (Nat.sub_le _ _) t.isLt⟩, by show t.val = t.val - 1 + 1; omega⟩
  have es : outsAt0 m c (t.val - 1) (Nat.lt_of_le_of_lt (Nat.sub_le _ _) t.isLt) = outsAt0 m c s.val s.isLt := by
    congr 1; omega
  blk_simp
  rw [after0_5]
  by_cases h : t.val % 2 = 1
  · have h0 : ¬ t.val % 193 = 0 := by have := point_lt t; omega
    rw [outsAt0_B m c t h0 (by omega) h, es, even_left m c s (by omega)]
    frame_out
    canon_tiles x hx
    all_goals rw [read_unread_whole]
    · exact head_eq m c t s hs y 384 rfl _ x hx0 hx1
    · exact head_eq m c t s hs y 256 rfl _ x hx0 hx1
    · exact head_eq m c t s hs y 128 rfl _ x hx0 hx1
    · exact head_eq m c t s hs y 0 rfl _ x hx0 (hx1.trans (Nat.zero_add _).symm)
  · rw [outsAt0_C m c t (by have := point_lt t; omega) (by omega) h, es, odd_left m c s (by omega)]
    frame_out
    canon_tiles x hx
    all_goals rw [read_unread_whole]
    · exact head_eq m c t s hs y 384 rfl _ x hx0 hx1
    · exact head_eq m c t s hs y 256 rfl _ x hx0 hx1
    · exact head_eq m c t s hs y 128 rfl _ x hx0 hx1
    · exact head_eq m c t s hs y 0 rfl _ x hx0 (hx1.trans (Nat.zero_add _).symm)

variable (ρ : Dev nD → PrngReg)

/-- The kernel's run, read: the result array at the rotated heads, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1).trans (final m c), (h c).2⟩) (Value.run_blocks m ρ)

end Cert.QryIdeal.Hand

namespace Cert.QryReferenceIdeal.Hand

open Cert.QryReferenceIdeal Cert.QryReferenceIdeal.Gen Cert.QryReferenceIdeal.Read
open Cert.Heads (normed tableRow partner lane product rotatedHeads)

variable (x0 : FVec Ideal S24576x4096 .bf16) (x1 : FVec Ideal S2x4096x4096 .bf16) (x2 : FVec Ideal S2x1x128 .f32)
  (x3 x4 : FVec Ideal S5120x128 .f32)

/-- Lane `d` of head `k`, as a column of the projection. -/
def column (k : Fin 32) (d : Fin 128) : Fin 4096 := ⟨k.val * 128 + d.val, by omega⟩

/-- The reference's projection, split into heads. -/
theorem product_apply (r : Fin 24576) (k : Fin 32) (d : Fin 128) :
    (val_main_v7 (F := Ideal) x0 x1 (ix3 r k d) : EReal) = product x0 x1 r (column k d) := by
  have e : idx_main_v7 (ix3 r k d) = ix2 r (column k d) := funext fun a => Fin.ext (match a with
    | ⟨0, _⟩ => by show ((r.val * 32 + k.val) * 128 + d.val) / 4096 = r.val; omega
    | ⟨1, _⟩ => by show ((r.val * 32 + k.val) * 128 + d.val) % 4096 = k.val * 128 + d.val; omega)
  rw [val_main_v7_apply, e, val_main_v6_apply]
  refine Finset.sum_congr rfl fun z _ => ?_
  rw [val_main_v4_apply, val_main_v5_apply, val_main_v1_apply, val_main_v0_apply]
  have e0 : lidx_main_v6 (ix2 r (column k d)) z = ix2 r z := by idx_ext
  have e1 : idx_main_v0 (idx_main_v1 (ridx_main_v6 (ix2 r (column k d)) z)) = ix3 (0 : Fin 2) z (column k d) := by
    generalize column k d = n
    idx_ext
  exact congrArg₂ (fun a b : EReal => a * b) (congrArg x0 e0) (congrArg x1 e1)

/-- The reference's norm of a head. -/
theorem normed_apply (r : Fin 24576) (k : Fin 32) (d : Fin 128) :
    (val_main_v20 (F := Ideal) x0 x1 x2 (ix3 r k d) : EReal)
      = normed (fun e => product x0 x1 r (column k e)) (fun e => x2 (ix3 (0 : Fin 2) (0 : Fin 1) e)) d := by
  have es : (val_main_v9 (F := Ideal) x0 x1 (idx_main_v10 (idx_main_v16 (ix3 r k d))) : EReal)
      = ∑ e : Fin 128, product x0 x1 r (column k e) * product x0 x1 r (column k e) := by
    rw [val_main_v9_apply, val_main_cst_apply]
    refine (congrArg (· + _) Cert.Shared.ofBits_zero).trans ((zero_add _).trans (Finset.sum_congr rfl fun e _ => ?_))
    have ei : idx_main_v9 (idx_main_v10 (idx_main_v16 (ix3 r k d))) e = ix3 r k e := by idx_ext
    rw [ei, val_main_v8_apply, product_apply]
    rfl
  have eg : idx_main_v2 (idx_main_v3 (idx_main_v18 (idx_main_v19 (ix3 r k d)))) = ix3 (0 : Fin 2) (0 : Fin 1) d := by idx_ext
  rw [val_main_v20_apply, val_main_v17_apply, val_main_v16_apply, val_main_v15_apply, val_main_v14_apply, val_main_v12_apply,
    val_main_v10_apply, es, val_main_v11_apply, val_main_cst_0_apply, val_main_v13_apply, val_main_cst_1_apply, val_main_v19_apply,
    val_main_v18_apply, val_main_v3_apply, val_main_v2_apply, eg, product_apply]
  rfl

/-- Each lane's partner in the reference. -/
theorem partner_apply (r : Fin 24576) (k : Fin 32) (d : Fin 128) :
    (val_main_v25 (F := Ideal) x0 x1 x2 (ix3 r k d) : EReal) = val_main_v20 (F := Ideal) x0 x1 x2 (ix3 r k (partner d)) := by
  have e : idx_main_v25 (ix3 r k d) = ix5 r k (⟨d.val / 64, by omega⟩ : Fin 2) (⟨d.val / 32 % 2, by omega⟩ : Fin 2)
      (⟨d.val % 32, by omega⟩ : Fin 32) := funext fun a => Fin.ext (match a with
    | ⟨0, _⟩ => by show ((r.val * 32 + k.val) * 128 + d.val) / 4096 = r.val; omega
    | ⟨1, _⟩ => by show ((r.val * 32 + k.val) * 128 + d.val) / 128 % 32 = k.val; omega
    | ⟨2, _⟩ => by show ((r.val * 32 + k.val) * 128 + d.val) / 64 % 2 = d.val / 64; omega
    | ⟨3, _⟩ => by show ((r.val * 32 + k.val) * 128 + d.val) / 32 % 2 = d.val / 32 % 2; omega
    | ⟨4, _⟩ => by show ((r.val * 32 + k.val) * 128 + d.val) % 32 = d.val % 32; omega)
  rw [val_main_v25_apply, e]
  unfold val_main_v24
  refine Cert.Heads.exchanged_apply _ _ _ _ (fun r k b e => ?_) (fun r k b e => ?_) r k d
  · rw [val_main_v22_apply, val_main_v21_apply]
    refine congrArg (val_main_v20 (F := Ideal) x0 x1 x2) (funext fun a => Fin.ext (match a with
      | ⟨0, _⟩ => by show ((((r.val * 32 + k.val) * 2 + b.val) * 2 + (1 + 0)) * 32 + e.val) / 4096 = r.val; omega
      | ⟨1, _⟩ => by show ((((r.val * 32 + k.val) * 2 + b.val) * 2 + (1 + 0)) * 32 + e.val) / 128 % 32 = k.val; omega
      | ⟨2, _⟩ => by show ((((r.val * 32 + k.val) * 2 + b.val) * 2 + (1 + 0)) * 32 + e.val) % 128 = b.val * 64 + 32 + e.val; omega))
  · rw [val_main_v23_apply, val_main_v21_apply]
    refine congrArg (val_main_v20 (F := Ideal) x0 x1 x2) (funext fun a => Fin.ext (match a with
      | ⟨0, _⟩ => by show ((((r.val * 32 + k.val) * 2 + b.val) * 2 + 0) * 32 + e.val) / 4096 = r.val; omega
      | ⟨1, _⟩ => by show ((((r.val * 32 + k.val) * 2 + b.val) * 2 + 0) * 32 + e.val) / 128 % 32 = k.val; omega
      | ⟨2, _⟩ => by show ((((r.val * 32 + k.val) * 2 + b.val) * 2 + 0) * 32 + e.val) % 128 = b.val * 64 + e.val; omega))

/-- The reference's table of cosines, one row for each row of the flat streams. -/
theorem cosines (r : Fin 24576) (d : Fin 128) : val_main_v34 (F := Ideal) x3 (ix2 r d) = x3 (ix2 (tableRow r) d) := by
  unfold val_main_v34
  refine Cert.Heads.table_apply _ _ x3 _ (fun r d => ?_) (fun r d => ?_) r d
  · rw [val_main_v29_apply, val_main_v28_apply, val_main_v27_apply, val_main_v26_apply]
    refine congrArg x3 (funext fun a => Fin.ext (match a with
      | ⟨0, _⟩ => by show 4096 + (r.val * 128 + d.val) / 128 % 1024 = 4096 + r.val % 1024; omega
      | ⟨1, _⟩ => by show (r.val * 128 + d.val) % 128 = d.val; omega))
  · rw [val_main_v33_apply, val_main_v32_apply, val_main_v31_apply, val_main_v30_apply]
    refine congrArg x3 (funext fun a => Fin.ext (match a with
      | ⟨0, _⟩ => by show (r.val * 128 + d.val) / 128 % 4096 = r.val % 4096; omega
      | ⟨1, _⟩ => by show (r.val * 128 + d.val) % 128 = d.val; omega))

/-- The reference's table of sines is spread the same way. -/
theorem sines (r : Fin 24576) (d : Fin 128) : val_main_v46 (F := Ideal) x4 (ix2 r d) = x4 (ix2 (tableRow r) d) := cosines x4 r d

/-- The reference's result is the kernel's. -/
theorem val_eq : val_main_v52 (F := Ideal) x0 x1 x2 x3 x4 = rotatedHeads (N := 4096) rfl x0 x1 x2 x3 x4 := by
  funext i
  obtain ⟨r, n, rfl⟩ : ∃ (r : Fin 24576) (n : Fin 4096), i = ix2 r n := ⟨i 0, i 1, eq_ix2 i⟩
  have e : idx_main_v51 (ix2 r n) = ix3 r (⟨n.val / 128, by omega⟩ : Fin 32) (lane n) := funext fun a => Fin.ext (match a with
    | ⟨0, _⟩ => by show (r.val * 4096 + n.val) / 4096 = r.val; omega
    | ⟨1, _⟩ => by show (r.val * 4096 + n.val) / 128 % 32 = n.val / 128; omega
    | ⟨2, _⟩ => by show (r.val * 4096 + n.val) % 128 = n.val % 128; omega)
  rw [val_main_v52_apply, val_main_v51_apply, e, val_main_v50_apply, val_main_v37_apply, val_main_v49_apply, partner_apply,
    normed_apply, normed_apply, val_main_v36_apply, val_main_v35_apply, val_main_v48_apply, val_main_v47_apply]
  have ec : idx_main_v35 (idx_main_v36 (ix3 r (⟨n.val / 128, by omega⟩ : Fin 32) (lane n))) = ix2 r (lane n) := by idx_ext
  have en : idx_main_v47 (idx_main_v48 (ix3 r (⟨n.val / 128, by omega⟩ : Fin 32) (lane n))) = ix2 r (lane n) := by idx_ext
  rw [ec, en, cosines, sines]
  rfl

variable (m : (ℓ : Loc nD τ sig) → Buf (Elt Ideal) ℓ) (ρ : Dev nD → PrngReg)

/-- The reference's run, read: the result array at the rotated heads, the arguments unchanged. -/
theorem run : θ_run defs (onTc (τ := τ) (main (F := Ideal))) ⟨m, fun _ => 0, ρ⟩ fun r => ∀ c : Dev nD,
      r.2.mem ((c.tc : Thread nD τ).loc main_v52) = rotatedHeads (N := 4096) rfl (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1).trans ((val_main_v52_eq _ _).trans (val_eq _ _ _ _ _)), (h c).2⟩)
    (Value.run (F := Ideal) m ρ)

end Cert.QryReferenceIdeal.Hand

/-! ## The claims -/

namespace Cert.Proof.QryClaims

/-- The kernel's program terminates and leaves its arguments alone, and the machine ends quiescent. -/
theorem frame_kernel : Cert.quiescent_Qry := fun m ρ _ => Cert.Qry.Gen.frame m ρ
/-- Its idealization likewise. -/
theorem frame_ideal : Cert.quiescent_QryIdeal := fun m ρ _ => Cert.QryIdeal.Gen.frame m ρ
/-- The reference's program likewise: it is host operations only and declares no semaphore. -/
theorem frame_reference : Cert.quiescent_QryReferenceIdeal := fun m ρ _ =>
  (θ_run Cert.QryReferenceIdeal.defs _ _).mono (fun r h => ⟨fun c => (h c).2, Idealize.ShloMosaic.sem_eq_zero_of_no_sems (by decide) r.2⟩)
    (Cert.QryReferenceIdeal.Value.run (F := Ideal) m ρ)

/-- At the extended reals the kernel and the reference compute the same array. -/
theorem algebraic : Cert.algebraic_QryIdeal_QryReferenceIdeal := by
  intro m ρ m' ρ' _ hagree
  refine ⟨fun c => Cert.QryIdeal.Hand.result m c, Cert.QryIdeal.Hand.run m ρ, ?_⟩
  refine (θ_run Cert.QryReferenceIdeal.defs _ _).mono (fun _ h c => ⟨(h c).1.trans ?_, (h c).2⟩) (Cert.QryReferenceIdeal.Hand.run m' ρ')
  rw [(hagree c).1, (hagree c).2.1, (hagree c).2.2.1, (hagree c).2.2.2.1, (hagree c).2.2.2.2]

end Cert.Proof.QryClaims

end
-- ==== Proof.KeyValue.lean ====
/-
  The keys' projection (`kernel_key`) at the extended reals, each head after its norm, before and after its rotation: what one block
  of it computes, what its two result arrays end holding, and that the reference computes the same.
-/
module

public import proofs.«01_k».proof.Defs
public import proofs.«01_k».proof.Proof.Gen.Key.Frame
public import proofs.«01_k».proof.Proof.Gen.KeyIdeal.Value
public import proofs.«01_k».proof.Proof.Gen.KeyReferenceIdeal.Read
public import proofs.«01_k».proof.Proof.Words
public import proofs.«01_k».proof.Proof.Heads
public import Idealize.ShloMosaic.Lib.Pipeline.Value
public import Idealize.ShloMosaic.Lib.Pipeline.ValueKit
public import Idealize.ShloMosaic.Lib.Pipeline.Covers
public import Idealize.ShloMosaic.Lib.Pipeline.ReadBack
public import Idealize.ShloMosaic.Lib.ValueIdx
public import Idealize.ShloMosaic.Lib.ValueLayout
public import Idealize.ShloMosaic.Lib.Quiescent
public import Idealize.ShloMosaic.Lib.MatmulPlain
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)
open scoped BigOperators

namespace Cert.KeyIdeal.Hand

open Cert.KeyIdeal Cert.KeyIdeal.Gen
open Cert.Heads (tableRow lane sibling product normedHeads rotatedHeads loaded)

/-- A tile of the projection, as an even point leaves it. -/
theorem pay_apply (x0 : Vec Ideal S1024x4096 .bf16) (x1 : Vec Ideal S1x4096x512 .bf16) (r : Fin 1024) (n : Fin 512) :
    (k0_pay2 x0 x1 (ix2 r n) : EReal) = ∑ k : Fin 4096, x0 (ix2 r k) * x1 (ix3 (0 : Fin 1) k n) := by
  unfold k0_pay2
  refine (congrFun (shapeCast_self _ _) _).trans ((Cert.Shared.plain_zero (M := 1024) (K := 4096) (N := 512) x0 _ r n).trans ?_)
  exact Finset.sum_congr rfl fun k _ => congrArg (fun z : EReal => x0 (ix2 r k) * z) (Cert.Shared.drop_lead x1 _ k n)

variable (m : (ℓ : Loc nD τ sig) → Buf (Elt Ideal) ℓ)

/-- The call's rotated result at device `c`'s argument arrays. -/
abbrev result0 (c : Dev nD) : Buf (Elt Ideal) ((c : Thread nD τ).loc main_v0_0) :=
  rotatedHeads (N := 1024) rfl (m ((c : Thread nD τ).loc main_arg0)) (m ((c : Thread nD τ).loc main_arg1)) (m ((c : Thread nD τ).loc main_arg2))
    (m ((c : Thread nD τ).loc main_arg3)) (m ((c : Thread nD τ).loc main_arg4))

/-- The call's other result, before the rotation. -/
abbrev result1 (c : Dev nD) : Buf (Elt Ideal) ((c : Thread nD τ).loc main_v0_1) :=
  normedHeads (N := 1024) rfl (m ((c : Thread nD τ).loc main_arg0)) (m ((c : Thread nD τ).loc main_arg1)) (m ((c : Thread nD τ).loc main_arg2))

/-- Point `t` reads row tile `t / 2`, the last point row tile 23 once more. -/
theorem index_0 : ∀ t : Fin grid0.N, win0_0.index t = ![min t.val 47 / 2, 0] := by decide +kernel
/-- Point `t` reads column tile `t % 2` of the first layer's weights. -/
theorem index_1 : ∀ t : Fin grid0.N, win0_1.index t = ![0, 0, min t.val 47 % 2] := by decide +kernel
/-- Every point reads the first layer's gain. -/
theorem index_2 : ∀ t : Fin grid0.N, win0_2.index t = ![0, 0, 0] := by decide +kernel
/-- Point `t` reads the cosines of the rows it writes. -/
theorem index_3 : ∀ t : Fin grid0.N, win0_3.index t = ![if (t.val - 1) / 2 < 8 then 4 else ((t.val - 1) / 2 - 8) % 4, 0] := by
  decide +kernel
/-- Point `t` reads the sines of the rows it writes. -/
theorem index_4 : ∀ t : Fin grid0.N, win0_4.index t = ![if (t.val - 1) / 2 < 8 then 4 else ((t.val - 1) / 2 - 8) % 4, 0] := by
  decide +kernel
/-- Point `t` writes the tile the point before it multiplied, rotated. -/
theorem index_5 : ∀ t : Fin grid0.N, win0_5.index t = ![(t.val - 1) / 2, (t.val - 1) % 2] := by decide +kernel
/-- Point `t` writes the same tile before the rotation. -/
theorem index_6 : ∀ t : Fin grid0.N, win0_6.index t = ![(t.val - 1) / 2, (t.val - 1) % 2] := by decide +kernel
/-- No rotated tile is written back at the first point. -/
theorem late_5 : ∀ t : Fin grid0.N, win0_5.flush t = true → t.val ≠ 0 := by decide +kernel
/-- No tile before the rotation is written back at the first point. -/
theorem late_6 : ∀ t : Fin grid0.N, win0_6.flush t = true → t.val ≠ 0 := by decide +kernel
/-- The grid has 49 points. -/
theorem point_lt (t : Fin grid0.N) : t.val < 49 := lt_of_lt_of_eq t.isLt (by decide +kernel)

/-- What an even point leaves in the first accumulator. -/
theorem even_left (c : Dev nD) (t : Fin grid0.N) (h : t.val % 2 = 0) :
    (outsAt0 m c t.val t.isLt).2.2.1 = k0_pay2 (iblk m c 0 t) (iblk m c 1 t) := by
  by_cases h0 : t.val % 49 = 0
  · rw [outsAt0_A m c t h0 h (by omega)]
    frame_out
  · rw [outsAt0_C m c t h0 h (by omega)]
    frame_out

/-- What an odd point leaves in the second accumulator. -/
theorem odd_left (c : Dev nD) (t : Fin grid0.N) (h : t.val % 2 = 1) :
    (outsAt0 m c t.val t.isLt).2.2.2 = k0_pay2 (iblk m c 0 t) (iblk m c 1 t) := by
  have h0 : ¬ t.val % 49 = 0 := by have := point_lt t; omega
  rw [outsAt0_B m c t h0 (by omega) h]
  frame_out
  rfl

/-- The tile point `t` writes, entry by entry, from the accumulator the point before it filled. -/
theorem entry (c : Dev nD) (t s : Fin grid0.N) (hs : t.val = s.val + 1) (r : Fin 1024) (n : Fin 512) :
    (k0_pay2 (iblk m c 0 s) (iblk m c 1 s) (ix2 r n) : EReal)
      = product (m ((c : Thread nD τ).loc main_arg0)) (m ((c : Thread nD τ).loc main_arg1))
          ⟨(t.val - 1) / 2 * 1024 + r.val, by have := point_lt t; omega⟩ ⟨(t.val - 1) % 2 * 512 + n.val, by omega⟩ := by
  have ht := point_lt t
  rw [pay_apply]
  unfold product
  blk_point [iblk, V, index_0 s, index_1 s]

/-- The lanes of one head, as the body loads them. -/
abbrev head (c : Dev nD) (s : Fin grid0.N) (o : ℕ) (h : ∀ a, (![0, o] : Fin 2 → ℕ) a + S1024x128.size a ≤ S1024x512.size a) :
    Vec Ideal S1024x128 .f32 :=
  View.ld (Val := Elt Ideal) (e' := .f32) (k0_pay2 (iblk m c 0 s) (iblk m c 1 s)) (Rect.unit (s := S1024x512) ![0, o] S1024x128.size h)

/-- A head's lanes are the entries of the projection in the head of the column written. -/
theorem head_apply (c : Dev nD) (t s : Fin grid0.N) (hs : t.val = s.val + 1) (o : ℕ) (ho : o % 128 = 0)
    (h : ∀ a, (![0, o] : Fin 2 → ℕ) a + S1024x128.size a ≤ S1024x512.size a) (r : Fin 1024) (d : Fin 128) (i : S24576x1024.Idx)
    (e0 : (i 0).val = (t.val - 1) / 2 * 1024 + r.val) (e1 : (i 1).val = (t.val - 1) % 2 * 512 + o + d.val) (e : Fin 128) :
    (head m c s o h (ix2 r e) : EReal) = product (m ((c : Thread nD τ).loc main_arg0)) (m ((c : Thread nD τ).loc main_arg1)) (i 0)
      (sibling (N := 1024) rfl (i 1) e) := by
  have ho' : o + 128 ≤ 512 := h 1
  exact (loaded _ o h r e (⟨o + e.val, by omega⟩ : Fin 512) rfl).trans ((entry m c t s hs r _).trans
    (congrArg₂ (product _ _) (show _ = i 0 from Fin.ext e0.symm) (show _ = sibling (N := 1024) rfl (i 1) e from Fin.ext (by
      show (t.val - 1) % 2 * 512 + (o + e.val) = (i 1).val / 128 * 128 + e.val; omega))))

/-- The gain the body reads. -/
theorem gain (c : Dev nD) (t : Fin grid0.N) (e : Fin 128) :
    (k0_pay5 (iblk m c 2 t) (ix2 (0 : Fin 1) e) : EReal) = m ((c : Thread nD τ).loc main_arg2) (ix3 (0 : Fin 2) (0 : Fin 1) e) := by
  refine (Cert.Shared.drop_lead (iblk m c 2 t : FVec Ideal S1x1x128 .f32) shapeCasts_S1x1x128_S1x128 (0 : Fin 1) e).trans ?_
  blk_point [iblk, V, index_2 t]

/-- One head of the rotated tile point `t` writes. -/
theorem rotated_eq (c : Dev nD) (t s : Fin grid0.N) (hs : t.val = s.val + 1) (y : ((cfg0.win 5).xblock (cfg0.grid.coords t)).Idx)
    (o : ℕ) (ho : o % 128 = 0) (h : ∀ a, (![0, o] : Fin 2 → ℕ) a + S1024x128.size a ≤ S1024x512.size a)
    (x : S1024x128.Idx) (h0 : (y 0).val = (x 0).val) (h1 : (y 1).val = o + (x 1).val) :
    k0_pay14 (F := Ideal) k0_pay4 (k0_pay5 (iblk m c 2 t)) (iblk m c 3 t) (iblk m c 4 t) (head m c s o h) x
      = result0 m c (((View.whole main_v0_0).slice (win0_5.rect t)).emb y) := by
  obtain ⟨r, d, rfl⟩ : ∃ (r : Fin 1024) (d : Fin 128), x = ix2 r d := ⟨x 0, x 1, eq_ix2 x⟩
  have ht := point_lt t
  refine (Cert.Heads.turnedTile_apply iota_S1024x128_d1_w32 broadcasts_S1024x128_S1024x128 reduces_S1024x128_S1024
    shapeCasts_S1024_S1024x1 broadcasts_S1024x1_S1024x128 broadcasts_S1x128_S1024x128 rotates_S1024x128_d1 bitsLt_bf16_f32
    (k0_pay5 (iblk m c 2 t)) (iblk m c 3 t) (iblk m c 4 t) _ r d).trans ?_
  have ho' : o + 128 ≤ 512 := h 1
  have e0 : ((((View.whole main_v0_0).slice (win0_5.rect t)).emb y) 0).val = (t.val - 1) / 2 * 1024 + r.val := by
    have h0 : (y 0).val = r.val := h0
    blk_simp [index_5 t]; omega
  have e1 : ((((View.whole main_v0_0).slice (win0_5.rect t)).emb y) 1).val = (t.val - 1) % 2 * 512 + o + d.val := by
    have h1 : (y 1).val = o + d.val := h1
    blk_simp [index_5 t]; omega
  unfold result0 rotatedHeads
  generalize ((View.whole main_v0_0).slice (win0_5.rect t)).emb y = i at e0 e1 ⊢
  have el : lane (i 1) = d := Fin.ext (by show (i 1).val % 128 = d.val; omega)
  have hR : (tableRow (i 0)).val = (if (t.val - 1) / 2 < 8 then 4 else ((t.val - 1) / 2 - 8) % 4) * 1024 + r.val := by
    unfold tableRow
    split <;> split <;> (dsimp only; omega)
  have hc : (iblk m c 3 t (ix2 r d) : EReal) = m ((c : Thread nD τ).loc main_arg3) (ix2 (tableRow (i 0)) d) := by
    blk_point [iblk, V, index_3 t]
  have hn : (iblk m c 4 t (ix2 r d) : EReal) = m ((c : Thread nD τ).loc main_arg4) (ix2 (tableRow (i 0)) d) := by
    blk_point [iblk, V, index_4 t]
  rw [el, hc, hn, funext (head_apply m c t s hs o ho h r d i e0 e1), funext (gain m c t)]

/-- One head of the tile point `t` writes before the rotation. -/
theorem normed_eq (c : Dev nD) (t s : Fin grid0.N) (hs : t.val = s.val + 1) (y : ((cfg0.win 6).xblock (cfg0.grid.coords t)).Idx)
    (o : ℕ) (ho : o % 128 = 0) (h : ∀ a, (![0, o] : Fin 2 → ℕ) a + S1024x128.size a ≤ S1024x512.size a)
    (x : S1024x128.Idx) (h0 : (y 0).val = (x 0).val) (h1 : (y 1).val = o + (x 1).val) :
    k0_pay13 (F := Ideal) (k0_pay5 (iblk m c 2 t)) (head m c s o h) x
      = result1 m c (((View.whole main_v0_1).slice (win0_6.rect t)).emb y) := by
  obtain ⟨r, d, rfl⟩ : ∃ (r : Fin 1024) (d : Fin 128), x = ix2 r d := ⟨x 0, x 1, eq_ix2 x⟩
  have ht := point_lt t
  refine (Cert.Heads.normedTile_apply reduces_S1024x128_S1024 shapeCasts_S1024_S1024x1 broadcasts_S1024x1_S1024x128
    broadcasts_S1x128_S1024x128 (k0_pay5 (iblk m c 2 t)) _ r d).trans ?_
  have ho' : o + 128 ≤ 512 := h 1
  have e0 : ((((View.whole main_v0_1).slice (win0_6.rect t)).emb y) 0).val = (t.val - 1) / 2 * 1024 + r.val := by
    have h0 : (y 0).val = r.val := h0
    blk_simp [index_6 t]; omega
  have e1 : ((((View.whole main_v0_1).slice (win0_6.rect t)).emb y) 1).val = (t.val - 1) % 2 * 512 + o + d.val := by
    have h1 : (y 1).val = o + d.val := h1
    blk_simp [index_6 t]; omega
  unfold result1 normedHeads
  generalize ((View.whole main_v0_1).slice (win0_6.rect t)).emb y = i at e0 e1 ⊢
  have el : lane (i 1) = d := Fin.ext (by show (i 1).val % 128 = d.val; omega)
  rw [el, funext (head_apply m c t s hs o ho h r d i e0 e1), funext (gain m c t)]

/-- A point after the first has a point before it. -/
theorem before (m : (ℓ : Loc nD τ sig) → Buf (Elt Ideal) ℓ) (c : Dev nD) (t : Fin grid0.N) (ht : t.val ≠ 0) : ∃ s : Fin grid0.N,
    t.val = s.val + 1 ∧ outsAt0 m c (t.val - 1) (Nat.lt_of_le_of_lt (Nat.sub_le _ _) t.isLt) = outsAt0 m c s.val s.isLt :=
  ⟨⟨t.val - 1, lt_of_le_of_lt (Nat.sub_le _ _) t.isLt⟩, by show t.val = t.val - 1 + 1; omega, rfl⟩

/-- The rotated result array after the run: each point writes the tile before its own, and the tiles cover it. -/
theorem final_5 (c : Dev nD) : (dats m 0 c).arrAt 5 cfg0.N = result0 m c := by
  refine (dats m 0 c).arrAt_eq_of_covers 5 _ (by decide +kernel) fun t hf y => ?_
  have ht := late_5 t hf
  obtain ⟨s, hs, es⟩ := before m c t ht
  blk_simp
  rw [after0_5]
  by_cases h : t.val % 2 = 1
  · have h0 : ¬ t.val % 49 = 0 := by have := point_lt t; omega
    rw [outsAt0_B m c t h0 (by omega) h, es, even_left m c s (by omega)]
    frame_out
    canon_tiles x hx
    all_goals rw [read_unread_whole]
    · exact rotated_eq m c t s hs y 384 rfl _ x hx0 hx1
    · exact rotated_eq m c t s hs y 256 rfl _ x hx0 hx1
    · exact rotated_eq m c t s hs y 128 rfl _ x hx0 hx1
    · exact rotated_eq m c t s hs y 0 rfl _ x hx0 (hx1.trans (Nat.zero_add _).symm)
  · rw [outsAt0_C m c t (by have := point_lt t; omega) (by omega) h, es, odd_left m c s (by omega)]
    frame_out
    canon_tiles x hx
    all_goals rw [read_unread_whole]
    · exact rotated_eq m c t s hs y 384 rfl _ x hx0 hx1
    · exact rotated_eq m c t s hs y 256 rfl _ x hx0 hx1
    · exact rotated_eq m c t s hs y 128 rfl _ x hx0 hx1
    · exact rotated_eq m c t s hs y 0 rfl _ x hx0 (hx1.trans (Nat.zero_add _).symm)

/-- The other result array after the run. -/
theorem final_6 (c : Dev nD) : (dats m 0 c).arrAt 6 cfg0.N = result1 m c := by
  refine (dats m 0 c).arrAt_eq_of_covers 6 _ (by decide +kernel) fun t hf y => ?_
  have ht := late_6 t hf
  obtain ⟨s, hs, es⟩ := before m c t ht
  blk_simp
  rw [after0_6]
  by_cases h : t.val % 2 = 1
  · have h0 : ¬ t.val % 49 = 0 := by have := point_lt t; omega
    rw [outsAt0_B m c t h0 (by omega) h, es, even_left m c s (by omega)]
    frame_out
    canon_tiles x hx
    all_goals rw [read_unread_whole]
    · exact normed_eq m c t s hs y 384 rfl _ x hx0 hx1
    · exact normed_eq m c t s hs y 256 rfl _ x hx0 hx1
    · exact normed_eq m c t s hs y 128 rfl _ x hx0 hx1
    · exact normed_eq m c t s hs y 0 rfl _ x hx0 (hx1.trans (Nat.zero_add _).symm)
  · rw [outsAt0_C m c t (by have := point_lt t; omega) (by omega) h, es, odd_left m c s (by omega)]
    frame_out
    canon_tiles x hx
    all_goals rw [read_unread_whole]
    · exact normed_eq m c t s hs y 384 rfl _ x hx0 hx1
    · exact normed_eq m c t s hs y 256 rfl _ x hx0 hx1
    · exact normed_eq m c t s hs y 128 rfl _ x hx0 hx1
    · exact normed_eq m c t s hs y 0 rfl _ x hx0 (hx1.trans (Nat.zero_add _).symm)

variable (ρ : Dev nD → PrngReg)

/-- The kernel's run, read: the two result arrays at the heads after and before the rotation, the arguments unchanged. -/
theorem run : θ_run defs (onTc (τ := τ) (main (F := Ideal))) ⟨m, fun _ => 0, ρ⟩ fun r => ∀ c : Dev nD,
      r.2.mem ((c : Thread nD τ).loc main_v0_0) = result0 m c
      ∧ r.2.mem ((c : Thread nD τ).loc main_v0_1) = result1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1).trans (final_5 m c), ((h c).2.1).trans (final_6 m c), (h c).2.2⟩) (Value.run_blocks m ρ)

end Cert.KeyIdeal.Hand

namespace Cert.KeyReferenceIdeal.Hand

open Cert.KeyReferenceIdeal Cert.KeyReferenceIdeal.Gen Cert.KeyReferenceIdeal.Read
open Cert.Heads (normed tableRow partner lane product normedHeads rotatedHeads)

variable (x0 : FVec Ideal S24576x4096 .bf16) (x1 : FVec Ideal S2x4096x1024 .bf16) (x2 : FVec Ideal S2x1x128 .f32)
  (x3 x4 : FVec Ideal S5120x128 .f32)

/-- Lane `d` of head `k`, as a column of the projection. -/
def column (k : Fin 8) (d : Fin 128) : Fin 1024 := ⟨k.val * 128 + d.val, by omega⟩

/-- The reference's projection, split into heads. -/
theorem product_apply (r : Fin 24576) (k : Fin 8) (d : Fin 128) :
    (val_main_v7 (F := Ideal) x0 x1 (ix3 r k d) : EReal) = product x0 x1 r (column k d) := by
  have e : idx_main_v7 (ix3 r k d) = ix2 r (column k d) := funext fun a => Fin.ext (match a with
    | ⟨0, _⟩ => by show ((r.val * 8 + k.val) * 128 + d.val) / 1024 = r.val; omega
    | ⟨1, _⟩ => by show ((r.val * 8 + k.val) * 128 + d.val) % 1024 = k.val * 128 + d.val; omega)
  rw [val_main_v7_apply, e, val_main_v6_apply]
  refine Finset.sum_congr rfl fun z _ => ?_
  rw [val_main_v4_apply, val_main_v5_apply, val_main_v1_apply, val_main_v0_apply]
  have e0 : lidx_main_v6 (ix2 r (column k d)) z = ix2 r z := by idx_ext
  have e1 : idx_main_v0 (idx_main_v1 (ridx_main_v6 (ix2 r (column k d)) z)) = ix3 (0 : Fin 2) z (column k d) := by
    generalize column k d = n
    idx_ext
  exact congrArg₂ (fun a b : EReal => a * b) (congrArg x0 e0) (congrArg x1 e1)

/-- The reference's norm of a head. -/
theorem normed_apply (r : Fin 24576) (k : Fin 8) (d : Fin 128) :
    (val_main_v20 (F := Ideal) x0 x1 x2 (ix3 r k d) : EReal)
      = normed (fun e => product x0 x1 r (column k e)) (fun e => x2 (ix3 (0 : Fin 2) (0 : Fin 1) e)) d := by
  have es : (val_main_v9 (F := Ideal) x0 x1 (idx_main_v10 (idx_main_v16 (ix3 r k d))) : EReal)
      = ∑ e : Fin 128, product x0 x1 r (column k e) * product x0 x1 r (column k e) := by
    rw [val_main_v9_apply, val_main_cst_apply]
    refine (congrArg (· + _) Cert.Shared.ofBits_zero).trans ((zero_add _).trans (Finset.sum_congr rfl fun e _ => ?_))
    have ei : idx_main_v9 (idx_main_v10 (idx_main_v16 (ix3 r k d))) e = ix3 r k e := by idx_ext
    rw [ei, val_main_v8_apply, product_apply]
    rfl
  have eg : idx_main_v2 (idx_main_v3 (idx_main_v18 (idx_main_v19 (ix3 r k d)))) = ix3 (0 : Fin 2) (0 : Fin 1) d := by idx_ext
  rw [val_main_v20_apply, val_main_v17_apply, val_main_v16_apply, val_main_v15_apply, val_main_v14_apply, val_main_v12_apply,
    val_main_v10_apply, es, val_main_v11_apply, val_main_cst_0_apply, val_main_v13_apply, val_main_cst_1_apply, val_main_v19_apply,
    val_main_v18_apply, val_main_v3_apply, val_main_v2_apply, eg, product_apply]
  rfl

/-- Each lane's partner in the reference. -/
theorem partner_apply (r : Fin 24576) (k : Fin 8) (d : Fin 128) :
    (val_main_v25 (F := Ideal) x0 x1 x2 (ix3 r k d) : EReal) = val_main_v20 (F := Ideal) x0 x1 x2 (ix3 r k (partner d)) := by
  have e : idx_main_v25 (ix3 r k d) = ix5 r k (⟨d.val / 64, by omega⟩ : Fin 2) (⟨d.val / 32 % 2, by omega⟩ : Fin 2)
      (⟨d.val % 32, by omega⟩ : Fin 32) := funext fun a => Fin.ext (match a with
    | ⟨0, _⟩ => by show ((r.val * 8 + k.val) * 128 + d.val) / 1024 = r.val; omega
    | ⟨1, _⟩ => by show ((r.val * 8 + k.val) * 128 + d.val) / 128 % 8 = k.val; omega
    | ⟨2, _⟩ => by show ((r.val * 8 + k.val) * 128 + d.val) / 64 % 2 = d.val / 64; omega
    | ⟨3, _⟩ => by show ((r.val * 8 + k.val) * 128 + d.val) / 32 % 2 = d.val / 32 % 2; omega
    | ⟨4, _⟩ => by show ((r.val * 8 + k.val) * 128 + d.val) % 32 = d.val % 32; omega)
  rw [val_main_v25_apply, e]
  unfold val_main_v24
  refine Cert.Heads.exchanged_apply _ _ _ _ (fun r k b e => ?_) (fun r k b e => ?_) r k d
  · rw [val_main_v22_apply, val_main_v21_apply]
    refine congrArg (val_main_v20 (F := Ideal) x0 x1 x2) (funext fun a => Fin.ext (match a with
      | ⟨0, _⟩ => by show ((((r.val * 8 + k.val) * 2 + b.val) * 2 + (1 + 0)) * 32 + e.val) / 1024 = r.val; omega
      | ⟨1, _⟩ => by show ((((r.val * 8 + k.val) * 2 + b.val) * 2 + (1 + 0)) * 32 + e.val) / 128 % 8 = k.val; omega
      | ⟨2, _⟩ => by show ((((r.val * 8 + k.val) * 2 + b.val) * 2 + (1 + 0)) * 32 + e.val) % 128 = b.val * 64 + 32 + e.val; omega))
  · rw [val_main_v23_apply, val_main_v21_apply]
    refine congrArg (val_main_v20 (F := Ideal) x0 x1 x2) (funext fun a => Fin.ext (match a with
      | ⟨0, _⟩ => by show ((((r.val * 8 + k.val) * 2 + b.val) * 2 + 0) * 32 + e.val) / 1024 = r.val; omega
      | ⟨1, _⟩ => by show ((((r.val * 8 + k.val) * 2 + b.val) * 2 + 0) * 32 + e.val) / 128 % 8 = k.val; omega
      | ⟨2, _⟩ => by show ((((r.val * 8 + k.val) * 2 + b.val) * 2 + 0) * 32 + e.val) % 128 = b.val * 64 + e.val; omega))

/-- The reference's table of cosines, one row for each row of the flat streams. -/
theorem cosines (r : Fin 24576) (d : Fin 128) : val_main_v34 (F := Ideal) x3 (ix2 r d) = x3 (ix2 (tableRow r) d) := by
  unfold val_main_v34
  refine Cert.Heads.table_apply _ _ x3 _ (fun r d => ?_) (fun r d => ?_) r d
  · rw [val_main_v29_apply, val_main_v28_apply, val_main_v27_apply, val_main_v26_apply]
    refine congrArg x3 (funext fun a => Fin.ext (match a with
      | ⟨0, _⟩ => by show 4096 + (r.val * 128 + d.val) / 128 % 1024 = 4096 + r.val % 1024; omega
      | ⟨1, _⟩ => by show (r.val * 128 + d.val) % 128 = d.val; omega))
  · rw [val_main_v33_apply, val_main_v32_apply, val_main_v31_apply, val_main_v30_apply]
    refine congrArg x3 (funext fun a => Fin.ext (match a with
      | ⟨0, _⟩ => by show (r.val * 128 + d.val) / 128 % 4096 = r.val % 4096; omega
      | ⟨1, _⟩ => by show (r.val * 128 + d.val) % 128 = d.val; omega))

/-- The reference's table of sines is spread the same way. -/
theorem sines (r : Fin 24576) (d : Fin 128) : val_main_v46 (F := Ideal) x4 (ix2 r d) = x4 (ix2 (tableRow r) d) := cosines x4 r d

/-- The reference's rotated result is the kernel's. -/
theorem rotated_eq : val_main_v52 (F := Ideal) x0 x1 x2 x3 x4 = rotatedHeads (N := 1024) rfl x0 x1 x2 x3 x4 := by
  funext i
  obtain ⟨r, n, rfl⟩ : ∃ (r : Fin 24576) (n : Fin 1024), i = ix2 r n := ⟨i 0, i 1, eq_ix2 i⟩
  have e : idx_main_v51 (ix2 r n) = ix3 r (⟨n.val / 128, by omega⟩ : Fin 8) (lane n) := funext fun a => Fin.ext (match a with
    | ⟨0, _⟩ => by show (r.val * 1024 + n.val) / 1024 = r.val; omega
    | ⟨1, _⟩ => by show (r.val * 1024 + n.val) / 128 % 8 = n.val / 128; omega
    | ⟨2, _⟩ => by show (r.val * 1024 + n.val) % 128 = n.val % 128; omega)
  rw [val_main_v52_apply, val_main_v51_apply, e, val_main_v50_apply, val_main_v37_apply, val_main_v49_apply, partner_apply,
    normed_apply, normed_apply, val_main_v36_apply, val_main_v35_apply, val_main_v48_apply, val_main_v47_apply]
  have ec : idx_main_v35 (idx_main_v36 (ix3 r (⟨n.val / 128, by omega⟩ : Fin 8) (lane n))) = ix2 r (lane n) := by idx_ext
  have en : idx_main_v47 (idx_main_v48 (ix3 r (⟨n.val / 128, by omega⟩ : Fin 8) (lane n))) = ix2 r (lane n) := by idx_ext
  rw [ec, en, cosines, sines]
  rfl

/-- The reference's other result is the kernel's. -/
theorem normed_eq : val_main_v53 (F := Ideal) x0 x1 x2 = normedHeads (N := 1024) rfl x0 x1 x2 := by
  funext i
  obtain ⟨r, n, rfl⟩ : ∃ (r : Fin 24576) (n : Fin 1024), i = ix2 r n := ⟨i 0, i 1, eq_ix2 i⟩
  have e : idx_main_v53 (ix2 r n) = ix3 r (⟨n.val / 128, by omega⟩ : Fin 8) (lane n) := funext fun a => Fin.ext (match a with
    | ⟨0, _⟩ => by show (r.val * 1024 + n.val) / 1024 = r.val; omega
    | ⟨1, _⟩ => by show (r.val * 1024 + n.val) / 128 % 8 = n.val / 128; omega
    | ⟨2, _⟩ => by show (r.val * 1024 + n.val) % 128 = n.val % 128; omega)
  rw [val_main_v53_apply, e, normed_apply]
  rfl

variable (m : (ℓ : Loc nD τ sig) → Buf (Elt Ideal) ℓ) (ρ : Dev nD → PrngReg)

/-- The reference's run, read: the two result arrays at the heads after and before the rotation, the arguments unchanged. -/
theorem run : θ_run defs (onTc (τ := τ) (main (F := Ideal))) ⟨m, fun _ => 0, ρ⟩ fun r => ∀ c : Dev nD,
      r.2.mem ((c.tc : Thread nD τ).loc main_v52) = rotatedHeads (N := 1024) rfl (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4))
      ∧ r.2.mem ((c.tc : Thread nD τ).loc main_v53) = normedHeads (N := 1024) rfl (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1).trans ((val_main_v52_eq _ _).trans (rotated_eq _ _ _ _ _)),
      ((h c).2.1).trans ((val_main_v53_eq _ _ _).trans (normed_eq _ _ _)), (h c).2.2⟩)
    (Value.run (F := Ideal) m ρ)

end Cert.KeyReferenceIdeal.Hand

/-! ## The claims -/

namespace Cert.Proof.KeyClaims

/-- The kernel's program terminates and leaves its arguments alone, and the machine ends quiescent. -/
theorem frame_kernel : Cert.quiescent_Key := fun m ρ _ => Cert.Key.Gen.frame m ρ
/-- Its idealization likewise. -/
theorem frame_ideal : Cert.quiescent_KeyIdeal := fun m ρ _ => Cert.KeyIdeal.Gen.frame m ρ
/-- The reference's program likewise: it is host operations only and declares no semaphore. -/
theorem frame_reference : Cert.quiescent_KeyReferenceIdeal := fun m ρ _ =>
  (θ_run Cert.KeyReferenceIdeal.defs _ _).mono (fun r h => ⟨fun c => (h c).2.2, Idealize.ShloMosaic.sem_eq_zero_of_no_sems (by decide) r.2⟩)
    (Cert.KeyReferenceIdeal.Value.run (F := Ideal) m ρ)

/-- At the extended reals the kernel and the reference compute the same two arrays. -/
theorem algebraic : Cert.algebraic_KeyIdeal_KeyReferenceIdeal := by
  intro m ρ m' ρ' _ hagree
  refine ⟨fun c => Cert.KeyIdeal.Hand.result0 m c, fun c => Cert.KeyIdeal.Hand.result1 m c, Cert.KeyIdeal.Hand.run m ρ, ?_⟩
  refine (θ_run Cert.KeyReferenceIdeal.defs _ _).mono (fun _ h c => ⟨(h c).1.trans ?_, (h c).2.1.trans ?_, (h c).2.2⟩)
    (Cert.KeyReferenceIdeal.Hand.run m' ρ')
  · rw [(hagree c).1, (hagree c).2.1, (hagree c).2.2.1, (hagree c).2.2.2.1, (hagree c).2.2.2.2]
  · rw [(hagree c).1, (hagree c).2.1, (hagree c).2.2.1]

end Cert.Proof.KeyClaims

end
-- ==== Proof.AdaValue.lean ====
/-
  The table of modulations (`kernel_ada`), a product of the silu of the conditioning vectors with each layer's weights, at
  the extended reals: what one block of it computes, what its result array ends holding, and that the reference computes
  the same.
-/
module

public import proofs.«01_k».proof.Defs
public import proofs.«01_k».proof.Proof.Gen.Ada.Frame
public import proofs.«01_k».proof.Proof.Gen.AdaIdeal.Value
public import proofs.«01_k».proof.Proof.Gen.AdaReferenceIdeal.Read
public import proofs.«01_k».proof.Proof.Words
public import proofs.«01_k».proof.Proof.Streams
public import Idealize.ShloMosaic.Lib.Pipeline.Value
public import Idealize.ShloMosaic.Lib.Pipeline.ValueKit
public import Idealize.ShloMosaic.Lib.Pipeline.Covers
public import Idealize.ShloMosaic.Lib.ValueIdx
public import Idealize.ShloMosaic.Lib.ValueLayout
public import Idealize.ShloMosaic.Lib.Quiescent
public import Idealize.ShloMosaic.Lib.MatmulPlain
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)
open scoped BigOperators

namespace Cert.AdaIdeal.Hand

open Cert.AdaIdeal Cert.AdaIdeal.Gen

/-- The silu of the conditioning vectors times a layer's weights, plus its bias, entry by entry. -/
def table (x : FVec Ideal S8x4096 .f32) (w : FVec Ideal S4x4096x24576 .f32) (bias : FVec Ideal S4x1x24576 .f32) :
    FVec Ideal S4x8x24576 .f32 :=
  fun i => (∑ k : Fin 4096, x (ix2 (i 1) k) * Ideal.logistic (x (ix2 (i 1) k)) * w (ix3 (i 0) k (i 2)))
    + bias (ix3 (i 0) (0 : Fin 1) (i 2))

/-- What the body stores, read at one entry of the block. -/
theorem pay_apply (x0 : Vec Ideal S8x4096 .f32) (x1 : Vec Ideal S1x4096x1024 .f32) (x2 : Vec Ideal S1x1x1024 .f32)
    (r : Fin 8) (n : Fin 1024) :
    (k0_pay1 x0 x1 x2 (ix3 (0 : Fin 1) r n) : EReal)
      = (∑ k : Fin 4096, x0 (ix2 r k) * Ideal.logistic (x0 (ix2 r k)) * x1 (ix3 (0 : Fin 1) k n))
          + x2 (ix3 (0 : Fin 1) (0 : Fin 1) n) := by
  have hm : (matmul (F := Ideal) (φ₁ := .bf16) dot_S8x4096_S4096x1024_S8x1024_1_0_0_1_n_n none
          (truncf .bf16 (mulf x0 (logistic x0)) bitsLt_bf16_f32)
          (truncf .bf16 (shapeCast S4096x1024 x1 shapeCasts_S1x4096x1024_S4096x1024 : FVec Ideal S4096x1024 .f32) bitsLt_bf16_f32)
          (constant S8x1024 .f32 0x00000000#32) : FVec Ideal S8x1024 .f32) (ix2 r n)
        = ∑ k : Fin 4096, x0 (ix2 r k) * Ideal.logistic (x0 (ix2 r k)) * x1 (ix3 (0 : Fin 1) k n) := by
    refine (Cert.Shared.plain_zero (M := 8) (K := 4096) (N := 1024) _ _ r n).trans ?_
    exact Finset.sum_congr rfl fun k _ => congrArg (fun z : EReal => x0 (ix2 r k) * Ideal.logistic (x0 (ix2 r k)) * z)
      (Cert.Shared.drop_lead x1 _ k n)
  have hb := Cert.Shared.bias_row x2 shapeCasts_S1x1x1024_S1x1024 broadcasts_S1x1024_S8x1024 r n
  unfold k0_pay1
  refine (shapeCast_apply _ shapeCasts_S8x1024_S1x8x1024 (ix3 (0 : Fin 1) r n) (ix2 r n) ?_).trans
    ((ValueIdx.addf_apply _ _ _).trans (congrArg₂ (fun a b : EReal => a + b) hm hb))
  rw [Shape.rowMajor_val_two, Shape.rowMajor_val_three]
  show r.val * 1024 + n.val = (0 * 8 + r.val) * 1024 + n.val
  omega

variable (m : (ℓ : Loc nD τ sig) → Buf (Elt Ideal) ℓ)

/-- The call's result at device `c`'s argument arrays. -/
abbrev result (c : Dev nD) : Buf (Elt Ideal) ((c : Thread nD τ).loc main_v0) :=
  table (m ((c : Thread nD τ).loc main_arg0)) (m ((c : Thread nD τ).loc main_arg1)) (m ((c : Thread nD τ).loc main_arg2))

/-- Every point reads all the conditioning vectors. -/
theorem index_0 : ∀ t : Fin grid0.N, win0_0.index t = ![0, 0] := by decide +kernel
/-- Point `t` reads column tile `t % 24` of the weights of layer `t / 24`. -/
theorem index_1 : ∀ t : Fin grid0.N, win0_1.index t = ![t.val / 24, 0, t.val % 24] := by decide +kernel
/-- Point `t` reads column tile `t % 24` of the bias of layer `t / 24`. -/
theorem index_2 : ∀ t : Fin grid0.N, win0_2.index t = ![t.val / 24, 0, t.val % 24] := by decide +kernel
/-- Point `t` writes column tile `t % 24` of layer `t / 24` of the result. -/
theorem index_3 : ∀ t : Fin grid0.N, win0_3.index t = ![t.val / 24, 0, t.val % 24] := by decide +kernel

/-- The result array after the run: each point writes its tile of it, and the tiles cover it. -/
theorem final (c : Dev nD) : (dats m 0 c).arrAt 3 cfg0.N = result m c := by
  refine (dats m 0 c).arrAt_eq_of_covers 3 _ (by decide +kernel) fun t hf y => ?_
  blk_simp
  rw [after0_3]
  frame_out
  obtain ⟨r, n, rfl⟩ : ∃ (r : Fin 8) (n : Fin 1024), y = ix3 (0 : Fin 1) r n := ⟨y 1, y 2, (eq_ix3 y).trans (by
    congr 1; exact Subsingleton.elim (α := Fin 1) _ _)⟩
  rw [pay_apply]
  unfold result table
  blk_point [iblk, V, index_0 t, index_1 t, index_2 t, index_3 t]

variable (ρ : Dev nD → PrngReg)

/-- The kernel's run, read: the result array at the table, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final m c), (h c).2⟩) (Value.run_blocks m ρ)

end Cert.AdaIdeal.Hand

namespace Cert.AdaReferenceIdeal.Hand

open Cert.AdaReferenceIdeal Cert.AdaReferenceIdeal.Gen Cert.AdaReferenceIdeal.Read

variable (x0 : FVec Ideal S8x4096 .f32) (x1 : FVec Ideal S4x4096x24576 .f32) (x2 : FVec Ideal S4x1x24576 .f32)

/-- The reference's result, entry by entry: its product has the factors the other way round. -/
theorem val_eq : val_main_v4 (F := Ideal) x0 x1 x2 = Cert.AdaIdeal.Hand.table x0 x1 x2 := by
  have one : ∀ j, val_main_call0_v4 (F := Ideal) j = (1 : EReal) := fun j => by
    rw [val_main_call0_v4_apply, val_main_call0_cst_0_apply, Cert.Shared.ofBits_one]
  have one' : ∀ j, val_main_call0_v2 (F := Ideal) j = (1 : EReal) := fun j => by
    rw [val_main_call0_v2_apply, val_main_call0_cst_apply, Cert.Shared.ofBits_one]
  have hs (j : S8x4096.Idx) : (val_main_v0 (F := Ideal) x0 j : EReal) = x0 j * Ideal.logistic (x0 j) := by
    rw [val_main_v0_apply, val_main_call0_v5_apply, val_main_call0_v3_apply, val_main_call0_v1_apply, val_main_call0_v0_apply,
      one, one']
    rfl
  funext i
  rw [val_main_v4_apply, val_main_v2_apply, val_main_v1_apply, val_main_v3_apply]
  have eb : idx_main_v3 i = ix3 (i 0) (0 : Fin 1) (i 2) := by idx_ext
  refine congrArg₂ (fun a b : EReal => a + b) (Finset.sum_congr rfl fun k _ => ?_) (congrArg x2 eb)
  have e0 : lidx_main_v1 (idx_main_v2 i) k = ix3 (i 0) k (i 2) := by idx_ext
  have e1 : ridx_main_v1 (idx_main_v2 i) k = ix2 (i 1) k := by idx_ext
  rw [hs, mul_comm]
  exact congrArg₂ (fun (a b : EReal) => a * b) (congrArg (fun j => x0 j * Ideal.logistic (x0 j)) e1) (congrArg x1 e0)

variable (m : (ℓ : Loc nD τ sig) → Buf (Elt Ideal) ℓ) (ρ : Dev nD → PrngReg)

/-- The reference's run, read: the result array at the table, the arguments unchanged. -/
theorem run : θ_run defs (onTc (τ := τ) (main (F := Ideal))) ⟨m, fun _ => 0, ρ⟩ fun r => ∀ c : Dev nD,
      r.2.mem ((c.tc : Thread nD τ).loc main_v4) = Cert.AdaIdeal.Hand.table (m ((c.tc : Thread nD τ).loc main_arg0))
          (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1).trans ((val_main_v4_eq _ _ _).trans (val_eq _ _ _)), (h c).2⟩)
    (Value.run (F := Ideal) m ρ)

end Cert.AdaReferenceIdeal.Hand

/-! ## The claims -/

namespace Cert.Proof.AdaClaims

/-- The kernel's program terminates and leaves its arguments alone, and the machine ends quiescent. -/
theorem frame_kernel : Cert.quiescent_Ada := fun m ρ _ => Cert.Ada.Gen.frame m ρ
/-- Its idealization likewise. -/
theorem frame_ideal : Cert.quiescent_AdaIdeal := fun m ρ _ => Cert.AdaIdeal.Gen.frame m ρ
/-- The reference's program likewise: it is host operations only and declares no semaphore. -/
theorem frame_reference : Cert.quiescent_AdaReferenceIdeal := fun m ρ _ =>
  (θ_run Cert.AdaReferenceIdeal.defs _ _).mono (fun r h => ⟨fun c => (h c).2, Idealize.ShloMosaic.sem_eq_zero_of_no_sems (by decide) r.2⟩)
    (Cert.AdaReferenceIdeal.Value.run (F := Ideal) m ρ)

/-- At the extended reals the kernel and the reference compute the same array. -/
theorem algebraic : Cert.algebraic_AdaIdeal_AdaReferenceIdeal := by
  intro m ρ m' ρ' _ hagree
  refine ⟨fun c => Cert.AdaIdeal.Hand.result m c, Cert.AdaIdeal.Hand.run m ρ, ?_⟩
  refine (θ_run Cert.AdaReferenceIdeal.defs _ _).mono (fun _ h c => ⟨(h c).1.trans ?_, (h c).2⟩) (Cert.AdaReferenceIdeal.Hand.run m' ρ')
  rw [(hagree c).1, (hagree c).2.1, (hagree c).2.2]

end Cert.Proof.AdaClaims

end
-- ==== Proof.Rows.lean ====
/-
  A row of 4096 features divided by its root mean square, scaled, and shifted by the modulation of its stream: what a tile
  of 512 rows holds, and what the whole flat streams hold, at the extended reals.
-/
module

public import Idealize.ShloMosaic.Lib.ValueIdx
public import Idealize.ShloMosaic.Lib.ValueLayout
public import Idealize.ShloMosaic.Lib.Pointwise
public import Idealize.ShloMosaic.Lib.KernelVsHost
public import Idealize.ShloMosaic.Lib.Pipeline.Value
public import Idealize.ShloMosaic.Lib.Pipeline.ValueKit
public import Idealize.ShloMosaic.PureOps.Ideal.Laws
public import proofs.«01_k».proof.Proof.Words
public import proofs.«01_k».proof.Proof.Streams

@[expose] public section

set_option maxRecDepth 16384

noncomputable section

open Idealize.ShloMosaic
open scoped BigOperators

namespace Cert.Rows

/-- The reciprocal root mean square of a row, with the small number added to the mean square. -/
def scaling (a : Fin 4096 → EReal) : EReal :=
  Ideal.rsqrt (Ideal.div (∑ e : Fin 4096, a e * a e) (Ideal.ofBits .f32 0x45800000#32) + Ideal.ofBits .f32 0x358637BD#32)

/-- Feature `d` of a row after the norm with gain `g` and the modulation by one plus `scale` and by `shift`. -/
def modulated (a : Fin 4096 → EReal) (g shift scale : EReal) (d : Fin 4096) : EReal :=
  a d * scaling a * g * (Ideal.ofBits .f32 0x3F800000#32 + scale) + shift

/-- Equal rows, gains, shifts, scales and features give equal entries. -/
theorem modulated_congr {a a' : Fin 4096 → EReal} {g g' shift shift' scale scale' : EReal} {d d' : Fin 4096} (ha : ∀ e, a e = a' e)
    (hg : g = g') (hp : shift = shift') (hq : scale = scale') (hd : d = d') :
    modulated a g shift scale d = modulated a' g' shift' scale' d' := by
  rw [funext ha, hg, hp, hq, hd]

/-- Every row of the flat streams after the norm `j` of the first layer, shifted and scaled by the modulation rows `p` and
    `q` of its stream. -/
def modulatedRows (rows : Fin 24576 → Fin 4096 → EReal) (gain : FVec Ideal ⟨4, ![4, 2, 1, 4096]⟩ .f32)
    (mods : FVec Ideal ⟨5, ![4, 8, 6, 1, 4096]⟩ .f32) (j : Fin 2) (p q : Fin 6) : FVec Ideal ⟨2, ![24576, 4096]⟩ .bf16 :=
  fun i => modulated (rows (i 0)) (gain (ix4 (0 : Fin 4) j (0 : Fin 1) (i 1)))
    (mods (ix5 (0 : Fin 4) (Cert.Shared.stream (i 0)) p (0 : Fin 1) (i 1)))
    (mods (ix5 (0 : Fin 4) (Cert.Shared.stream (i 0)) q (0 : Fin 1) (i 1))) (i 1)

/-- A tile of rows. -/
abbrev Tile : Shape := ⟨2, ![512, 4096]⟩
/-- One number for each row of a tile. -/
abbrev Column : Shape := ⟨2, ![512, 1]⟩
/-- One number for each feature. -/
abbrev Line : Shape := ⟨2, ![1, 4096]⟩

/-- One row of gains spread over a tile's rows, at one entry. -/
theorem gain_row (x : FVec Ideal ⟨4, ![1, 1, 1, 4096]⟩ .f32) (hc : (⟨4, ![1, 1, 1, 4096]⟩ : Shape).ShapeCasts Line)
    (hb : Line.Broadcasts Tile) (r : Fin 512) (n : Fin 4096) :
    broadcastTo Tile (shapeCast Line x hc) hb (ix2 r n) = x (ix4 (0 : Fin 1) (0 : Fin 1) (0 : Fin 1) n) := by
  refine (ValueIdx.broadcastTo_1b_ab_apply _ _ r n).trans ?_
  refine shapeCast_apply x hc _ _ ?_
  rewrite [Shape.rowMajor_val_four, Shape.rowMajor_val_two]
  show ((0 * 1 + 0) * 1 + 0) * 4096 + n.val = 0 * 4096 + n.val
  omega

/-- The tile after the norm and the modulation, as the body computes it. -/
def modTile (hr : Tile.Reduces [1] ⟨1, ![512]⟩) (hs : (⟨1, ![512]⟩ : Shape).ShapeCasts Column) (hb : Column.Broadcasts Tile)
    (hg : (⟨4, ![1, 1, 1, 4096]⟩ : Shape).ShapeCasts Line) (hm : (⟨5, ![1, 1, 1, 1, 4096]⟩ : Shape).ShapeCasts Line)
    (hl : Line.Broadcasts Tile) (hw : FTy.bf16.bits < FTy.f32.bits) (a : FVec Ideal Tile .f32)
    (g : FVec Ideal ⟨4, ![1, 1, 1, 4096]⟩ .f32) (scale shift : FVec Ideal ⟨5, ![1, 1, 1, 1, 4096]⟩ .f32) : FVec Ideal Tile .bf16 :=
  truncf .bf16 (addf (mulf (mulf (mulf a (broadcastTo Tile (rsqrt (addf (divf (shapeCast Column
      (multiReduction .add [1] ⟨1, ![512]⟩ (mulf a a) 0x00000000#32 hr (.inl rfl) rfl) hs)
      (broadcast Column (Scalar.ofBits .f32 0x45800000#32))) (broadcast Column (Scalar.ofBits .f32 0x358637BD#32)))) hb))
    (broadcastTo Tile (shapeCast Line g hg) hl))
    (broadcastTo Tile (addf (broadcast Line (Scalar.ofBits .f32 0x3F800000#32)) (shapeCast Line scale hm)) hl))
    (broadcastTo Tile (shapeCast Line shift hm) hl)) hw

/-- The same, read at a row and a feature. -/
theorem modTile_apply (hr : Tile.Reduces [1] ⟨1, ![512]⟩) (hs : (⟨1, ![512]⟩ : Shape).ShapeCasts Column) (hb : Column.Broadcasts Tile)
    (hg : (⟨4, ![1, 1, 1, 4096]⟩ : Shape).ShapeCasts Line) (hm : (⟨5, ![1, 1, 1, 1, 4096]⟩ : Shape).ShapeCasts Line)
    (hl : Line.Broadcasts Tile) (hw : FTy.bf16.bits < FTy.f32.bits) (a : FVec Ideal Tile .f32)
    (g : FVec Ideal ⟨4, ![1, 1, 1, 4096]⟩ .f32) (scale shift : FVec Ideal ⟨5, ![1, 1, 1, 1, 4096]⟩ .f32) (r : Fin 512) (d : Fin 4096) :
    (modTile hr hs hb hg hm hl hw a g scale shift (ix2 r d) : EReal)
      = modulated (fun e => a (ix2 r e)) (g (ix4 (0 : Fin 1) (0 : Fin 1) (0 : Fin 1) d))
          (shift (ix5 (0 : Fin 1) (0 : Fin 1) (0 : Fin 1) (0 : Fin 1) d)) (scale (ix5 (0 : Fin 1) (0 : Fin 1) (0 : Fin 1) (0 : Fin 1) d)) d := by
  have hsum : (shapeCast Column (multiReduction .add [1] ⟨1, ![512]⟩ (mulf a a) 0x00000000#32 hr (.inl rfl) rfl) hs
      (ix2 r (0 : Fin 1)) : EReal) = ∑ e : Fin 4096, (a (ix2 r e) : EReal) * a (ix2 r e) := by
    refine (shapeCast_apply _ hs (ix2 r (0 : Fin 1)) (ix1 r) ?_).trans
      ((Ideal.multiReduction_add_single (mulf a a) _ hr _ _ (ix1 r)).trans ?_)
    · rw [Shape.rowMajor_val_one, Shape.rowMajor_val_two]; show r.val = r.val * 1 + 0; omega
    · refine Finset.sum_congr rfl fun k _ => ?_
      exact congrArg (mulf a a) (funext fun c => Fin.ext (by rw [hr.lift_val]; match c with | ⟨0, _⟩ => rfl | ⟨1, _⟩ => rfl))
  have hscale : (shapeCast Line scale hm (ix2 (0 : Fin 1) d) : EReal) = scale (ix5 (0 : Fin 1) (0 : Fin 1) (0 : Fin 1) (0 : Fin 1) d) :=
    (ValueIdx.broadcastTo_1b_ab_apply (shapeCast Line scale hm) hl r d).symm.trans (Cert.Shared.gate_row scale hm hl r d)
  unfold modTile modulated scaling
  rw [ValueIdx.truncf_apply, ValueIdx.addf_apply, ValueIdx.mulf_apply, ValueIdx.mulf_apply, ValueIdx.mulf_apply,
    broadcastTo_apply _ hb (ix2 r d) (ix2 r (0 : Fin 1)) (fun c => match c with | ⟨0, _⟩ => rfl | ⟨1, _⟩ => rfl),
    gain_row g hg hl r d, Cert.Shared.gate_row shift hm hl r d,
    broadcastTo_apply _ hl (ix2 r d) (ix2 (0 : Fin 1) d) (fun c => match c with | ⟨0, _⟩ => rfl | ⟨1, _⟩ => rfl), ← hsum, ← hscale]
  rfl

end Cert.Rows

end
-- ==== Proof.NormValue.lean ====
/-
  The norm of the rows with the modulation (`kernel_norm`) at the extended reals: what one block of it computes, what its
  result array ends holding, and that the reference computes the same.
-/
module

public import proofs.«01_k».proof.Defs
public import proofs.«01_k».proof.Proof.Gen.Norm.Frame
public import proofs.«01_k».proof.Proof.Gen.NormIdeal.Value
public import proofs.«01_k».proof.Proof.Gen.NormReferenceIdeal.Read
public import proofs.«01_k».proof.Proof.Words
public import proofs.«01_k».proof.Proof.Streams
public import proofs.«01_k».proof.Proof.Rows
public import Idealize.ShloMosaic.Lib.Pipeline.Value
public import Idealize.ShloMosaic.Lib.Pipeline.ValueKit
public import Idealize.ShloMosaic.Lib.Pipeline.Covers
public import Idealize.ShloMosaic.Lib.ValueIdx
public import Idealize.ShloMosaic.Lib.ValueLayout
public import Idealize.ShloMosaic.Lib.Quiescent
public import Idealize.ShloMosaic.Lib.MatmulPlain
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)
open scoped BigOperators

namespace Cert.NormIdeal.Hand

open Cert.NormIdeal Cert.NormIdeal.Gen

/-- The call's result, entry by entry: the rows after the second norm of the first layer. -/
def rows (y : FVec Ideal S24576x4096 .f32) (gain : FVec Ideal S4x2x1x4096 .f32) (mods : FVec Ideal S4x8x6x1x4096 .f32) :
    FVec Ideal S24576x4096 .bf16 :=
  Cert.Rows.modulatedRows (fun r e => y (ix2 r e)) gain mods (1 : Fin 2) (3 : Fin 6) (4 : Fin 6)

/-- What the body stores, read at one entry of the block. -/
theorem pay_apply (x0 : Vec Ideal S512x4096 .f32) (x1 : Vec Ideal S1x1x1x4096 .f32) (x2 x3 : Vec Ideal S1x1x1x1x4096 .f32)
    (r : Fin 512) (n : Fin 4096) :
    (k0_pay1 x0 x1 x2 x3 (ix2 r n) : EReal)
      = Cert.Rows.modulated (fun e => x0 (ix2 r e)) (x1 (ix4 (0 : Fin 1) (0 : Fin 1) (0 : Fin 1) n))
          (x3 (ix5 (0 : Fin 1) (0 : Fin 1) (0 : Fin 1) (0 : Fin 1) n)) (x2 (ix5 (0 : Fin 1) (0 : Fin 1) (0 : Fin 1) (0 : Fin 1) n)) n :=
  Cert.Rows.modTile_apply reduces_S512x4096_S512 shapeCasts_S512_S512x1 broadcasts_S512x1_S512x4096 shapeCasts_S1x1x1x4096_S1x4096
    shapeCasts_S1x1x1x1x4096_S1x4096 broadcasts_S1x4096_S512x4096 bitsLt_bf16_f32 x0 x1 x2 x3 r n

variable (m : (ℓ : Loc nD τ sig) → Buf (Elt Ideal) ℓ)

/-- The call's result at device `c`'s argument arrays. -/
abbrev result (c : Dev nD) : Buf (Elt Ideal) ((c : Thread nD τ).loc main_v0) :=
  rows (m ((c : Thread nD τ).loc main_arg0)) (m ((c : Thread nD τ).loc main_arg1)) (m ((c : Thread nD τ).loc main_arg2))

/-- Point `t` reads row tile `t`. -/
theorem index_0 : ∀ t : Fin grid0.N, win0_0.index t = ![t.val, 0] := by decide +kernel
/-- Every point reads the gain of the second norm of the first layer. -/
theorem index_1 : ∀ t : Fin grid0.N, win0_1.index t = ![0, 1, 0, 0] := by decide +kernel
/-- Point `t` reads the shift of its rows' stream. -/
theorem index_2 : ∀ t : Fin grid0.N, win0_2.index t = ![0, (t.val - 8) / 8, 3, 0, 0] := by decide +kernel
/-- Point `t` reads the scale of its rows' stream. -/
theorem index_3 : ∀ t : Fin grid0.N, win0_3.index t = ![0, (t.val - 8) / 8, 4, 0, 0] := by decide +kernel
/-- Point `t` writes row tile `t` of the result. -/
theorem index_4 : ∀ t : Fin grid0.N, win0_4.index t = ![t.val, 0] := by decide +kernel

/-- The result array after the run: each point writes its tile of it, and the tiles cover it. -/
theorem final (c : Dev nD) : (dats m 0 c).arrAt 4 cfg0.N = result m c := by
  refine (dats m 0 c).arrAt_eq_of_covers 4 _ (by decide +kernel) fun t hf y => ?_
  blk_simp
  rw [after0_4]
  frame_out
  obtain ⟨r, n, rfl⟩ : ∃ (r : Fin 512) (n : Fin 4096), y = ix2 r n := ⟨y 0, y 1, eq_ix2 y⟩
  rw [pay_apply]
  unfold result rows Cert.Rows.modulatedRows Cert.Shared.stream
  refine Cert.Rows.modulated_congr (fun e => ?_) ?_ ?_ ?_ (Fin.ext ?_)
  · blk_point [iblk, V, index_0 t, index_4 t]
  · blk_point [iblk, V, index_1 t, index_4 t]
  · blk_point [iblk, V, index_2 t, index_4 t]
  · blk_point [iblk, V, index_3 t, index_4 t]
  · show n.val = win0_4.index t 1 * 4096 + 1 * n.val
    rw [index_4 t]
    show n.val = 0 * 4096 + 1 * n.val
    omega

variable (ρ : Dev nD → PrngReg)

/-- The kernel's run, read: the result array at the modulated rows, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final m c), (h c).2⟩) (Value.run_blocks m ρ)

end Cert.NormIdeal.Hand

namespace Cert.NormReferenceIdeal.Hand

open Cert.NormReferenceIdeal Cert.NormReferenceIdeal.Gen Cert.NormReferenceIdeal.Read
open Cert.Shared (stream low high behind stream_low stream_high rejoin)

variable (x0 : FVec Ideal S24576x4096 .f32) (x1 : FVec Ideal S4x2x1x4096 .f32) (x2 : FVec Ideal S4x8x6x1x4096 .f32)

/-- The reference's norm of a row. -/
theorem normed_apply (r : Fin 24576) (d : Fin 4096) :
    (val_main_v14 (F := Ideal) x0 x1 (ix2 r d) : EReal)
      = x0 (ix2 r d) * Cert.Rows.scaling (fun e => x0 (ix2 r e)) * x1 (ix4 (0 : Fin 4) (1 : Fin 2) (0 : Fin 1) d) := by
  have es : (val_main_v3 (F := Ideal) x0 (idx_main_v4 (idx_main_v10 (ix2 r d))) : EReal)
      = ∑ e : Fin 4096, x0 (ix2 r e) * x0 (ix2 r e) := by
    rw [val_main_v3_apply, val_main_cst_apply]
    refine (congrArg (· + _) Cert.Shared.ofBits_zero).trans ((zero_add _).trans (Finset.sum_congr rfl fun e _ => ?_))
    have ei : idx_main_v3 (idx_main_v4 (idx_main_v10 (ix2 r d))) e = ix2 r e := by idx_ext
    rw [ei, val_main_v2_apply]
    rfl
  have eg : idx_main_v0 (idx_main_v1 (idx_main_v12 (idx_main_v13 (ix2 r d)))) = ix4 (0 : Fin 4) (1 : Fin 2) (0 : Fin 1) d := by idx_ext
  rw [val_main_v14_apply, val_main_v11_apply, val_main_v10_apply, val_main_v9_apply, val_main_v8_apply, val_main_v6_apply,
    val_main_v4_apply, es, val_main_v5_apply, val_main_cst_0_apply, val_main_v7_apply, val_main_cst_1_apply, val_main_v13_apply,
    val_main_v12_apply, val_main_v1_apply, val_main_v0_apply, eg]
  rfl

/-- The reference's result, entry by entry: the context rows and the latent rows have their own modulation. -/
theorem val_eq : val_main_v42 (F := Ideal) x0 x1 x2 = Cert.NormIdeal.Hand.rows x0 x1 x2 := by
  have ht : val_main_v42 (F := Ideal) x0 x1 x2 = val_main_v41 (F := Ideal) x0 x1 x2 := rfl
  rw [ht]
  unfold val_main_v41
  refine rejoin _ _ _ concatenates_S8192x4096_S16384x4096_S24576x4096_d0 (fun r d => ?_) (fun b q d => ?_)
  · have ef : idx_main_v19 (ix2 r d) = ix2 (low r) d := by unfold low; idx_ext
    have eq : idx_main_v17 (idx_main_v18 (idx_main_v20 (idx_main_v23 (ix2 r d))))
        = ix5 (0 : Fin 4) (stream (low r)) (4 : Fin 6) (0 : Fin 1) d := by
      rw [stream_low]; idx_ext
    have ep : idx_main_v15 (idx_main_v16 (idx_main_v25 (idx_main_v26 (ix2 r d))))
        = ix5 (0 : Fin 4) (stream (low r)) (3 : Fin 6) (0 : Fin 1) d := by
      rw [stream_low]; idx_ext
    rw [val_main_v27_apply, val_main_v24_apply, val_main_v19_apply, ef, normed_apply, val_main_v23_apply, val_main_v22_apply,
      val_main_v21_apply, val_main_cst_2_apply, val_main_v20_apply, val_main_v18_apply, val_main_v17_apply, eq, val_main_v26_apply,
      val_main_v25_apply, val_main_v16_apply, val_main_v15_apply, ep]
    rfl
  · have e0 : idx_main_v40 (ix2 (behind b q) d) = ix3 b q d :=
      funext fun a => Fin.ext (match a with
        | ⟨0, _⟩ => by show ((b.val * 4096 + q.val) * 4096 + d.val) / 16777216 = b.val; omega
        | ⟨1, _⟩ => by show ((b.val * 4096 + q.val) * 4096 + d.val) / 4096 % 4096 = q.val; omega
        | ⟨2, _⟩ => by show ((b.val * 4096 + q.val) * 4096 + d.val) % 4096 = d.val; omega)
    have ef : idx_main_v28 (idx_main_v29 (ix3 b q d)) = ix2 (high b q) d := by unfold high; idx_ext
    have eq : idx_main_v17 (idx_main_v18 (idx_main_v30 (idx_main_v31 (idx_main_v34 (ix3 b q d)))))
        = ix5 (0 : Fin 4) (stream (high b q)) (4 : Fin 6) (0 : Fin 1) d := by
      rw [stream_high]; idx_ext
    have ep : idx_main_v15 (idx_main_v16 (idx_main_v36 (idx_main_v37 (idx_main_v38 (ix3 b q d)))))
        = ix5 (0 : Fin 4) (stream (high b q)) (3 : Fin 6) (0 : Fin 1) d := by
      rw [stream_high]; idx_ext
    rw [val_main_v40_apply, e0, val_main_v39_apply, val_main_v35_apply, val_main_v29_apply, val_main_v28_apply, ef, normed_apply,
      val_main_v34_apply, val_main_v33_apply, val_main_v32_apply, val_main_cst_3_apply, val_main_v31_apply, val_main_v30_apply,
      val_main_v18_apply, val_main_v17_apply, eq, val_main_v38_apply, val_main_v37_apply, val_main_v36_apply, val_main_v16_apply,
      val_main_v15_apply, ep]
    rfl

variable (m : (ℓ : Loc nD τ sig) → Buf (Elt Ideal) ℓ) (ρ : Dev nD → PrngReg)

/-- The reference's run, read: the result array at the modulated rows, the arguments unchanged. -/
theorem run : θ_run defs (onTc (τ := τ) (main (F := Ideal))) ⟨m, fun _ => 0, ρ⟩ fun r => ∀ c : Dev nD,
      r.2.mem ((c.tc : Thread nD τ).loc main_v42) = Cert.NormIdeal.Hand.rows (m ((c.tc : Thread nD τ).loc main_arg0))
          (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1).trans ((val_main_v42_eq _ _ _).trans (val_eq _ _ _)), (h c).2⟩)
    (Value.run (F := Ideal) m ρ)

end Cert.NormReferenceIdeal.Hand

/-! ## The claims -/

namespace Cert.Proof.NormClaims

/-- The kernel's program terminates and leaves its arguments alone, and the machine ends quiescent. -/
theorem frame_kernel : Cert.quiescent_Norm := fun m ρ _ => Cert.Norm.Gen.frame m ρ
/-- Its idealization likewise. -/
theorem frame_ideal : Cert.quiescent_NormIdeal := fun m ρ _ => Cert.NormIdeal.Gen.frame m ρ
/-- The reference's program likewise: it is host operations only and declares no semaphore. -/
theorem frame_reference : Cert.quiescent_NormReferenceIdeal := fun m ρ _ =>
  (θ_run Cert.NormReferenceIdeal.defs _ _).mono (fun r h => ⟨fun c => (h c).2, Idealize.ShloMosaic.sem_eq_zero_of_no_sems (by decide) r.2⟩)
    (Cert.NormReferenceIdeal.Value.run (F := Ideal) m ρ)

/-- At the extended reals the kernel and the reference compute the same array. -/
theorem algebraic : Cert.algebraic_NormIdeal_NormReferenceIdeal := by
  intro m ρ m' ρ' _ hagree
  refine ⟨fun c => Cert.NormIdeal.Hand.result m c, Cert.NormIdeal.Hand.run m ρ, ?_⟩
  refine (θ_run Cert.NormReferenceIdeal.defs _ _).mono (fun _ h c => ⟨(h c).1.trans ?_, (h c).2⟩) (Cert.NormReferenceIdeal.Hand.run m' ρ')
  rw [(hagree c).1, (hagree c).2.1, (hagree c).2.2]

end Cert.Proof.NormClaims

end
-- ==== Proof.StartValue.lean ====
/-
  The first norm of the rows with the modulation (`kernel_start`) at the extended reals, where the rows come in two arrays:
  what one block of it computes, what its result array ends holding, and that the reference computes the same.
-/
module

public import proofs.«01_k».proof.Defs
public import proofs.«01_k».proof.Proof.Gen.Start.Frame
public import proofs.«01_k».proof.Proof.Gen.StartIdeal.Value
public import proofs.«01_k».proof.Proof.Gen.StartReferenceIdeal.Read
public import proofs.«01_k».proof.Proof.Words
public import proofs.«01_k».proof.Proof.Streams
public import proofs.«01_k».proof.Proof.Rows
public import Idealize.ShloMosaic.Lib.Pipeline.Value
public import Idealize.ShloMosaic.Lib.Pipeline.ValueKit
public import Idealize.ShloMosaic.Lib.Pipeline.Covers
public import Idealize.ShloMosaic.Lib.ValueIdx
public import Idealize.ShloMosaic.Lib.ValueLayout
public import Idealize.ShloMosaic.Lib.Quiescent
public import Idealize.ShloMosaic.Lib.MatmulPlain
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)
open scoped BigOperators

namespace Cert.StartIdeal.Hand

open Cert.StartIdeal Cert.StartIdeal.Gen

/-- The context rows and the latent ones as one array. -/
def joined (yp : FVec Ideal S8192x4096 .f32) (ys : FVec Ideal S16384x4096 .f32) (r : Fin 24576) (d : Fin 4096) : EReal :=
  if h : r.val < 8192 then yp (ix2 (⟨r.val, h⟩ : Fin 8192) d) else ys (ix2 (⟨r.val - 8192, by omega⟩ : Fin 16384) d)

/-- The call's result, entry by entry: the rows after the first norm of the first layer. -/
def rows (yp : FVec Ideal S8192x4096 .f32) (ys : FVec Ideal S16384x4096 .f32) (gain : FVec Ideal S4x2x1x4096 .f32)
    (mods : FVec Ideal S4x8x6x1x4096 .f32) : FVec Ideal S24576x4096 .bf16 :=
  Cert.Rows.modulatedRows (joined yp ys) gain mods (0 : Fin 2) (0 : Fin 6) (1 : Fin 6)

/-- Points before the 16th are those of context rows. -/
theorem early : ∀ t : Fin grid0.N, Scalar.cmpi .slt (BitVec.ofNat 32 (grid0.coords t 0).val) 16#32
    = if t.val < 16 then 1#1 else 0#1 := by decide +kernel

/-- What the body stores at point `t`, read at one entry of the block. -/
theorem pay_apply (t : Fin grid0.N) (x0 x1 : Vec Ideal S512x4096 .f32) (x2 : Vec Ideal S1x1x1x4096 .f32)
    (x3 x4 : Vec Ideal S1x1x1x1x4096 .f32) (r : Fin 512) (n : Fin 4096) :
    (k0_pay1 (grid0.coords t) x0 x1 x2 x3 x4 (ix2 r n) : EReal)
      = Cert.Rows.modulated (fun e => (if t.val < 16 then x0 else x1) (ix2 r e)) (x2 (ix4 (0 : Fin 1) (0 : Fin 1) (0 : Fin 1) n))
          (x4 (ix5 (0 : Fin 1) (0 : Fin 1) (0 : Fin 1) (0 : Fin 1) n)) (x3 (ix5 (0 : Fin 1) (0 : Fin 1) (0 : Fin 1) (0 : Fin 1) n)) n := by
  have hs : (Scalar.select (Scalar.cmpi .slt (BitVec.ofNat 32 (grid0.coords t 0).val) 16#32) x0 x1 : Vec Ideal S512x4096 .f32)
      = if t.val < 16 then x0 else x1 := by
    rw [early t]
    split <;> rfl
  rw [← hs]
  exact Cert.Rows.modTile_apply reduces_S512x4096_S512 shapeCasts_S512_S512x1 broadcasts_S512x1_S512x4096 shapeCasts_S1x1x1x4096_S1x4096
    shapeCasts_S1x1x1x1x4096_S1x4096 broadcasts_S1x4096_S512x4096 bitsLt_bf16_f32 _ x2 x3 x4 r n

variable (m : (ℓ : Loc nD τ sig) → Buf (Elt Ideal) ℓ)

/-- The call's result at device `c`'s argument arrays. -/
abbrev result (c : Dev nD) : Buf (Elt Ideal) ((c : Thread nD τ).loc main_v0) :=
  rows (m ((c : Thread nD τ).loc main_arg0)) (m ((c : Thread nD τ).loc main_arg1)) (m ((c : Thread nD τ).loc main_arg2))
    (m ((c : Thread nD τ).loc main_arg3))

/-- Point `t` reads row tile `t` of the context rows, the last one after them. -/
theorem index_0 : ∀ t : Fin grid0.N, win0_0.index t = ![min t.val 15, 0] := by decide +kernel
/-- Point `t` reads row tile `t - 16` of the latent rows, the first one before them. -/
theorem index_1 : ∀ t : Fin grid0.N, win0_1.index t = ![t.val - 16, 0] := by decide +kernel
/-- Every point reads the gain of the first norm of the first layer. -/
theorem index_2 : ∀ t : Fin grid0.N, win0_2.index t = ![0, 0, 0, 0] := by decide +kernel
/-- Point `t` reads the shift of its rows' stream. -/
theorem index_3 : ∀ t : Fin grid0.N, win0_3.index t = ![0, (t.val - 8) / 8, 0, 0, 0] := by decide +kernel
/-- Point `t` reads the scale of its rows' stream. -/
theorem index_4 : ∀ t : Fin grid0.N, win0_4.index t = ![0, (t.val - 8) / 8, 1, 0, 0] := by decide +kernel
/-- Point `t` writes row tile `t` of the result. -/
theorem index_5 : ∀ t : Fin grid0.N, win0_5.index t = ![t.val, 0] := by decide +kernel

/-- The result array after the run: each point writes its tile of it, and the tiles cover it. -/
theorem final (c : Dev nD) : (dats m 0 c).arrAt 5 cfg0.N = result m c := by
  refine (dats m 0 c).arrAt_eq_of_covers 5 _ (by decide +kernel) fun t hf y => ?_
  blk_simp
  rw [after0_5]
  frame_out
  obtain ⟨r, n, rfl⟩ : ∃ (r : Fin 512) (n : Fin 4096), y = ix2 r n := ⟨y 0, y 1, eq_ix2 y⟩
  rw [pay_apply]
  have hr := r.isLt
  have hN : t.val < 48 := lt_of_lt_of_eq t.isLt (by decide +kernel)
  have he : ((((View.whole main_v0).slice (win0_5.rect t)).emb (ix2 r n)) (0 : Fin 2)).val = t.val * 512 + r.val := by
    show win0_5.index t 0 * 512 + 1 * r.val = _
    rw [index_5 t, Nat.one_mul]
    rfl
  unfold result rows Cert.Rows.modulatedRows Cert.Shared.stream
  refine Cert.Rows.modulated_congr (fun e => ?_) ?_ ?_ ?_ (Fin.ext ?_)
  · by_cases ht : t.val < 16
    · refine Eq.trans ?_ (dif_pos (show ((((View.whole main_v0).slice (win0_5.rect t)).emb (ix2 r n)) (0 : Fin 2)).val < 8192 by omega)).symm
      rw [if_pos ht]
      blk_point [iblk, V, index_0 t, index_5 t]
    · refine Eq.trans ?_ (dif_neg (show ¬ ((((View.whole main_v0).slice (win0_5.rect t)).emb (ix2 r n)) (0 : Fin 2)).val < 8192 by omega)).symm
      rw [if_neg ht]
      blk_point [iblk, V, index_1 t, index_5 t]
  · blk_point [iblk, V, index_2 t, index_5 t]
  · blk_point [iblk, V, index_3 t, index_5 t]
  · blk_point [iblk, V, index_4 t, index_5 t]
  · show n.val = win0_5.index t 1 * 4096 + 1 * n.val
    rw [index_5 t]
    show n.val = 0 * 4096 + 1 * n.val
    omega

variable (ρ : Dev nD → PrngReg)

/-- The kernel's run, read: the result array at the modulated rows, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1).trans (final m c), (h c).2⟩) (Value.run_blocks m ρ)

end Cert.StartIdeal.Hand

namespace Cert.StartReferenceIdeal.Hand

open Cert.StartReferenceIdeal Cert.StartReferenceIdeal.Gen Cert.StartReferenceIdeal.Read
open Cert.Shared (stream low high behind stream_low stream_high rejoin)

variable (x0 : FVec Ideal S8192x4096 .f32) (x1 : FVec Ideal S16384x4096 .f32) (x2 : FVec Ideal S4x2x1x4096 .f32)
  (x3 : FVec Ideal S4x8x6x1x4096 .f32)

/-- The reference's norm of a context row. -/
theorem normed_low (r : Fin 8192) (d : Fin 4096) :
    (val_main_v18 (F := Ideal) x0 x2 (ix2 r d) : EReal)
      = x0 (ix2 r d) * Cert.Rows.scaling (fun e => x0 (ix2 r e)) * x2 (ix4 (0 : Fin 4) (0 : Fin 2) (0 : Fin 1) d) := by
  have es : (val_main_v7 (F := Ideal) x0 (idx_main_v8 (idx_main_v14 (ix2 r d))) : EReal)
      = ∑ e : Fin 4096, x0 (ix2 r e) * x0 (ix2 r e) := by
    rw [val_main_v7_apply, val_main_cst_apply]
    refine (congrArg (· + _) Cert.Shared.ofBits_zero).trans ((zero_add _).trans (Finset.sum_congr rfl fun e _ => ?_))
    have ei : idx_main_v7 (idx_main_v8 (idx_main_v14 (ix2 r d))) e = ix2 r e := by idx_ext
    rw [ei, val_main_v6_apply]
    rfl
  have eg : idx_main_v4 (idx_main_v5 (idx_main_v16 (idx_main_v17 (ix2 r d)))) = ix4 (0 : Fin 4) (0 : Fin 2) (0 : Fin 1) d := by idx_ext
  rw [val_main_v18_apply, val_main_v15_apply, val_main_v14_apply, val_main_v13_apply, val_main_v12_apply, val_main_v10_apply,
    val_main_v8_apply, es, val_main_v9_apply, val_main_cst_0_apply, val_main_v11_apply, val_main_cst_1_apply, val_main_v17_apply,
    val_main_v16_apply, val_main_v5_apply, val_main_v4_apply, eg]
  rfl

/-- The reference's norm of a latent row. -/
theorem normed_high (r : Fin 16384) (d : Fin 4096) :
    (val_main_v41 (F := Ideal) x1 x2 (ix2 r d) : EReal)
      = x1 (ix2 r d) * Cert.Rows.scaling (fun e => x1 (ix2 r e)) * x2 (ix4 (0 : Fin 4) (0 : Fin 2) (0 : Fin 1) d) := by
  have es : (val_main_v30 (F := Ideal) x1 (idx_main_v31 (idx_main_v37 (ix2 r d))) : EReal)
      = ∑ e : Fin 4096, x1 (ix2 r e) * x1 (ix2 r e) := by
    rw [val_main_v30_apply, val_main_cst_3_apply]
    refine (congrArg (· + _) Cert.Shared.ofBits_zero).trans ((zero_add _).trans (Finset.sum_congr rfl fun e _ => ?_))
    have ei : idx_main_v30 (idx_main_v31 (idx_main_v37 (ix2 r d))) e = ix2 r e := by idx_ext
    rw [ei, val_main_v29_apply]
    rfl
  have eg : idx_main_v27 (idx_main_v28 (idx_main_v39 (idx_main_v40 (ix2 r d)))) = ix4 (0 : Fin 4) (0 : Fin 2) (0 : Fin 1) d := by idx_ext
  rw [val_main_v41_apply, val_main_v38_apply, val_main_v37_apply, val_main_v36_apply, val_main_v35_apply, val_main_v33_apply,
    val_main_v31_apply, es, val_main_v32_apply, val_main_cst_4_apply, val_main_v34_apply, val_main_cst_5_apply, val_main_v40_apply,
    val_main_v39_apply, val_main_v28_apply, val_main_v27_apply, eg]
  rfl

/-- The reference's result, entry by entry: the context rows and the latent rows have their own modulation. -/
theorem val_eq : val_main_v55 (F := Ideal) x0 x1 x2 x3 = Cert.StartIdeal.Hand.rows x0 x1 x2 x3 := by
  have ht : val_main_v55 (F := Ideal) x0 x1 x2 x3 = val_main_v54 (F := Ideal) x0 x1 x2 x3 := rfl
  rw [ht]
  unfold val_main_v54
  refine rejoin _ _ _ concatenates_S8192x4096_S16384x4096_S24576x4096_d0 (fun r d => ?_) (fun b q d => ?_)
  · have ej : Cert.StartIdeal.Hand.joined x0 x1 (low r) = fun e => x0 (ix2 r e) := funext fun e => dif_pos r.isLt
    have eq : idx_main_v2 (idx_main_v3 (idx_main_v19 (idx_main_v22 (ix2 r d))))
        = ix5 (0 : Fin 4) (stream (low r)) (1 : Fin 6) (0 : Fin 1) d := by
      rw [stream_low]; idx_ext
    have ep : idx_main_v0 (idx_main_v1 (idx_main_v24 (idx_main_v25 (ix2 r d))))
        = ix5 (0 : Fin 4) (stream (low r)) (0 : Fin 6) (0 : Fin 1) d := by
      rw [stream_low]; idx_ext
    rw [val_main_v26_apply, val_main_v23_apply, normed_low, val_main_v22_apply, val_main_v21_apply,
      val_main_v20_apply, val_main_cst_2_apply, val_main_v19_apply, val_main_v3_apply, val_main_v2_apply, eq, val_main_v25_apply,
      val_main_v24_apply, val_main_v1_apply, val_main_v0_apply, ep]
    unfold Cert.StartIdeal.Hand.rows Cert.Rows.modulatedRows
    show _ = Cert.Rows.modulated (Cert.StartIdeal.Hand.joined x0 x1 (low r)) _ _ _ d
    rw [ej]
    rfl
  · have e0 : idx_main_v53 (ix2 (behind b q) d) = ix3 b q d :=
      funext fun a => Fin.ext (match a with
        | ⟨0, _⟩ => by show ((b.val * 4096 + q.val) * 4096 + d.val) / 16777216 = b.val; omega
        | ⟨1, _⟩ => by show ((b.val * 4096 + q.val) * 4096 + d.val) / 4096 % 4096 = q.val; omega
        | ⟨2, _⟩ => by show ((b.val * 4096 + q.val) * 4096 + d.val) % 4096 = d.val; omega)
    have ej : Cert.StartIdeal.Hand.joined x0 x1 (high b q) = fun e => x1 (ix2 (behind b q) e) := funext fun e => by
      have hh : ¬ (high b q).val < 8192 := by show ¬ 8192 + b.val * 4096 + q.val < 8192; omega
      refine (dif_neg hh).trans (congrArg (fun k : Fin 16384 => x1 (ix2 k e)) (Fin.ext ?_))
      show 8192 + b.val * 4096 + q.val - 8192 = b.val * 4096 + q.val
      omega
    have ef : idx_main_v42 (ix3 b q d) = ix2 (behind b q) d := by unfold behind; idx_ext
    have eq : idx_main_v2 (idx_main_v3 (idx_main_v43 (idx_main_v44 (idx_main_v47 (ix3 b q d)))))
        = ix5 (0 : Fin 4) (stream (high b q)) (1 : Fin 6) (0 : Fin 1) d := by
      rw [stream_high]; idx_ext
    have ep : idx_main_v0 (idx_main_v1 (idx_main_v49 (idx_main_v50 (idx_main_v51 (ix3 b q d)))))
        = ix5 (0 : Fin 4) (stream (high b q)) (0 : Fin 6) (0 : Fin 1) d := by
      rw [stream_high]; idx_ext
    rw [val_main_v53_apply, e0, val_main_v52_apply, val_main_v48_apply, val_main_v42_apply, ef, normed_high,
      val_main_v47_apply, val_main_v46_apply, val_main_v45_apply, val_main_cst_6_apply, val_main_v44_apply, val_main_v43_apply,
      val_main_v3_apply, val_main_v2_apply, eq, val_main_v51_apply, val_main_v50_apply, val_main_v49_apply, val_main_v1_apply,
      val_main_v0_apply, ep]
    unfold Cert.StartIdeal.Hand.rows Cert.Rows.modulatedRows
    show _ = Cert.Rows.modulated (Cert.StartIdeal.Hand.joined x0 x1 (high b q)) _ _ _ d
    rw [ej]
    rfl

variable (m : (ℓ : Loc nD τ sig) → Buf (Elt Ideal) ℓ) (ρ : Dev nD → PrngReg)

/-- The reference's run, read: the result array at the modulated rows, the arguments unchanged. -/
theorem run : θ_run defs (onTc (τ := τ) (main (F := Ideal))) ⟨m, fun _ => 0, ρ⟩ fun r => ∀ c : Dev nD,
      r.2.mem ((c.tc : Thread nD τ).loc main_v55) = Cert.StartIdeal.Hand.rows (m ((c.tc : Thread nD τ).loc main_arg0))
          (m ((c.tc : Thread nD τ).loc main_arg1))
          (m ((c.tc : Thread nD τ).loc main_arg2))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1).trans ((val_main_v55_eq _ _ _ _).trans (val_eq _ _ _ _)), (h c).2⟩)
    (Value.run (F := Ideal) m ρ)

end Cert.StartReferenceIdeal.Hand

/-! ## The claims -/

namespace Cert.Proof.StartClaims

/-- The kernel's program terminates and leaves its arguments alone, and the machine ends quiescent. -/
theorem frame_kernel : Cert.quiescent_Start := fun m ρ _ => Cert.Start.Gen.frame m ρ
/-- Its idealization likewise. -/
theorem frame_ideal : Cert.quiescent_StartIdeal := fun m ρ _ => Cert.StartIdeal.Gen.frame m ρ
/-- The reference's program likewise: it is host operations only and declares no semaphore. -/
theorem frame_reference : Cert.quiescent_StartReferenceIdeal := fun m ρ _ =>
  (θ_run Cert.StartReferenceIdeal.defs _ _).mono (fun r h => ⟨fun c => (h c).2, Idealize.ShloMosaic.sem_eq_zero_of_no_sems (by decide) r.2⟩)
    (Cert.StartReferenceIdeal.Value.run (F := Ideal) m ρ)

/-- At the extended reals the kernel and the reference compute the same array. -/
theorem algebraic : Cert.algebraic_StartIdeal_StartReferenceIdeal := by
  intro m ρ m' ρ' _ hagree
  refine ⟨fun c => Cert.StartIdeal.Hand.result m c, Cert.StartIdeal.Hand.run m ρ, ?_⟩
  refine (θ_run Cert.StartReferenceIdeal.defs _ _).mono (fun _ h c => ⟨(h c).1.trans ?_, (h c).2⟩) (Cert.StartReferenceIdeal.Hand.run m' ρ')
  rw [(hagree c).1, (hagree c).2.1, (hagree c).2.2.1, (hagree c).2.2.2]

end Cert.Proof.StartClaims

end
-- ==== Proof.CtxSpec.lean ====
/-
  The attention of the context (`attn_ctx`), entry by entry: every sequence of 256 rows attends over itself, and the rows
  behind the context are zero.
-/
module

public import proofs.«01_k».proof.Proof.Softmax
public import Idealize.ShloMosaic.Lib.ValueIdx
public import Idealize.ShloMosaic.Lib.Pipeline.ValueKit

@[expose] public section

noncomputable section

open Idealize.ShloMosaic
open Cert.Shared
open scoped BigOperators

namespace Cert.Context

/-- The score of the query in row `R`, query head `J`, against key number `n` of the row's own sequence. -/
def scoreAt (q : FVec Ideal ⟨2, ![24576, 4096]⟩ .bf16) (k : FVec Ideal ⟨2, ![24576, 1024]⟩ .bf16) (R J n : ℕ) : EReal :=
  if h : R < 24576 ∧ J < 32 ∧ n < 256 then
    ∑ e : Fin 128, q (ix2 (⟨R, h.1⟩ : Fin 24576) (⟨J * 128 + e.val, by omega⟩ : Fin 4096))
      * k (ix2 (⟨R / 256 * 256 + n, by omega⟩ : Fin 24576) (⟨J / 4 * 128 + e.val, by omega⟩ : Fin 1024))
  else 0

/-- The value that key number `n` of the row `R`'s sequence has for column `C` of the result. -/
def valueAt (v : FVec Ideal ⟨2, ![24576, 1024]⟩ .bf16) (R C n : ℕ) : EReal :=
  if h : R < 24576 ∧ C < 4096 ∧ n < 256 then
    v (ix2 (⟨R / 256 * 256 + n, by omega⟩ : Fin 24576) (⟨C / 512 * 128 + C % 128, by omega⟩ : Fin 1024))
  else 0

/-- The call's result: attention in the context rows, zero in the others. -/
def answer (q : FVec Ideal ⟨2, ![24576, 4096]⟩ .bf16) (k v : FVec Ideal ⟨2, ![24576, 1024]⟩ .bf16) :
    FVec Ideal ⟨2, ![24576, 4096]⟩ .bf16 :=
  fun i => if (i (0 : Fin 2)).val < 8192 then
    attend 256 (scoreAt q k (i (0 : Fin 2)).val ((i (1 : Fin 2)).val / 128)) (valueAt v (i (0 : Fin 2)).val (i (1 : Fin 2)).val)
  else (0 : EReal)

/-- The scores of real queries and keys are real. -/
theorem scoreAt_real (q : FVec Ideal ⟨2, ![24576, 4096]⟩ .bf16) (k : FVec Ideal ⟨2, ![24576, 1024]⟩ .bf16)
    (fq : ∀ i, ∃ a : ℝ, (q i : EReal) = a) (fk : ∀ i, ∃ a : ℝ, (k i : EReal) = a) (R J n : ℕ) : ∃ a : ℝ, scoreAt q k R J n = a := by
  unfold scoreAt
  split
  · choose a ha using fq
    choose b hb using fk
    refine ⟨_, Eq.trans (Finset.sum_congr rfl fun e _ => (congrArg₂ (fun s t : EReal => s * t) (ha _) (hb _)).trans (EReal.coe_mul _ _).symm)
      (sum_real _ _)⟩
  · exact ⟨0, rfl⟩

end Cert.Context

end
-- ==== Proof.CtxValue.lean ====
/-
  The attention of the context (`attn_ctx`) at the extended reals: what a point computes for each query head, and what the
  result array ends holding.
-/
module

public import proofs.«01_k».proof.Proof.Gen.CtxIdeal.Value
public import proofs.«01_k».proof.Proof.AttnTile
public import proofs.«01_k».proof.Proof.CtxSpec
public import Idealize.ShloMosaic.Lib.Pipeline.Value
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)
open Cert.Shared
open scoped BigOperators

namespace Cert.CtxIdeal.Hand

open Cert.CtxIdeal Cert.CtxIdeal.Gen
open Cert.Context
open Cert.KernelIdeal.Hand (rowMax_apply rowSum_apply spread_apply Carries carries_first carries_divide dot stacked_apply)

/-- The query rows of four heads, one head's below the other's. -/
abbrev stack (x : Fin 4 → Vec Ideal S256x128 .bf16) : FVec Ideal S1024x128 .bf16 :=
  Cert.KernelIdeal.Gen.k0_pay1 (x 0) (x 1) (x 2) (x 3)

/-- What the body computes for the four query heads of a key head: with real scores `s`, attention over the 256 keys. -/
theorem group_apply (kh vh : Vec Ideal S256x128 .bf16) (x : Fin 4 → Vec Ideal S256x128 .bf16) {s : Fin 1024 → ℕ → EReal}
    {w : Fin 128 → ℕ → EReal} (hs : ∀ r i, i < 256 → ∃ a : ℝ, s r i = a)
    (hk : ∀ r (n : Fin 256), dot (stack x) kh r n = s r n.val) (hv : ∀ (n : Fin 256) d, (vh (ix2 n d) : EReal) = w d n.val)
    (r : Fin 1024) (d : Fin 128) : (k0_pay2 kh vh (x 0) (x 1) (x 2) (x 3) (ix2 r d) : EReal) = attend 256 (s r) (w d) := by
  let X : FVec Ideal S1024x256 .f32 := matmul (F := Ideal) (φ₁ := .bf16) (φ₂ := .bf16) dot_S1024x128_S256x128_S1024x256_1_1_0_0_n_n none (stack x) kh
    (constant S1024x256 .f32 0x00000000#32)
  have hX (r : Fin 1024) (n : Fin 256) : (X (ix2 r n) : EReal) = s r n.val :=
    (transposed_zero (M := 1024) (K := 128) (N := 256) (stack x) kh r n).trans (hk r n)
  let M : FVec Ideal S1024x1 .f32 := shapeCast S1024x1 (multiReduction .maximumf [1] S1024 X 0xFF800000#32
    reduces_S1024x256_S1024 (.inl rfl) rfl) shapeCasts_S1024_S1024x1
  let P : FVec Ideal S1024x256 .f32 := exp2 (subf X (broadcastTo S1024x256 M broadcasts_S1024x1_S1024x256))
  have hP (r : Fin 1024) (n : Fin 256) : (P (ix2 r n) : EReal) = Ideal.exp2 (s r n.val - (M (ix2 r (0 : Fin 1)) : EReal)) :=
    congrArg₂ (fun a b : EReal => Ideal.exp2 (a - b)) (hX r n) (spread_apply (n := 256) M _ r n)
  have c : Carries 256 s w M
      (shapeCast S1024x1 (multiReduction .add [1] S1024 P 0x00000000#32 reduces_S1024x256_S1024 (.inl rfl) rfl) shapeCasts_S1024_S1024x1)
      (matmul (F := Ideal) (φ₁ := .bf16) (φ₂ := .bf16) dot_S1024x256_S256x128_S1024x128_1_0_0_1_n_n none (truncf .bf16 P bitsLt_bf16_f32) vh
        (constant S1024x128 .f32 0x00000000#32)) := by
    refine carries_first (by norm_num) hs (fun r => ?_) (fun r => ?_) (fun r d => ?_)
    · exact (rowMax_apply (n := 256) X _ r).trans
        (congrArg (fun f : Fin 256 → EReal => (Finset.univ : Finset (Fin 256)).fold max ⊥ f) (funext fun n => hX r n))
    · exact (rowSum_apply (n := 256) P _ r).trans (Finset.sum_congr rfl fun n _ => hP r n)
    · refine (plain_zero (M := 1024) (K := 256) (N := 128) (φ₁ := .bf16) (φ₂ := .bf16) _ vh r d).trans (Finset.sum_congr rfl fun n _ => ?_)
      exact congrArg₂ (fun a b : EReal => a * b) (hP r n) (hv n d)
  unfold k0_pay2
  exact carries_divide c (by norm_num) hs r d

variable (m : (ℓ : Loc nD τ sig) → Buf (Elt Ideal) ℓ)

/-- The call's result at device `c`'s argument arrays. -/
abbrev result (c : Dev nD) : Buf (Elt Ideal) ((c : Thread nD τ).loc main_v0) :=
  answer (m ((c : Thread nD τ).loc main_arg0)) (m ((c : Thread nD τ).loc main_arg1)) (m ((c : Thread nD τ).loc main_arg2))

/-- The queries and keys of device `c` are real numbers. -/
structure Finite (c : Dev nD) : Prop where
  q : ∀ i, ∃ a : ℝ, (m ((c : Thread nD τ).loc main_arg0) i : EReal) = (a : EReal)
  k : ∀ i, ∃ a : ℝ, (m ((c : Thread nD τ).loc main_arg1) i : EReal) = (a : EReal)

/-- Point `t` reads sequence `t` of the queries, the last one after the 32nd. -/
theorem index_0 : ∀ t : Fin grid0.N, win0_0.index t = ![min t.val 31, 0] := by decide +kernel
/-- The keys likewise. -/
theorem index_1 : ∀ t : Fin grid0.N, win0_1.index t = ![min t.val 31, 0] := by decide +kernel
/-- The values likewise. -/
theorem index_2 : ∀ t : Fin grid0.N, win0_2.index t = ![min t.val 31, 0] := by decide +kernel
/-- Point `t` writes the 256 rows `t` of the result. -/
theorem index_3 : ∀ t : Fin grid0.N, win0_3.index t = ![t.val, 0] := by decide +kernel

/-- A point's query block at an entry. -/
theorem block_0 (c : Dev nD) (t : Fin grid0.N) (ht : t.val < 32) (r : Fin 256) (e : Fin 4096) :
    (iblk m c 0 t (ix2 r e) : EReal) = m ((c : Thread nD τ).loc main_arg0) (ix2 (⟨t.val * 256 + r.val, by omega⟩ : Fin 24576) e) := by
  blk_ext [iblk, V, index_0 t]

/-- A point's key block at an entry. -/
theorem block_1 (c : Dev nD) (t : Fin grid0.N) (ht : t.val < 32) (r : Fin 256) (e : Fin 1024) :
    (iblk m c 1 t (ix2 r e) : EReal) = m ((c : Thread nD τ).loc main_arg1) (ix2 (⟨t.val * 256 + r.val, by omega⟩ : Fin 24576) e) := by
  blk_ext [iblk, V, index_1 t]

/-- A point's value block at an entry. -/
theorem block_2 (c : Dev nD) (t : Fin grid0.N) (ht : t.val < 32) (r : Fin 256) (e : Fin 1024) :
    (iblk m c 2 t (ix2 r e) : EReal) = m ((c : Thread nD τ).loc main_arg2) (ix2 (⟨t.val * 256 + r.val, by omega⟩ : Fin 24576) e) := by
  blk_ext [iblk, V, index_2 t]

/-- A load of 128 columns from column `o` on, at an entry. -/
theorem load_apply {N : ℕ} (x : Vec Ideal ⟨2, ![256, N]⟩ .bf16) (o : ℕ)
    (h : ∀ a : Fin 2, (![0, o] : Fin 2 → ℕ) a + S256x128.size a ≤ (⟨2, ![256, N]⟩ : Shape).size a)
    (r : Fin 256) (e : Fin 128) (E : Fin N) (hE : E.val = o + e.val) :
    (View.ld x (Rect.unit ![0, o] S256x128.size h) (ix2 r e) : EReal) = x (ix2 r E) := by
  refine congrArg x (funext fun a => Fin.ext ?_)
  match a with
  | ⟨0, _⟩ => show 0 + 1 * r.val = r.val; omega
  | ⟨1, _⟩ => show o + 1 * e.val = E.val; omega

/-- The rows from row `o` on of what the body computes, cast, at an entry. -/
theorem part_apply (Y : FVec Ideal S1024x128 .f32) (o : ℕ) (hsl : S1024x128.Slices ![o, 0] S256x128) (hw : FTy.bf16.bits < FTy.f32.bits)
    (x : S256x128.Idx) (r : Fin 1024) (d : Fin 128) (hr : r.val = o + (x 0).val) (hd : d.val = (x 1).val) :
    ((truncf .bf16 (extractStridedSlice S256x128 ![o, 0] Y hsl) hw : FVec Ideal S256x128 .bf16) x : EReal) = Y (ix2 r d) := by
  have e : extractStridedSlice S256x128 ![o, 0] Y hsl x = Y (ix2 r d) := extractStridedSlice_apply ![o, 0] Y hsl x (ix2 r d)
    (fun a => match a with
      | ⟨0, _⟩ => by show r.val = o + (x 0).val; exact hr
      | ⟨1, _⟩ => by show d.val = 0 + (x 1).val; omega)
  exact e

/-- The row of the array a point's tile puts its row at. -/
theorem emb_0 (t : Fin grid0.N) (y : S256x4096.Idx) :
    ((((View.whole main_v0).slice (win0_3.rect t)).emb y) (0 : Fin 2)).val = t.val * 256 + (y 0).val := by
  show win0_3.index t 0 * 256 + 1 * (y 0).val = _
  rw [index_3 t, Nat.one_mul]
  rfl

/-- The column of the array a point's tile puts its column at. -/
theorem emb_1 (t : Fin grid0.N) (y : S256x4096.Idx) :
    ((((View.whole main_v0).slice (win0_3.rect t)).emb y) (1 : Fin 2)).val = (y 1).val := by
  show win0_3.index t 1 * 4096 + 1 * (y 1).val = _
  rw [index_3 t, Nat.one_mul]
  show 0 * 4096 + (y 1).val = _
  omega

/-- What a point before the 32nd stores for a head at an entry of its tile is attention at the array entry behind it. -/
theorem piece_eq (c : Dev nD) (hf : Finite m c) (t : Fin grid0.N) (ht : t.val < 32) (y : S256x4096.Idx) (x : S256x128.Idx)
    (o ok o0 o1 o2 o3 : ℕ) (ho : o = 256 * ((y 1).val / 128 % 4)) (hok : ok = (y 1).val / 512 * 128)
    (h0 : o0 = (y 1).val / 512 * 512) (h1 : o1 = (y 1).val / 512 * 512 + 128) (h2 : o2 = (y 1).val / 512 * 512 + 256)
    (h3 : o3 = (y 1).val / 512 * 512 + 384) (e0 : (y 0).val = (x 0).val) (e1 : (y 1).val % 128 = (x 1).val)
    (hsl : S1024x128.Slices ![o, 0] S256x128) (hw : FTy.bf16.bits < FTy.f32.bits)
    (ik iv : ∀ a : Fin 2, (![0, ok] : Fin 2 → ℕ) a + S256x128.size a ≤ S256x1024.size a)
    (i0 : ∀ a : Fin 2, (![0, o0] : Fin 2 → ℕ) a + S256x128.size a ≤ S256x4096.size a)
    (i1 : ∀ a : Fin 2, (![0, o1] : Fin 2 → ℕ) a + S256x128.size a ≤ S256x4096.size a)
    (i2 : ∀ a : Fin 2, (![0, o2] : Fin 2 → ℕ) a + S256x128.size a ≤ S256x4096.size a)
    (i3 : ∀ a : Fin 2, (![0, o3] : Fin 2 → ℕ) a + S256x128.size a ≤ S256x4096.size a) :
    ((truncf .bf16 (extractStridedSlice S256x128 ![o, 0]
        (k0_pay2 (View.ld (iblk m c 1 t) (Rect.unit ![0, ok] S256x128.size ik)) (View.ld (iblk m c 2 t) (Rect.unit ![0, ok] S256x128.size iv))
          (View.ld (iblk m c 0 t) (Rect.unit ![0, o0] S256x128.size i0)) (View.ld (iblk m c 0 t) (Rect.unit ![0, o1] S256x128.size i1))
          (View.ld (iblk m c 0 t) (Rect.unit ![0, o2] S256x128.size i2)) (View.ld (iblk m c 0 t) (Rect.unit ![0, o3] S256x128.size i3)))
        hsl) hw : FVec Ideal S256x128 .bf16) x : EReal)
      = result m c (((View.whole main_v0).slice (win0_3.rect t)).emb y) := by
  have hy : (y 1).val < 4096 := (y 1).isLt
  have hx : (x 0).val < 256 := (x 0).isLt
  have hx1 : (x 1).val < 128 := (x 1).isLt
  let q := m ((c : Thread nD τ).loc main_arg0)
  let k := m ((c : Thread nD τ).loc main_arg1)
  let v := m ((c : Thread nD τ).loc main_arg2)
  let X : Fin 4 → Vec Ideal S256x128 .bf16 :=
    ![View.ld (iblk m c 0 t) (Rect.unit ![0, o0] S256x128.size i0), View.ld (iblk m c 0 t) (Rect.unit ![0, o1] S256x128.size i1),
      View.ld (iblk m c 0 t) (Rect.unit ![0, o2] S256x128.size i2), View.ld (iblk m c 0 t) (Rect.unit ![0, o3] S256x128.size i3)]
  have hX (g : Fin 4) (r : Fin 256) (e : Fin 128) : (X g (ix2 r e) : EReal)
      = m ((c : Thread nD τ).loc main_arg0) (ix2 (⟨t.val * 256 + r.val, by omega⟩ : Fin 24576)
        (⟨((y 1).val / 512 * 4 + g.val) * 128 + e.val, by omega⟩ : Fin 4096)) := by
    refine Eq.trans ?_ (block_0 m c t ht r _)
    match g with
    | ⟨0, _⟩ =>
      exact load_apply (N := 4096) (iblk m c 0 t) o0 i0 r e (⟨((y 1).val / 512 * 4 + 0) * 128 + e.val, by omega⟩ : Fin 4096)
        (by show ((y 1).val / 512 * 4 + 0) * 128 + e.val = o0 + e.val; omega)
    | ⟨1, _⟩ =>
      exact load_apply (N := 4096) (iblk m c 0 t) o1 i1 r e (⟨((y 1).val / 512 * 4 + 1) * 128 + e.val, by omega⟩ : Fin 4096)
        (by show ((y 1).val / 512 * 4 + 1) * 128 + e.val = o1 + e.val; omega)
    | ⟨2, _⟩ =>
      exact load_apply (N := 4096) (iblk m c 0 t) o2 i2 r e (⟨((y 1).val / 512 * 4 + 2) * 128 + e.val, by omega⟩ : Fin 4096)
        (by show ((y 1).val / 512 * 4 + 2) * 128 + e.val = o2 + e.val; omega)
    | ⟨3, _⟩ =>
      exact load_apply (N := 4096) (iblk m c 0 t) o3 i3 r e (⟨((y 1).val / 512 * 4 + 3) * 128 + e.val, by omega⟩ : Fin 4096)
        (by show ((y 1).val / 512 * 4 + 3) * 128 + e.val = o3 + e.val; omega)
  have hg := group_apply (View.ld (iblk m c 1 t) (Rect.unit ![0, ok] S256x128.size ik)) (View.ld (iblk m c 2 t) (Rect.unit ![0, ok] S256x128.size iv)) X
    (s := fun R n => scoreAt q k (t.val * 256 + R.val % 256) ((y 1).val / 512 * 4 + R.val / 256) n)
    (w := fun d n => valueAt v (t.val * 256 + (x 0).val) ((y 1).val / 128 * 128 + d.val) n)
    (fun R n _ => scoreAt_real q k hf.q hf.k _ _ n)
    (fun R n => by
      show _ = scoreAt q k (t.val * 256 + R.val % 256) ((y 1).val / 512 * 4 + R.val / 256) n.val
      unfold scoreAt
      rw [dif_pos (by omega)]
      refine Finset.sum_congr rfl fun e _ => congrArg₂ (fun a b : EReal => a * b) ?_ ?_
      · exact (stacked_apply X ⟨R.val / 256, by omega⟩ ⟨R.val % 256, by omega⟩ e R (by show _ = 256 * (R.val / 256) + R.val % 256; omega)).trans
          (hX _ _ e)
      · refine (load_apply (N := 1024) (iblk m c 1 t) ok ik n e ⟨ok + e.val, by omega⟩ rfl).trans ((block_1 m c t ht n _).trans (congrArg k ?_))
        refine congrArg₂ (fun a b => ix2 a b) (Fin.ext ?_) (Fin.ext ?_)
        · show t.val * 256 + n.val = (t.val * 256 + R.val % 256) / 256 * 256 + n.val; omega
        · show ok + e.val = ((y 1).val / 512 * 4 + R.val / 256) / 4 * 128 + e.val; omega)
    (fun n d => by
      show _ = valueAt v (t.val * 256 + (x 0).val) ((y 1).val / 128 * 128 + d.val) n.val
      unfold valueAt
      rw [dif_pos (by omega)]
      refine (load_apply (N := 1024) (iblk m c 2 t) ok iv n d ⟨ok + d.val, by omega⟩ rfl).trans ((block_2 m c t ht n _).trans (congrArg v ?_))
      refine congrArg₂ (fun a b => ix2 a b) (Fin.ext ?_) (Fin.ext ?_)
      · show t.val * 256 + n.val = (t.val * 256 + (x 0).val) / 256 * 256 + n.val; omega
      · show ok + d.val = ((y 1).val / 128 * 128 + d.val) / 512 * 128 + ((y 1).val / 128 * 128 + d.val) % 128; omega)
    ⟨o + (x 0).val, by omega⟩ ⟨(x 1).val, hx1⟩
  refine Eq.trans ?_ (hg.trans ?_)
  · exact part_apply _ o hsl hw x (⟨o + (x 0).val, by omega⟩ : Fin 1024) (⟨(x 1).val, hx1⟩ : Fin 128) rfl rfl
  · unfold result answer
    refine Eq.trans ?_ (if_pos (by rw [emb_0]; omega)).symm
    rw [emb_0, emb_1]
    refine congrArg₂ (attend 256) ?_ ?_
    · show scoreAt q k (t.val * 256 + (o + (x 0).val) % 256) ((y 1).val / 512 * 4 + (o + (x 0).val) / 256) = scoreAt q k _ _
      exact congrArg₂ (scoreAt q k) (by omega) (by omega)
    · show valueAt v (t.val * 256 + (x 0).val) ((y 1).val / 128 * 128 + (x 1).val) = valueAt v _ _
      exact congrArg₂ (valueAt v) (by omega) (by omega)

set_option maxHeartbeats 6400000 in
/-- The result array after the run: each point writes its rows of it, and the points' rows cover it. -/
theorem final (c : Dev nD) (hf : Finite m c) : (dats m 0 c).arrAt 3 cfg0.N = result m c := by
  refine (dats m 0 c).arrAt_eq_of_covers 3 _ (by decide +kernel) fun t _ y => ?_
  blk_simp
  rw [after0_3]
  by_cases ht : t.val < 32
  · rw [outsAt0_A m c t (by omega) ht]
    frame_out
    canon_tiles x h
    all_goals
      open_payloads
      exact piece_eq m c hf t ht y x _ _ _ _ _ _ (by omega) (by omega) (by omega) (by omega) (by omega) (by omega) (by omega) (by omega)
        (by decide) (by decide) (by decide) (by decide) (by decide) (by decide) (by decide) (by decide)
  · rw [outsAt0_B m c t (by omega) ht]
    frame_out
    refine Eq.trans ?_ (if_neg (by rw [emb_0]; omega)).symm
    exact Ideal.ofBits_zero_bf16

variable (ρ : Dev nD → PrngReg)

/-- The kernel's run, read: the result array at the attention of the context, the arguments unchanged. -/
theorem run (hf : ∀ c, Finite m c) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs (onTc (τ := τ) (main (F := Ideal))) ⟨m, fun _ => 0, ρ⟩).mono
    (fun _ hr c => ⟨(hr c).1.trans (final m c (hf c)), (hr c).2⟩) (Value.run_blocks m ρ)

end Cert.CtxIdeal.Hand

end
-- ==== Proof.CtxReference.lean ====
/-
  The context attention's reference at the extended reals: its result, entry by entry, is what the kernel's is.
-/
module

public import proofs.«01_k».proof.Proof.CtxSpec
public import proofs.«01_k».proof.Proof.Words
public import proofs.«01_k».proof.Proof.Gen.CtxReferenceIdeal.Read
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem
open Cert.Shared
open scoped BigOperators

namespace Cert.CtxReferenceIdeal.Hand

open Cert.CtxReferenceIdeal Cert.CtxReferenceIdeal.Gen Cert.CtxReferenceIdeal.Read
open Cert.Context

variable (x0 : FVec Ideal S24576x4096 .bf16) (x1 x2 : FVec Ideal S24576x1024 .bf16)

/-- One entry of the product of the queries with the keys. -/
theorem scores_apply (b : Fin 32) (h : Fin 8) (g : Fin 4) (q n : Fin 256) :
    (val_main_v10 (F := Ideal) x0 x1 (ix5 b h g q n) : EReal)
      = scoreAt x0 x1 (b.val * 256 + q.val) (h.val * 4 + g.val) n.val := by
  rw [val_main_v10_apply, val_main_v9_apply]
  unfold scoreAt
  rw [dif_pos (by omega)]
  refine Finset.sum_congr rfl fun e _ => ?_
  rw [mul_comm]
  refine congrArg₂ (fun a b : EReal => a * b) ?_ ?_
  · rw [val_main_v2_apply, val_main_v1_apply, val_main_v0_apply]
    refine congrArg x0 ?_
    idx_ext
  · rw [val_main_v5_apply, val_main_v4_apply, val_main_v3_apply]
    refine congrArg x1 ?_
    idx_ext

/-- One entry of the values. -/
theorem values_apply (b : Fin 32) (n : Fin 256) (h : Fin 8) (e : Fin 128) (R C : ℕ) (hR : R < 8192) (hb : b.val = R / 256)
    (hC : C < 4096) (hh : h.val = C / 512) (he : e.val = C % 128) :
    (val_main_v8 (F := Ideal) x2 (ix4 b n h e) : EReal) = valueAt x2 R C n.val := by
  rw [val_main_v8_apply, val_main_v7_apply, val_main_v6_apply]
  unfold valueAt
  rw [dif_pos (by omega)]
  refine congrArg x2 (funext fun a => Fin.ext ?_)
  match a with
  | ⟨0, _⟩ =>
    show (((b.val * 256 + n.val) * 8 + h.val) * 128 + e.val) / 1024 = R / 256 * 256 + n.val
    omega
  | ⟨1, _⟩ =>
    show (((b.val * 256 + n.val) * 8 + h.val) * 128 + e.val) % 1024 = C / 512 * 128 + C % 128
    omega

/-- The scale `log 2` as the reference spells it. -/
theorem scale_apply (i : S32x8x4x256x256.Idx) : (val_main_v12 (F := Ideal) i : EReal) = (Real.log 2 : ℝ) := by
  rw [val_main_v12_apply, val_main_v11_apply, val_main_cst_apply]
  refine (congrArg Ideal.log ofBits_two).trans ?_
  rw [Ideal.log_coe, if_neg (by norm_num)]

variable (f0 : ∀ i, ∃ a : ℝ, (x0 i : EReal) = a) (f1 : ∀ i, ∃ a : ℝ, (x1 i : EReal) = a)

include f0 f1 in
/-- The scaled scores are real numbers. -/
theorem scaled_real (i : S32x8x4x256x256.Idx) : ∃ a : ℝ, (val_main_v13 (F := Ideal) x0 x1 i : EReal) = a := by
  obtain ⟨b, h, g, q, n, rfl⟩ : ∃ (b : Fin 32) (h : Fin 8) (g : Fin 4) (q n : Fin 256), i = ix5 b h g q n :=
    ⟨i 0, i 1, i 2, i 3, i 4, eq_ix5 i⟩
  obtain ⟨a, ha⟩ := scoreAt_real x0 x1 f0 f1 (b.val * 256 + q.val) (h.val * 4 + g.val) n.val
  refine ⟨a * Real.log 2, ?_⟩
  rw [val_main_v13_apply]
  refine (congrArg₂ (fun s t : EReal => s * t) ((scores_apply x0 x1 b h g q n).trans ha) (scale_apply _)).trans ?_
  exact (EReal.coe_mul _ _).symm

include f0 f1 in
/-- So is each row's maximum. -/
theorem rowMax_real (j : S32x8x4x256.Idx) : ∃ a : ℝ, (val_main_v16 (F := Ideal) x0 x1 j : EReal) = a := by
  have hred : S32x8x4x256x256.Reduces [4] S32x8x4x256 := by decide
  obtain ⟨a, ha⟩ := fold_max_real (k := 256) (by norm_num) (val_main_v13 (F := Ideal) x0 x1 ∘ hred.lift j)
    (fun n => scaled_real x0 x1 f0 f1 _)
  refine ⟨a, ?_⟩
  rw [val_main_v16_apply, val_main_v15_apply, val_main_cst_1_apply]
  have h14 : (val_main_v14 (F := Ideal) x0 x1 j : EReal) = a := by
    unfold val_main_v14
    refine (Host.reduce_eq_fold_single (FloatOps.maximumf (F := Ideal) (φ := .f32)) _ _ _ hred h_S_ j).trans ?_
    rw [val_main_cst_0_apply, ofBits_bot]
    exact ha
  rw [ofBits_bot, h14]
  exact max_eq_right bot_le

include f0 f1 in
/-- One entry of the product of the weights with the values is attention. -/
theorem product_apply (b : Fin 32) (h : Fin 8) (e : Fin 128) (g : Fin 4) (q : Fin 256) (v : ℕ → EReal)
    (hv : ∀ n : Fin 256, (val_main_v8 (F := Ideal) x2 (ix4 b n h e) : EReal) = v n.val) :
    (val_main_v25 (F := Ideal) x0 x1 x2 (ix5 b h e g q) : EReal)
      = attend 256 (scoreAt x0 x1 (b.val * 256 + q.val) (h.val * 4 + g.val)) v := by
  set s := scoreAt x0 x1 (b.val * 256 + q.val) (h.val * 4 + g.val) with hs
  obtain ⟨μ, hμ⟩ := rowMax_real x0 x1 f0 f1 (ix4 b h g q)
  have h20 (n : Fin 256) : (val_main_v20 (F := Ideal) x0 x1 (ix5 b h g q n) : EReal)
      = Ideal.exp (s n.val * (Real.log 2 : ℝ) - μ) := by
    rw [val_main_v20_apply, val_main_v19_apply, val_main_v13_apply, val_main_v18_apply, val_main_v17_apply]
    have e0 : idx_main_v17 (idx_main_v18 (ix5 b h g q n)) = ix4 b h g q := by idx_ext
    rw [e0, hμ]
    refine congrArg Ideal.exp (congrArg (fun t : EReal => t - μ) ?_)
    exact congrArg₂ (fun s t : EReal => s * t) (scores_apply x0 x1 b h g q n) (scale_apply _)
  have h21 : (val_main_v21 (F := Ideal) x0 x1 (ix4 b h g q) : EReal)
      = ∑ n : Fin 256, Ideal.exp (s n.val * (Real.log 2 : ℝ) - μ) := by
    rw [val_main_v21_apply, val_main_cst_2_apply, ofBits_zero]
    refine (zero_add _).trans (Finset.sum_congr rfl fun n _ => ?_)
    have e0 : idx_main_v21 (ix4 b h g q) n = ix5 b h g q n := by idx_ext
    rw [e0, h20]
  rw [val_main_v25_apply]
  refine Eq.trans (Finset.sum_congr rfl fun n _ => ?_) (softmax_eq μ 256 (by norm_num) s v
    (fun i _ => scoreAt_real x0 x1 f0 f1 _ _ i))
  have el : lidx_main_v25 (ix5 b h e g q) n = ix4 b n h e := by idx_ext
  have er : ridx_main_v25 (ix5 b h e g q) n = ix5 b h g q n := by idx_ext
  rw [el, er]
  refine congrArg₂ (fun s t : EReal => s * t) (hv n) ?_
  rw [val_main_v24_apply, val_main_v23_apply, val_main_v22_apply, h20]
  have e0 : idx_main_v22 (idx_main_v23 (ix5 b h g q n)) = ix4 b h g q := by idx_ext
  rw [e0, h21]
  rfl

include f0 f1 in
/-- The reference's result is the attention in the context rows and zero in the others. -/
theorem val_eq : val_main_v30 (F := Ideal) x0 x1 x2 = answer x0 x1 x2 := by
  funext i
  obtain ⟨r, d, rfl⟩ : ∃ (r : Fin 24576) (d : Fin 4096), i = ix2 r d := ⟨i 0, i 1, eq_ix2 i⟩
  unfold val_main_v30 answer
  by_cases hr : r.val < 8192
  · refine Eq.trans ?_ (if_pos (show r.val < 8192 from hr)).symm
    refine (concatenate_pair_apply_left 0 _ _ concatenates_S8192x4096_S16384x4096_S24576x4096_d0 (ix2 r d) rfl
      (ix2 (⟨r.val, hr⟩ : Fin 8192) d) (fun a => match a with | ⟨0, _⟩ => rfl | ⟨1, _⟩ => rfl)).trans ?_
    rw [val_main_v28_apply, val_main_v27_apply, val_main_v26_apply]
    have e0 : idx_main_v26 (idx_main_v27 (ix2 (⟨r.val, hr⟩ : Fin 8192) d))
        = ix5 (⟨r.val / 256, by omega⟩ : Fin 32) (⟨d.val / 512, by omega⟩ : Fin 8) (⟨d.val % 128, by omega⟩ : Fin 128)
          (⟨d.val / 128 % 4, by omega⟩ : Fin 4) (⟨r.val % 256, by omega⟩ : Fin 256) := funext fun a => Fin.ext (match a with
        | ⟨0, _⟩ => by show (r.val * 4096 + d.val) / 1048576 = r.val / 256; omega
        | ⟨1, _⟩ => by show (r.val * 4096 + d.val) / 512 % 8 = d.val / 512; omega
        | ⟨2, _⟩ => by show (r.val * 4096 + d.val) % 128 = d.val % 128; omega
        | ⟨3, _⟩ => by show (r.val * 4096 + d.val) / 128 % 4 = d.val / 128 % 4; omega
        | ⟨4, _⟩ => by show (r.val * 4096 + d.val) / 4096 % 256 = r.val % 256; omega)
    rw [e0]
    refine (product_apply x0 x1 x2 f0 f1 _ _ _ _ _ (valueAt x2 r.val d.val)
      (fun n => values_apply x2 _ n _ _ r.val d.val hr rfl d.isLt rfl rfl)).trans ?_
    refine congrArg₂ (attend 256) (congrArg₂ (scoreAt x0 x1) ?_ ?_) rfl
    · show r.val / 256 * 256 + r.val % 256 = r.val; omega
    · show d.val / 512 * 4 + d.val / 128 % 4 = d.val / 128; omega
  · refine Eq.trans ?_ (if_neg (show ¬ r.val < 8192 from hr)).symm
    refine (concatenate_pair_apply_right 0 _ _ concatenates_S8192x4096_S16384x4096_S24576x4096_d0 (ix2 r d) rfl rfl
      (ix2 (⟨r.val - 8192, by omega⟩ : Fin 16384) d) (fun a ha => match a with
        | ⟨0, _⟩ => absurd rfl ha | ⟨1, _⟩ => rfl) (by show r.val - 8192 + 8192 = r.val; omega)).trans ?_
    rw [val_main_v29_apply, val_main_cst_3_apply]
    exact Ideal.ofBits_zero_bf16

variable (m : (ℓ : Loc nD τ sig) → Buf (Elt Ideal) ℓ)

/-- The reference's result array at device `c`'s argument arrays, which hold real queries and keys. -/
theorem res_eq (c : Dev nD) (f0 : ∀ i, ∃ a : ℝ, (m ((c.tc : Thread nD τ).loc main_arg0) i : EReal) = (a : EReal))
    (f1 : ∀ i, ∃ a : ℝ, (m ((c.tc : Thread nD τ).loc main_arg1) i : EReal) = (a : EReal)) :
    Cert.CtxReferenceIdeal.Value.res_main_v30 m c
      = answer (m ((c.tc : Thread nD τ).loc main_arg0)) (m ((c.tc : Thread nD τ).loc main_arg1)) (m ((c.tc : Thread nD τ).loc main_arg2)) :=
  (val_main_v30_eq m c).trans (val_eq _ _ _ f0 f1)

end Cert.CtxReferenceIdeal.Hand

end
-- ==== Proof.CtxClaims.lean ====
/-
  The claims about the attention of the context.
-/
module

public import proofs.«01_k».proof.Defs
public import proofs.«01_k».proof.Proof.AttnFinite
public import proofs.«01_k».proof.Proof.CtxValue
public import proofs.«01_k».proof.Proof.CtxReference
public import proofs.«01_k».proof.Proof.Gen.Pre_finite_context
public import proofs.«01_k».proof.Proof.Gen.Ctx.Frame
public import proofs.«01_k».proof.Proof.Gen.CtxIdeal.Frame
public import proofs.«01_k».proof.Proof.Gen.CtxReferenceIdeal.Run
public import Idealize.ShloMosaic.Lib.Quiescent

@[expose] public section

noncomputable section

open Idealize.ShloMosaic Idealize.ShloMosaic.TcCoe Idealize.SL.Sem

namespace Cert.Proof.CtxClaims

/-- Where the precondition holds of three arrays, the queries and keys are real numbers. -/
theorem real_of_pre (x0 : FVec Ideal ⟨2, ![24576, 4096]⟩ .bf16) (x1 x2 : FVec Ideal ⟨2, ![24576, 1024]⟩ .bf16)
    (h : (Cert.Pre_finite_context.fn (F := Ideal) x0 x1 x2).1 = (fun _ => 1#1)
      ∧ (Cert.Pre_finite_context.fn (F := Ideal) x0 x1 x2).2 = (fun _ => 1#1)) :
    (∀ i, ∃ a : ℝ, (x0 i : EReal) = a) ∧ (∀ i, ∃ a : ℝ, (x1 i : EReal) = a) := by
  refine ⟨fun i => Cert.Attention.real_of_below _ ?_, fun i => Cert.Attention.real_of_below _ ?_⟩
  · have := congrFun h.1 i
    rw [← Cert.Attention.ofBits_top]; exact this
  · have := congrFun h.2 i
    rw [← Cert.Attention.ofBits_top]; exact this

/-- The kernel's program terminates and leaves its arguments alone, and the machine ends quiescent. -/
theorem frame_kernel : Cert.quiescent_Ctx := fun m ρ _ => Cert.Ctx.Gen.frame m ρ
/-- Its idealization likewise. -/
theorem frame_ideal : Cert.quiescent_CtxIdeal := fun m ρ _ => Cert.CtxIdeal.Gen.frame m ρ
/-- And under the precondition. -/
theorem frame_ideal_pre : Cert.quiescent_CtxIdeal_pre_finite_context := fun m ρ _ => Cert.CtxIdeal.Gen.frame m ρ
/-- The reference's program likewise: it is host operations only and declares no semaphore. -/
theorem frame_reference : Cert.quiescent_CtxReferenceIdeal := fun m ρ _ =>
  (θ_run Cert.CtxReferenceIdeal.defs _ _).mono (fun r h => ⟨fun c => (h c).2, Idealize.ShloMosaic.sem_eq_zero_of_no_sems (by decide) r.2⟩)
    (Cert.CtxReferenceIdeal.Value.run (F := Ideal) m ρ)
/-- And under the precondition. -/
theorem frame_reference_pre : Cert.quiescent_CtxReferenceIdeal_pre_finite_context := fun m ρ _ => frame_reference m ρ trivial

/-- At the extended reals, where queries and keys are real, the kernel and the reference compute the same array. -/
theorem algebraic : Cert.algebraic_CtxIdeal_CtxReferenceIdeal_pre_finite_context := by
  intro m ρ m' ρ' hpre hagree
  have hreal := fun c => real_of_pre _ _ _ (hpre c)
  refine ⟨fun c => Cert.CtxIdeal.Hand.result m c, Cert.CtxIdeal.Hand.run m ρ fun c => ⟨(hreal c).1, (hreal c).2⟩, ?_⟩
  refine (θ_run Cert.CtxReferenceIdeal.defs _ _).mono (fun _ h c => ⟨(h c).1.trans ?_, (h c).2⟩)
    (Cert.CtxReferenceIdeal.Value.run (F := Ideal) m' ρ')
  obtain ⟨a0, a1, a2⟩ := hagree c
  refine (Cert.CtxReferenceIdeal.Hand.res_eq m' c ?_ ?_).trans ?_
  · rw [a0]; exact (hreal c).1
  · rw [a1]; exact (hreal c).2
  · rw [a0, a1, a2]

end Cert.Proof.CtxClaims

end
-- ==== Proof.ChanValue.lean ====
/-
  The Fourier transform over each group's channels (`kernel_chan`), a product of each group with the same matrix, at the
  extended reals: what one block of it computes, what its result array ends holding, and that the reference computes the
  same.
-/
module

public import proofs.«01_k».proof.Defs
public import proofs.«01_k».proof.Proof.Gen.Chan.Frame
public import proofs.«01_k».proof.Proof.Gen.ChanIdeal.Value
public import proofs.«01_k».proof.Proof.Gen.ChanReferenceIdeal.Read
public import proofs.«01_k».proof.Proof.Words
public import proofs.«01_k».proof.Proof.Streams
public import Idealize.ShloMosaic.Lib.Pipeline.Value
public import Idealize.ShloMosaic.Lib.Pipeline.ValueKit
public import Idealize.ShloMosaic.Lib.Pipeline.Covers
public import Idealize.ShloMosaic.Lib.ValueIdx
public import Idealize.ShloMosaic.Lib.ValueLayout
public import Idealize.ShloMosaic.Lib.Quiescent
public import Idealize.ShloMosaic.Lib.IdealHost
public import Idealize.ShloMosaic.Lib.MatmulPlain
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)
open scoped BigOperators

namespace Cert.ChanIdeal.Hand

open Cert.ChanIdeal Cert.ChanIdeal.Gen

/-- Each group of 512 channels times the matrix, entry by entry. -/
def groups (h : FVec Ideal S24576x4096 .bf16) (w : FVec Ideal S1x512x512 .bf16) : FVec Ideal S24576x4096 .bf16 :=
  fun i => (∑ k : Fin 512, h (ix2 (i 0) (⟨(i 1).val / 512 * 512 + k.val, by have h1 : (i 1).val < 4096 := (i 1).isLt; omega⟩ : Fin 4096))
    * w (ix3 (0 : Fin 1) k (⟨(i 1).val % 512, by omega⟩ : Fin 512)) : EReal)

/-- What the body stores, read at one entry of the block. -/
theorem pay_apply (x0 : Vec Ideal S2048x512 .bf16) (x1 : Vec Ideal S1x512x512 .bf16) (r : Fin 2048) (n : Fin 512) :
    (k0_pay1 x0 x1 (ix2 r n) : EReal) = ∑ k : Fin 512, x0 (ix2 r k) * x1 (ix3 (0 : Fin 1) k n) := by
  unfold k0_pay1
  rw [ValueIdx.truncf_apply]
  refine (Cert.Shared.plain_zero (M := 2048) (K := 512) (N := 512) x0 _ r n).trans ?_
  exact Finset.sum_congr rfl fun k _ => congrArg (fun z : EReal => x0 (ix2 r k) * z) (Cert.Shared.drop_lead x1 _ k n)

variable (m : (ℓ : Loc nD τ sig) → Buf (Elt Ideal) ℓ)

/-- The call's result at device `c`'s argument arrays. -/
abbrev result (c : Dev nD) : Buf (Elt Ideal) ((c : Thread nD τ).loc main_v0) :=
  groups (m ((c : Thread nD τ).loc main_arg0)) (m ((c : Thread nD τ).loc main_arg1))

/-- Point `t` reads group `t % 8` of row tile `t / 8`. -/
theorem index_0 : ∀ t : Fin grid0.N, win0_0.index t = ![t.val / 8, t.val % 8] := by decide +kernel
/-- Every point reads the whole matrix. -/
theorem index_1 : ∀ t : Fin grid0.N, win0_1.index t = ![0, 0, 0] := by decide +kernel
/-- Point `t` writes group `t % 8` of row tile `t / 8`. -/
theorem index_2 : ∀ t : Fin grid0.N, win0_2.index t = ![t.val / 8, t.val % 8] := by decide +kernel

/-- The result array after the run: each point writes its tile of it, and the tiles cover it. -/
theorem final (c : Dev nD) : (dats m 0 c).arrAt 2 cfg0.N = result m c := by
  refine (dats m 0 c).arrAt_eq_of_covers 2 _ (by decide +kernel) fun t hf y => ?_
  blk_simp
  rw [after0_2]
  frame_out
  obtain ⟨r, n, rfl⟩ : ∃ (r : Fin 2048) (n : Fin 512), y = ix2 r n := ⟨y 0, y 1, eq_ix2 y⟩
  rw [pay_apply]
  unfold result groups
  blk_point [iblk, V, index_0 t, index_1 t, index_2 t]

variable (ρ : Dev nD → PrngReg)

/-- The kernel's run, read: the result array at the groups' products, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans (final m c), (h c).2⟩) (Value.run_blocks m ρ)

end Cert.ChanIdeal.Hand

namespace Cert.ChanReferenceIdeal.Hand

open Cert.ChanReferenceIdeal Cert.ChanReferenceIdeal.Gen Cert.ChanReferenceIdeal.Read

variable (x0 : FVec Ideal S24576x4096 .bf16) (x1 : FVec Ideal S1x512x512 .bf16)

/-- The reference's product is the kernel's. -/
theorem val_eq : val_main_v6 (F := Ideal) x0 x1 = Cert.ChanIdeal.Hand.groups x0 x1 := by
  funext i
  obtain ⟨r, d, rfl⟩ : ∃ (r : Fin 24576) (d : Fin 4096), i = ix2 r d := ⟨i 0, i 1, eq_ix2 i⟩
  rw [val_main_v6_apply, val_main_v5_apply, val_main_v4_apply]
  have e0 : idx_main_v5 (ix2 r d) = ix3 r (⟨d.val / 512, by omega⟩ : Fin 8) (⟨d.val % 512, by omega⟩ : Fin 512) :=
    funext fun a => Fin.ext (match a with
      | ⟨0, _⟩ => by show (r.val * 4096 + d.val) / 4096 = r.val; omega
      | ⟨1, _⟩ => by show (r.val * 4096 + d.val) / 512 % 8 = d.val / 512; omega
      | ⟨2, _⟩ => by show (r.val * 4096 + d.val) % 512 = d.val % 512; omega)
  rw [e0]
  refine Finset.sum_congr rfl fun k _ => ?_
  rw [val_main_v1_apply, val_main_v0_apply, val_main_v3_apply, val_main_v2_apply]
  refine congrArg₂ (fun a b : EReal => a * b) (congrArg x0 ?_) (congrArg x1 ?_)
  · idx_ext
  · idx_ext

variable (m : (ℓ : Loc nD τ sig) → Buf (Elt Ideal) ℓ) (ρ : Dev nD → PrngReg)

/-- The reference's run, read: the result array at the groups' products, the arguments unchanged. -/
theorem run : θ_run defs (onTc (τ := τ) (main (F := Ideal))) ⟨m, fun _ => 0, ρ⟩ fun r => ∀ c : Dev nD,
      r.2.mem ((c.tc : Thread nD τ).loc main_v6) = Cert.ChanIdeal.Hand.groups
          (m ((c.tc : Thread nD τ).loc main_arg0))
          (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1).trans ((val_main_v6_eq _ _).trans (val_eq _ _)), (h c).2⟩)
    (Value.run (F := Ideal) m ρ)

end Cert.ChanReferenceIdeal.Hand

/-! ## The claims -/

namespace Cert.Proof.ChanClaims

/-- The kernel's program terminates and leaves its arguments alone, and the machine ends quiescent. -/
theorem frame_kernel : Cert.quiescent_Chan := fun m ρ _ => Cert.Chan.Gen.frame m ρ
/-- Its idealization likewise. -/
theorem frame_ideal : Cert.quiescent_ChanIdeal := fun m ρ _ => Cert.ChanIdeal.Gen.frame m ρ
/-- The reference's program likewise: it is host operations only and declares no semaphore. -/
theorem frame_reference : Cert.quiescent_ChanReferenceIdeal := fun m ρ _ =>
  (θ_run Cert.ChanReferenceIdeal.defs _ _).mono (fun r h => ⟨fun c => (h c).2, Idealize.ShloMosaic.sem_eq_zero_of_no_sems (by decide) r.2⟩)
    (Cert.ChanReferenceIdeal.Value.run (F := Ideal) m ρ)

/-- At the extended reals the kernel and the reference compute the same array. -/
theorem algebraic : Cert.algebraic_ChanIdeal_ChanReferenceIdeal := by
  intro m ρ m' ρ' _ hagree
  refine ⟨fun c => Cert.ChanIdeal.Hand.result m c, Cert.ChanIdeal.Hand.run m ρ, ?_⟩
  refine (θ_run Cert.ChanReferenceIdeal.defs _ _).mono (fun _ h c => ⟨(h c).1.trans ?_, (h c).2⟩) (Cert.ChanReferenceIdeal.Hand.run m' ρ')
  obtain ⟨a0, a1⟩ := hagree c
  rw [a0, a1]

end Cert.Proof.ChanClaims

end
-- ==== Proof.ShortValue.lean ====
/-
  The Fourier transform over the positions of each context sequence (`kernel_short`), from the transforms over the
  channels, at the extended reals: what a point computes, what the result array ends holding, and that the reference
  computes the same. The rows behind the context are zero.
-/
module

public import proofs.«01_k».proof.Defs
public import proofs.«01_k».proof.Proof.Gen.Short.Frame
public import proofs.«01_k».proof.Proof.Gen.ShortIdeal.Value
public import proofs.«01_k».proof.Proof.Gen.ShortReferenceIdeal.Read
public import proofs.«01_k».proof.Proof.Words
public import proofs.«01_k».proof.Proof.Streams
public import Idealize.ShloMosaic.Lib.Pipeline.Value
public import Idealize.ShloMosaic.Lib.Pipeline.ValueKit
public import Idealize.ShloMosaic.Lib.Pipeline.Covers
public import Idealize.ShloMosaic.Lib.ValueIdx
public import Idealize.ShloMosaic.Lib.ValueLayout
public import Idealize.ShloMosaic.Lib.Quiescent
public import Idealize.ShloMosaic.Lib.IdealHost
public import Idealize.ShloMosaic.Lib.MatmulPlain
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)
open scoped BigOperators

namespace Cert.ShortIdeal.Hand

open Cert.ShortIdeal Cert.ShortIdeal.Gen

/-- The cosines' product minus the sines', scaled, in each sequence of 256 rows of the context, and zero behind it. -/
def waves (c s : FVec Ideal S256x256 .bf16) (a b : FVec Ideal S24576x4096 .bf16) : FVec Ideal S24576x4096 .bf16 :=
  fun i => if h : (i (0 : Fin 2)).val < 8192 then
    ((∑ k : Fin 256, c (ix2 (⟨(i (0 : Fin 2)).val % 256, by omega⟩ : Fin 256) k)
          * a (ix2 (⟨(i (0 : Fin 2)).val / 256 * 256 + k.val, by omega⟩ : Fin 24576) (i 1)))
      - ∑ k : Fin 256, s (ix2 (⟨(i (0 : Fin 2)).val % 256, by omega⟩ : Fin 256) k)
          * b (ix2 (⟨(i (0 : Fin 2)).val / 256 * 256 + k.val, by omega⟩ : Fin 24576) (i 1)))
      * (Ideal.ofBits .f32 0x3B3504F3#32 : EReal)
  else (0 : EReal)

/-- What the body stores in the context, read at one entry of the block. -/
theorem pay_apply (x0 : Vec Ideal S256x256 .bf16) (x1 : Vec Ideal S256x2048 .bf16) (x2 : Vec Ideal S256x256 .bf16)
    (x3 : Vec Ideal S256x2048 .bf16) (r : Fin 256) (n : Fin 2048) :
    (k0_pay1 x0 x1 x2 x3 (ix2 r n) : EReal)
      = ((∑ k : Fin 256, x0 (ix2 r k) * x1 (ix2 k n)) - ∑ k : Fin 256, x2 (ix2 r k) * x3 (ix2 k n))
          * (Ideal.ofBits .f32 0x3B3504F3#32 : EReal) := by
  have hm (x : FVec Ideal S256x256 .bf16) (y : FVec Ideal S256x2048 .bf16) :
      (matmul (F := Ideal) dot_S256x256_S256x2048_S256x2048_1_0_0_1_n_n none x y (constant S256x2048 .f32 0x00000000#32)
        : FVec Ideal S256x2048 .f32) (ix2 r n) = ∑ k : Fin 256, x (ix2 r k) * y (ix2 k n) :=
    Cert.Shared.plain_zero (M := 256) (K := 256) (N := 2048) x y r n
  unfold k0_pay1
  exact congrArg₂ (fun a b : EReal => (a - b) * (Ideal.ofBits .f32 0x3B3504F3#32 : EReal)) (hm x0 x1) (hm x2 x3)

variable (m : (ℓ : Loc nD τ sig) → Buf (Elt Ideal) ℓ)

/-- The call's result at device `c`'s argument arrays. -/
abbrev result (c : Dev nD) : Buf (Elt Ideal) ((c : Thread nD τ).loc main_v0) :=
  waves (m ((c : Thread nD τ).loc main_arg0)) (m ((c : Thread nD τ).loc main_arg1)) (m ((c : Thread nD τ).loc main_arg2))
    (m ((c : Thread nD τ).loc main_arg3))

/-- Every point reads all the cosines. -/
theorem index_0 : ∀ t : Fin grid0.N, win0_0.index t = ![0, 0] := by decide +kernel
/-- And all the sines. -/
theorem index_1 : ∀ t : Fin grid0.N, win0_1.index t = ![0, 0] := by decide +kernel
/-- Point `t` reads half `t % 2` of the columns of sequence `t / 2`, the last one after the context's end. -/
theorem index_2 : ∀ t : Fin grid0.N, win0_2.index t = ![min (t.val / 2) 31, t.val % 2] := by decide +kernel
/-- The sines' operand likewise. -/
theorem index_3 : ∀ t : Fin grid0.N, win0_3.index t = ![min (t.val / 2) 31, t.val % 2] := by decide +kernel
/-- Point `t` writes half `t % 2` of the columns of the 256 rows `t / 2`. -/
theorem index_4 : ∀ t : Fin grid0.N, win0_4.index t = ![t.val / 2, t.val % 2] := by decide +kernel

/-- The cosines' block at an entry. -/
theorem block_0 (c : Dev nD) (t : Fin grid0.N) (r k : Fin 256) :
    (iblk m c 0 t (ix2 r k) : EReal) = m ((c : Thread nD τ).loc main_arg0) (ix2 r k) := by
  blk_ext [iblk, V, index_0 t]

/-- The sines' block at an entry. -/
theorem block_1 (c : Dev nD) (t : Fin grid0.N) (r k : Fin 256) :
    (iblk m c 1 t (ix2 r k) : EReal) = m ((c : Thread nD τ).loc main_arg1) (ix2 r k) := by
  blk_ext [iblk, V, index_1 t]

/-- The block of the cosines' operand at an entry. -/
theorem block_2 (c : Dev nD) (t : Fin grid0.N) (ht : t.val < 64) (k : Fin 256) (n : Fin 2048) :
    (iblk m c 2 t (ix2 k n) : EReal) = m ((c : Thread nD τ).loc main_arg2)
      (ix2 (⟨t.val / 2 * 256 + k.val, by omega⟩ : Fin 24576) (⟨t.val % 2 * 2048 + n.val, by omega⟩ : Fin 4096)) := by
  blk_ext [iblk, V, index_2 t]

/-- The block of the sines' operand at an entry. -/
theorem block_3 (c : Dev nD) (t : Fin grid0.N) (ht : t.val < 64) (k : Fin 256) (n : Fin 2048) :
    (iblk m c 3 t (ix2 k n) : EReal) = m ((c : Thread nD τ).loc main_arg3)
      (ix2 (⟨t.val / 2 * 256 + k.val, by omega⟩ : Fin 24576) (⟨t.val % 2 * 2048 + n.val, by omega⟩ : Fin 4096)) := by
  blk_ext [iblk, V, index_3 t]

/-- The row of the array a point's tile puts its row at. -/
theorem emb_0 (t : Fin grid0.N) (r : Fin 256) (n : Fin 2048) :
    ((((View.whole main_v0).slice (win0_4.rect t)).emb (ix2 r n)) (0 : Fin 2)).val = t.val / 2 * 256 + r.val := by
  show win0_4.index t 0 * 256 + 1 * r.val = _
  rw [index_4 t, Nat.one_mul]
  rfl

/-- The column of the array a point's tile puts its column at. -/
theorem emb_1 (t : Fin grid0.N) (r : Fin 256) (n : Fin 2048) :
    ((((View.whole main_v0).slice (win0_4.rect t)).emb (ix2 r n)) (1 : Fin 2)).val = t.val % 2 * 2048 + n.val := by
  show win0_4.index t 1 * 2048 + 1 * n.val = _
  rw [index_4 t, Nat.one_mul]
  rfl

/-- The result array after the run: each point writes its tile of it, and the tiles cover it. -/
theorem final (c : Dev nD) : (dats m 0 c).arrAt 4 cfg0.N = result m c := by
  refine (dats m 0 c).arrAt_eq_of_covers 4 _ (by decide +kernel) fun t _ y => ?_
  obtain ⟨r, n, rfl⟩ : ∃ (r : Fin 256) (n : Fin 2048), y = ix2 r n := ⟨y 0, y 1, eq_ix2 y⟩
  blk_simp
  rw [after0_4]
  have h0 := emb_0 t r n
  have h1 := emb_1 t r n
  by_cases ht : t.val < 64
  · rw [outsAt0_A m c t ht (by omega)]
    frame_out
    refine (pay_apply _ _ _ _ r n).trans ?_
    unfold result waves
    refine Eq.trans ?_ (dif_pos (by omega)).symm
    refine congrArg₂ (fun a b : EReal => (a - b) * (Ideal.ofBits .f32 0x3B3504F3#32 : EReal))
      (Finset.sum_congr rfl fun k _ => congrArg₂ (fun a b : EReal => a * b)
        ((block_0 m c t r k).trans (congrArg _ (congrArg (fun j => ix2 j k) (Fin.ext ?_))))
        ((block_2 m c t ht k n).trans (congrArg _ (congrArg₂ (fun i j => ix2 i j) (Fin.ext ?_) (Fin.ext ?_)))))
      (Finset.sum_congr rfl fun k _ => congrArg₂ (fun a b : EReal => a * b)
        ((block_1 m c t r k).trans (congrArg _ (congrArg (fun j => ix2 j k) (Fin.ext ?_))))
        ((block_3 m c t ht k n).trans (congrArg _ (congrArg₂ (fun i j => ix2 i j) (Fin.ext ?_) (Fin.ext ?_)))))
    all_goals (try dsimp only); omega
  · rw [outsAt0_B m c t ht (by omega)]
    frame_out
    unfold result waves
    refine Eq.trans ?_ (dif_neg (by omega)).symm
    exact Ideal.ofBits_zero_bf16

variable (ρ : Dev nD → PrngReg)

/-- The kernel's run, read: the result array at the transform, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1).trans (final m c), (h c).2⟩) (Value.run_blocks m ρ)

end Cert.ShortIdeal.Hand

namespace Cert.ShortReferenceIdeal.Hand

open Cert.ShortReferenceIdeal Cert.ShortReferenceIdeal.Gen Cert.ShortReferenceIdeal.Read
open Cert.Shared (low high behind rejoin)

variable (x0 x1 : FVec Ideal S256x256 .bf16) (x2 x3 : FVec Ideal S24576x4096 .bf16)

/-- The reference's result, entry by entry: its products have the factors the other way round. -/
theorem val_eq : val_main_v18 (F := Ideal) x0 x1 x2 x3 = Cert.ShortIdeal.Hand.waves x0 x1 x2 x3 := by
  unfold val_main_v18
  refine rejoin _ _ _ concatenates_S8192x4096_S16384x4096_S24576x4096_d0 (fun r d => ?_) (fun b q d => ?_)
  · have e0 : idx_main_v15 (ix2 r d) = ix3 (⟨r.val / 256, by omega⟩ : Fin 32) (⟨r.val % 256, by omega⟩ : Fin 256) d :=
      funext fun a => Fin.ext (match a with
        | ⟨0, _⟩ => by show (r.val * 4096 + d.val) / 1048576 = r.val / 256; omega
        | ⟨1, _⟩ => by show (r.val * 4096 + d.val) / 4096 % 256 = r.val % 256; omega
        | ⟨2, _⟩ => by show (r.val * 4096 + d.val) % 4096 = d.val; omega)
    rw [val_main_v16_apply, val_main_v15_apply, e0, val_main_v14_apply, val_main_v12_apply, val_main_v8_apply, val_main_v11_apply,
      val_main_v7_apply, val_main_v10_apply, val_main_v13_apply, val_main_cst_apply]
    unfold Cert.ShortIdeal.Hand.waves low
    refine Eq.trans ?_ (dif_pos (show r.val < 8192 from r.isLt)).symm
    refine congrArg₂ (fun a b : EReal => (a - b) * (Ideal.ofBits .f32 0x3B3504F3#32 : EReal))
      (Finset.sum_congr rfl fun k _ => ?_) (Finset.sum_congr rfl fun k _ => ?_)
    · rw [mul_comm, val_main_v6_apply, val_main_v2_apply, val_main_v1_apply, val_main_v0_apply]
      refine congrArg₂ (fun a b : EReal => a * b) (congrArg x0 ?_) (congrArg x2 ?_)
      · idx_ext
      · idx_ext
    · rw [mul_comm, val_main_v9_apply, val_main_v5_apply, val_main_v4_apply, val_main_v3_apply]
      refine congrArg₂ (fun a b : EReal => a * b) (congrArg x1 ?_) (congrArg x3 ?_)
      · idx_ext
      · idx_ext
  · rw [val_main_v17_apply, val_main_cst_0_apply]
    refine Eq.trans ?_ (dif_neg (show ¬ 8192 + b.val * 4096 + q.val < 8192 by omega)).symm
    exact Ideal.ofBits_zero_bf16

variable (m : (ℓ : Loc nD τ sig) → Buf (Elt Ideal) ℓ) (ρ : Dev nD → PrngReg)

/-- The reference's run, read: the result array at the transform, the arguments unchanged. -/
theorem run : θ_run defs (onTc (τ := τ) (main (F := Ideal))) ⟨m, fun _ => 0, ρ⟩ fun r => ∀ c : Dev nD,
      r.2.mem ((c.tc : Thread nD τ).loc main_v18) = Cert.ShortIdeal.Hand.waves
          (m ((c.tc : Thread nD τ).loc main_arg0))
          (m ((c.tc : Thread nD τ).loc main_arg1))
          (m ((c.tc : Thread nD τ).loc main_arg2))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1).trans ((val_main_v18_eq _ _ _ _).trans (val_eq _ _ _ _)), (h c).2⟩)
    (Value.run (F := Ideal) m ρ)

end Cert.ShortReferenceIdeal.Hand

/-! ## The claims -/

namespace Cert.Proof.ShortClaims

/-- The kernel's program terminates and leaves its arguments alone, and the machine ends quiescent. -/
theorem frame_kernel : Cert.quiescent_Short := fun m ρ _ => Cert.Short.Gen.frame m ρ
/-- Its idealization likewise. -/
theorem frame_ideal : Cert.quiescent_ShortIdeal := fun m ρ _ => Cert.ShortIdeal.Gen.frame m ρ
/-- The reference's program likewise: it is host operations only and declares no semaphore. -/
theorem frame_reference : Cert.quiescent_ShortReferenceIdeal := fun m ρ _ =>
  (θ_run Cert.ShortReferenceIdeal.defs _ _).mono (fun r h => ⟨fun c => (h c).2, Idealize.ShloMosaic.sem_eq_zero_of_no_sems (by decide) r.2⟩)
    (Cert.ShortReferenceIdeal.Value.run (F := Ideal) m ρ)

/-- At the extended reals the kernel and the reference compute the same array. -/
theorem algebraic : Cert.algebraic_ShortIdeal_ShortReferenceIdeal := by
  intro m ρ m' ρ' _ hagree
  refine ⟨fun c => Cert.ShortIdeal.Hand.result m c, Cert.ShortIdeal.Hand.run m ρ, ?_⟩
  refine (θ_run Cert.ShortReferenceIdeal.defs _ _).mono (fun _ h c => ⟨(h c).1.trans ?_, (h c).2⟩) (Cert.ShortReferenceIdeal.Hand.run m' ρ')
  obtain ⟨a0, a1, a2, a3⟩ := hagree c
  rw [a0, a1, a2, a3]

end Cert.Proof.ShortClaims

end
-- ==== Proof.LongValue.lean ====
/-
  The Fourier transform over the positions of each latent sequence (`kernel_long`), from the transforms over the channels,
  at the extended reals: what a point computes, what the result array ends holding, and that the reference computes the
  same. The context's rows stay as they were.
-/
module

public import proofs.«01_k».proof.Defs
public import proofs.«01_k».proof.Proof.Gen.Long.Frame
public import proofs.«01_k».proof.Proof.Gen.LongIdeal.Value
public import proofs.«01_k».proof.Proof.Gen.LongReferenceIdeal.Read
public import proofs.«01_k».proof.Proof.Words
public import proofs.«01_k».proof.Proof.Streams
public import Idealize.ShloMosaic.Lib.Pipeline.Value
public import Idealize.ShloMosaic.Lib.Pipeline.ValueKit
public import Idealize.ShloMosaic.Lib.Pipeline.Covers
public import Idealize.ShloMosaic.Lib.ValueIdx
public import Idealize.ShloMosaic.Lib.ValueLayout
public import Idealize.ShloMosaic.Lib.Quiescent
public import Idealize.ShloMosaic.Lib.IdealHost
public import Idealize.ShloMosaic.Lib.MatmulPlain
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)
open scoped BigOperators

namespace Cert.LongIdeal.Hand

open Cert.LongIdeal Cert.LongIdeal.Gen

/-- The cosines' product minus the sines', scaled, in the sequences of 4096 rows. -/
def waves (c s : FVec Ideal S4096x4096 .bf16) (a b : FVec Ideal S24576x4096 .bf16) : FVec Ideal S24576x4096 .bf16 :=
  fun i => (((∑ k : Fin 4096, c (ix2 (⟨(i (0 : Fin 2)).val % 4096, by omega⟩ : Fin 4096) k)
          * a (ix2 (⟨(i (0 : Fin 2)).val / 4096 * 4096 + k.val, by have h : (i (0 : Fin 2)).val < 24576 := (i (0 : Fin 2)).isLt; omega⟩ : Fin 24576) (i 1)))
      - ∑ k : Fin 4096, s (ix2 (⟨(i (0 : Fin 2)).val % 4096, by omega⟩ : Fin 4096) k)
          * b (ix2 (⟨(i (0 : Fin 2)).val / 4096 * 4096 + k.val, by have h : (i (0 : Fin 2)).val < 24576 := (i (0 : Fin 2)).isLt; omega⟩ : Fin 24576) (i 1)))
      * (Ideal.ofBits .f32 0x3A3504F3#32 : EReal) : EReal)

/-- The call's result: the transform in the latent rows, the previous array in the others. -/
def joined (c s : FVec Ideal S4096x4096 .bf16) (a b p : FVec Ideal S24576x4096 .bf16) : FVec Ideal S24576x4096 .bf16 :=
  fun i => if 16 ≤ (i (0 : Fin 2)).val / 512 then waves c s a b i else p i

/-- What the body stores, read at one entry of the block. -/
theorem pay_apply (x0 : Vec Ideal S512x4096 .bf16) (x1 : Vec Ideal S4096x512 .bf16) (x2 : Vec Ideal S512x4096 .bf16)
    (x3 : Vec Ideal S4096x512 .bf16) (r n : Fin 512) :
    (k0_pay1 x0 x1 x2 x3 (ix2 r n) : EReal)
      = ((∑ k : Fin 4096, x0 (ix2 r k) * x1 (ix2 k n)) - ∑ k : Fin 4096, x2 (ix2 r k) * x3 (ix2 k n))
          * (Ideal.ofBits .f32 0x3A3504F3#32 : EReal) := by
  have hm (x : FVec Ideal S512x4096 .bf16) (y : FVec Ideal S4096x512 .bf16) :
      (matmul (F := Ideal) dot_S512x4096_S4096x512_S512x512_1_0_0_1_n_n none x y (constant S512x512 .f32 0x00000000#32)
        : FVec Ideal S512x512 .f32) (ix2 r n) = ∑ k : Fin 4096, x (ix2 r k) * y (ix2 k n) :=
    Cert.Shared.plain_zero (M := 512) (K := 4096) (N := 512) x y r n
  unfold k0_pay1
  exact congrArg₂ (fun a b : EReal => (a - b) * (Ideal.ofBits .f32 0x3A3504F3#32 : EReal)) (hm x0 x1) (hm x2 x3)

variable (m : (ℓ : Loc nD τ sig) → Buf (Elt Ideal) ℓ)

/-- The call's result at device `c`'s argument arrays. -/
abbrev result (c : Dev nD) : Buf (Elt Ideal) ((c : Thread nD τ).loc main_v0) :=
  joined (m ((c : Thread nD τ).loc main_arg0)) (m ((c : Thread nD τ).loc main_arg1)) (m ((c : Thread nD τ).loc main_arg2))
    (m ((c : Thread nD τ).loc main_arg3)) (m ((c : Thread nD τ).loc main_arg4))

/-- Point `t` reads row tile `t / 32` of the cosines. -/
theorem index_0 : ∀ t : Fin grid0.N, win0_0.index t = ![t.val / 32, 0] := by decide +kernel
/-- The same of the sines. -/
theorem index_1 : ∀ t : Fin grid0.N, win0_1.index t = ![t.val / 32, 0] := by decide +kernel
/-- Point `t` reads column tile `t % 8` of latent sequence `t / 8 % 4`. -/
theorem index_2 : ∀ t : Fin grid0.N, win0_2.index t = ![2 + t.val / 8 % 4, t.val % 8] := by decide +kernel
/-- The sines' operand likewise. -/
theorem index_3 : ∀ t : Fin grid0.N, win0_3.index t = ![2 + t.val / 8 % 4, t.val % 8] := by decide +kernel
/-- Point `t` writes column tile `t % 8` of row tile `t / 32` of that sequence. -/
theorem index_4 : ∀ t : Fin grid0.N, win0_4.index t = ![16 + t.val / 8 % 4 * 8 + t.val / 32, t.val % 8] := by decide +kernel

/-- There are 256 points. -/
theorem point_lt (t : Fin grid0.N) : t.val < 256 := lt_of_lt_of_le t.isLt (by decide)

/-- The cosines' block at an entry. -/
theorem block_0 (c : Dev nD) (t : Fin grid0.N) (r : Fin 512) (k : Fin 4096) :
    (iblk m c 0 t (ix2 r k) : EReal) = m ((c : Thread nD τ).loc main_arg0)
      (ix2 (⟨t.val / 32 * 512 + r.val, by have := point_lt t; omega⟩ : Fin 4096) k) := by
  blk_ext [iblk, V, index_0 t]

/-- The sines' block at an entry. -/
theorem block_1 (c : Dev nD) (t : Fin grid0.N) (r : Fin 512) (k : Fin 4096) :
    (iblk m c 1 t (ix2 r k) : EReal) = m ((c : Thread nD τ).loc main_arg1)
      (ix2 (⟨t.val / 32 * 512 + r.val, by have := point_lt t; omega⟩ : Fin 4096) k) := by
  blk_ext [iblk, V, index_1 t]

/-- The block of the cosines' operand at an entry. -/
theorem block_2 (c : Dev nD) (t : Fin grid0.N) (k : Fin 4096) (n : Fin 512) :
    (iblk m c 2 t (ix2 k n) : EReal) = m ((c : Thread nD τ).loc main_arg2)
      (ix2 (⟨(2 + t.val / 8 % 4) * 4096 + k.val, by omega⟩ : Fin 24576) (⟨t.val % 8 * 512 + n.val, by omega⟩ : Fin 4096)) := by
  blk_ext [iblk, V, index_2 t]

/-- The block of the sines' operand at an entry. -/
theorem block_3 (c : Dev nD) (t : Fin grid0.N) (k : Fin 4096) (n : Fin 512) :
    (iblk m c 3 t (ix2 k n) : EReal) = m ((c : Thread nD τ).loc main_arg3)
      (ix2 (⟨(2 + t.val / 8 % 4) * 4096 + k.val, by omega⟩ : Fin 24576) (⟨t.val % 8 * 512 + n.val, by omega⟩ : Fin 4096)) := by
  blk_ext [iblk, V, index_3 t]

/-- The result's buffer enters the call as a copy of the previous array. -/
theorem entry (c : Dev nD) : V m c main_v0 = m ((c : Thread nD τ).loc main_arg4) := by
  unfold V
  after_results
  rfl

/-- The row of the array a point's tile puts its row at. -/
theorem emb_0 (t : Fin grid0.N) (r n : Fin 512) :
    ((((View.whole main_v0).slice (win0_4.rect t)).emb (ix2 r n)) (0 : Fin 2)).val
      = (16 + t.val / 8 % 4 * 8 + t.val / 32) * 512 + r.val := by
  show win0_4.index t 0 * 512 + 1 * r.val = _
  rw [index_4 t, Nat.one_mul]
  rfl

/-- The column of the array a point's tile puts its column at. -/
theorem emb_1 (t : Fin grid0.N) (r n : Fin 512) :
    ((((View.whole main_v0).slice (win0_4.rect t)).emb (ix2 r n)) (1 : Fin 2)).val = t.val % 8 * 512 + n.val := by
  show win0_4.index t 1 * 512 + 1 * n.val = _
  rw [index_4 t, Nat.one_mul]
  rfl

/-- The result array after the run: the points' tiles cover the latent rows, the others stay. -/
theorem final (c : Dev nD) : (dats m 0 c).arrAt 4 cfg0.N = result m c := by
  refine ((dats m 0 c).arrAt_eq_of_coversWhere 4 (waves (m ((c : Thread nD τ).loc main_arg0)) (m ((c : Thread nD τ).loc main_arg1))
    (m ((c : Thread nD τ).loc main_arg2)) (m ((c : Thread nD τ).loc main_arg3)))
    (fun β => 16 ≤ β (0 : Fin _)) (by decide +kernel) (fun t _ y => ?_)
    (P := fun i => 16 ≤ (i (0 : Fin 2) : ℕ) / 512) (fun j => Iff.rfl)).trans ?_
  · obtain ⟨r, n, rfl⟩ : ∃ (r n : Fin 512), y = ix2 r n := ⟨y 0, y 1, eq_ix2 y⟩
    have ht := point_lt t
    blk_simp
    rw [after0_4]
    unfold outsAt0
    frame_out
    have h0 := emb_0 t r n
    have h1 := emb_1 t r n
    refine (pay_apply _ _ _ _ r n).trans ?_
    unfold waves
    refine congrArg₂ (fun a b : EReal => (a - b) * (Ideal.ofBits .f32 0x3A3504F3#32 : EReal))
      (Finset.sum_congr rfl fun k _ => congrArg₂ (fun a b : EReal => a * b)
        ((block_0 m c t r k).trans (congrArg _ (congrArg (fun j => ix2 j k) (Fin.ext ?_))))
        ((block_2 m c t k n).trans (congrArg _ (congrArg₂ (fun i j => ix2 i j) (Fin.ext ?_) (Fin.ext ?_)))))
      (Finset.sum_congr rfl fun k _ => congrArg₂ (fun a b : EReal => a * b)
        ((block_1 m c t r k).trans (congrArg _ (congrArg (fun j => ix2 j k) (Fin.ext ?_))))
        ((block_3 m c t k n).trans (congrArg _ (congrArg₂ (fun i j => ix2 i j) (Fin.ext ?_) (Fin.ext ?_)))))
    all_goals (try dsimp only); omega
  · funext i
    exact if_congr Iff.rfl rfl (congrFun (entry m c) i)

variable (ρ : Dev nD → PrngReg)

/-- The kernel's run, read: the result array at the transform, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1).trans (final m c), (h c).2⟩) (Value.run_blocks m ρ)

end Cert.LongIdeal.Hand

namespace Cert.LongReferenceIdeal.Hand

open Cert.LongReferenceIdeal Cert.LongReferenceIdeal.Gen Cert.LongReferenceIdeal.Read
open Cert.Shared (low high behind rejoin)

variable (x0 x1 : FVec Ideal S4096x4096 .bf16) (x2 x3 x4 : FVec Ideal S24576x4096 .bf16)

/-- The reference's result, entry by entry: its products have the factors the other way round. -/
theorem val_eq : val_main_v18 (F := Ideal) x0 x1 x2 x3 x4 = Cert.LongIdeal.Hand.joined x0 x1 x2 x3 x4 := by
  unfold val_main_v18
  refine rejoin _ _ _ concatenates_S8192x4096_S16384x4096_S24576x4096_d0 (fun r d => ?_) (fun b q d => ?_)
  · rw [val_main_v17_apply]
    unfold Cert.LongIdeal.Hand.joined low
    refine Eq.trans ?_ (if_neg (show ¬ 16 ≤ r.val / 512 by omega)).symm
    refine congrArg x4 ?_
    idx_ext
  · have e0 : idx_main_v15 (ix2 (behind b q) d) = ix3 b q d :=
      funext fun a => Fin.ext (match a with
        | ⟨0, _⟩ => by show ((b.val * 4096 + q.val) * 4096 + d.val) / 16777216 = b.val; omega
        | ⟨1, _⟩ => by show ((b.val * 4096 + q.val) * 4096 + d.val) / 4096 % 4096 = q.val; omega
        | ⟨2, _⟩ => by show ((b.val * 4096 + q.val) * 4096 + d.val) % 4096 = d.val; omega)
    rw [val_main_v16_apply, val_main_v15_apply, e0, val_main_v14_apply, val_main_v12_apply, val_main_v8_apply, val_main_v11_apply,
      val_main_v7_apply, val_main_v10_apply, val_main_v13_apply, val_main_cst_apply]
    unfold Cert.LongIdeal.Hand.joined Cert.LongIdeal.Hand.waves high
    refine Eq.trans ?_ (if_pos (show 16 ≤ (8192 + b.val * 4096 + q.val) / 512 by omega)).symm
    refine congrArg₂ (fun a b : EReal => (a - b) * (Ideal.ofBits .f32 0x3A3504F3#32 : EReal))
      (Finset.sum_congr rfl fun k _ => ?_) (Finset.sum_congr rfl fun k _ => ?_)
    · rw [mul_comm, val_main_v6_apply, val_main_v2_apply, val_main_v1_apply, val_main_v0_apply]
      refine congrArg₂ (fun a b : EReal => a * b) (congrArg x0 ?_) (congrArg x2 ?_)
      · idx_ext
      · idx_ext
    · rw [mul_comm, val_main_v9_apply, val_main_v5_apply, val_main_v4_apply, val_main_v3_apply]
      refine congrArg₂ (fun a b : EReal => a * b) (congrArg x1 ?_) (congrArg x3 ?_)
      · idx_ext
      · idx_ext

variable (m : (ℓ : Loc nD τ sig) → Buf (Elt Ideal) ℓ) (ρ : Dev nD → PrngReg)

/-- The reference's run, read: the result array at the transform, the arguments unchanged. -/
theorem run : θ_run defs (onTc (τ := τ) (main (F := Ideal))) ⟨m, fun _ => 0, ρ⟩ fun r => ∀ c : Dev nD,
      r.2.mem ((c.tc : Thread nD τ).loc main_v18) = Cert.LongIdeal.Hand.joined
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1).trans ((val_main_v18_eq _ _ _ _ _).trans (val_eq _ _ _ _ _)), (h c).2⟩)
    (Value.run (F := Ideal) m ρ)

end Cert.LongReferenceIdeal.Hand

/-! ## The claims -/

namespace Cert.Proof.LongClaims

/-- The kernel's program terminates and leaves its arguments alone, and the machine ends quiescent. -/
theorem frame_kernel : Cert.quiescent_Long := fun m ρ _ => Cert.Long.Gen.frame m ρ
/-- Its idealization likewise. -/
theorem frame_ideal : Cert.quiescent_LongIdeal := fun m ρ _ => Cert.LongIdeal.Gen.frame m ρ
/-- The reference's program likewise: it is host operations only and declares no semaphore. -/
theorem frame_reference : Cert.quiescent_LongReferenceIdeal := fun m ρ _ =>
  (θ_run Cert.LongReferenceIdeal.defs _ _).mono (fun r h => ⟨fun c => (h c).2, Idealize.ShloMosaic.sem_eq_zero_of_no_sems (by decide) r.2⟩)
    (Cert.LongReferenceIdeal.Value.run (F := Ideal) m ρ)

/-- At the extended reals the kernel and the reference compute the same array. -/
theorem algebraic : Cert.algebraic_LongIdeal_LongReferenceIdeal := by
  intro m ρ m' ρ' _ hagree
  refine ⟨fun c => Cert.LongIdeal.Hand.result m c, Cert.LongIdeal.Hand.run m ρ, ?_⟩
  refine (θ_run Cert.LongReferenceIdeal.defs _ _).mono (fun _ h c => ⟨(h c).1.trans ?_, (h c).2⟩) (Cert.LongReferenceIdeal.Hand.run m' ρ')
  obtain ⟨a0, a1, a2, a3, a4⟩ := hagree c
  rw [a0, a1, a2, a3, a4]

end Cert.Proof.LongClaims

end
-- ==== Proof.MixValue.lean ====
/-
  The product with a bias and a gated residual (`kernel_mix`) at the extended reals: what one block of it computes, what
  its result array ends holding, and that the reference computes the same.
-/
module

public import proofs.«01_k».proof.Defs
public import proofs.«01_k».proof.Proof.Gen.Mix.Frame
public import proofs.«01_k».proof.Proof.Gen.MixIdeal.Value
public import proofs.«01_k».proof.Proof.Gen.MixReferenceIdeal.Read
public import proofs.«01_k».proof.Proof.Words
public import proofs.«01_k».proof.Proof.Streams
public import Idealize.ShloMosaic.Lib.Pipeline.Value
public import Idealize.ShloMosaic.Lib.Pipeline.ValueKit
public import Idealize.ShloMosaic.Lib.Pipeline.Covers
public import Idealize.ShloMosaic.Lib.ValueIdx
public import Idealize.ShloMosaic.Lib.ValueLayout
public import Idealize.ShloMosaic.Lib.Quiescent
public import Idealize.ShloMosaic.Lib.MatmulPlain
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)
open scoped BigOperators

namespace Cert.MixIdeal.Hand

open Cert.MixIdeal Cert.MixIdeal.Gen

/-- The residual plus the gated product, its bias added, entry by entry. -/
def mix (u : FVec Ideal S24576x4096 .bf16) (w : FVec Ideal S1x4096x4096 .bf16) (bias : FVec Ideal S1x1x4096 .f32)
    (y : FVec Ideal S24576x4096 .f32) (mods : FVec Ideal S4x8x6x1x4096 .f32) : FVec Ideal S24576x4096 .f32 :=
  fun i => y i + mods (ix5 (1 : Fin 4) (Cert.Shared.stream (i 0)) (2 : Fin 6) (0 : Fin 1) (i 1))
    * ((∑ k : Fin 4096, u (ix2 (i 0) k) * w (ix3 (0 : Fin 1) k (i 1))) + bias (ix3 (0 : Fin 1) (0 : Fin 1) (i 1)))

/-- What the body stores, read at one entry of the block. -/
theorem pay_apply (x0 : Vec Ideal S1024x4096 .bf16) (x1 : Vec Ideal S1x4096x512 .bf16) (x2 : Vec Ideal S1x1x512 .f32)
    (x3 : Vec Ideal S1024x512 .f32) (x4 : Vec Ideal S1x1x1x1x512 .f32) (r : Fin 1024) (n : Fin 512) :
    (k0_pay1 x0 x1 x2 x3 x4 (ix2 r n) : EReal)
      = x3 (ix2 r n) + x4 (ix5 (0 : Fin 1) (0 : Fin 1) (0 : Fin 1) (0 : Fin 1) n)
          * ((∑ k : Fin 4096, x0 (ix2 r k) * x1 (ix3 (0 : Fin 1) k n)) + x2 (ix3 (0 : Fin 1) (0 : Fin 1) n)) := by
  have hm : (matmul (F := Ideal) (φ₁ := .bf16) dot_S1024x4096_S4096x512_S1024x512_1_0_0_1_n_n none x0
          (shapeCast S4096x512 x1 shapeCasts_S1x4096x512_S4096x512 : FVec Ideal S4096x512 .bf16)
          (constant S1024x512 .f32 0x00000000#32) : FVec Ideal S1024x512 .f32) (ix2 r n)
        = ∑ k : Fin 4096, x0 (ix2 r k) * x1 (ix3 (0 : Fin 1) k n) := by
    refine (Cert.Shared.plain_zero (M := 1024) (K := 4096) (N := 512) x0 _ r n).trans ?_
    exact Finset.sum_congr rfl fun k _ => congrArg (fun z : EReal => x0 (ix2 r k) * z) (Cert.Shared.drop_lead x1 _ k n)
  have hb := Cert.Shared.bias_row x2 shapeCasts_S1x1x512_S1x512 broadcasts_S1x512_S1024x512 r n
  have hg := Cert.Shared.gate_row x4 shapeCasts_S1x1x1x1x512_S1x512 broadcasts_S1x512_S1024x512 r n
  have e : ∀ y, (k0_pay1 x0 x1 x2 x3 x4 y : EReal) = _ := fun y => by
    unfold k0_pay1
    rw [ValueIdx.addf_apply, ValueIdx.mulf_apply, ValueIdx.addf_apply]
  rw [e, hm]
  exact congrArg₂ (fun z b : EReal => x3 (ix2 r n) + z * ((∑ k : Fin 4096, x0 (ix2 r k) * x1 (ix3 (0 : Fin 1) k n)) + b)) hg hb

variable (m : (ℓ : Loc nD τ sig) → Buf (Elt Ideal) ℓ)

/-- The call's result at device `c`'s argument arrays. -/
abbrev result (c : Dev nD) : Buf (Elt Ideal) ((c : Thread nD τ).loc main_v0) :=
  mix (m ((c : Thread nD τ).loc main_arg0)) (m ((c : Thread nD τ).loc main_arg1)) (m ((c : Thread nD τ).loc main_arg2))
    (m ((c : Thread nD τ).loc main_arg3)) (m ((c : Thread nD τ).loc main_arg4))

/-- Point `t` reads row tile `t / 8`. -/
theorem index_0 : ∀ t : Fin grid0.N, win0_0.index t = ![t.val / 8, 0] := by decide +kernel
/-- Point `t` reads column tile `t % 8` of the weights. -/
theorem index_1 : ∀ t : Fin grid0.N, win0_1.index t = ![0, 0, t.val % 8] := by decide +kernel
/-- Point `t` reads column tile `t % 8` of the bias. -/
theorem index_2 : ∀ t : Fin grid0.N, win0_2.index t = ![0, 0, t.val % 8] := by decide +kernel
/-- Point `t` reads tile (`t / 8`, `t % 8`) of the residual. -/
theorem index_3 : ∀ t : Fin grid0.N, win0_3.index t = ![t.val / 8, t.val % 8] := by decide +kernel
/-- Point `t` reads column tile `t % 8` of the gate of its rows' stream. -/
theorem index_4 : ∀ t : Fin grid0.N, win0_4.index t = ![1, (t.val / 8 - 4) / 4, 2, 0, t.val % 8] := by decide +kernel
/-- Point `t` writes tile (`t / 8`, `t % 8`) of the result. -/
theorem index_5 : ∀ t : Fin grid0.N, win0_5.index t = ![t.val / 8, t.val % 8] := by decide +kernel

/-- The result array after the run: each point writes its tile of it, and the tiles cover it. -/
theorem final (c : Dev nD) : (dats m 0 c).arrAt 5 cfg0.N = result m c := by
  refine (dats m 0 c).arrAt_eq_of_covers 5 _ (by decide +kernel) fun t hf y => ?_
  blk_simp
  rw [after0_5]
  frame_out
  obtain ⟨r, n, rfl⟩ : ∃ (r : Fin 1024) (n : Fin 512), y = ix2 r n := ⟨y 0, y 1, eq_ix2 y⟩
  rw [pay_apply]
  unfold result mix Cert.Shared.stream
  blk_point [iblk, V, index_0 t, index_1 t, index_2 t, index_3 t, index_4 t, index_5 t]

variable (ρ : Dev nD → PrngReg)

/-- The kernel's run, read: the result array at the gated residual, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1).trans (final m c), (h c).2⟩) (Value.run_blocks m ρ)

end Cert.MixIdeal.Hand

namespace Cert.MixReferenceIdeal.Hand

open Cert.MixReferenceIdeal Cert.MixReferenceIdeal.Gen Cert.MixReferenceIdeal.Read
open Cert.Shared (stream low high behind stream_low stream_high rejoin)

variable (x0 : FVec Ideal S24576x4096 .bf16) (x1 : FVec Ideal S1x4096x4096 .bf16) (x2 : FVec Ideal S1x1x4096 .f32)
  (x3 : FVec Ideal S24576x4096 .f32) (x4 : FVec Ideal S4x8x6x1x4096 .f32)

/-- The reference's product with its bias at an entry. -/
theorem affine_apply (i : S24576x4096.Idx) :
    (val_main_v7 (F := Ideal) x0 x1 x2 i : EReal)
      = (∑ k : Fin 4096, x0 (ix2 (i 0) k) * x1 (ix3 (0 : Fin 1) k (i 1))) + x2 (ix3 (0 : Fin 1) (0 : Fin 1) (i 1)) := by
  rw [val_main_v7_apply, val_main_v3_apply, val_main_v6_apply, val_main_v5_apply, val_main_v4_apply]
  have eb : idx_main_v4 (idx_main_v5 (idx_main_v6 i)) = ix3 (0 : Fin 1) (0 : Fin 1) (i 1) := by idx_ext
  refine congrArg₂ (fun a b : EReal => a + b) (Finset.sum_congr rfl fun k _ => ?_) (congrArg x2 eb)
  rw [val_main_v0_apply, val_main_v2_apply, val_main_v1_apply]
  have e0 : lidx_main_v3 i k = ix2 (i 0) k := by idx_ext
  have e1 : idx_main_v1 (ridx_main_v3 i k) = ix3 (0 : Fin 1) k (i 1) := by idx_ext
  exact congrArg₂ (fun a b : EReal => a * b) (congrArg x0 e0) (congrArg x1 e1)

/-- The reference's result, entry by entry: the context rows and the latent rows have their own gates. -/
theorem val_eq : val_main_v26 (F := Ideal) x0 x1 x2 x3 x4 = Cert.MixIdeal.Hand.mix x0 x1 x2 x3 x4 := by
  unfold val_main_v26
  refine rejoin _ _ _ concatenates_S8192x4096_S16384x4096_S24576x4096_d0 (fun r d => ?_) (fun b q d => ?_)
  · rw [val_main_v16_apply, val_main_v15_apply, val_main_v12_apply, val_main_v14_apply, val_main_v13_apply, val_main_v10_apply,
      val_main_v9_apply, val_main_v8_apply, affine_apply]
    have ey : idx_main_v12 (ix2 r d) = ix2 (low r) d := by unfold low; idx_ext
    have ef : idx_main_v13 (ix2 r d) = ix2 (low r) d := by unfold low; idx_ext
    have em : idx_main_v8 (idx_main_v9 (idx_main_v10 (idx_main_v14 (ix2 r d))))
        = ix5 (1 : Fin 4) (stream (low r)) (2 : Fin 6) (0 : Fin 1) d := by
      rw [stream_low]; idx_ext
    rw [ey, ef, em]
    rfl
  · rw [val_main_v25_apply]
    have e0 : idx_main_v25 (ix2 (behind b q) d) = ix3 b q d :=
      funext fun a => Fin.ext (match a with
        | ⟨0, _⟩ => by show ((b.val * 4096 + q.val) * 4096 + d.val) / 16777216 = b.val; omega
        | ⟨1, _⟩ => by show ((b.val * 4096 + q.val) * 4096 + d.val) / 4096 % 4096 = q.val; omega
        | ⟨2, _⟩ => by show ((b.val * 4096 + q.val) * 4096 + d.val) % 4096 = d.val; omega)
    rw [e0, val_main_v24_apply, val_main_v23_apply, val_main_v20_apply, val_main_v19_apply, val_main_v22_apply, val_main_v21_apply,
      val_main_v18_apply, val_main_v17_apply, val_main_v11_apply, val_main_v9_apply, val_main_v8_apply, affine_apply]
    have ey : idx_main_v19 (idx_main_v20 (ix3 b q d)) = ix2 (high b q) d := by unfold high; idx_ext
    have ef : idx_main_v17 (idx_main_v18 (ix3 b q d)) = ix2 (high b q) d := by unfold high; idx_ext
    have em : idx_main_v8 (idx_main_v9 (idx_main_v11 (idx_main_v21 (idx_main_v22 (ix3 b q d)))))
        = ix5 (1 : Fin 4) (stream (high b q)) (2 : Fin 6) (0 : Fin 1) d := by
      rw [stream_high]; idx_ext
    rw [ey, ef, em]
    rfl

variable (m : (ℓ : Loc nD τ sig) → Buf (Elt Ideal) ℓ) (ρ : Dev nD → PrngReg)

/-- The reference's run, read: the result array at the gated residual, the arguments unchanged. -/
theorem run : θ_run defs (onTc (τ := τ) (main (F := Ideal))) ⟨m, fun _ => 0, ρ⟩ fun r => ∀ c : Dev nD,
      r.2.mem ((c.tc : Thread nD τ).loc main_v26) = Cert.MixIdeal.Hand.mix (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1).trans ((val_main_v26_eq _ _ _ _ _).trans (val_eq _ _ _ _ _)), (h c).2⟩)
    (Value.run (F := Ideal) m ρ)

end Cert.MixReferenceIdeal.Hand

/-! ## The claims -/

namespace Cert.Proof.MixClaims

/-- The kernel's program terminates and leaves its arguments alone, and the machine ends quiescent. -/
theorem frame_kernel : Cert.quiescent_Mix := fun m ρ _ => Cert.Mix.Gen.frame m ρ
/-- Its idealization likewise. -/
theorem frame_ideal : Cert.quiescent_MixIdeal := fun m ρ _ => Cert.MixIdeal.Gen.frame m ρ
/-- The reference's program likewise: it is host operations only and declares no semaphore. -/
theorem frame_reference : Cert.quiescent_MixReferenceIdeal := fun m ρ _ =>
  (θ_run Cert.MixReferenceIdeal.defs _ _).mono (fun r h => ⟨fun c => (h c).2, Idealize.ShloMosaic.sem_eq_zero_of_no_sems (by decide) r.2⟩)
    (Cert.MixReferenceIdeal.Value.run (F := Ideal) m ρ)

/-- At the extended reals the kernel and the reference compute the same array. -/
theorem algebraic : Cert.algebraic_MixIdeal_MixReferenceIdeal := by
  intro m ρ m' ρ' _ hagree
  refine ⟨fun c => Cert.MixIdeal.Hand.result m c, Cert.MixIdeal.Hand.run m ρ, ?_⟩
  refine (θ_run Cert.MixReferenceIdeal.defs _ _).mono (fun _ h c => ⟨(h c).1.trans ?_, (h c).2⟩) (Cert.MixReferenceIdeal.Hand.run m' ρ')
  rw [(hagree c).1, (hagree c).2.1, (hagree c).2.2.1, (hagree c).2.2.2.1, (hagree c).2.2.2.2]

end Cert.Proof.MixClaims

end
-- ==== Proof.ConvValue.lean ====
/-
  The product with a bias, its left half gated by the logistic of its right half (`kernel_conv`), at the extended reals:
  what one block of it computes, what its result array ends holding, and that the reference computes the same.
-/
module

public import proofs.«01_k».proof.Defs
public import proofs.«01_k».proof.Proof.Gen.Conv.Frame
public import proofs.«01_k».proof.Proof.Gen.ConvIdeal.Value
public import proofs.«01_k».proof.Proof.Gen.ConvReferenceIdeal.Read
public import proofs.«01_k».proof.Proof.Words
public import proofs.«01_k».proof.Proof.Streams
public import Idealize.ShloMosaic.Lib.Pipeline.Value
public import Idealize.ShloMosaic.Lib.Pipeline.ValueKit
public import Idealize.ShloMosaic.Lib.Pipeline.Covers
public import Idealize.ShloMosaic.Lib.ValueIdx
public import Idealize.ShloMosaic.Lib.ValueLayout
public import Idealize.ShloMosaic.Lib.Quiescent
public import Idealize.ShloMosaic.Lib.MatmulPlain
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)
open scoped BigOperators

namespace Cert.ConvIdeal.Hand

open Cert.ConvIdeal Cert.ConvIdeal.Gen

/-- One entry of the product of the rows `h` with the weights `w`, its bias added: a sum over the 4096 features. -/
def affine (h : FVec Ideal S24576x4096 .bf16) (w : FVec Ideal S1x4096x8192 .f32) (bias : FVec Ideal S1x1x8192 .f32)
    (r : Fin 24576) (n : Fin 8192) : EReal :=
  (∑ k : Fin 4096, h (ix2 r k) * w (ix3 (0 : Fin 1) k n)) + bias (ix3 (0 : Fin 1) (0 : Fin 1) n)

/-- Column `n` of the left half. -/
def left (n : Fin 4096) : Fin 8192 := ⟨n.val, by omega⟩
/-- Column `n` of the right half. -/
def right (n : Fin 4096) : Fin 8192 := ⟨4096 + n.val, by omega⟩

/-- The left half times the logistic of the right half, entry by entry. -/
def gated (h : FVec Ideal S24576x4096 .bf16) (w : FVec Ideal S1x4096x8192 .f32) (bias : FVec Ideal S1x1x8192 .f32) :
    FVec Ideal S24576x4096 .f32 :=
  fun i => affine h w bias (i 0) (left (i 1)) * Ideal.logistic (affine h w bias (i 0) (right (i 1)))

/-- What the body stores, read at one entry of the block. -/
theorem pay_apply (x0 : Vec Ideal S1024x4096 .bf16) (x1 x2 : Vec Ideal S1x4096x256 .f32) (x3 x4 : Vec Ideal S1x1x256 .f32)
    (r : Fin 1024) (n : Fin 256) :
    (k0_pay1 x0 x1 x2 x3 x4 (ix2 r n) : EReal)
      = ((∑ k : Fin 4096, x0 (ix2 r k) * x1 (ix3 (0 : Fin 1) k n)) + x3 (ix3 (0 : Fin 1) (0 : Fin 1) n))
          * Ideal.logistic ((∑ k : Fin 4096, x0 (ix2 r k) * x2 (ix3 (0 : Fin 1) k n)) + x4 (ix3 (0 : Fin 1) (0 : Fin 1) n)) := by
  have hm (x : Vec Ideal S1x4096x256 .f32) :
      (matmul (F := Ideal) (φ₁ := .bf16) dot_S1024x4096_S4096x256_S1024x256_1_0_0_1_n_n none x0
          (truncf .bf16 (shapeCast S4096x256 x shapeCasts_S1x4096x256_S4096x256) bitsLt_bf16_f32)
          (constant S1024x256 .f32 0x00000000#32) : FVec Ideal S1024x256 .f32) (ix2 r n)
        = ∑ k : Fin 4096, x0 (ix2 r k) * x (ix3 (0 : Fin 1) k n) := by
    refine (Cert.Shared.plain_zero (M := 1024) (K := 4096) (N := 256) x0 _ r n).trans ?_
    exact Finset.sum_congr rfl fun k _ => congrArg (fun z : EReal => x0 (ix2 r k) * z) (Cert.Shared.drop_lead x _ k n)
  have hb (x : Vec Ideal S1x1x256 .f32) :=
    Cert.Shared.bias_row x shapeCasts_S1x1x256_S1x256 broadcasts_S1x256_S1024x256 r n
  have e : ∀ y, (k0_pay1 x0 x1 x2 x3 x4 y : EReal) = _ := fun y => by
    unfold k0_pay1
    rw [ValueIdx.mulf_apply, logistic_apply, ValueIdx.addf_apply, ValueIdx.addf_apply]
  rw [e, hm x1, hm x2]
  exact congrArg₂ (fun a b : EReal => ((∑ k : Fin 4096, x0 (ix2 r k) * x1 (ix3 (0 : Fin 1) k n)) + a)
    * Ideal.logistic ((∑ k : Fin 4096, x0 (ix2 r k) * x2 (ix3 (0 : Fin 1) k n)) + b)) (hb x3) (hb x4)

variable (m : (ℓ : Loc nD τ sig) → Buf (Elt Ideal) ℓ)

/-- The call's result at device `c`'s argument arrays. -/
abbrev result (c : Dev nD) : Buf (Elt Ideal) ((c : Thread nD τ).loc main_v0) :=
  gated (m ((c : Thread nD τ).loc main_arg0)) (m ((c : Thread nD τ).loc main_arg1)) (m ((c : Thread nD τ).loc main_arg2))

/-- Point `t` reads row tile `t / 16`. -/
theorem index_0 : ∀ t : Fin grid0.N, win0_0.index t = ![t.val / 16, 0] := by decide +kernel
/-- Point `t` reads column tile `t % 16` of the left half of the weights. -/
theorem index_1 : ∀ t : Fin grid0.N, win0_1.index t = ![0, 0, t.val % 16] := by decide +kernel
/-- Point `t` reads column tile `t % 16` of the right half of the weights. -/
theorem index_2 : ∀ t : Fin grid0.N, win0_2.index t = ![0, 0, t.val % 16 + 16] := by decide +kernel
/-- Point `t` reads column tile `t % 16` of the left half of the bias. -/
theorem index_3 : ∀ t : Fin grid0.N, win0_3.index t = ![0, 0, t.val % 16] := by decide +kernel
/-- Point `t` reads column tile `t % 16` of the right half of the bias. -/
theorem index_4 : ∀ t : Fin grid0.N, win0_4.index t = ![0, 0, t.val % 16 + 16] := by decide +kernel
/-- Point `t` writes tile (`t / 16`, `t % 16`) of the result. -/
theorem index_5 : ∀ t : Fin grid0.N, win0_5.index t = ![t.val / 16, t.val % 16] := by decide +kernel

/-- The result array after the run: each point writes its tile of it, and the tiles cover it. -/
theorem final (c : Dev nD) : (dats m 0 c).arrAt 5 cfg0.N = result m c := by
  refine (dats m 0 c).arrAt_eq_of_covers 5 _ (by decide +kernel) fun t hf y => ?_
  blk_simp
  rw [after0_5]
  frame_out
  obtain ⟨r, n, rfl⟩ : ∃ (r : Fin 1024) (n : Fin 256), y = ix2 r n := ⟨y 0, y 1, eq_ix2 y⟩
  rw [pay_apply]
  unfold result gated affine left right
  blk_point [iblk, V, index_0 t, index_1 t, index_2 t, index_3 t, index_4 t, index_5 t]

variable (ρ : Dev nD → PrngReg)

/-- The kernel's run, read: the result array at the gated product, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final m c), (h c).2⟩) (Value.run_blocks m ρ)

end Cert.ConvIdeal.Hand

namespace Cert.ConvReferenceIdeal.Hand

open Cert.ConvReferenceIdeal Cert.ConvReferenceIdeal.Gen Cert.ConvReferenceIdeal.Read
open Cert.ConvIdeal.Hand (affine left right gated)

variable (x0 : FVec Ideal S24576x4096 .bf16) (x1 : FVec Ideal S1x4096x8192 .f32) (x2 : FVec Ideal S1x1x8192 .f32)

/-- The reference's product with its bias at an entry. -/
theorem affine_apply (i : S24576x8192.Idx) :
    (val_main_v6 (F := Ideal) x0 x1 x2 i : EReal) = affine x0 x1 x2 (i 0) (i 1) := by
  rw [val_main_v6_apply, val_main_v2_apply, val_main_v5_apply, val_main_v4_apply, val_main_v3_apply]
  have eb : idx_main_v3 (idx_main_v4 (idx_main_v5 i)) = ix3 (0 : Fin 1) (0 : Fin 1) (i 1) := by idx_ext
  refine congrArg₂ (fun a b : EReal => a + b) (Finset.sum_congr rfl fun k _ => ?_) (congrArg x2 eb)
  rw [val_main_v0_apply, val_main_v1_apply]
  have e0 : lidx_main_v2 i k = ix2 (i 0) k := by idx_ext
  have e1 : idx_main_v1 (ridx_main_v2 i k) = ix3 (0 : Fin 1) k (i 1) := by idx_ext
  exact congrArg₂ (fun a b : EReal => a * b) (congrArg x0 e0) (congrArg x1 e1)

/-- The reference's result, entry by entry, is the gated product. -/
theorem val_eq : val_main_v15 (F := Ideal) x0 x1 x2 = gated x0 x1 x2 := by
  have one : ∀ j, val_main_v11 (F := Ideal) j = (1 : EReal) := fun j => by
    rw [val_main_v11_apply, val_main_cst_apply, Cert.Shared.ofBits_one]
  have one' : ∀ j, val_main_v13 (F := Ideal) j = (1 : EReal) := fun j => by
    rw [val_main_v13_apply, val_main_cst_0_apply, Cert.Shared.ofBits_one]
  funext i
  obtain ⟨r, n, rfl⟩ : ∃ (r : Fin 24576) (n : Fin 4096), i = ix2 r n := ⟨i 0, i 1, eq_ix2 i⟩
  have el : idx_main_v7 (ix2 r n) = ix2 r (left n) := by unfold left; idx_ext
  have er : idx_main_v8 (ix2 r n) = ix2 r (right n) := by unfold right; idx_ext
  rw [val_main_v15_apply, val_main_v7_apply, val_main_v14_apply, val_main_v12_apply, val_main_v10_apply, val_main_v9_apply,
    val_main_v8_apply, one, one', el, er, affine_apply, affine_apply]
  rfl

variable (m : (ℓ : Loc nD τ sig) → Buf (Elt Ideal) ℓ) (ρ : Dev nD → PrngReg)

/-- The reference's run, read: the result array at the gated product, the arguments unchanged. -/
theorem run : θ_run defs (onTc (τ := τ) (main (F := Ideal))) ⟨m, fun _ => 0, ρ⟩ fun r => ∀ c : Dev nD,
      r.2.mem ((c.tc : Thread nD τ).loc main_v15) = gated (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1).trans ((val_main_v15_eq _ _ _).trans (val_eq _ _ _)), (h c).2⟩)
    (Value.run (F := Ideal) m ρ)

end Cert.ConvReferenceIdeal.Hand

/-! ## The claims -/

namespace Cert.Proof.ConvClaims

/-- The kernel's program terminates and leaves its arguments alone, and the machine ends quiescent. -/
theorem frame_kernel : Cert.quiescent_Conv := fun m ρ _ => Cert.Conv.Gen.frame m ρ
/-- Its idealization likewise. -/
theorem frame_ideal : Cert.quiescent_ConvIdeal := fun m ρ _ => Cert.ConvIdeal.Gen.frame m ρ
/-- The reference's program likewise: it is host operations only and declares no semaphore. -/
theorem frame_reference : Cert.quiescent_ConvReferenceIdeal := fun m ρ _ =>
  (θ_run Cert.ConvReferenceIdeal.defs _ _).mono (fun r h => ⟨fun c => (h c).2, Idealize.ShloMosaic.sem_eq_zero_of_no_sems (by decide) r.2⟩)
    (Cert.ConvReferenceIdeal.Value.run (F := Ideal) m ρ)

/-- At the extended reals the kernel and the reference compute the same array. -/
theorem algebraic : Cert.algebraic_ConvIdeal_ConvReferenceIdeal := by
  intro m ρ m' ρ' _ hagree
  refine ⟨fun c => Cert.ConvIdeal.Hand.result m c, Cert.ConvIdeal.Hand.run m ρ, ?_⟩
  refine (θ_run Cert.ConvReferenceIdeal.defs _ _).mono (fun _ h c => ⟨(h c).1.trans ?_, (h c).2⟩) (Cert.ConvReferenceIdeal.Hand.run m' ρ')
  rw [(hagree c).1, (hagree c).2.1, (hagree c).2.2]

end Cert.Proof.ConvClaims

end
-- ==== Proof.Tables.lean ====
/-
  The two tables that the routed experts' calls read at run time: each row tile's expert, and whether the tile holds
  rows. When a word of them is in range, which tile a row is in, and a sum over the eight experts in which the tables
  keep one term or none.
-/
module

public import Idealize.ShloMosaic.Lib.ValueIdx
public import Idealize.ShloMosaic.PureOps.Ideal.Laws

@[expose] public section

noncomputable section

open Idealize.ShloMosaic Idealize.ShloMosaic.ValueIdx
open scoped BigOperators

namespace Cert.Shared

/-- A place of a table: the number of a row tile. -/
abbrev Place := (⟨1, ![104]⟩ : Shape).Idx

/-- Two tables of 104 words in range: each row tile's expert, and whether the tile holds rows. -/
structure Tables where
  expert : Place → BitVec 32
  live : Place → BitVec 32
  expert_lt : ∀ x, (expert x).toNat < 8
  live_bit : ∀ x, live x = 0#32 ∨ live x = 1#32

/-- Tables of zeros. -/
def zeros : Tables := ⟨fun _ => 0#32, fun _ => 0#32, fun _ => by decide, fun _ => .inl rfl⟩

/-- The expert of a row tile, as a number below eight. -/
abbrev expertOf (T : Tables) (p : Place) : Fin 8 := ⟨(T.expert p).toNat, T.expert_lt p⟩

/-- The row tile of a row. -/
abbrev tileOf (r : Fin 53248) : Place := ix1 (⟨r.val / 512, by have := r.isLt; omega⟩ : Fin 104)

/-- The row of the whole array that row `r` of tile `p` is. -/
abbrev rowOf (p : Fin 104) (r : Fin 512) : Fin 53248 := ⟨p.val * 512 + r.val, by have := p.isLt; have := r.isLt; omega⟩

/-- The tile of a row of a tile is that tile. -/
theorem tileOf_rowOf (p : Fin 104) (r : Fin 512) : tileOf (rowOf p r) = ix1 p := by
  have h : (p.val * 512 + r.val) / 512 = p.val := by have := r.isLt; omega
  exact congrArg ix1 (Fin.ext h)

/-- A bit made of a truth value is one when the value is true. -/
theorem ofBool_one {b : Bool} (h : BitVec.ofBool b = 1#1) : b = true := by
  cases b
  · exact absurd h (by decide)
  · rfl

/-- Two bits whose conjunction is one are both one. -/
theorem both_one {a b : BitVec 1} (h : IntOp.andi a b = 1#1) : a = 1#1 ∧ b = 1#1 := by
  revert a b
  unfold IntOp.andi
  decide

/-- A word that compares at least zero and below eight is a number below eight. -/
theorem below_eight (v : BitVec 32) (h : IntOp.andi (IntOp.cmpi .sge v 0#32) (IntOp.cmpi .slt v 8#32) = 1#1) : v.toNat < 8 := by
  obtain ⟨h1, h2⟩ := both_one h
  have h1 : (0#32).sle v = true := ofBool_one h1
  have h2 : v.slt 8#32 = true := ofBool_one h2
  have g1 := BitVec.sle_iff_toInt_le.mp h1
  have g2 := BitVec.slt_iff_toInt_lt.mp h2
  have e0 : (0#32 : BitVec 32).toInt = 0 := by decide
  have e8 : (8#32 : BitVec 32).toInt = 8 := by decide
  have hv := v.isLt
  rw [e0] at g1
  rw [e8] at g2
  rw [BitVec.toInt_eq_toNat_cond] at g1 g2
  split at g1 <;> split at g2 <;> omega

/-- A word that compares at least zero and at most one is zero or one. -/
theorem zero_or_one (v : BitVec 32) (h : IntOp.andi (IntOp.cmpi .sge v 0#32) (IntOp.cmpi .sle v 1#32) = 1#1) : v = 0#32 ∨ v = 1#32 := by
  obtain ⟨h1, h2⟩ := both_one h
  have h1 : (0#32).sle v = true := ofBool_one h1
  have h2 : v.sle 1#32 = true := ofBool_one h2
  have g1 := BitVec.sle_iff_toInt_le.mp h1
  have g2 := BitVec.sle_iff_toInt_le.mp h2
  have e0 : (0#32 : BitVec 32).toInt = 0 := by decide
  have e1 : (1#32 : BitVec 32).toInt = 1 := by decide
  have hv := v.isLt
  rw [e0] at g1
  rw [e1] at g2
  rw [BitVec.toInt_eq_toNat_cond] at g1 g2
  have : v.toNat = 0 ∨ v.toNat = 1 := by split at g1 <;> split at g2 <;> omega
  rcases this with h | h
  · exact .inl (BitVec.eq_of_toNat_eq h)
  · exact .inr (BitVec.eq_of_toNat_eq h)

/-- Of eight terms, kept where the first word is the term's number and the second is one, the sum is the one term that
the first word names if the second is one, and zero otherwise. -/
theorem sum_kept (v u : BitVec 32) (hv : v.toNat < 8) (f : Fin 8 → EReal) :
    ∑ e : Fin 8, Scalar.select (IntOp.andi (IntOp.cmpi .eq v (BitVec.ofNat 32 e.val)) (IntOp.cmpi .eq u 1#32)) (f e) (0 : EReal)
      = if u = 1#32 then f ⟨v.toNat, hv⟩ else 0 := by
  by_cases hu : u = 1#32
  · subst hu
    rw [if_pos rfl]
    refine (Finset.sum_eq_single (⟨v.toNat, hv⟩ : Fin 8) (fun e _ hne => ?_) (fun h => absurd (Finset.mem_univ _) h)).trans ?_
    · refine if_neg fun h => hne ?_
      have h1 : (v == BitVec.ofNat 32 e.val) = true := ofBool_one (both_one h).1
      have h2 := congrArg BitVec.toNat (eq_of_beq h1)
      rw [BitVec.toNat_ofNat, Nat.mod_eq_of_lt (by have := e.isLt; omega)] at h2
      exact Fin.ext h2.symm
    · have h1 : (v == BitVec.ofNat 32 v.toNat) = true := by rw [BitVec.ofNat_toNat, BitVec.setWidth_eq]; exact beq_self_eq_true v
      refine if_pos ?_
      show IntOp.andi (BitVec.ofBool (v == BitVec.ofNat 32 v.toNat)) (BitVec.ofBool (1#32 == 1#32)) = 1#1
      rw [h1]
      decide
  · rw [if_neg hu]
    refine Finset.sum_eq_zero fun e _ => if_neg fun h => hu ?_
    have h1 : (u == 1#32) = true := ofBool_one (both_one h).2
    exact eq_of_beq h1

end Cert.Shared

end
-- ==== Proof.UpFrame.lean ====
/-
  The gate and up products of the routed experts (`moe_up`), run at any tables: which expert a row tile belongs to, and
  whether it holds rows at all, are words of two tables that the call reads at run time. For every pair of tables whose
  words are in range the call's run ends, without fault, with every array at contents that are written down here.
-/
module

public import proofs.«01_k».proof.Proof.Gen.Up.Skeleton
public import proofs.«01_k».proof.Proof.Gen.Up.Launch
public import proofs.«01_k».proof.Proof.Tables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Pointwise
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.Up.Hand

open Cert.Up Cert.Up.Gen
open Cert.Shared (Tables zeros)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The algebra of the run's resources. -/
local notation "𝕄" => MT nD τ sig Unit (Elt F) ℕ (UR sig nD τ) ℕ

/-- The rounds library's algebra, embedded whole. -/
abbrev EP : Emb (UR sig nD τ) 𝕄 := emb₁

/-! ## The tables -/

variable (T : Tables)

/-- The two tables as the call's prefetched operands. -/
def words : pre0.Contents (Elt F) := fun | ⟨0, _⟩ => T.expert | ⟨1, _⟩ => T.live | ⟨_ + 2, h⟩ => absurd h (by simp)

/-- The two tables' memory. -/
abbrev tableE : Memref sig .tc .smem S104 .i32 := Memref.whole main_arg0
abbrev tableL : Memref sig .tc .smem S104 .i32 := Memref.whole main_arg1

/-- The place of the word that a grid point reads: that of its row tile. -/
abbrev place (i : grid0.Coords) : S104.Idx := ix1 (⟨(i 1).val, (i 1).isLt⟩ : Fin 104)

/-- A unit rectangle of a table at a point's offset is the place of its row tile. -/
theorem place_eq (i : grid0.Coords) (off : Fin 1 → Nat) (ho : off = ![(i 1).val]) (h : ∀ a, off a + S1.size a ≤ S104.size a)
    (y : (Rect.unit (s := S104) off S1.size h).shape.Idx) : (Rect.unit (s := S104) off S1.size h).emb y = place i := by
  subst ho
  funext a
  match a with
  | ⟨0, _⟩ =>
    refine Fin.ext ?_
    have hy : (y ⟨0, Nat.one_pos⟩).val < 1 := (y ⟨0, Nat.one_pos⟩).isLt
    show (i 1).val + 1 * (y ⟨0, Nat.one_pos⟩).val = (i 1).val
    omega

/-- The blocks of the first weights that the tables name lie inside the array. -/
theorem inside (i : grid0.Coords) : ∀ a, (cc0_transform_1 k0_off1_inb numel1_S1 (words (F := F) T) i a + 1) * S1x1x4096x512.size a ≤ S2x8x4096x2048.size a := by
  have h0 : (i 0).val < 4 := (i 0).isLt
  have h1 : ∀ x, (words (F := F) T 0 x).toNat < 8 := T.expert_lt
  intro a
  match a with
  | ⟨0, _⟩ => exact Nat.le_of_ble_eq_true rfl
  | ⟨1, _⟩ =>
    have h2 : ∀ x, ((words (F := F) T 0 x).toNat + 1) * 1 ≤ 8 := fun x => by have := h1 x; omega
    exact h2 _
  | ⟨2, _⟩ => exact Nat.le_of_ble_eq_true rfl
  | ⟨3, _⟩ =>
    show ((BitVec.ofNat 32 (i 0).val).toNat + 1) * 512 ≤ 2048
    rw [BitVec.toNat_ofNat, Nat.mod_eq_of_lt (by omega)]
    omega

/-- The side condition of the call holds at the tables. -/
theorem admissible : ok0 (F := F) (words T) :=
  ⟨fun i => ⟨inside T i, .inl rfl⟩, fun i => ⟨inside T i, .inl rfl⟩⟩

/-- The tables, admissible; the pipeline at them. -/
def adm : (pcfg0 (F := F)).Adm := ⟨words T, admissible T⟩
abbrev cfgA : Pipeline.Cfg sig Λ₀ := cfg0 (F := F) (adm T)
abbrev pcs : Fin 1 → Pipeline.Cfg sig Λ₀ := Pipeline.pin (pcfgs (F := F)) fun _ => adm T

/-- Point `t`'s coordinates. -/
abbrev crd (t : Fin (cfgA (F := F) T).N) : (cfgA (F := F) T).grid.Coords := (cfgA (F := F) T).grid.coords t

/-- Point `t`'s staging buffers. -/
abbrev ms0 (t : Fin (cfgA (F := F) T).N) : Memref sig .tc .vmem S512x4096 .bf16 := spec0_0.stage ((cfgA (F := F) T).slots t (0 : Fin 4))
abbrev hs0 (t : Fin (cfgA (F := F) T).N) : (ms0 (F := F) T t).IsWhole := hstage0_0 (((cfgA (F := F) T).slots t (0 : Fin 4)).cast nbuf0_0)
abbrev ms1 (t : Fin (cfgA (F := F) T).N) : Memref sig .tc .vmem S1x1x4096x512 .f32 := spec0_1.stage ((cfgA (F := F) T).slots t (1 : Fin 4))
abbrev hs1 (t : Fin (cfgA (F := F) T).N) : (ms1 (F := F) T t).IsWhole := hstage0_1 (((cfgA (F := F) T).slots t (1 : Fin 4)).cast nbuf0_1)
abbrev ms2 (t : Fin (cfgA (F := F) T).N) : Memref sig .tc .vmem S1x1x4096x512 .f32 := spec0_2.stage ((cfgA (F := F) T).slots t (2 : Fin 4))
abbrev hs2 (t : Fin (cfgA (F := F) T).N) : (ms2 (F := F) T t).IsWhole := hstage0_2 (((cfgA (F := F) T).slots t (2 : Fin 4)).cast nbuf0_2)
abbrev ms3 (t : Fin (cfgA (F := F) T).N) : Memref sig .tc .vmem S512x512 .bf16 := spec0_3.stage ((cfgA (F := F) T).slots t (3 : Fin 4))
abbrev hs3 (t : Fin (cfgA (F := F) T).N) : (ms3 (F := F) T t).IsWhole := hstage0_3 (((cfgA (F := F) T).slots t (3 : Fin 4)).cast nbuf0_3)

/-! ## The output window's schedule -/

/-- No point leaves the output's buffer as it was: one of the two conditions holds. -/
theorem idle_out (i : grid0.Coords) : (cfgA (F := F) T).idle (3 : Fin 4) i = false := by
  have hl : ∀ x, words (F := F) T 1 x = 0#32 ∨ words (F := F) T 1 x = 1#32 := T.live_bit
  have h1 : ∀ a, k0_off1 i a + 1 ≤ S104.size a := fun a => by fin_cases a; exact k0_off1_inb i 0
  have e1 : (words (F := F) T).atD 1 (k0_off1 i) = words (F := F) T 1 (fun a => ⟨k0_off1 i a, h1 a⟩) := dif_pos h1
  have e2 : (words (F := F) T).atD 1 (k0_off2 i) = words (F := F) T 1 (fun a => ⟨k0_off1 i a, h1 a⟩) := dif_pos h1
  show (!(k0_cond1 ((words (F := F) T).atD 1 (k0_off1 i)) == 1#1) && !(k0_cond2 ((words (F := F) T).atD 1 (k0_off2 i)) == 1#1)) = false
  rw [e1, e2]
  rcases hl (fun a => ⟨k0_off1 i a, h1 a⟩) with h | h <;> rw [h] <;> decide

/-- At zeros every point writes its block of the output back; -/
theorem flush_zeros : ∀ t : Fin (cfgA (F := Bits) zeros).N, ((cfgA (F := Bits) zeros).win (3 : Fin 4)).flush t = true := by decide +kernel

/-- so it does at any tables, the block's place not depending on them. -/
theorem flush_out (t : Fin (cfgA (F := F) T).N) : ((cfgA (F := F) T).win (3 : Fin 4)).flush t = true :=
  flush_zeros t

/-- So the output's buffer holds nothing of use before a point. -/
theorem fresh_out (t : Fin (cfgA (F := F) T).N) : (cfgA (F := F) T).fresh (3 : Fin 4) t.val = true :=
  Pipeline.Cfg.fresh_tab (cfgA (F := F) T) (3 : Fin 4) (fun _ => true) rfl (fun t => by rw [flush_out, Bool.true_or]) t.val (Nat.le_of_lt t.isLt)

/-! ## The body -/

section body

/-- The word of the second table that the body reads first, and the one it reads second. -/
abbrev word1 (i : grid0.Coords) : Elt F .i32 :=
  View.readAt (Elt F) tableL.view (Rect.unit (s := S104) (k0_off1 i) S1.size (k0_off1_inb i)).toLoadRect (T.live : S104.Idx → Elt F .i32) (Shape.Idx.first (numel1_S1.symm ▸ Nat.one_pos))
abbrev word2 (i : grid0.Coords) : Elt F .i32 :=
  View.readAt (Elt F) tableL.view (Rect.unit (s := S104) (k0_off2 i) S1.size (k0_off2_inb i)).toLoadRect (T.live : S104.Idx → Elt F .i32) (Shape.Idx.first (numel1_S1.symm ▸ Nat.one_pos))

/-- Both are the word of the point's row tile. -/
theorem word1_eq (i : grid0.Coords) : word1 (F := F) T i = T.live (place i) :=
  congrArg T.live (place_eq i (k0_off1 i) (k0_off1_eq i) (k0_off1_inb i) _)
theorem word2_eq (i : grid0.Coords) : word2 (F := F) T i = T.live (place i) :=
  congrArg T.live (place_eq i (k0_off2 i) (k0_off2_eq i) (k0_off2_inb i) _)

/-- What a point leaves in the output's buffer: the gated products of a live tile, zeros for another. -/
def tileOut (v : BitVec 32) (x0 : Vec F S512x4096 .bf16) (x1 x2 : Vec F S1x1x4096x512 .f32) : Vec F S512x512 .bf16 :=
  if v = 1#32 then k0_pay1 x0 x1 x2 else k0_pay2

/-- One store of the whole block covers it. -/
theorem cover_out (p : Vec F S512x512 .bf16) (y : S512x512.Idx) :
    ∃ pc ∈ ([⟨Rect.unit (s := S512x512) ![0, 0] S512x512.size inb_S512x512_S512x512_0_0, p⟩] : List (View.Piece (Elt F) S512x512 .bf16)), y ∈ pc.1.set :=
  View.cover_of_tiled [⟨Rect.unit (s := S512x512) ![0, 0] S512x512.size inb_S512x512_S512x512_0_0, p⟩] S512x512.size (by rfl) y

variable (c : Dev nD) (i : grid0.Coords) (arg4 : Memref sig .tc .vmem S512x4096 .bf16) (harg4 : arg4.IsWhole)
  (arg5 : Memref sig .tc .vmem S1x1x4096x512 .f32) (harg5 : arg5.IsWhole) (arg6 : Memref sig .tc .vmem S1x1x4096x512 .f32) (harg6 : arg6.IsWhole)
  (arg7 : Memref sig .tc .vmem S512x512 .bf16) (harg7 : arg7.IsWhole)
  (x0 : Vec F S512x4096 .bf16) (x1 x2 : Vec F S1x1x4096x512 .f32)

/-- The arrays a point's body holds: the three inputs' buffers, the second table, and the output's buffer as `o` says. -/
abbrev Holds (o : sProp 𝕄) : sProp 𝕄 :=
  iprop(owns (c : Thread nD τ) arg4 fullShare x0 ∗ owns (c : Thread nD τ) arg5 fullShare x1 ∗ owns (c : Thread nD τ) arg6 fullShare x2
    ∗ (tableL.view.loc (c : Thread nD τ) ↦{fullShare.right} (T.live : S104.Idx → Elt F .i32)) ∗ o)

set_option maxHeartbeats 4000000 in
/-- A point whose tile is live stores the gated products. -/
theorem sound_live (h1 : k0_cond1 (word1 (F := F) T i) = 1#1) (h2 : ¬ k0_cond2 (word2 (F := F) T i) = 1#1) (K : PUnit → sProp 𝕄) :
    iprop(owns (c : Thread nD τ) arg4 fullShare x0 ∗ owns (c : Thread nD τ) arg5 fullShare x1 ∗ owns (c : Thread nD τ) arg6 fullShare x2
        ∗ (tableL.view.loc (c : Thread nD τ) ↦{fullShare.right} (T.live : S104.Idx → Elt F .i32)) ∗ (∃ d, owns (c : Thread nD τ) arg7 fullShare d)
        ∗ (Holds T c arg4 arg5 arg6 x0 x1 x2 (owns (c : Thread nD τ) arg7 fullShare (k0_pay1 x0 x1 x2)) -∗ K ⟨⟩))
      ⊢ wp frame (wpE (defs₀ (F := F)) Variants.none c none) Set.univ (cc0_moe_up i tableE (Memref.isWhole_whole _) tableL (Memref.isWhole_whole _) arg4 harg4 arg5 harg5 arg6 harg6 arg7 harg7) K := by
  rw [cc0_moe_up_eq_skeleton]; unfold cc0_moe_up_skel
  unfold Holds owns
  iintro ⟨⟨%f0, %hf0, H0⟩, ⟨%f1, %hf1, H1⟩, ⟨%f2, %hf2, H2⟩, HT1, ⟨%d3, %f3, -, H3⟩, Hk⟩
  subst hf0 hf1 hf2
  have hT0 : tableE.IsWhole := Memref.isWhole_whole _
  have hT1 : tableL.IsWhole := Memref.isWhole_whole _
  sl_exec! (disch := first | (guard_target = k0_cond1 _ = _; exact h1) | (guard_target = ¬(k0_cond2 _ = _); exact h2))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HT1]; · iexact HT1
  iexists _; isplitr
  swap; · iexact H3
  ipureintro
  refine (View.read_writes_eq_canon _ _ _ (cover_out _)).trans ?_
  rw [View.canon_cons_unit_lit _ _ _ (by decide)]
  exact congr (congr (congrArg k0_pay1 (View.ld_unit_lit inb_S512x4096_S512x4096_0_0 (View.read (Elt F) arg4.view f0) (by decide)))
    (View.ld_unit_lit inb_S1x1x4096x512_S1x1x4096x512_0_0_0_0 (View.read (Elt F) arg5.view f1) (by decide)))
    (View.ld_unit_lit inb_S1x1x4096x512_S1x1x4096x512_0_0_0_0 (View.read (Elt F) arg6.view f2) (by decide))

set_option maxHeartbeats 4000000 in
/-- A point whose tile holds no rows stores zeros. -/
theorem sound_empty (h1 : ¬ k0_cond1 (word1 (F := F) T i) = 1#1) (h2 : k0_cond2 (word2 (F := F) T i) = 1#1) (K : PUnit → sProp 𝕄) :
    iprop(owns (c : Thread nD τ) arg4 fullShare x0 ∗ owns (c : Thread nD τ) arg5 fullShare x1 ∗ owns (c : Thread nD τ) arg6 fullShare x2
        ∗ (tableL.view.loc (c : Thread nD τ) ↦{fullShare.right} (T.live : S104.Idx → Elt F .i32)) ∗ (∃ d, owns (c : Thread nD τ) arg7 fullShare d)
        ∗ (Holds T c arg4 arg5 arg6 x0 x1 x2 (owns (c : Thread nD τ) arg7 fullShare k0_pay2) -∗ K ⟨⟩))
      ⊢ wp frame (wpE (defs₀ (F := F)) Variants.none c none) Set.univ (cc0_moe_up i tableE (Memref.isWhole_whole _) tableL (Memref.isWhole_whole _) arg4 harg4 arg5 harg5 arg6 harg6 arg7 harg7) K := by
  rw [cc0_moe_up_eq_skeleton]; unfold cc0_moe_up_skel
  unfold Holds owns
  iintro ⟨⟨%f0, %hf0, H0⟩, ⟨%f1, %hf1, H1⟩, ⟨%f2, %hf2, H2⟩, HT1, ⟨%d3, %f3, -, H3⟩, Hk⟩
  subst hf0 hf1 hf2
  have hT0 : tableE.IsWhole := Memref.isWhole_whole _
  have hT1 : tableL.IsWhole := Memref.isWhole_whole _
  sl_exec! (disch := first | (guard_target = ¬(k0_cond1 _ = _); exact h1) | (guard_target = k0_cond2 _ = _; exact h2))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HT1]; · iexact HT1
  iexists _; isplitr
  swap; · iexact H3
  ipureintro
  refine (View.read_writes_eq_canon _ _ _ (cover_out _)).trans ?_
  rw [View.canon_cons_unit_lit _ _ _ (by decide)]

/-- Either way the body leaves `tileOut` of the tile's word. -/
theorem sound_kernel (K : PUnit → sProp 𝕄) :
    iprop(owns (c : Thread nD τ) arg4 fullShare x0 ∗ owns (c : Thread nD τ) arg5 fullShare x1 ∗ owns (c : Thread nD τ) arg6 fullShare x2
        ∗ (tableL.view.loc (c : Thread nD τ) ↦{fullShare.right} (T.live : S104.Idx → Elt F .i32)) ∗ (∃ d, owns (c : Thread nD τ) arg7 fullShare d)
        ∗ (Holds T c arg4 arg5 arg6 x0 x1 x2 (owns (c : Thread nD τ) arg7 fullShare (tileOut (T.live (place i)) x0 x1 x2)) -∗ K ⟨⟩))
      ⊢ wp frame (wpE (defs₀ (F := F)) Variants.none c none) Set.univ (cc0_moe_up i tableE (Memref.isWhole_whole _) tableL (Memref.isWhole_whole _) arg4 harg4 arg5 harg5 arg6 harg6 arg7 harg7) K := by
  have e1 := word1_eq (F := F) T i
  have e2 := word2_eq (F := F) T i
  rcases T.live_bit (place i) with h | h
  · rw [show tileOut (T.live (place i)) x0 x1 x2 = k0_pay2 (F := F) from by rw [h]; exact if_neg (by decide)]
    exact sound_empty T c i arg4 harg4 arg5 harg5 arg6 harg6 arg7 harg7 x0 x1 x2 (by rw [e1, h]; decide) (by rw [e2, h]; decide) K
  · rw [show tileOut (T.live (place i)) x0 x1 x2 = k0_pay1 x0 x1 x2 from by rw [h]; exact if_pos rfl]
    exact sound_live T c i arg4 harg4 arg5 harg5 arg6 harg6 arg7 harg7 x0 x1 x2 (by rw [e1, h]; decide) (by rw [e2, h]; decide) K

end body

/-! ## The proof data -/

variable (m : (ℓ : Loc nD τ sig) → Buf (Elt F) ℓ) (ρ : Dev nD → PrngReg)

/-- Window `w`'s block at point `t`, read off its array at launch. -/
def iblk (c : Dev nD) (w : Fin (cfgA (F := F) T).W) (t : Fin (cfgA (F := F) T).N) :
    (((cfgA (F := F) T).win w).xblock (crd (F := F) T t)).Idx → Elt F ((cfgA (F := F) T).win w).elt :=
  (((cfgA (F := F) T).win w).blk t).view.read (Elt F) ((s₀ m ρ).mem (((cfgA (F := F) T).win w).arr.view.loc (c : Thread nD τ)))

/-- What point `t` leaves in the output's buffer. -/
def leaves (c : Dev nD) (t : Fin (cfgA (F := F) T).N) : Vec F S512x512 .bf16 :=
  tileOut (T.live (place (crd (F := F) T t))) (iblk T m ρ c (0 : Fin 4) t) (iblk T m ρ c (1 : Fin 4) t) (iblk T m ρ c (2 : Fin 4) t)

/-- Between points the body holds its halves of the two tables. -/
def held (c : Dev nD) : sProp 𝕄 :=
  iprop((tableE.view.loc (c : Thread nD τ) ↦{fullShare.right} (T.expert : S104.Idx → Elt F .i32)) ∗ (tableL.view.loc (c : Thread nD τ) ↦{fullShare.right} (T.live : S104.Idx → Elt F .i32)))

/-- The pipeline's proof data on core `c`. -/
def dats (_ : Fin 1) (c : Dev nD) : Dat τ (Elt F) Unit ℕ (UR sig nD τ) ℕ (cfgA (F := F) T) c where
  A w := (s₀ m ρ).mem (((cfgA (F := F) T).win w).arr.view.loc (c : Thread nD τ))
  after w t := match w with
    | ⟨0, _⟩ => iblk T m ρ c (0 : Fin 4) t
    | ⟨1, _⟩ => iblk T m ρ c (1 : Fin 4) t
    | ⟨2, _⟩ => iblk T m ρ c (2 : Fin 4) t
    | ⟨3, _⟩ => leaves T m ρ c t
  Φ _ := held T c
  q _ := fullShare
  owed _ := 0

theorem after_0 (c : Dev nD) (t : Fin (cfgA (F := F) T).N) : (dats T m ρ 0 c).after (0 : Fin 4) t = iblk T m ρ c (0 : Fin 4) t := rfl
theorem after_1 (c : Dev nD) (t : Fin (cfgA (F := F) T).N) : (dats T m ρ 0 c).after (1 : Fin 4) t = iblk T m ρ c (1 : Fin 4) t := rfl
theorem after_2 (c : Dev nD) (t : Fin (cfgA (F := F) T).N) : (dats T m ρ 0 c).after (2 : Fin 4) t = iblk T m ρ c (2 : Fin 4) t := rfl
theorem after_3 (c : Dev nD) (t : Fin (cfgA (F := F) T).N) : (dats T m ρ 0 c).after (3 : Fin 4) t = leaves T m ρ c t := rfl

/-- An input's buffer holds its block when the body runs, fetched at that point or before. -/
theorem before_0 (c : Dev nD) (t : Fin (cfgA (F := F) T).N) (d) : (dats T m ρ 0 c).before (0 : Fin 4) t d = iblk T m ρ c (0 : Fin 4) t :=
  ((dats T m ρ 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA (F := F) T).N) (d) : (dats T m ρ 0 c).before (1 : Fin 4) t d = iblk T m ρ c (1 : Fin 4) t :=
  ((dats T m ρ 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA (F := F) T).N) (d) : (dats T m ρ 0 c).before (2 : Fin 4) t d = iblk T m ρ c (2 : Fin 4) t :=
  ((dats T m ρ 0 c).before_in_eq_fetched (2 : Fin 4) rfl (fun _ => rfl) (fun _ _ _ => rfl) (fun t => by rw [after_2]; unfold Dat.blockOf iblk; rfl) t d).trans
    (by unfold Dat.fetched Dat.blockOf iblk; rfl)

/-- The body at point `t` on its staging buffers, as the pipeline calls it. -/
abbrev bodyAt (t : Fin (cfgA (F := F) T).N) : Prog (TpuEff nD τ sig (Elt F) Λ₀ .tc) PUnit :=
  cc0_moe_up (crd (F := F) T t) (Memref.whole main_arg0) (Memref.isWhole_whole _) (Memref.whole main_arg1) (Memref.isWhole_whole _)
    (ms0 (F := F) T t) (hs0 (F := F) T t) (ms1 (F := F) T t) (hs1 (F := F) T t) (ms2 (F := F) T t) (hs2 (F := F) T t) (ms3 (F := F) T t) (hs3 (F := F) T t)

set_option maxHeartbeats 4000000 in
/-- The body at any point: it finds the inputs' blocks and leaves what the proof data says. -/
theorem sound_body (c : Dev nD) (t : Fin (cfgA (F := F) T).N) :
    iprop((dats T m ρ 0 c).Φ t.castSucc ∗ (dats T m ρ 0 c).owesAt () t.castSucc
        ∗ (∃ d, owns (c : Thread nD τ) (ms0 (F := F) T t) fullShare ((dats T m ρ 0 c).before (0 : Fin 4) t d))
        ∗ (∃ d, owns (c : Thread nD τ) (ms1 (F := F) T t) fullShare ((dats T m ρ 0 c).before (1 : Fin 4) t d))
        ∗ (∃ d, owns (c : Thread nD τ) (ms2 (F := F) T t) fullShare ((dats T m ρ 0 c).before (2 : Fin 4) t d))
        ∗ (∃ d, owns (c : Thread nD τ) (ms3 (F := F) T t) fullShare ((dats T m ρ 0 c).before (3 : Fin 4) t d)))
      ⊢ wp frame (wpE (defs₀ (F := F)) Variants.none c none) Set.univ (bodyAt T t) fun _ =>
          iprop((dats T m ρ 0 c).Φ t.succ ∗ (dats T m ρ 0 c).owesAt () t.succ
            ∗ bigSep Finset.univ fun w : Fin (cfgA (F := F) T).W =>
                match (cfgA (F := F) T).idle w ((cfgA (F := F) T).grid.coords t) with
                | true =>
                  match ((cfgA (F := F) T).win w).flush t with
                  | false => iprop(∃ d, owns (c : Thread nD τ) (((cfgA (F := F) T).win w).stage ((cfgA (F := F) T).slots t w)) fullShare ((dats T m ρ 0 c).before w t d))
                  | true => owns (c : Thread nD τ) (((cfgA (F := F) T).win w).stage ((cfgA (F := F) T).slots t w)) fullShare ((dats T m ρ 0 c).after w t)
                | false => owns (c : Thread nD τ) (((cfgA (F := F) T).win w).stage ((cfgA (F := F) T).slots t w)) fullShare ((dats T m ρ 0 c).after w t)) := by
  rw [bigSep_W0]
  have i3 : (cfgA (F := F) T).idle (3 : Fin 4) ((cfgA (F := F) T).grid.coords t) = false := idle_out T _
  rewrite [i3]
  simp only [before_0, before_1, before_2, after_0, after_1, after_2, after_3]
  rewrite [show (dats T m ρ 0 c).Φ t.succ = held T c from rfl, show (dats T m ρ 0 c).Φ t.castSucc = held T c from rfl,
    show (dats T m ρ 0 c).owesAt () t.succ = (dats T m ρ 0 c).owesAt () t.castSucc from rfl]
  unfold held leaves
  iintro ⟨⟨HT0, HT1⟩, Ho, ⟨%d0, H0⟩, ⟨%d1, H1⟩, ⟨%d2, H2⟩, ⟨%d3, H3⟩⟩
  iapply (sound_kernel T c (crd (F := F) T t) (ms0 (F := F) T t) (hs0 (F := F) T t) (ms1 (F := F) T t) (hs1 (F := F) T t) (ms2 (F := F) T t) (hs2 (F := F) T t) (ms3 (F := F) T t) (hs3 (F := F) T t)
    (iblk T m ρ c (0 : Fin 4) t) (iblk T m ρ c (1 : Fin 4) t) (iblk T m ρ c (2 : Fin 4) t) _)
  isplitl [H0]; · iexact H0
  isplitl [H1]; · iexact H1
  isplitl [H2]; · iexact H2
  isplitl [HT1]; · iexact HT1
  isplitl [H3]; · iexists _; iexact H3
  iintro ⟨H0, H1, H2, HT1, H3⟩
  isplitl [HT0 HT1]
  · isplitl [HT0]
    · iexact HT0
    iexact HT1
  isplitl [Ho]; · iexact Ho
  isplitl [H0]; · iexact H0
  isplitl [H1]; · iexact H1
  isplitl [H2]; · iexact H2
  iexact H3

/-- The library's body obligation, at every point. -/
theorem body_obligation (c : Dev nD) : BodyObligation (dats T m ρ 0 c) (defs₀ (F := F)) Variants.none () Set.univ := fun t => by
  rw [bigSep_W0]
  exact sound_body T m ρ c t

/-! ## The launch -/

/-- The memory's tables are `T`'s. -/
def Pinned : Prop := (∀ c : Dev nD, m ((c : Thread nD τ).loc main_arg0) = (T.expert : S104.Idx → Elt F .i32)) ∧ ∀ c : Dev nD, m ((c : Thread nD τ).loc main_arg1) = (T.live : S104.Idx → Elt F .i32)

/-- The rounds library's launch element. -/
def u₀ : UR sig nD τ :=
  initOf (Pipeline.cells (pcs (F := F) T) ((launch0 (F := F)).cellOf_inj fun _ => adm T))
    (Pipeline.launchToks (pcs (F := F) T) ((launch0 (F := F)).cellOf_inj fun _ => adm T))

theorem share_eq (c : Dev nD) (w : Fin (cfgA (F := F) T).W) : (dats T m ρ 0 c).share w = fullShare := by unfold Dat.share; split <;> rfl

/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) (adm (F := F) T).1 ∗ Pipeline.scopedRest spec0 c) ⊢ (dats T m ρ 0 c).Φ 0 := by
  rw [prefHeld_eq, scopedRest0_eq, show (dats T m ρ 0 c).Φ 0 = held T c from rfl]
  unfold held
  iintro ⟨-, ⟨HT0, HT1⟩, -⟩
  isplitl [HT0]
  · iexact HT0
  iexact HT1

theorem phi_last (c : Dev nD) : (dats T m ρ 0 c).Φ (Fin.last (cfgA (F := F) T).N) ⊢ iprop(BI.emp ∗ Pipeline.scopedRest spec0 c) := by
  rw [scopedRest0_eq, show (dats T m ρ 0 c).Φ (Fin.last (cfgA (F := F) T).N) = held T c from rfl]
  unfold held
  iintro ⟨-, -⟩
  isplitr; · iempintro
  iempintro

/-- Every array at what the pipeline computes, every table as it was. -/
def Ends : PUnit × MemSt nD τ sig (Elt F) → Prop := fun r =>
  ∀ c : Dev nD, (∀ w : Fin (cfgA (F := F) T).W, r.2.mem (((cfgA (F := F) T).win w).arr.view.loc (c : Thread nD τ)) = (dats T m ρ 0 c).arrAt w (cfgA (F := F) T).N)
    ∧ ∀ j, r.2.mem ((c : Thread nD τ).loc (pre0.ref j)) = (adm (F := F) T).1 j

theorem tables_at (hp : Pinned T m) (c : Dev nD) (j : Fin 2) : m ((c : Thread nD τ).loc (pre0.ref j)) = (adm (F := F) T).1 j := by
  fin_cases j
  · exact hp.1 c
  · exact hp.2 c

set_option backward.isDefEq.respectTransparency.types false in
set_option maxHeartbeats 4000000 in
/-- From a memory whose tables are `T`'s, with zero counters, every fair run ends at `Ends` with the counters at zero. -/
theorem run_quiescent (hp : Pinned T m) : θ_run (defs (F := F)) (onTc (τ := τ) (main (F := F))) (s₀ m ρ) (fun r => Ends T m ρ r ∧ r.2.sem = fun _ => 0) :=
  Pipeline.θ_run_region_noSem_pf_quiescent pcfgs (fun _ => adm T) (dats T m ρ) () ((launch0 (F := F)).cellOf_inj fun _ => adm T) (0 : Fin 1)
    (launch0 (F := F)).win.to₀ (launch0 (F := F)).pre EP defs₀ Variants.none m ρ main
    (hbody := fun c => (body_obligation T m ρ c).loose) (hne := (launch0 (F := F)).block_pos)
    (harr := (launch0 (F := F)).arr_whole) (hstage := (launch0 (F := F)).stage_whole) (howed := fun _ _ => rfl)
    (u₀ := u₀ (F := F) T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs (F := F) T) (dats T m ρ) 0 (launch0 (F := F)).win.arr_inj c (launch0 (F := F)).arr_whole
      (share_eq T m ρ c) _ _ fun _ => rfl)
    (hpf := tables_at T m hp)
    (X := fun _ => iprop(emp)) (Y := fun _ => iprop(emp)) (Z := fun _ => iprop(emp))
    (hX := fun c => by rw [unscopedRestP0_eq]; iintro -; isplitr <;> iempintro)
    (hin := phi_first T m ρ)
    (hout := phi_last T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Without the counters. -/
theorem run_main (hp : Pinned T m) : θ_run (defs (F := F)) (onTc (τ := τ) (main (F := F))) (s₀ m ρ) (Ends T m ρ) :=
  (θ_run defs _ _).mono (fun _ h => h.1) (run_quiescent T m ρ hp)

/-- From such a memory the run ends with the argument arrays unchanged. -/
theorem unchanged (hp : Pinned T m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 0).trans (hp.1 c).symm, ((h c).2 1).trans (hp.2 c).symm,
    ((h c).1 (0 : Fin 4)).trans ((dats T m ρ 0 c).arrAt_in (0 : Fin 4) rfl _), ((h c).1 (1 : Fin 4)).trans ((dats T m ρ 0 c).arrAt_in (1 : Fin 4) rfl _),
    ((h c).1 (2 : Fin 4)).trans ((dats T m ρ 0 c).arrAt_in (2 : Fin 4) rfl _)⟩) (run_main T m ρ hp)

end Cert.Up.Hand

end
-- ==== Proof.UpValue.lean ====
/-
  The gate and up products of the routed experts (`moe_up`) at the extended reals: what one block of the call computes,
  what its result array ends holding at any tables in range, and that the reference computes the same.
-/
module

public import proofs.«01_k».proof.Defs
public import proofs.«01_k».proof.Proof.UpFrame
public import proofs.«01_k».proof.Proof.Gen.UpIdeal
public import proofs.«01_k».proof.Proof.Gen.UpReferenceIdeal.Run
public import proofs.«01_k».proof.Proof.Gen.UpReferenceIdeal.Read
public import proofs.«01_k».proof.Proof.Gen.Pre_tables
public import proofs.«01_k».proof.Proof.Words
public import Idealize.ShloMosaic.Lib.Pipeline.Value
public import Idealize.ShloMosaic.Lib.Pipeline.ValueKit
public import Idealize.ShloMosaic.Lib.Pipeline.Covers
public import Idealize.ShloMosaic.Lib.ValueIdx
public import Idealize.ShloMosaic.Lib.Quiescent
public import Idealize.ShloMosaic.Lib.MatmulPlain
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)
open scoped BigOperators

namespace Cert.Up.Hand

open Cert.Up Cert.Up.Gen
open Cert.Shared (Tables zeros expertOf tileOf rowOf tileOf_rowOf)

/-- One entry of the product of the rows `x` with expert `e`'s matrix of layer 0: the sum over the 4096 features. -/
def proj (x : FVec Ideal S53248x4096 .bf16) (w : FVec Ideal S2x8x4096x2048 .f32) (e : Fin 8) (r : Fin 53248) (n : Fin 2048) : EReal :=
  ∑ k : Fin 4096, x (ix2 r k) * w (ix4 (0 : Fin 2) e k n)

variable (T : Tables)

/-- One entry of the gated product of row `r` with the expert of tile `p`, `silu (x · w1) * (x · w3)`; zero where the tile
has no rows. -/
def entry (x : FVec Ideal S53248x4096 .bf16) (w1 w3 : FVec Ideal S2x8x4096x2048 .f32) (p : S104.Idx) (r : Fin 53248) (n : Fin 2048) : EReal :=
  if T.live p = 1#32 then
    proj x w1 (expertOf T p) r n * Ideal.logistic (proj x w1 (expertOf T p) r n) * proj x w3 (expertOf T p) r n
  else 0

/-- The gated products of every row with the expert of its own tile. -/
def gated (x : FVec Ideal S53248x4096 .bf16) (w1 w3 : FVec Ideal S2x8x4096x2048 .f32) : FVec Ideal S53248x2048 .bf16 := fun i =>
  entry T x w1 w3 (tileOf (i 0)) (i 0) (i 1)

/-- An expert's block without its two leading unit axes, at one entry. -/
theorem drop_two (x : Vec Ideal S1x1x4096x512 .f32) (h : S1x1x4096x512.ShapeCasts S4096x512) (k : Fin 4096) (n : Fin 512) :
    shapeCast S4096x512 x h (ix2 k n) = x (ix4 (0 : Fin 1) (0 : Fin 1) k n) :=
  shapeCast_apply x h (ix2 k n) (ix4 (0 : Fin 1) (0 : Fin 1) k n) (by
    rewrite [Shape.rowMajor_val_four, Shape.rowMajor_val_two]
    show ((0 * 1 + 0) * 4096 + k.val) * 512 + n.val = k.val * 512 + n.val
    omega)

/-- What the body stores for a live tile, read at one entry of the block. -/
theorem pay_apply (x0 : Vec Ideal S512x4096 .bf16) (x1 x2 : Vec Ideal S1x1x4096x512 .f32) (r n : Fin 512) :
    (k0_pay1 x0 x1 x2 (ix2 r n) : EReal)
      = (∑ k : Fin 4096, x0 (ix2 r k) * x1 (ix4 (0 : Fin 1) (0 : Fin 1) k n))
          * Ideal.logistic (∑ k : Fin 4096, x0 (ix2 r k) * x1 (ix4 (0 : Fin 1) (0 : Fin 1) k n))
          * (∑ k : Fin 4096, x0 (ix2 r k) * x2 (ix4 (0 : Fin 1) (0 : Fin 1) k n)) := by
  have hm (x : Vec Ideal S1x1x4096x512 .f32) :
      (matmul (F := Ideal) (φ₁ := .bf16) dot_S512x4096_S4096x512_S512x512_1_0_0_1_n_n none x0
          (truncf .bf16 (shapeCast S4096x512 x shapeCasts_S1x1x4096x512_S4096x512) bitsLt_bf16_f32)
          (constant S512x512 .f32 0x00000000#32) : FVec Ideal S512x512 .f32) (ix2 r n)
        = ∑ k : Fin 4096, x0 (ix2 r k) * x (ix4 (0 : Fin 1) (0 : Fin 1) k n) := by
    refine (Cert.Shared.plain_zero (M := 512) (K := 4096) (N := 512) x0 _ r n).trans ?_
    exact Finset.sum_congr rfl fun k _ => congrArg (fun z : EReal => x0 (ix2 r k) * z) (drop_two x _ k n)
  have e : ∀ y, (k0_pay1 x0 x1 x2 y : EReal) = _ := fun y => by
    unfold k0_pay1
    rw [ValueIdx.truncf_apply, ValueIdx.mulf_apply, ValueIdx.mulf_apply, logistic_apply]
  rw [e, hm x1, hm x2]
  rfl

/-- What it stores for another tile is zero. -/
theorem pay_zero (y : S512x512.Idx) : (k0_pay2 (F := Ideal) y : EReal) = 0 := by
  show Ideal.ofBits .bf16 0x0000#16 = 0
  simp [Ideal.ofBits, Ideal.ieee]

variable (m : (ℓ : Loc nD τ sig) → Buf (Elt Ideal) ℓ) (ρ : Dev nD → PrngReg)

/-- A point's coordinates as words: they stay below `2 ^ 32`. -/
theorem word_0 (i : grid0.Coords) : (BitVec.ofNat 32 (i 0).val).toNat = (i 0).val := by
  have h : (i 0).val < 4 := (i 0).isLt
  rw [BitVec.toNat_ofNat, Nat.mod_eq_of_lt (by omega)]
theorem word_1 (i : grid0.Coords) : (BitVec.ofNat 32 (i 1).val).toNat = (i 1).val := by
  have h : (i 1).val < 104 := (i 1).isLt
  rw [BitVec.toNat_ofNat, Nat.mod_eq_of_lt (by omega)]

/-- The first axis' block of the rows at point `i` is its row tile. -/
theorem at_0 (i : grid0.Coords) : cc0_transform_0 i = ![(i 1).val, 0] := by
  unfold cc0_transform_0
  funext a
  match a with
  | ⟨0, _⟩ => exact word_1 i
  | ⟨1, _⟩ => rfl

/-- The block of the first weights at point `i`: layer 0, the tile's expert, the point's columns. -/
theorem at_1 (i : grid0.Coords) :
    cc0_transform_1 k0_off1_inb numel1_S1 (words (F := Ideal) T) i = ![0, (T.expert (place i)).toNat, 0, (i 0).val] := by
  unfold cc0_transform_1
  funext a
  match a with
  | ⟨0, _⟩ => rfl
  | ⟨1, _⟩ => exact congrArg (fun z => (T.expert z).toNat) (place_eq i (k0_off1 i) (k0_off1_eq i) (k0_off1_inb i) _)
  | ⟨2, _⟩ => rfl
  | ⟨3, _⟩ => exact word_0 i

/-- The block of the second weights likewise. -/
theorem at_2 (i : grid0.Coords) :
    cc0_transform_2 k0_off1_inb numel1_S1 (words (F := Ideal) T) i = ![0, (T.expert (place i)).toNat, 0, (i 0).val] := by
  unfold cc0_transform_2
  funext a
  match a with
  | ⟨0, _⟩ => rfl
  | ⟨1, _⟩ => exact congrArg (fun z => (T.expert z).toNat) (place_eq i (k0_off1 i) (k0_off1_eq i) (k0_off1_inb i) _)
  | ⟨2, _⟩ => rfl
  | ⟨3, _⟩ => exact word_0 i

/-- The block of the result at point `i`. -/
theorem at_3 (i : grid0.Coords) : cc0_transform_3 i = ![(i 1).val, (i 0).val] := by
  unfold cc0_transform_3
  funext a
  match a with
  | ⟨0, _⟩ => exact word_1 i
  | ⟨1, _⟩ => exact word_0 i

/-- The column of the whole array that column `n` of column tile `q` is. -/
abbrev colOf (q : Fin 4) (n : Fin 512) : Fin 2048 := ⟨q.val * 512 + n.val, by have := q.isLt; have := n.isLt; omega⟩

/-- The rows' block at a point, read at one entry. -/
theorem read_0 (c : Dev nD) (t : Fin (cfgA (F := Ideal) T).N) (r : Fin 512) (k : Fin 4096) :
    iblk T m ρ c (0 : Fin 4) t (ix2 r k) = m ((c : Thread nD τ).loc main_arg2) (ix2 (rowOf ⟨(crd (F := Ideal) T t 1).val, (crd (F := Ideal) T t 1).isLt⟩ r) k) := by
  have e := at_0 (crd (F := Ideal) T t)
  refine congrArg (m ((c : Thread nD τ).loc main_arg2)) (funext fun a => Fin.ext ?_)
  match a with
  | ⟨0, _⟩ =>
    show cc0_transform_0 (crd (F := Ideal) T t) 0 * 512 + 1 * r.val = (crd (F := Ideal) T t 1).val * 512 + r.val
    rw [e]; show (crd (F := Ideal) T t 1).val * 512 + 1 * r.val = _; omega
  | ⟨1, _⟩ =>
    show cc0_transform_0 (crd (F := Ideal) T t) 1 * 4096 + 1 * k.val = k.val
    rw [e]; show 0 * 4096 + 1 * k.val = _; omega

/-- The first weights' block at a point, read at one entry: the tile's expert's matrix. -/
theorem read_1 (c : Dev nD) (t : Fin (cfgA (F := Ideal) T).N) (k : Fin 4096) (n : Fin 512) :
    iblk T m ρ c (1 : Fin 4) t (ix4 (0 : Fin 1) (0 : Fin 1) k n)
      = m ((c : Thread nD τ).loc main_arg3) (ix4 (0 : Fin 2) (expertOf T (place (crd (F := Ideal) T t))) k (colOf ⟨(crd (F := Ideal) T t 0).val, (crd (F := Ideal) T t 0).isLt⟩ n)) := by
  have e := at_1 T (crd (F := Ideal) T t)
  refine congrArg (m ((c : Thread nD τ).loc main_arg3)) (funext fun a => Fin.ext ?_)
  match a with
  | ⟨0, _⟩ =>
    show cc0_transform_1 k0_off1_inb numel1_S1 (words (F := Ideal) T) (crd (F := Ideal) T t) 0 * 1 + 1 * 0 = 0
    rw [e]; rfl
  | ⟨1, _⟩ =>
    show cc0_transform_1 k0_off1_inb numel1_S1 (words (F := Ideal) T) (crd (F := Ideal) T t) 1 * 1 + 1 * 0 = (T.expert (place (crd (F := Ideal) T t))).toNat
    rw [e]; show (T.expert (place (crd (F := Ideal) T t))).toNat * 1 + 1 * 0 = _; omega
  | ⟨2, _⟩ =>
    show cc0_transform_1 k0_off1_inb numel1_S1 (words (F := Ideal) T) (crd (F := Ideal) T t) 2 * 4096 + 1 * k.val = k.val
    rw [e]; show 0 * 4096 + 1 * k.val = _; omega
  | ⟨3, _⟩ =>
    show cc0_transform_1 k0_off1_inb numel1_S1 (words (F := Ideal) T) (crd (F := Ideal) T t) 3 * 512 + 1 * n.val = (crd (F := Ideal) T t 0).val * 512 + n.val
    rw [e]; show (crd (F := Ideal) T t 0).val * 512 + 1 * n.val = _; omega

/-- The second weights' block likewise. -/
theorem read_2 (c : Dev nD) (t : Fin (cfgA (F := Ideal) T).N) (k : Fin 4096) (n : Fin 512) :
    iblk T m ρ c (2 : Fin 4) t (ix4 (0 : Fin 1) (0 : Fin 1) k n)
      = m ((c : Thread nD τ).loc main_arg4) (ix4 (0 : Fin 2) (expertOf T (place (crd (F := Ideal) T t))) k (colOf ⟨(crd (F := Ideal) T t 0).val, (crd (F := Ideal) T t 0).isLt⟩ n)) := by
  have e := at_2 T (crd (F := Ideal) T t)
  refine congrArg (m ((c : Thread nD τ).loc main_arg4)) (funext fun a => Fin.ext ?_)
  match a with
  | ⟨0, _⟩ =>
    show cc0_transform_2 k0_off1_inb numel1_S1 (words (F := Ideal) T) (crd (F := Ideal) T t) 0 * 1 + 1 * 0 = 0
    rw [e]; rfl
  | ⟨1, _⟩ =>
    show cc0_transform_2 k0_off1_inb numel1_S1 (words (F := Ideal) T) (crd (F := Ideal) T t) 1 * 1 + 1 * 0 = (T.expert (place (crd (F := Ideal) T t))).toNat
    rw [e]; show (T.expert (place (crd (F := Ideal) T t))).toNat * 1 + 1 * 0 = _; omega
  | ⟨2, _⟩ =>
    show cc0_transform_2 k0_off1_inb numel1_S1 (words (F := Ideal) T) (crd (F := Ideal) T t) 2 * 4096 + 1 * k.val = k.val
    rw [e]; show 0 * 4096 + 1 * k.val = _; omega
  | ⟨3, _⟩ =>
    show cc0_transform_2 k0_off1_inb numel1_S1 (words (F := Ideal) T) (crd (F := Ideal) T t) 3 * 512 + 1 * n.val = (crd (F := Ideal) T t 0).val * 512 + n.val
    rw [e]; show (crd (F := Ideal) T t 0).val * 512 + 1 * n.val = _; omega

/-- Where a point's block of the result puts its entry. -/
theorem emb_3 (t : Fin (cfgA (F := Ideal) T).N) (r n : Fin 512) :
    ((((cfgA (F := Ideal) T).win (3 : Fin 4)).blk t).view.emb (ix2 r n) : S53248x2048.Idx)
      = ix2 (rowOf ⟨(crd (F := Ideal) T t 1).val, (crd (F := Ideal) T t 1).isLt⟩ r) (colOf ⟨(crd (F := Ideal) T t 0).val, (crd (F := Ideal) T t 0).isLt⟩ n) := by
  have e := at_3 (crd (F := Ideal) T t)
  refine funext fun a => Fin.ext ?_
  match a with
  | ⟨0, _⟩ =>
    show cc0_transform_3 (crd (F := Ideal) T t) 0 * 512 + 1 * r.val = (crd (F := Ideal) T t 1).val * 512 + r.val
    rw [e]; show (crd (F := Ideal) T t 1).val * 512 + 1 * r.val = _; omega
  | ⟨1, _⟩ =>
    show cc0_transform_3 (crd (F := Ideal) T t) 1 * 512 + 1 * n.val = (crd (F := Ideal) T t 0).val * 512 + n.val
    rw [e]; show (crd (F := Ideal) T t 0).val * 512 + 1 * n.val = _; omega

/-- At zeros the blocks of the result cover it; -/
theorem covers_zeros : ((cfgA (F := Bits) zeros).win (3 : Fin 4)).Covers := by decide +kernel
/-- so they do at any tables. -/
theorem covers_out : ((cfgA (F := Ideal) T).win (3 : Fin 4)).Covers := covers_zeros

/-- The gated products of device `c`'s argument arrays, as contents of the result array. -/
abbrev result (c : Dev nD) : Buf (Elt Ideal) ((c : Thread nD τ).loc main_v0) :=
  gated T (m ((c : Thread nD τ).loc main_arg2)) (m ((c : Thread nD τ).loc main_arg3)) (m ((c : Thread nD τ).loc main_arg4))

/-- The three inputs' blocks at a point, as arrays of extended reals. -/
abbrev rows (c : Dev nD) (t : Fin (cfgA (F := Ideal) T).N) : FVec Ideal S512x4096 .bf16 := iblk T m ρ c (0 : Fin 4) t
abbrev gate (c : Dev nD) (t : Fin (cfgA (F := Ideal) T).N) : FVec Ideal S1x1x4096x512 .f32 := iblk T m ρ c (1 : Fin 4) t
abbrev value (c : Dev nD) (t : Fin (cfgA (F := Ideal) T).N) : FVec Ideal S1x1x4096x512 .f32 := iblk T m ρ c (2 : Fin 4) t

/-- What a point leaves is its block of the gated products. -/
theorem leaves_apply (c : Dev nD) (t : Fin (cfgA (F := Ideal) T).N) (r n : Fin 512) :
    (leaves T m ρ c t (ix2 r n) : EReal)
      = result T m c (ix2 (rowOf ⟨(crd (F := Ideal) T t 1).val, (crd (F := Ideal) T t 1).isLt⟩ r) (colOf ⟨(crd (F := Ideal) T t 0).val, (crd (F := Ideal) T t 0).isLt⟩ n)) := by
  refine Eq.trans ?_ (congrArg (fun p => entry T _ _ _ p _ _) (tileOf_rowOf ⟨(crd (F := Ideal) T t 1).val, (crd (F := Ideal) T t 1).isLt⟩ r)).symm
  unfold leaves tileOut entry
  by_cases h : T.live (place (crd (F := Ideal) T t)) = 1#32
  · have s1 : (∑ k : Fin 4096, rows T m ρ c t (ix2 r k) * gate T m ρ c t (ix4 (0 : Fin 1) (0 : Fin 1) k n)) = _ :=
      Finset.sum_congr rfl fun k _ => congrArg₂ (fun a b : EReal => a * b) (read_0 T m ρ c t r k) (read_1 T m ρ c t k n)
    have s2 : (∑ k : Fin 4096, rows T m ρ c t (ix2 r k) * value T m ρ c t (ix4 (0 : Fin 1) (0 : Fin 1) k n)) = _ :=
      Finset.sum_congr rfl fun k _ => congrArg₂ (fun a b : EReal => a * b) (read_0 T m ρ c t r k) (read_2 T m ρ c t k n)
    rw [if_pos h]
    refine Eq.trans ?_ (if_pos h).symm
    refine (pay_apply _ _ _ r n).trans ?_
    exact congrArg₂ (fun a b : EReal => a * Ideal.logistic a * b) s1 s2
  · rw [if_neg h]
    exact (pay_zero _).trans (if_neg h).symm

/-- The result array after the run is the gated products: each point writes its block of them, and the blocks cover it. -/
theorem final (c : Dev nD) : (dats T m ρ 0 c).arrAt (3 : Fin 4) (cfgA (F := Ideal) T).N = result T m c := by
  refine (dats T m ρ 0 c).arrAt_eq_of_covers (3 : Fin 4) _ (covers_out T) fun t hf y => ?_
  obtain ⟨r, n, rfl⟩ : ∃ (r : Fin 512) (n : Fin 512), y = ix2 r n := ⟨y 0, y 1, eq_ix2 (n0 := 512) (n1 := 512) y⟩
  refine (leaves_apply T m ρ c t r n).trans ?_
  exact congrArg (result T m c) (emb_3 T t r n).symm

end Cert.Up.Hand

end
-- ==== Proof.UpClaims.lean ====
/-
  The claims of `moe_up`: the tables that its precondition puts in range, the runs of its two programs, its reference,
  and that the two compute the same.
-/
module

public import proofs.«01_k».proof.Defs
public import proofs.«01_k».proof.Proof.UpValue
public import proofs.«01_k».proof.Proof.Tables

@[expose] public section

set_option maxRecDepth 16384

noncomputable section

open Idealize.ShloMosaic Idealize.ShloMosaic.TcCoe Idealize.SL.Sem
open Idealize.ShloMosaic.Pipeline (Dat)
open scoped BigOperators

namespace Cert.Up.Hand

open Cert.Up Cert.Up.Gen
open Cert.Shared (Tables)

/-- Where the precondition holds of five arrays, the first two are tables in range. -/
theorem in_range {F : FTy → Type} [FloatOps F] (a0 a1 : S104.Idx → BitVec 32) (a2 : FVec F S53248x4096 .bf16) (a3 a4 : FVec F S2x8x4096x2048 .f32)
    (h : (Cert.Pre_tables.fn (F := F) a0 a1 a2 a3 a4).1 = (fun _ => 1#1) ∧ (Cert.Pre_tables.fn (F := F) a0 a1 a2 a3 a4).2 = (fun _ => 1#1)) :
    (∀ x, (a0 x).toNat < 8) ∧ ∀ x, a1 x = 0#32 ∨ a1 x = 1#32 :=
  ⟨fun x => Cert.Shared.below_eight _ (congrFun h.1 x), fun x => Cert.Shared.zero_or_one _ (congrFun h.2 x)⟩

/-- A memory whose first device holds tables in range. -/
abbrev Ranged {F : FTy → Type} (m : (ℓ : Loc nD τ sig) → Buf (Elt F) ℓ) : Prop :=
  (∀ x, (m (((0 : Dev nD) : Thread nD τ).loc main_arg0) x : BitVec 32).toNat < 8)
    ∧ ∀ x, (m (((0 : Dev nD) : Thread nD τ).loc main_arg1) x : BitVec 32) = 0#32 ∨ (m (((0 : Dev nD) : Thread nD τ).loc main_arg1) x : BitVec 32) = 1#32

/-- The tables that such a memory holds. -/
def tablesOf {F : FTy → Type} (m : (ℓ : Loc nD τ sig) → Buf (Elt F) ℓ) (h : Ranged m) : Tables :=
  ⟨m (((0 : Dev nD) : Thread nD τ).loc main_arg0), m (((0 : Dev nD) : Thread nD τ).loc main_arg1), h.1, h.2⟩

/-- There is one device: the memory's tables are those. -/
theorem pinned {F : FTy → Type} [FloatOps F] (m : (ℓ : Loc nD τ sig) → Buf (Elt F) ℓ) (h : Ranged m) : Pinned (tablesOf m h) m := by
  refine ⟨fun c => ?_, fun c => ?_⟩ <;> (obtain rfl : c = 0 := Subsingleton.elim _ _) <;> rfl

/-- The kernel's run from a memory whose tables are `T`'s, read: the result array at the gated products, the arguments
unchanged. -/
theorem run (T : Tables) (m : (ℓ : Loc nD τ sig) → Buf (Elt Ideal) ℓ) (ρ : Dev nD → PrngReg) (hp : Pinned T m) :
    θ_run (defs (F := Ideal)) (onTc (τ := τ) (main (F := Ideal))) ⟨m, fun _ => 0, ρ⟩ fun r => ∀ c : Dev nD,
      r.2.mem ((c.tc : Thread nD τ).loc main_v0) = result T m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 (3 : Fin 4)).trans (final T m ρ c), h.2 c⟩)
    (θ_run_and (run_main T m ρ hp) (unchanged T m ρ hp))

/-- The run from such a memory leaves the arguments alone and ends quiescent. -/
theorem quiescent {F : FTy → Type} [FloatOps F] (T : Tables) (m : (ℓ : Loc nD τ sig) → Buf (Elt F) ℓ) (ρ : Dev nD → PrngReg) (hp : Pinned T m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged T m ρ hp) ((θ_run defs _ _).mono (fun _ h => h.2) (run_quiescent T m ρ hp))

/-- The two programs' body tables are one. -/
theorem bodies_eq : Cert.UpIdeal.defs₀ (F := Ideal) = defs₀ (F := Ideal) := by
  unfold Cert.UpIdeal.defs₀ defs₀
  refine congrArg Defs.onTc (funext fun l => ?_)
  match l with
  | ⟨0, _⟩ => rfl
  | ⟨n + 1, h⟩ => exact absurd h (Nat.not_lt.2 (Nat.le_add_left _ _))

/-- So are the programs. -/
theorem defs_eq : Cert.UpIdeal.defs (F := Ideal) = defs (F := Ideal) :=
  congrArg (Pipeline.defs (pcfgs (F := Ideal))) bodies_eq

end Cert.Up.Hand

namespace Cert.UpReferenceIdeal.Hand

open Cert.UpReferenceIdeal Cert.UpReferenceIdeal.Gen Cert.UpReferenceIdeal.Read
open Cert.Up.Hand (gated entry proj)
open Cert.Shared (Tables tileOf expertOf)

/-- The reference's result, entry by entry, is the gated product of the row with its tile's expert. -/
theorem val_eq (T : Tables) (x : FVec Ideal S53248x4096 .bf16) (w1 w3 : FVec Ideal S2x8x4096x2048 .f32) :
    val_main_v27 (F := Ideal) T.expert T.live x w1 w3 = gated T x w1 w3 := by
  have h18 (w : FVec Ideal S2x8x4096x2048 .f32) (r : Fin 53248) (e : Fin 8) (n : Fin 2048) :
      val_main_v18 (F := Ideal) x w (ix3 r e n) = proj x w e r n := by
    rw [val_main_v18_apply]
    refine Finset.sum_congr rfl fun k _ => ?_
    rw [val_main_v0_apply, val_main_v17_apply, val_main_v16_apply]
    have e0 : lidx_main_v18 (ix3 r e n) k = ix2 r k := by idx_ext
    have e1 : idx_main_v16 (idx_main_v17 (ridx_main_v18 (ix3 r e n) k)) = ix4 (0 : Fin 2) e k n := by
      have he := e.isLt
      have hk := k.isLt
      have hn := n.isLt
      refine funext fun a => Fin.ext ?_
      match a with
      | ⟨0, _⟩ => rfl
      | ⟨1, _⟩ => show ((e.val * 4096 + k.val) * 2048 + n.val) / 8388608 % 8 = e.val; omega
      | ⟨2, _⟩ => show ((e.val * 4096 + k.val) * 2048 + n.val) / 2048 % 4096 = k.val; omega
      | ⟨3, _⟩ => show ((e.val * 4096 + k.val) * 2048 + n.val) % 2048 = n.val; omega
    exact congrArg₂ (fun a b : EReal => a * b) (congrArg x e0) (congrArg w e1)
  have h22 (i) : val_main_v22 (F := Ideal) x w3 i = val_main_v18 (F := Ideal) x w3 i := rfl
  have one : ∀ j, val_main_call0_v4 (F := Ideal) j = (1 : EReal) := fun j => by
    rw [val_main_call0_v4_apply, val_main_call0_cst_0_apply, Cert.Shared.ofBits_one]
  have one' : ∀ j, val_main_call0_v2 (F := Ideal) j = (1 : EReal) := fun j => by
    rw [val_main_call0_v2_apply, val_main_call0_cst_apply, Cert.Shared.ofBits_one]
  have h23 (r : Fin 53248) (e : Fin 8) (n : Fin 2048) : (val_main_v23 (F := Ideal) x w1 w3 (ix3 r e n) : EReal)
      = proj x w1 e r n * Ideal.logistic (proj x w1 e r n) * proj x w3 e r n := by
    rw [val_main_v23_apply, val_main_v19_apply, val_main_call0_v5_apply, val_main_call0_v3_apply,
      val_main_call0_v1_apply, val_main_call0_v0_apply, h22, h18 w1, h18 w3, one, one']
    rfl
  have zero : ∀ j, (val_main_call1_v2 (F := Ideal) j : EReal) = 0 := fun j => by
    rw [val_main_call1_v2_apply]
    exact Cert.Shared.ofBits_zero
  have hit (r : Fin 53248) (e : Fin 8) (n : Fin 2048) : val_main_call1_v1 (F := Ideal) T.expert T.live (ix3 r e n)
      = IntOp.andi (IntOp.cmpi .eq (T.expert (tileOf r)) (BitVec.ofNat 32 e.val)) (IntOp.cmpi .eq (T.live (tileOf r)) 1#32) := by
    rw [val_main_call1_v1_apply, val_main_v24_apply, val_main_v15_apply, val_main_v8_apply, val_main_v6_apply,
      val_main_v3_apply, val_main_v2_apply, val_main_v1_apply, val_main_v7_apply, val_main_v5_apply, val_main_v4_apply,
      val_main_v14_apply, val_main_v13_apply, val_main_v11_apply, val_main_v10_apply, val_main_v9_apply, val_main_v12_apply,
      val_main_c_apply]
    have ee : idx_main_v1 (idx_main_v2 (idx_main_v3 (idx_main_v6 (idx_main_v24 (idx_main_call1_v1 (ix3 r e n)))))) = tileOf r := by
      refine funext fun a => Fin.ext ?_
      match a with
      | ⟨0, _⟩ => rfl
    have el : idx_main_v9 (idx_main_v10 (idx_main_v11 (idx_main_v14 (idx_main_v24 (idx_main_call1_v1 (ix3 r e n)))))) = tileOf r := by
      refine funext fun a => Fin.ext ?_
      match a with
      | ⟨0, _⟩ => rfl
    rw [ee, el]
    rfl
  funext i
  obtain ⟨r, n, rfl⟩ : ∃ (r : Fin 53248) (n : Fin 2048), i = ix2 r n := ⟨i 0, i 1, eq_ix2 i⟩
  refine (val_main_v26_apply T.expert T.live x w1 w3 (ix2 r n)).trans ?_
  have ei (k : Fin 8) : idx_main_v26 (ix2 r n) k = ix3 r k n := by idx_ext
  have hz : (val_main_cst_0 (F := Ideal) (Shape.Idx.first h_S_) : EReal) = 0 := Cert.Shared.ofBits_zero
  rw [hz, zero_add]
  refine (Finset.sum_congr rfl fun k _ => ?_).trans (Cert.Shared.sum_kept (T.expert (tileOf r)) (T.live (tileOf r)) (T.expert_lt _)
    fun e => proj x w1 e r n * Ideal.logistic (proj x w1 e r n) * proj x w3 e r n)
  rw [ei, val_main_v25_apply, hit, h23, zero]

end Cert.UpReferenceIdeal.Hand

/-! ## The claims -/

namespace Cert.Proof.UpClaims

/-- Where its precondition holds, the kernel's program terminates and leaves its arguments alone, and the machine ends
quiescent. -/
theorem frame_kernel : Cert.quiescent_Up := fun m ρ h =>
  Cert.Up.Hand.quiescent _ m ρ (Cert.Up.Hand.pinned m (Cert.Up.Hand.in_range _ _ _ _ _ (h 0)))
/-- Its idealization likewise. -/
theorem frame_ideal : Cert.quiescent_UpIdeal := fun m ρ h => by
  have e := Cert.Up.Hand.quiescent (F := Ideal) _ m ρ (Cert.Up.Hand.pinned m (Cert.Up.Hand.in_range _ _ _ _ _ (h 0)))
  rw [← Cert.Up.Hand.defs_eq] at e
  exact e
/-- The reference's program likewise, from any memory: it is host operations only and declares no semaphore. -/
theorem frame_reference : Cert.quiescent_UpReferenceIdeal := fun m ρ _ =>
  (θ_run Cert.UpReferenceIdeal.defs _ _).mono (fun r h => ⟨fun c => (h c).2, Idealize.ShloMosaic.sem_eq_zero_of_no_sems (by decide) r.2⟩)
    (Cert.UpReferenceIdeal.Value.run (F := Ideal) m ρ)
/-- In particular from one where the precondition holds. -/
theorem frame_reference_pre : Cert.quiescent_UpReferenceIdeal_pre_tables := fun m ρ _ => frame_reference m ρ trivial

/-- Where the precondition holds, the kernel and the reference compute the same array at the extended reals. -/
theorem algebraic : Cert.algebraic_UpIdeal_UpReferenceIdeal := by
  intro m ρ m' ρ' h hagree
  have hr : Cert.Up.Hand.Ranged (F := Ideal) m := Cert.Up.Hand.in_range _ _ _ _ _ (h 0)
  refine ⟨fun c => Cert.Up.Hand.result (Cert.Up.Hand.tablesOf m hr) m c, ?_, ?_⟩
  · have e := Cert.Up.Hand.run _ m ρ (Cert.Up.Hand.pinned m hr)
    rw [← Cert.Up.Hand.defs_eq] at e
    exact e
  · refine (θ_run Cert.UpReferenceIdeal.defs _ _).mono (fun _ q c => ⟨(q c).1.trans ?_, (q c).2⟩) (Cert.UpReferenceIdeal.Value.run (F := Ideal) m' ρ')
    obtain rfl : c = 0 := Subsingleton.elim _ _
    refine (Cert.UpReferenceIdeal.Read.val_main_v27_eq _ _ _ _ _).trans ?_
    rw [(hagree 0).1, (hagree 0).2.1, (hagree 0).2.2.1, (hagree 0).2.2.2.1, (hagree 0).2.2.2.2]
    exact Cert.UpReferenceIdeal.Hand.val_eq (Cert.Up.Hand.tablesOf m hr) _ _ _

end Cert.Proof.UpClaims

end
-- ==== Proof.BackFrame.lean ====
/-
  The product back from the routed experts (`moe_down`), run at any tables: which expert a row tile belongs to, and
  whether it holds rows at all, are words of two tables that the call reads at run time. For every pair of tables whose
  words are in range the call's run ends, without fault, with every array at contents that are written down here.
-/
module

public import proofs.«01_k».proof.Proof.Gen.Back.Skeleton
public import proofs.«01_k».proof.Proof.Gen.Back.Launch
public import proofs.«01_k».proof.Proof.Tables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Pointwise
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.Back.Hand

open Cert.Back Cert.Back.Gen
open Cert.Shared (Tables zeros)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The algebra of the run's resources. -/
local notation "𝕄" => MT nD τ sig Unit (Elt F) ℕ (UR sig nD τ) ℕ

/-- The rounds library's algebra, embedded whole. -/
abbrev EP : Emb (UR sig nD τ) 𝕄 := emb₁

/-! ## The tables -/

variable (T : Tables)

/-- The two tables as the call's prefetched operands. -/
def words : pre0.Contents (Elt F) := fun | ⟨0, _⟩ => T.expert | ⟨1, _⟩ => T.live | ⟨_ + 2, h⟩ => absurd h (by simp)

/-- The two tables' memory. -/
abbrev tableE : Memref sig .tc .smem S104 .i32 := Memref.whole main_arg0
abbrev tableL : Memref sig .tc .smem S104 .i32 := Memref.whole main_arg1

/-- The place of the word that a grid point reads: that of its row tile. -/
abbrev place (i : grid0.Coords) : S104.Idx := ix1 (⟨(i 1).val, (i 1).isLt⟩ : Fin 104)

/-- A unit rectangle of a table at a point's offset is the place of its row tile. -/
theorem place_eq (i : grid0.Coords) (off : Fin 1 → Nat) (ho : off = ![(i 1).val]) (h : ∀ a, off a + S1.size a ≤ S104.size a)
    (y : (Rect.unit (s := S104) off S1.size h).shape.Idx) : (Rect.unit (s := S104) off S1.size h).emb y = place i := by
  subst ho
  funext a
  match a with
  | ⟨0, _⟩ =>
    refine Fin.ext ?_
    have hy : (y ⟨0, Nat.one_pos⟩).val < 1 := (y ⟨0, Nat.one_pos⟩).isLt
    show (i 1).val + 1 * (y ⟨0, Nat.one_pos⟩).val = (i 1).val
    omega

/-- The blocks of the weights that the tables name lie inside the array. -/
theorem inside (i : grid0.Coords) : ∀ a, (cc0_transform_1 k0_off1_inb numel1_S1 (words (F := F) T) i a + 1) * S1x1x2048x1024.size a ≤ S2x8x2048x4096.size a := by
  have h0 : (i 0).val < 4 := (i 0).isLt
  have h1 : ∀ x, (words (F := F) T 0 x).toNat < 8 := T.expert_lt
  intro a
  match a with
  | ⟨0, _⟩ => exact Nat.le_of_ble_eq_true rfl
  | ⟨1, _⟩ =>
    have h2 : ∀ x, ((words (F := F) T 0 x).toNat + 1) * 1 ≤ 8 := fun x => by have := h1 x; omega
    exact h2 _
  | ⟨2, _⟩ => exact Nat.le_of_ble_eq_true rfl
  | ⟨3, _⟩ =>
    show ((BitVec.ofNat 32 (i 0).val).toNat + 1) * 1024 ≤ 4096
    rw [BitVec.toNat_ofNat, Nat.mod_eq_of_lt (by omega)]
    omega

/-- The side condition of the call holds at the tables. -/
theorem admissible : ok0 (F := F) (words T) :=
  fun i => ⟨inside T i, .inl rfl⟩

/-- The tables, admissible; the pipeline at them. -/
def adm : (pcfg0 (F := F)).Adm := ⟨words T, admissible T⟩
abbrev cfgA : Pipeline.Cfg sig Λ₀ := cfg0 (F := F) (adm T)
abbrev pcs : Fin 1 → Pipeline.Cfg sig Λ₀ := Pipeline.pin (pcfgs (F := F)) fun _ => adm T

/-- Point `t`'s coordinates. -/
abbrev crd (t : Fin (cfgA (F := F) T).N) : (cfgA (F := F) T).grid.Coords := (cfgA (F := F) T).grid.coords t

/-- Point `t`'s staging buffers. -/
abbrev ms0 (t : Fin (cfgA (F := F) T).N) : Memref sig .tc .vmem S512x2048 .bf16 := spec0_0.stage ((cfgA (F := F) T).slots t (0 : Fin 3))
abbrev hs0 (t : Fin (cfgA (F := F) T).N) : (ms0 (F := F) T t).IsWhole := hstage0_0 (((cfgA (F := F) T).slots t (0 : Fin 3)).cast nbuf0_0)
abbrev ms1 (t : Fin (cfgA (F := F) T).N) : Memref sig .tc .vmem S1x1x2048x1024 .f32 := spec0_1.stage ((cfgA (F := F) T).slots t (1 : Fin 3))
abbrev hs1 (t : Fin (cfgA (F := F) T).N) : (ms1 (F := F) T t).IsWhole := hstage0_1 (((cfgA (F := F) T).slots t (1 : Fin 3)).cast nbuf0_1)
abbrev ms2 (t : Fin (cfgA (F := F) T).N) : Memref sig .tc .vmem S512x1024 .f32 := spec0_2.stage ((cfgA (F := F) T).slots t (2 : Fin 3))
abbrev hs2 (t : Fin (cfgA (F := F) T).N) : (ms2 (F := F) T t).IsWhole := hstage0_2 (((cfgA (F := F) T).slots t (2 : Fin 3)).cast nbuf0_2)

/-! ## The output window's schedule -/

/-- No point leaves the output's buffer as it was: one of the two conditions holds. -/
theorem idle_out (i : grid0.Coords) : (cfgA (F := F) T).idle (2 : Fin 3) i = false := by
  have hl : ∀ x, words (F := F) T 1 x = 0#32 ∨ words (F := F) T 1 x = 1#32 := T.live_bit
  have h1 : ∀ a, k0_off1 i a + 1 ≤ S104.size a := fun a => by fin_cases a; exact k0_off1_inb i 0
  have e1 : (words (F := F) T).atD 1 (k0_off1 i) = words (F := F) T 1 (fun a => ⟨k0_off1 i a, h1 a⟩) := dif_pos h1
  have e2 : (words (F := F) T).atD 1 (k0_off2 i) = words (F := F) T 1 (fun a => ⟨k0_off1 i a, h1 a⟩) := dif_pos h1
  show (!(k0_cond1 ((words (F := F) T).atD 1 (k0_off1 i)) == 1#1) && !(k0_cond2 ((words (F := F) T).atD 1 (k0_off2 i)) == 1#1)) = false
  rw [e1, e2]
  rcases hl (fun a => ⟨k0_off1 i a, h1 a⟩) with h | h <;> rw [h] <;> decide

/-- At zeros every point writes its block of the output back; -/
theorem flush_zeros : ∀ t : Fin (cfgA (F := Bits) zeros).N, ((cfgA (F := Bits) zeros).win (2 : Fin 3)).flush t = true := by decide +kernel

/-- so it does at any tables, the block's place not depending on them. -/
theorem flush_out (t : Fin (cfgA (F := F) T).N) : ((cfgA (F := F) T).win (2 : Fin 3)).flush t = true :=
  flush_zeros t

/-- So the output's buffer holds nothing of use before a point. -/
theorem fresh_out (t : Fin (cfgA (F := F) T).N) : (cfgA (F := F) T).fresh (2 : Fin 3) t.val = true :=
  Pipeline.Cfg.fresh_tab (cfgA (F := F) T) (2 : Fin 3) (fun _ => true) rfl (fun t => by rw [flush_out, Bool.true_or]) t.val (Nat.le_of_lt t.isLt)

/-! ## The body -/

section body

/-- The word of the second table that the body reads first, and the one it reads second. -/
abbrev word1 (i : grid0.Coords) : Elt F .i32 :=
  View.readAt (Elt F) tableL.view (Rect.unit (s := S104) (k0_off1 i) S1.size (k0_off1_inb i)).toLoadRect (T.live : S104.Idx → Elt F .i32) (Shape.Idx.first (numel1_S1.symm ▸ Nat.one_pos))
abbrev word2 (i : grid0.Coords) : Elt F .i32 :=
  View.readAt (Elt F) tableL.view (Rect.unit (s := S104) (k0_off2 i) S1.size (k0_off2_inb i)).toLoadRect (T.live : S104.Idx → Elt F .i32) (Shape.Idx.first (numel1_S1.symm ▸ Nat.one_pos))

/-- Both are the word of the point's row tile. -/
theorem word1_eq (i : grid0.Coords) : word1 (F := F) T i = T.live (place i) :=
  congrArg T.live (place_eq i (k0_off1 i) (k0_off1_eq i) (k0_off1_inb i) _)
theorem word2_eq (i : grid0.Coords) : word2 (F := F) T i = T.live (place i) :=
  congrArg T.live (place_eq i (k0_off2 i) (k0_off2_eq i) (k0_off2_inb i) _)

/-- What a point leaves in the output's buffer: the tile's product of a live tile, zeros for another. -/
def tileOut (v : BitVec 32) (x0 : Vec F S512x2048 .bf16) (x1 : Vec F S1x1x2048x1024 .f32) : Vec F S512x1024 .f32 :=
  if v = 1#32 then k0_pay1 x0 x1 else k0_pay2

/-- One store of the whole block covers it. -/
theorem cover_out (p : Vec F S512x1024 .f32) (y : S512x1024.Idx) :
    ∃ pc ∈ ([⟨Rect.unit (s := S512x1024) ![0, 0] S512x1024.size inb_S512x1024_S512x1024_0_0, p⟩] : List (View.Piece (Elt F) S512x1024 .f32)), y ∈ pc.1.set :=
  View.cover_of_tiled [⟨Rect.unit (s := S512x1024) ![0, 0] S512x1024.size inb_S512x1024_S512x1024_0_0, p⟩] S512x1024.size (by rfl) y

variable (c : Dev nD) (i : grid0.Coords) (arg4 : Memref sig .tc .vmem S512x2048 .bf16) (harg4 : arg4.IsWhole)
  (arg5 : Memref sig .tc .vmem S1x1x2048x1024 .f32) (harg5 : arg5.IsWhole) (arg6 : Memref sig .tc .vmem S512x1024 .f32) (harg6 : arg6.IsWhole)
  (x0 : Vec F S512x2048 .bf16) (x1 : Vec F S1x1x2048x1024 .f32)

/-- The arrays a point's body holds: the two inputs' buffers, the second table, and the output's buffer as `o` says. -/
abbrev Holds (o : sProp 𝕄) : sProp 𝕄 :=
  iprop(owns (c : Thread nD τ) arg4 fullShare x0 ∗ owns (c : Thread nD τ) arg5 fullShare x1
    ∗ (tableL.view.loc (c : Thread nD τ) ↦{fullShare.right} (T.live : S104.Idx → Elt F .i32)) ∗ o)

set_option maxHeartbeats 4000000 in
/-- A point whose tile is live stores its product. -/
theorem sound_live (h1 : k0_cond1 (word1 (F := F) T i) = 1#1) (h2 : ¬ k0_cond2 (word2 (F := F) T i) = 1#1) (K : PUnit → sProp 𝕄) :
    iprop(owns (c : Thread nD τ) arg4 fullShare x0 ∗ owns (c : Thread nD τ) arg5 fullShare x1
        ∗ (tableL.view.loc (c : Thread nD τ) ↦{fullShare.right} (T.live : S104.Idx → Elt F .i32)) ∗ (∃ d, owns (c : Thread nD τ) arg6 fullShare d)
        ∗ (Holds T c arg4 arg5 x0 x1 (owns (c : Thread nD τ) arg6 fullShare (k0_pay1 x0 x1)) -∗ K ⟨⟩))
      ⊢ wp frame (wpE (defs₀ (F := F)) Variants.none c none) Set.univ (cc0_moe_down i tableE (Memref.isWhole_whole _) tableL (Memref.isWhole_whole _) arg4 harg4 arg5 harg5 arg6 harg6) K := by
  rw [cc0_moe_down_eq_skeleton]; unfold cc0_moe_down_skel
  unfold Holds owns
  iintro ⟨⟨%f0, %hf0, H0⟩, ⟨%f1, %hf1, H1⟩, HT1, ⟨%d2, %f2, -, H2⟩, Hk⟩
  subst hf0 hf1
  have hT0 : tableE.IsWhole := Memref.isWhole_whole _
  have hT1 : tableL.IsWhole := Memref.isWhole_whole _
  sl_exec! (disch := first | (guard_target = k0_cond1 _ = _; exact h1) | (guard_target = ¬(k0_cond2 _ = _); exact h2))
  sl_step
  iapply Hk
  isplitl [H0]
  · iexists f0; isplitr; · ipureintro; rfl
    iexact H0
  isplitl [H1]
  · iexists f1; isplitr; · ipureintro; rfl
    iexact H1
  isplitl [HT1]; · iexact HT1
  iexists _; isplitr
  swap; · iexact H2
  ipureintro
  refine (View.read_writes_eq_canon _ _ _ (cover_out _)).trans ?_
  rw [View.canon_cons_unit_lit _ _ _ (by decide)]
  exact congr (congrArg k0_pay1 (View.ld_unit_lit inb_S512x2048_S512x2048_0_0 (View.read (Elt F) arg4.view f0) (by decide)))
    (View.ld_unit_lit inb_S1x1x2048x1024_S1x1x2048x1024_0_0_0_0 (View.read (Elt F) arg5.view f1) (by decide))

set_option maxHeartbeats 4000000 in
/-- A point whose tile holds no rows stores zeros. -/
theorem sound_empty (h1 : ¬ k0_cond1 (word1 (F := F) T i) = 1#1) (h2 : k0_cond2 (word2 (F := F) T i) = 1#1) (K : PUnit → sProp 𝕄) :
    iprop(owns (c : Thread nD τ) arg4 fullShare x0 ∗ owns (c : Thread nD τ) arg5 fullShare x1
        ∗ (tableL.view.loc (c : Thread nD τ) ↦{fullShare.right} (T.live : S104.Idx → Elt F .i32)) ∗ (∃ d, owns (c : Thread nD τ) arg6 fullShare d)
        ∗ (Holds T c arg4 arg5 x0 x1 (owns (c : Thread nD τ) arg6 fullShare k0_pay2) -∗ K ⟨⟩))
      ⊢ wp frame (wpE (defs₀ (F := F)) Variants.none c none) Set.univ (cc0_moe_down i tableE (Memref.isWhole_whole _) tableL (Memref.isWhole_whole _) arg4 harg4 arg5 harg5 arg6 harg6) K := by
  rw [cc0_moe_down_eq_skeleton]; unfold cc0_moe_down_skel
  unfold Holds owns
  iintro ⟨⟨%f0, %hf0, H0⟩, ⟨%f1, %hf1, H1⟩, HT1, ⟨%d2, %f2, -, H2⟩, Hk⟩
  subst hf0 hf1
  have hT0 : tableE.IsWhole := Memref.isWhole_whole _
  have hT1 : tableL.IsWhole := Memref.isWhole_whole _
  sl_exec! (disch := first | (guard_target = ¬(k0_cond1 _ = _); exact h1) | (guard_target = k0_cond2 _ = _; exact h2))
  sl_step
  iapply Hk
  isplitl [H0]
  · iexists f0; isplitr; · ipureintro; rfl
    iexact H0
  isplitl [H1]
  · iexists f1; isplitr; · ipureintro; rfl
    iexact H1
  isplitl [HT1]; · iexact HT1
  iexists _; isplitr
  swap; · iexact H2
  ipureintro
  refine (View.read_writes_eq_canon _ _ _ (cover_out _)).trans ?_
  rw [View.canon_cons_unit_lit _ _ _ (by decide)]

/-- Either way the body leaves `tileOut` of the tile's word. -/
theorem sound_kernel (K : PUnit → sProp 𝕄) :
    iprop(owns (c : Thread nD τ) arg4 fullShare x0 ∗ owns (c : Thread nD τ) arg5 fullShare x1
        ∗ (tableL.view.loc (c : Thread nD τ) ↦{fullShare.right} (T.live : S104.Idx → Elt F .i32)) ∗ (∃ d, owns (c : Thread nD τ) arg6 fullShare d)
        ∗ (Holds T c arg4 arg5 x0 x1 (owns (c : Thread nD τ) arg6 fullShare (tileOut (T.live (place i)) x0 x1)) -∗ K ⟨⟩))
      ⊢ wp frame (wpE (defs₀ (F := F)) Variants.none c none) Set.univ (cc0_moe_down i tableE (Memref.isWhole_whole _) tableL (Memref.isWhole_whole _) arg4 harg4 arg5 harg5 arg6 harg6) K := by
  have e1 := word1_eq (F := F) T i
  have e2 := word2_eq (F := F) T i
  rcases T.live_bit (place i) with h | h
  · rw [show tileOut (T.live (place i)) x0 x1 = k0_pay2 (F := F) from by rw [h]; exact if_neg (by decide)]
    exact sound_empty T c i arg4 harg4 arg5 harg5 arg6 harg6 x0 x1 (by rw [e1, h]; decide) (by rw [e2, h]; decide) K
  · rw [show tileOut (T.live (place i)) x0 x1 = k0_pay1 x0 x1 from by rw [h]; exact if_pos rfl]
    exact sound_live T c i arg4 harg4 arg5 harg5 arg6 harg6 x0 x1 (by rw [e1, h]; decide) (by rw [e2, h]; decide) K

end body

/-! ## The proof data -/

variable (m : (ℓ : Loc nD τ sig) → Buf (Elt F) ℓ) (ρ : Dev nD → PrngReg)

/-- Window `w`'s block at point `t`, read off its array at launch. -/
def iblk (c : Dev nD) (w : Fin (cfgA (F := F) T).W) (t : Fin (cfgA (F := F) T).N) :
    (((cfgA (F := F) T).win w).xblock (crd (F := F) T t)).Idx → Elt F ((cfgA (F := F) T).win w).elt :=
  (((cfgA (F := F) T).win w).blk t).view.read (Elt F) ((s₀ m ρ).mem (((cfgA (F := F) T).win w).arr.view.loc (c : Thread nD τ)))

/-- What point `t` leaves in the output's buffer. -/
def leaves (c : Dev nD) (t : Fin (cfgA (F := F) T).N) : Vec F S512x1024 .f32 :=
  tileOut (T.live (place (crd (F := F) T t))) (iblk T m ρ c (0 : Fin 3) t) (iblk T m ρ c (1 : Fin 3) t)

/-- Between points the body holds its halves of the two tables. -/
def held (c : Dev nD) : sProp 𝕄 :=
  iprop((tableE.view.loc (c : Thread nD τ) ↦{fullShare.right} (T.expert : S104.Idx → Elt F .i32)) ∗ (tableL.view.loc (c : Thread nD τ) ↦{fullShare.right} (T.live : S104.Idx → Elt F .i32)))

/-- The pipeline's proof data on core `c`. -/
def dats (_ : Fin 1) (c : Dev nD) : Dat τ (Elt F) Unit ℕ (UR sig nD τ) ℕ (cfgA (F := F) T) c where
  A w := (s₀ m ρ).mem (((cfgA (F := F) T).win w).arr.view.loc (c : Thread nD τ))
  after w t := match w with
    | ⟨0, _⟩ => iblk T m ρ c (0 : Fin 3) t
    | ⟨1, _⟩ => iblk T m ρ c (1 : Fin 3) t
    | ⟨2, _⟩ => leaves T m ρ c t
  Φ _ := held T c
  q _ := fullShare
  owed _ := 0

theorem after_0 (c : Dev nD) (t : Fin (cfgA (F := F) T).N) : (dats T m ρ 0 c).after (0 : Fin 3) t = iblk T m ρ c (0 : Fin 3) t := rfl
theorem after_1 (c : Dev nD) (t : Fin (cfgA (F := F) T).N) : (dats T m ρ 0 c).after (1 : Fin 3) t = iblk T m ρ c (1 : Fin 3) t := rfl
theorem after_2 (c : Dev nD) (t : Fin (cfgA (F := F) T).N) : (dats T m ρ 0 c).after (2 : Fin 3) t = leaves T m ρ c t := rfl

/-- An input's buffer holds its block when the body runs, fetched at that point or before. -/
theorem before_0 (c : Dev nD) (t : Fin (cfgA (F := F) T).N) (d) : (dats T m ρ 0 c).before (0 : Fin 3) t d = iblk T m ρ c (0 : Fin 3) t :=
  ((dats T m ρ 0 c).before_in_eq_fetched (0 : Fin 3) rfl (fun _ => rfl) (fun _ _ _ => rfl) (fun t => by rw [after_0]; unfold Dat.blockOf iblk; rfl) t d).trans
    (by unfold Dat.fetched Dat.blockOf iblk; rfl)
theorem before_1 (c : Dev nD) (t : Fin (cfgA (F := F) T).N) (d) : (dats T m ρ 0 c).before (1 : Fin 3) t d = iblk T m ρ c (1 : Fin 3) t :=
  ((dats T m ρ 0 c).before_in_eq_fetched (1 : Fin 3) rfl (fun _ => rfl) (fun _ _ _ => rfl) (fun t => by rw [after_1]; unfold Dat.blockOf iblk; rfl) t d).trans
    (by unfold Dat.fetched Dat.blockOf iblk; rfl)

/-- The body at point `t` on its staging buffers, as the pipeline calls it. -/
abbrev bodyAt (t : Fin (cfgA (F := F) T).N) : Prog (TpuEff nD τ sig (Elt F) Λ₀ .tc) PUnit :=
  cc0_moe_down (crd (F := F) T t) (Memref.whole main_arg0) (Memref.isWhole_whole _) (Memref.whole main_arg1) (Memref.isWhole_whole _)
    (ms0 (F := F) T t) (hs0 (F := F) T t) (ms1 (F := F) T t) (hs1 (F := F) T t) (ms2 (F := F) T t) (hs2 (F := F) T t)

set_option maxHeartbeats 4000000 in
/-- The body at any point: it finds the inputs' blocks and leaves what the proof data says. -/
theorem sound_body (c : Dev nD) (t : Fin (cfgA (F := F) T).N) :
    iprop((dats T m ρ 0 c).Φ t.castSucc ∗ (dats T m ρ 0 c).owesAt () t.castSucc
        ∗ (∃ d, owns (c : Thread nD τ) (ms0 (F := F) T t) fullShare ((dats T m ρ 0 c).before (0 : Fin 3) t d))
        ∗ (∃ d, owns (c : Thread nD τ) (ms1 (F := F) T t) fullShare ((dats T m ρ 0 c).before (1 : Fin 3) t d))
        ∗ (∃ d, owns (c : Thread nD τ) (ms2 (F := F) T t) fullShare ((dats T m ρ 0 c).before (2 : Fin 3) t d)))
      ⊢ wp frame (wpE (defs₀ (F := F)) Variants.none c none) Set.univ (bodyAt T t) fun _ =>
          iprop((dats T m ρ 0 c).Φ t.succ ∗ (dats T m ρ 0 c).owesAt () t.succ
            ∗ bigSep Finset.univ fun w : Fin (cfgA (F := F) T).W =>
                match (cfgA (F := F) T).idle w ((cfgA (F := F) T).grid.coords t) with
                | true =>
                  match ((cfgA (F := F) T).win w).flush t with
                  | false => iprop(∃ d, owns (c : Thread nD τ) (((cfgA (F := F) T).win w).stage ((cfgA (F := F) T).slots t w)) fullShare ((dats T m ρ 0 c).before w t d))
                  | true => owns (c : Thread nD τ) (((cfgA (F := F) T).win w).stage ((cfgA (F := F) T).slots t w)) fullShare ((dats T m ρ 0 c).after w t)
                | false => owns (c : Thread nD τ) (((cfgA (F := F) T).win w).stage ((cfgA (F := F) T).slots t w)) fullShare ((dats T m ρ 0 c).after w t)) := by
  rw [bigSep_W0]
  have i2 : (cfgA (F := F) T).idle (2 : Fin 3) ((cfgA (F := F) T).grid.coords t) = false := idle_out T _
  rewrite [i2]
  simp only [before_0, before_1, after_0, after_1, after_2]
  rewrite [show (dats T m ρ 0 c).Φ t.succ = held T c from rfl, show (dats T m ρ 0 c).Φ t.castSucc = held T c from rfl,
    show (dats T m ρ 0 c).owesAt () t.succ = (dats T m ρ 0 c).owesAt () t.castSucc from rfl]
  unfold held leaves
  iintro ⟨⟨HT0, HT1⟩, Ho, ⟨%d0, H0⟩, ⟨%d1, H1⟩, ⟨%d2, H2⟩⟩
  iapply (sound_kernel T c (crd (F := F) T t) (ms0 (F := F) T t) (hs0 (F := F) T t) (ms1 (F := F) T t) (hs1 (F := F) T t) (ms2 (F := F) T t) (hs2 (F := F) T t)
    (iblk T m ρ c (0 : Fin 3) t) (iblk T m ρ c (1 : Fin 3) t) _)
  isplitl [H0]; · iexact H0
  isplitl [H1]; · iexact H1
  isplitl [HT1]; · iexact HT1
  isplitl [H2]; · iexists _; iexact H2
  iintro ⟨H0, H1, HT1, H2⟩
  isplitl [HT0 HT1]
  · isplitl [HT0]
    · iexact HT0
    iexact HT1
  isplitl [Ho]; · iexact Ho
  isplitl [H0]; · iexact H0
  isplitl [H1]; · iexact H1
  iexact H2

/-- The library's body obligation, at every point. -/
theorem body_obligation (c : Dev nD) : BodyObligation (dats T m ρ 0 c) (defs₀ (F := F)) Variants.none () Set.univ := fun t => by
  rw [bigSep_W0]
  exact sound_body T m ρ c t

/-! ## The launch -/

/-- The memory's tables are `T`'s. -/
def Pinned : Prop := (∀ c : Dev nD, m ((c : Thread nD τ).loc main_arg0) = (T.expert : S104.Idx → Elt F .i32)) ∧ ∀ c : Dev nD, m ((c : Thread nD τ).loc main_arg1) = (T.live : S104.Idx → Elt F .i32)

/-- The rounds library's launch element. -/
def u₀ : UR sig nD τ :=
  initOf (Pipeline.cells (pcs (F := F) T) ((launch0 (F := F)).cellOf_inj fun _ => adm T))
    (Pipeline.launchToks (pcs (F := F) T) ((launch0 (F := F)).cellOf_inj fun _ => adm T))

theorem share_eq (c : Dev nD) (w : Fin (cfgA (F := F) T).W) : (dats T m ρ 0 c).share w = fullShare := by unfold Dat.share; split <;> rfl

/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) (adm (F := F) T).1 ∗ Pipeline.scopedRest spec0 c) ⊢ (dats T m ρ 0 c).Φ 0 := by
  rw [prefHeld_eq, scopedRest0_eq, show (dats T m ρ 0 c).Φ 0 = held T c from rfl]
  unfold held
  iintro ⟨-, ⟨HT0, HT1⟩, -⟩
  isplitl [HT0]
  · iexact HT0
  iexact HT1

theorem phi_last (c : Dev nD) : (dats T m ρ 0 c).Φ (Fin.last (cfgA (F := F) T).N) ⊢ iprop(BI.emp ∗ Pipeline.scopedRest spec0 c) := by
  rw [scopedRest0_eq, show (dats T m ρ 0 c).Φ (Fin.last (cfgA (F := F) T).N) = held T c from rfl]
  unfold held
  iintro ⟨-, -⟩
  isplitr; · iempintro
  iempintro

/-- Every array at what the pipeline computes, every table as it was. -/
def Ends : PUnit × MemSt nD τ sig (Elt F) → Prop := fun r =>
  ∀ c : Dev nD, (∀ w : Fin (cfgA (F := F) T).W, r.2.mem (((cfgA (F := F) T).win w).arr.view.loc (c : Thread nD τ)) = (dats T m ρ 0 c).arrAt w (cfgA (F := F) T).N)
    ∧ ∀ j, r.2.mem ((c : Thread nD τ).loc (pre0.ref j)) = (adm (F := F) T).1 j

theorem tables_at (hp : Pinned T m) (c : Dev nD) (j : Fin 2) : m ((c : Thread nD τ).loc (pre0.ref j)) = (adm (F := F) T).1 j := by
  fin_cases j
  · exact hp.1 c
  · exact hp.2 c

set_option backward.isDefEq.respectTransparency.types false in
set_option maxHeartbeats 4000000 in
/-- From a memory whose tables are `T`'s, with zero counters, every fair run ends at `Ends` with the counters at zero. -/
theorem run_quiescent (hp : Pinned T m) : θ_run (defs (F := F)) (onTc (τ := τ) (main (F := F))) (s₀ m ρ) (fun r => Ends T m ρ r ∧ r.2.sem = fun _ => 0) :=
  Pipeline.θ_run_region_noSem_pf_quiescent pcfgs (fun _ => adm T) (dats T m ρ) () ((launch0 (F := F)).cellOf_inj fun _ => adm T) (0 : Fin 1)
    (launch0 (F := F)).win.to₀ (launch0 (F := F)).pre EP defs₀ Variants.none m ρ main
    (hbody := fun c => (body_obligation T m ρ c).loose) (hne := (launch0 (F := F)).block_pos)
    (harr := (launch0 (F := F)).arr_whole) (hstage := (launch0 (F := F)).stage_whole) (howed := fun _ _ => rfl)
    (u₀ := u₀ (F := F) T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs (F := F) T) (dats T m ρ) 0 (launch0 (F := F)).win.arr_inj c (launch0 (F := F)).arr_whole
      (share_eq T m ρ c) _ _ fun _ => rfl)
    (hpf := tables_at T m hp)
    (X := fun _ => iprop(emp)) (Y := fun _ => iprop(emp)) (Z := fun _ => iprop(emp))
    (hX := fun c => by rw [unscopedRestP0_eq]; iintro -; isplitr <;> iempintro)
    (hin := phi_first T m ρ)
    (hout := phi_last T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Without the counters. -/
theorem run_main (hp : Pinned T m) : θ_run (defs (F := F)) (onTc (τ := τ) (main (F := F))) (s₀ m ρ) (Ends T m ρ) :=
  (θ_run defs _ _).mono (fun _ h => h.1) (run_quiescent T m ρ hp)

/-- From such a memory the run ends with the argument arrays unchanged. -/
theorem unchanged (hp : Pinned T m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 0).trans (hp.1 c).symm, ((h c).2 1).trans (hp.2 c).symm,
    ((h c).1 (0 : Fin 3)).trans ((dats T m ρ 0 c).arrAt_in (0 : Fin 3) rfl _), ((h c).1 (1 : Fin 3)).trans ((dats T m ρ 0 c).arrAt_in (1 : Fin 3) rfl _)⟩) (run_main T m ρ hp)

end Cert.Back.Hand

end
-- ==== Proof.BackValue.lean ====
/-
  The product back from the routed experts (`moe_down`) at the extended reals: what one block of the call computes,
  what its result array ends holding at any tables in range, and that the reference computes the same.
-/
module

public import proofs.«01_k».proof.Defs
public import proofs.«01_k».proof.Proof.BackFrame
public import proofs.«01_k».proof.Proof.Gen.BackIdeal
public import proofs.«01_k».proof.Proof.Gen.BackReferenceIdeal.Run
public import proofs.«01_k».proof.Proof.Gen.BackReferenceIdeal.Read
public import proofs.«01_k».proof.Proof.Gen.Pre_tables_back
public import proofs.«01_k».proof.Proof.Words
public import Idealize.ShloMosaic.Lib.Pipeline.Value
public import Idealize.ShloMosaic.Lib.Pipeline.ValueKit
public import Idealize.ShloMosaic.Lib.Pipeline.Covers
public import Idealize.ShloMosaic.Lib.ValueIdx
public import Idealize.ShloMosaic.Lib.Quiescent
public import Idealize.ShloMosaic.Lib.MatmulPlain
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)
open scoped BigOperators

namespace Cert.Back.Hand

open Cert.Back Cert.Back.Gen
open Cert.Shared (Tables zeros expertOf tileOf rowOf tileOf_rowOf)

/-- One entry of the product of the rows `x` with expert `e`'s matrix of layer 0: the sum over its 2048 inner features. -/
def proj (x : FVec Ideal S53248x2048 .bf16) (w : FVec Ideal S2x8x2048x4096 .f32) (e : Fin 8) (r : Fin 53248) (n : Fin 4096) : EReal :=
  ∑ k : Fin 2048, x (ix2 r k) * w (ix4 (0 : Fin 2) e k n)

variable (T : Tables)

/-- One entry of the product of row `r` with the expert of tile `p`; zero where the tile has no rows. -/
def entry (x : FVec Ideal S53248x2048 .bf16) (w : FVec Ideal S2x8x2048x4096 .f32) (p : S104.Idx) (r : Fin 53248) (n : Fin 4096) : EReal :=
  if T.live p = 1#32 then proj x w (expertOf T p) r n else 0

/-- The products of every row with the expert of its own tile. -/
def routed (x : FVec Ideal S53248x2048 .bf16) (w : FVec Ideal S2x8x2048x4096 .f32) : FVec Ideal S53248x4096 .f32 := fun i =>
  entry T x w (tileOf (i 0)) (i 0) (i 1)

/-- An expert's block without its two leading unit axes, at one entry. -/
theorem drop_two (x : Vec Ideal S1x1x2048x1024 .f32) (h : S1x1x2048x1024.ShapeCasts S2048x1024) (k : Fin 2048) (n : Fin 1024) :
    shapeCast S2048x1024 x h (ix2 k n) = x (ix4 (0 : Fin 1) (0 : Fin 1) k n) :=
  shapeCast_apply x h (ix2 k n) (ix4 (0 : Fin 1) (0 : Fin 1) k n) (by
    rewrite [Shape.rowMajor_val_four, Shape.rowMajor_val_two]
    show ((0 * 1 + 0) * 2048 + k.val) * 1024 + n.val = k.val * 1024 + n.val
    omega)

/-- What the body stores for a live tile, read at one entry of the block. -/
theorem pay_apply (x0 : Vec Ideal S512x2048 .bf16) (x1 : Vec Ideal S1x1x2048x1024 .f32) (r : Fin 512) (n : Fin 1024) :
    (k0_pay1 x0 x1 (ix2 r n) : EReal) = ∑ k : Fin 2048, x0 (ix2 r k) * x1 (ix4 (0 : Fin 1) (0 : Fin 1) k n) := by
  refine (Cert.Shared.plain_zero (M := 512) (K := 2048) (N := 1024) x0 _ r n).trans ?_
  exact Finset.sum_congr rfl fun k _ => congrArg (fun z : EReal => x0 (ix2 r k) * z) (drop_two x1 _ k n)

/-- What it stores for another tile is zero. -/
theorem pay_zero (y : S512x1024.Idx) : (k0_pay2 (F := Ideal) y : EReal) = 0 := by
  exact Cert.Shared.ofBits_zero

variable (m : (ℓ : Loc nD τ sig) → Buf (Elt Ideal) ℓ) (ρ : Dev nD → PrngReg)

/-- A point's coordinates as words: they stay below `2 ^ 32`. -/
theorem word_0 (i : grid0.Coords) : (BitVec.ofNat 32 (i 0).val).toNat = (i 0).val := by
  have h : (i 0).val < 4 := (i 0).isLt
  rw [BitVec.toNat_ofNat, Nat.mod_eq_of_lt (by omega)]
theorem word_1 (i : grid0.Coords) : (BitVec.ofNat 32 (i 1).val).toNat = (i 1).val := by
  have h : (i 1).val < 104 := (i 1).isLt
  rw [BitVec.toNat_ofNat, Nat.mod_eq_of_lt (by omega)]

/-- The first axis' block of the rows at point `i` is its row tile. -/
theorem at_0 (i : grid0.Coords) : cc0_transform_0 i = ![(i 1).val, 0] := by
  unfold cc0_transform_0
  funext a
  match a with
  | ⟨0, _⟩ => exact word_1 i
  | ⟨1, _⟩ => rfl

/-- The block of the weights at point `i`: layer 0, the tile's expert, the point's columns. -/
theorem at_1 (i : grid0.Coords) :
    cc0_transform_1 k0_off1_inb numel1_S1 (words (F := Ideal) T) i = ![0, (T.expert (place i)).toNat, 0, (i 0).val] := by
  unfold cc0_transform_1
  funext a
  match a with
  | ⟨0, _⟩ => rfl
  | ⟨1, _⟩ => exact congrArg (fun z => (T.expert z).toNat) (place_eq i (k0_off1 i) (k0_off1_eq i) (k0_off1_inb i) _)
  | ⟨2, _⟩ => rfl
  | ⟨3, _⟩ => exact word_0 i

/-- The block of the result at point `i`. -/
theorem at_2 (i : grid0.Coords) : cc0_transform_2 i = ![(i 1).val, (i 0).val] := by
  unfold cc0_transform_2
  funext a
  match a with
  | ⟨0, _⟩ => exact word_1 i
  | ⟨1, _⟩ => exact word_0 i

/-- The column of the whole array that column `n` of column tile `q` is. -/
abbrev colOf (q : Fin 4) (n : Fin 1024) : Fin 4096 := ⟨q.val * 1024 + n.val, by have := q.isLt; have := n.isLt; omega⟩

/-- The rows' block at a point, read at one entry. -/
theorem read_0 (c : Dev nD) (t : Fin (cfgA (F := Ideal) T).N) (r : Fin 512) (k : Fin 2048) :
    iblk T m ρ c (0 : Fin 3) t (ix2 r k) = m ((c : Thread nD τ).loc main_arg2) (ix2 (rowOf ⟨(crd (F := Ideal) T t 1).val, (crd (F := Ideal) T t 1).isLt⟩ r) k) := by
  have e := at_0 (crd (F := Ideal) T t)
  refine congrArg (m ((c : Thread nD τ).loc main_arg2)) (funext fun a => Fin.ext ?_)
  match a with
  | ⟨0, _⟩ =>
    show cc0_transform_0 (crd (F := Ideal) T t) 0 * 512 + 1 * r.val = (crd (F := Ideal) T t 1).val * 512 + r.val
    rw [e]; show (crd (F := Ideal) T t 1).val * 512 + 1 * r.val = _; omega
  | ⟨1, _⟩ =>
    show cc0_transform_0 (crd (F := Ideal) T t) 1 * 2048 + 1 * k.val = k.val
    rw [e]; show 0 * 2048 + 1 * k.val = _; omega

/-- The weights' block at a point, read at one entry: the tile's expert's matrix. -/
theorem read_1 (c : Dev nD) (t : Fin (cfgA (F := Ideal) T).N) (k : Fin 2048) (n : Fin 1024) :
    iblk T m ρ c (1 : Fin 3) t (ix4 (0 : Fin 1) (0 : Fin 1) k n)
      = m ((c : Thread nD τ).loc main_arg3) (ix4 (0 : Fin 2) (expertOf T (place (crd (F := Ideal) T t))) k (colOf ⟨(crd (F := Ideal) T t 0).val, (crd (F := Ideal) T t 0).isLt⟩ n)) := by
  have e := at_1 T (crd (F := Ideal) T t)
  refine congrArg (m ((c : Thread nD τ).loc main_arg3)) (funext fun a => Fin.ext ?_)
  match a with
  | ⟨0, _⟩ =>
    show cc0_transform_1 k0_off1_inb numel1_S1 (words (F := Ideal) T) (crd (F := Ideal) T t) 0 * 1 + 1 * 0 = 0
    rw [e]; rfl
  | ⟨1, _⟩ =>
    show cc0_transform_1 k0_off1_inb numel1_S1 (words (F := Ideal) T) (crd (F := Ideal) T t) 1 * 1 + 1 * 0 = (T.expert (place (crd (F := Ideal) T t))).toNat
    rw [e]; show (T.expert (place (crd (F := Ideal) T t))).toNat * 1 + 1 * 0 = _; omega
  | ⟨2, _⟩ =>
    show cc0_transform_1 k0_off1_inb numel1_S1 (words (F := Ideal) T) (crd (F := Ideal) T t) 2 * 2048 + 1 * k.val = k.val
    rw [e]; show 0 * 2048 + 1 * k.val = _; omega
  | ⟨3, _⟩ =>
    show cc0_transform_1 k0_off1_inb numel1_S1 (words (F := Ideal) T) (crd (F := Ideal) T t) 3 * 1024 + 1 * n.val = (crd (F := Ideal) T t 0).val * 1024 + n.val
    rw [e]; show (crd (F := Ideal) T t 0).val * 1024 + 1 * n.val = _; omega

/-- Where a point's block of the result puts its entry. -/
theorem emb_2 (t : Fin (cfgA (F := Ideal) T).N) (r : Fin 512) (n : Fin 1024) :
    ((((cfgA (F := Ideal) T).win (2 : Fin 3)).blk t).view.emb (ix2 r n) : S53248x4096.Idx)
      = ix2 (rowOf ⟨(crd (F := Ideal) T t 1).val, (crd (F := Ideal) T t 1).isLt⟩ r) (colOf ⟨(crd (F := Ideal) T t 0).val, (crd (F := Ideal) T t 0).isLt⟩ n) := by
  have e := at_2 (crd (F := Ideal) T t)
  refine funext fun a => Fin.ext ?_
  match a with
  | ⟨0, _⟩ =>
    show cc0_transform_2 (crd (F := Ideal) T t) 0 * 512 + 1 * r.val = (crd (F := Ideal) T t 1).val * 512 + r.val
    rw [e]; show (crd (F := Ideal) T t 1).val * 512 + 1 * r.val = _; omega
  | ⟨1, _⟩ =>
    show cc0_transform_2 (crd (F := Ideal) T t) 1 * 1024 + 1 * n.val = (crd (F := Ideal) T t 0).val * 1024 + n.val
    rw [e]; show (crd (F := Ideal) T t 0).val * 1024 + 1 * n.val = _; omega

/-- At zeros the blocks of the result cover it; -/
theorem covers_zeros : ((cfgA (F := Bits) zeros).win (2 : Fin 3)).Covers := by decide +kernel
/-- so they do at any tables. -/
theorem covers_out : ((cfgA (F := Ideal) T).win (2 : Fin 3)).Covers := covers_zeros

/-- The routed products of device `c`'s argument arrays, as contents of the result array. -/
abbrev result (c : Dev nD) : Buf (Elt Ideal) ((c : Thread nD τ).loc main_v0) :=
  routed T (m ((c : Thread nD τ).loc main_arg2)) (m ((c : Thread nD τ).loc main_arg3))

/-- The two inputs' blocks at a point, as arrays of extended reals. -/
abbrev rows (c : Dev nD) (t : Fin (cfgA (F := Ideal) T).N) : FVec Ideal S512x2048 .bf16 := iblk T m ρ c (0 : Fin 3) t
abbrev weights (c : Dev nD) (t : Fin (cfgA (F := Ideal) T).N) : FVec Ideal S1x1x2048x1024 .f32 := iblk T m ρ c (1 : Fin 3) t

/-- What a point leaves is its block of the routed products. -/
theorem leaves_apply (c : Dev nD) (t : Fin (cfgA (F := Ideal) T).N) (r : Fin 512) (n : Fin 1024) :
    (leaves T m ρ c t (ix2 r n) : EReal)
      = result T m c (ix2 (rowOf ⟨(crd (F := Ideal) T t 1).val, (crd (F := Ideal) T t 1).isLt⟩ r) (colOf ⟨(crd (F := Ideal) T t 0).val, (crd (F := Ideal) T t 0).isLt⟩ n)) := by
  refine Eq.trans ?_ (congrArg (fun p => entry T _ _ p _ _) (tileOf_rowOf ⟨(crd (F := Ideal) T t 1).val, (crd (F := Ideal) T t 1).isLt⟩ r)).symm
  unfold leaves tileOut entry
  by_cases h : T.live (place (crd (F := Ideal) T t)) = 1#32
  · have s : (∑ k : Fin 2048, rows T m ρ c t (ix2 r k) * weights T m ρ c t (ix4 (0 : Fin 1) (0 : Fin 1) k n)) = _ :=
      Finset.sum_congr rfl fun k _ => congrArg₂ (fun a b : EReal => a * b) (read_0 T m ρ c t r k) (read_1 T m ρ c t k n)
    rw [if_pos h]
    refine Eq.trans ?_ (if_pos h).symm
    exact (pay_apply _ _ r n).trans s
  · rw [if_neg h]
    exact (pay_zero _).trans (if_neg h).symm

/-- The result array after the run is the routed products: each point writes its block of them, and the blocks cover it. -/
theorem final (c : Dev nD) : (dats T m ρ 0 c).arrAt (2 : Fin 3) (cfgA (F := Ideal) T).N = result T m c := by
  refine (dats T m ρ 0 c).arrAt_eq_of_covers (2 : Fin 3) _ (covers_out T) fun t hf y => ?_
  obtain ⟨r, n, rfl⟩ : ∃ (r : Fin 512) (n : Fin 1024), y = ix2 r n := ⟨y 0, y 1, eq_ix2 (n0 := 512) (n1 := 1024) y⟩
  refine (leaves_apply T m ρ c t r n).trans ?_
  exact congrArg (result T m c) (emb_2 T t r n).symm

end Cert.Back.Hand

end
-- ==== Proof.BackClaims.lean ====
/-
  The claims of `moe_down`: the tables that its precondition puts in range, the runs of its two programs, its reference,
  and that the two compute the same.
-/
module

public import proofs.«01_k».proof.Defs
public import proofs.«01_k».proof.Proof.BackValue
public import proofs.«01_k».proof.Proof.Tables

@[expose] public section

set_option maxRecDepth 16384

noncomputable section

open Idealize.ShloMosaic Idealize.ShloMosaic.TcCoe Idealize.SL.Sem
open Idealize.ShloMosaic.Pipeline (Dat)
open scoped BigOperators

namespace Cert.Back.Hand

open Cert.Back Cert.Back.Gen
open Cert.Shared (Tables)

/-- Where the precondition holds of four arrays, the first two are tables in range. -/
theorem in_range {F : FTy → Type} [FloatOps F] (a0 a1 : S104.Idx → BitVec 32) (a2 : FVec F S53248x2048 .bf16) (a3 : FVec F S2x8x2048x4096 .f32)
    (h : (Cert.Pre_tables_back.fn (F := F) a0 a1 a2 a3).1 = (fun _ => 1#1) ∧ (Cert.Pre_tables_back.fn (F := F) a0 a1 a2 a3).2 = (fun _ => 1#1)) :
    (∀ x, (a0 x).toNat < 8) ∧ ∀ x, a1 x = 0#32 ∨ a1 x = 1#32 :=
  ⟨fun x => Cert.Shared.below_eight _ (congrFun h.1 x), fun x => Cert.Shared.zero_or_one _ (congrFun h.2 x)⟩

/-- A memory whose first device holds tables in range. -/
abbrev Ranged {F : FTy → Type} (m : (ℓ : Loc nD τ sig) → Buf (Elt F) ℓ) : Prop :=
  (∀ x, (m (((0 : Dev nD) : Thread nD τ).loc main_arg0) x : BitVec 32).toNat < 8)
    ∧ ∀ x, (m (((0 : Dev nD) : Thread nD τ).loc main_arg1) x : BitVec 32) = 0#32 ∨ (m (((0 : Dev nD) : Thread nD τ).loc main_arg1) x : BitVec 32) = 1#32

/-- The tables that such a memory holds. -/
def tablesOf {F : FTy → Type} (m : (ℓ : Loc nD τ sig) → Buf (Elt F) ℓ) (h : Ranged m) : Tables :=
  ⟨m (((0 : Dev nD) : Thread nD τ).loc main_arg0), m (((0 : Dev nD) : Thread nD τ).loc main_arg1), h.1, h.2⟩

/-- There is one device: the memory's tables are those. -/
theorem pinned {F : FTy → Type} [FloatOps F] (m : (ℓ : Loc nD τ sig) → Buf (Elt F) ℓ) (h : Ranged m) : Pinned (tablesOf m h) m := by
  refine ⟨fun c => ?_, fun c => ?_⟩ <;> (obtain rfl : c = 0 := Subsingleton.elim _ _) <;> rfl

/-- The kernel's run from a memory whose tables are `T`'s, read: the result array at the routed products, the arguments
unchanged. -/
theorem run (T : Tables) (m : (ℓ : Loc nD τ sig) → Buf (Elt Ideal) ℓ) (ρ : Dev nD → PrngReg) (hp : Pinned T m) :
    θ_run (defs (F := Ideal)) (onTc (τ := τ) (main (F := Ideal))) ⟨m, fun _ => 0, ρ⟩ fun r => ∀ c : Dev nD,
      r.2.mem ((c.tc : Thread nD τ).loc main_v0) = result T m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 (2 : Fin 3)).trans (final T m ρ c), h.2 c⟩)
    (θ_run_and (run_main T m ρ hp) (unchanged T m ρ hp))

/-- The run from such a memory leaves the arguments alone and ends quiescent. -/
theorem quiescent {F : FTy → Type} [FloatOps F] (T : Tables) (m : (ℓ : Loc nD τ sig) → Buf (Elt F) ℓ) (ρ : Dev nD → PrngReg) (hp : Pinned T m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged T m ρ hp) ((θ_run defs _ _).mono (fun _ h => h.2) (run_quiescent T m ρ hp))

/-- The two programs' body tables are one. -/
theorem bodies_eq : Cert.BackIdeal.defs₀ (F := Ideal) = defs₀ (F := Ideal) := by
  unfold Cert.BackIdeal.defs₀ defs₀
  refine congrArg Defs.onTc (funext fun l => ?_)
  match l with
  | ⟨0, _⟩ => rfl
  | ⟨n + 1, h⟩ => exact absurd h (Nat.not_lt.2 (Nat.le_add_left _ _))

/-- So are the programs. -/
theorem defs_eq : Cert.BackIdeal.defs (F := Ideal) = defs (F := Ideal) :=
  congrArg (Pipeline.defs (pcfgs (F := Ideal))) bodies_eq

end Cert.Back.Hand

namespace Cert.BackReferenceIdeal.Hand

open Cert.BackReferenceIdeal Cert.BackReferenceIdeal.Gen Cert.BackReferenceIdeal.Read
open Cert.Back.Hand (routed proj)
open Cert.Shared (Tables tileOf expertOf)

/-- The reference's result, entry by entry, is the product of the row with its tile's expert. -/
theorem val_eq (T : Tables) (x : FVec Ideal S53248x2048 .bf16) (w : FVec Ideal S2x8x2048x4096 .f32) :
    val_main_v21 (F := Ideal) T.expert T.live x w = routed T x w := by
  have every (r : Fin 53248) (e : Fin 8) (n : Fin 4096) : (val_main_v19 (F := Ideal) x w (ix3 r e n) : EReal) = proj x w e r n := by
    rw [val_main_v19_apply]
    refine Finset.sum_congr rfl fun k _ => ?_
    rw [val_main_v16_apply, val_main_v18_apply, val_main_v17_apply]
    have e0 : lidx_main_v19 (ix3 r e n) k = ix2 r k := by idx_ext
    have e1 : idx_main_v17 (idx_main_v18 (ridx_main_v19 (ix3 r e n) k)) = ix4 (0 : Fin 2) e k n := by
      have he := e.isLt
      have hk := k.isLt
      have hn := n.isLt
      refine funext fun a => Fin.ext ?_
      match a with
      | ⟨0, _⟩ => rfl
      | ⟨1, _⟩ => show ((e.val * 2048 + k.val) * 4096 + n.val) / 8388608 % 8 = e.val; omega
      | ⟨2, _⟩ => show ((e.val * 2048 + k.val) * 4096 + n.val) / 4096 % 2048 = k.val; omega
      | ⟨3, _⟩ => show ((e.val * 2048 + k.val) * 4096 + n.val) % 4096 = n.val; omega
    exact congrArg₂ (fun a b : EReal => a * b) (congrArg x e0) (congrArg w e1)
  have zero : ∀ j, (val_main_call0_v2 (F := Ideal) j : EReal) = 0 := fun j => by
    rw [val_main_call0_v2_apply]
    exact Cert.Shared.ofBits_zero
  have hit (r : Fin 53248) (e : Fin 8) (n : Fin 4096) : val_main_call0_v1 (F := Ideal) T.expert T.live (ix3 r e n)
      = IntOp.andi (IntOp.cmpi .eq (T.expert (tileOf r)) (BitVec.ofNat 32 e.val)) (IntOp.cmpi .eq (T.live (tileOf r)) 1#32) := by
    rw [val_main_call0_v1_apply, val_main_v15_apply, val_main_v14_apply, val_main_v7_apply, val_main_v5_apply,
      val_main_v2_apply, val_main_v1_apply, val_main_v0_apply, val_main_v6_apply, val_main_v4_apply, val_main_v3_apply,
      val_main_v13_apply, val_main_v12_apply, val_main_v10_apply, val_main_v9_apply, val_main_v8_apply, val_main_v11_apply,
      val_main_c_apply]
    have ee : idx_main_v0 (idx_main_v1 (idx_main_v2 (idx_main_v5 (idx_main_v15 (idx_main_call0_v1 (ix3 r e n)))))) = tileOf r := by
      refine funext fun a => Fin.ext ?_
      match a with
      | ⟨0, _⟩ => rfl
    have el : idx_main_v8 (idx_main_v9 (idx_main_v10 (idx_main_v13 (idx_main_v15 (idx_main_call0_v1 (ix3 r e n)))))) = tileOf r := by
      refine funext fun a => Fin.ext ?_
      match a with
      | ⟨0, _⟩ => rfl
    rw [ee, el]
    rfl
  funext i
  obtain ⟨r, n, rfl⟩ : ∃ (r : Fin 53248) (n : Fin 4096), i = ix2 r n := ⟨i 0, i 1, eq_ix2 i⟩
  refine (val_main_v21_apply T.expert T.live x w (ix2 r n)).trans ?_
  have ei (k : Fin 8) : idx_main_v21 (ix2 r n) k = ix3 r k n := by idx_ext
  have hz : (val_main_cst_0 (F := Ideal) (Shape.Idx.first h_S_) : EReal) = 0 := Cert.Shared.ofBits_zero
  rw [hz, zero_add]
  refine (Finset.sum_congr rfl fun k _ => ?_).trans (Cert.Shared.sum_kept (T.expert (tileOf r)) (T.live (tileOf r)) (T.expert_lt _)
    fun e => proj x w e r n)
  rw [ei, val_main_v20_apply, hit, every, zero]

end Cert.BackReferenceIdeal.Hand

/-! ## The claims -/

namespace Cert.Proof.BackClaims

/-- Where its precondition holds, the kernel's program terminates and leaves its arguments alone, and the machine ends
quiescent. -/
theorem frame_kernel : Cert.quiescent_Back := fun m ρ h =>
  Cert.Back.Hand.quiescent _ m ρ (Cert.Back.Hand.pinned m (Cert.Back.Hand.in_range _ _ _ _ (h 0)))
/-- Its idealization likewise. -/
theorem frame_ideal : Cert.quiescent_BackIdeal := fun m ρ h => by
  have e := Cert.Back.Hand.quiescent (F := Ideal) _ m ρ (Cert.Back.Hand.pinned m (Cert.Back.Hand.in_range _ _ _ _ (h 0)))
  rw [← Cert.Back.Hand.defs_eq] at e
  exact e
/-- The reference's program likewise, from any memory: it is host operations only and declares no semaphore. -/
theorem frame_reference : Cert.quiescent_BackReferenceIdeal := fun m ρ _ =>
  (θ_run Cert.BackReferenceIdeal.defs _ _).mono (fun r h => ⟨fun c => (h c).2, Idealize.ShloMosaic.sem_eq_zero_of_no_sems (by decide) r.2⟩)
    (Cert.BackReferenceIdeal.Value.run (F := Ideal) m ρ)
/-- In particular from one where the precondition holds. -/
theorem frame_reference_pre : Cert.quiescent_BackReferenceIdeal_pre_tables_back := fun m ρ _ => frame_reference m ρ trivial

/-- Where the precondition holds, the kernel and the reference compute the same array at the extended reals. -/
theorem algebraic : Cert.algebraic_BackIdeal_BackReferenceIdeal := by
  intro m ρ m' ρ' h hagree
  have hr : Cert.Back.Hand.Ranged (F := Ideal) m := Cert.Back.Hand.in_range _ _ _ _ (h 0)
  refine ⟨fun c => Cert.Back.Hand.result (Cert.Back.Hand.tablesOf m hr) m c, ?_, ?_⟩
  · have e := Cert.Back.Hand.run _ m ρ (Cert.Back.Hand.pinned m hr)
    rw [← Cert.Back.Hand.defs_eq] at e
    exact e
  · refine (θ_run Cert.BackReferenceIdeal.defs _ _).mono (fun _ q c => ⟨(q c).1.trans ?_, (q c).2⟩) (Cert.BackReferenceIdeal.Value.run (F := Ideal) m' ρ')
    obtain rfl : c = 0 := Subsingleton.elim _ _
    refine (Cert.BackReferenceIdeal.Read.val_main_v21_eq _ _ _ _).trans ?_
    rw [(hagree 0).1, (hagree 0).2.1, (hagree 0).2.2.1, (hagree 0).2.2.2]
    exact Cert.BackReferenceIdeal.Hand.val_eq (Cert.Back.Hand.tablesOf m hr) _ _

end Cert.Proof.BackClaims

end
-- ==== Proof.lean ====
/-
  The certificate: what each of nineteen calls of the layer computes at the extended reals — the attention of the latent
  tokens, the gate and up products of the dense feed-forward part and its down product with the gated residual, the
  output products of the two attention layers, the value projection, the query and key projections with each head's norm
  and rotation, the table of the modulations, the norms with modulation of a layer, the attention of the context, the
  three transforms of the Fourier mixing, the last product of a mixer with its bias, the first product of the convolution
  with its gate, and the two products of the routed experts — with the frames of their programs. The modules under Proof/
  prove the parts; this one puts them together.
-/
module

public import proofs.«01_k».proof.Defs
public import proofs.«01_k».proof.Proof.AttnClaims
public import proofs.«01_k».proof.Proof.GluValue
public import proofs.«01_k».proof.Proof.DownValue
public import proofs.«01_k».proof.Proof.OutValue
public import proofs.«01_k».proof.Proof.FirstValue
public import proofs.«01_k».proof.Proof.ValValue
public import proofs.«01_k».proof.Proof.QryValue
public import proofs.«01_k».proof.Proof.KeyValue
public import proofs.«01_k».proof.Proof.AdaValue
public import proofs.«01_k».proof.Proof.NormValue
public import proofs.«01_k».proof.Proof.StartValue
public import proofs.«01_k».proof.Proof.CtxClaims
public import proofs.«01_k».proof.Proof.ChanValue
public import proofs.«01_k».proof.Proof.ShortValue
public import proofs.«01_k».proof.Proof.LongValue
public import proofs.«01_k».proof.Proof.MixValue
public import proofs.«01_k».proof.Proof.ConvValue
public import proofs.«01_k».proof.Proof.UpClaims
public import proofs.«01_k».proof.Proof.BackClaims
public import proofs.«01_k».proof.Proof.Gen.Kernel
public import proofs.«01_k».proof.Proof.Gen.KernelIdeal
public import proofs.«01_k».proof.Proof.Gen.ReferenceIdeal
public import proofs.«01_k».proof.Proof.Gen.Glu
public import proofs.«01_k».proof.Proof.Gen.GluIdeal
public import proofs.«01_k».proof.Proof.Gen.GluReferenceIdeal
public import proofs.«01_k».proof.Proof.Gen.Down
public import proofs.«01_k».proof.Proof.Gen.DownIdeal
public import proofs.«01_k».proof.Proof.Gen.DownReferenceIdeal
public import proofs.«01_k».proof.Proof.Gen.Out
public import proofs.«01_k».proof.Proof.Gen.OutIdeal
public import proofs.«01_k».proof.Proof.Gen.OutReferenceIdeal
public import proofs.«01_k».proof.Proof.Gen.First
public import proofs.«01_k».proof.Proof.Gen.FirstIdeal
public import proofs.«01_k».proof.Proof.Gen.FirstReferenceIdeal
public import proofs.«01_k».proof.Proof.Gen.Val
public import proofs.«01_k».proof.Proof.Gen.ValIdeal
public import proofs.«01_k».proof.Proof.Gen.ValReferenceIdeal
public import proofs.«01_k».proof.Proof.Gen.Qry
public import proofs.«01_k».proof.Proof.Gen.QryIdeal
public import proofs.«01_k».proof.Proof.Gen.QryReferenceIdeal
public import proofs.«01_k».proof.Proof.Gen.Key
public import proofs.«01_k».proof.Proof.Gen.KeyIdeal
public import proofs.«01_k».proof.Proof.Gen.KeyReferenceIdeal
public import proofs.«01_k».proof.Proof.Gen.Ada
public import proofs.«01_k».proof.Proof.Gen.AdaIdeal
public import proofs.«01_k».proof.Proof.Gen.AdaReferenceIdeal
public import proofs.«01_k».proof.Proof.Gen.Norm
public import proofs.«01_k».proof.Proof.Gen.NormIdeal
public import proofs.«01_k».proof.Proof.Gen.NormReferenceIdeal
public import proofs.«01_k».proof.Proof.Gen.Start
public import proofs.«01_k».proof.Proof.Gen.StartIdeal
public import proofs.«01_k».proof.Proof.Gen.StartReferenceIdeal
public import proofs.«01_k».proof.Proof.Gen.Ctx
public import proofs.«01_k».proof.Proof.Gen.CtxIdeal
public import proofs.«01_k».proof.Proof.Gen.CtxReferenceIdeal
public import proofs.«01_k».proof.Proof.Gen.Chan
public import proofs.«01_k».proof.Proof.Gen.ChanIdeal
public import proofs.«01_k».proof.Proof.Gen.ChanReferenceIdeal
public import proofs.«01_k».proof.Proof.Gen.Short
public import proofs.«01_k».proof.Proof.Gen.ShortIdeal
public import proofs.«01_k».proof.Proof.Gen.ShortReferenceIdeal
public import proofs.«01_k».proof.Proof.Gen.Long
public import proofs.«01_k».proof.Proof.Gen.LongIdeal
public import proofs.«01_k».proof.Proof.Gen.LongReferenceIdeal
public import proofs.«01_k».proof.Proof.Gen.Mix
public import proofs.«01_k».proof.Proof.Gen.MixIdeal
public import proofs.«01_k».proof.Proof.Gen.MixReferenceIdeal
public import proofs.«01_k».proof.Proof.Gen.Conv
public import proofs.«01_k».proof.Proof.Gen.ConvIdeal
public import proofs.«01_k».proof.Proof.Gen.ConvReferenceIdeal
public import proofs.«01_k».proof.Proof.Gen.Up
public import proofs.«01_k».proof.Proof.Gen.UpIdeal
public import proofs.«01_k».proof.Proof.Gen.UpReferenceIdeal
public import proofs.«01_k».proof.Proof.Gen.Back
public import proofs.«01_k».proof.Proof.Gen.BackIdeal
public import proofs.«01_k».proof.Proof.Gen.BackReferenceIdeal
public import proofs.«01_k».proof.Proof.Gen.Pre_finite_scores
public import proofs.«01_k».proof.Proof.Gen.Pre_finite_context
public import proofs.«01_k».proof.Proof.Gen.Pre_tables
public import proofs.«01_k».proof.Proof.Gen.Pre_tables_back

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.Glu.Gen.facts, Cert.GluIdeal.Gen.facts, Cert.GluReferenceIdeal.Gen.facts,
    Cert.Down.Gen.facts, Cert.DownIdeal.Gen.facts, Cert.DownReferenceIdeal.Gen.facts,
    Cert.Out.Gen.facts, Cert.OutIdeal.Gen.facts, Cert.OutReferenceIdeal.Gen.facts,
    Cert.First.Gen.facts, Cert.FirstIdeal.Gen.facts, Cert.FirstReferenceIdeal.Gen.facts,
    Cert.Val.Gen.facts, Cert.ValIdeal.Gen.facts, Cert.ValReferenceIdeal.Gen.facts,
    Cert.Qry.Gen.facts, Cert.QryIdeal.Gen.facts, Cert.QryReferenceIdeal.Gen.facts,
    Cert.Key.Gen.facts, Cert.KeyIdeal.Gen.facts, Cert.KeyReferenceIdeal.Gen.facts,
    Cert.Ada.Gen.facts, Cert.AdaIdeal.Gen.facts, Cert.AdaReferenceIdeal.Gen.facts,
    Cert.Norm.Gen.facts, Cert.NormIdeal.Gen.facts, Cert.NormReferenceIdeal.Gen.facts,
    Cert.Start.Gen.facts, Cert.StartIdeal.Gen.facts, Cert.StartReferenceIdeal.Gen.facts,
    Cert.Ctx.Gen.facts, Cert.CtxIdeal.Gen.facts, Cert.CtxReferenceIdeal.Gen.facts,
    Cert.Chan.Gen.facts, Cert.ChanIdeal.Gen.facts, Cert.ChanReferenceIdeal.Gen.facts,
    Cert.Short.Gen.facts, Cert.ShortIdeal.Gen.facts, Cert.ShortReferenceIdeal.Gen.facts,
    Cert.Long.Gen.facts, Cert.LongIdeal.Gen.facts, Cert.LongReferenceIdeal.Gen.facts,
    Cert.Mix.Gen.facts, Cert.MixIdeal.Gen.facts, Cert.MixReferenceIdeal.Gen.facts,
    Cert.Conv.Gen.facts, Cert.ConvIdeal.Gen.facts, Cert.ConvReferenceIdeal.Gen.facts,
    Cert.Up.Gen.facts, Cert.UpIdeal.Gen.facts, Cert.UpReferenceIdeal.Gen.facts,
    Cert.Back.Gen.facts, Cert.BackIdeal.Gen.facts, Cert.BackReferenceIdeal.Gen.facts,
    Cert.Pre_finite_scores.Gen.facts, Cert.Pre_finite_context.Gen.facts, Cert.Pre_tables.Gen.facts,
    Cert.Pre_tables_back.Gen.facts,
    AttnClaims.frame_kernel, AttnClaims.frame_ideal, AttnClaims.frame_ideal_pre, AttnClaims.frame_reference,
    AttnClaims.frame_reference_pre,
    GluClaims.frame_kernel, GluClaims.frame_ideal, GluClaims.frame_reference,
    DownClaims.frame_kernel, DownClaims.frame_ideal, DownClaims.frame_reference,
    OutClaims.frame_kernel, OutClaims.frame_ideal, OutClaims.frame_reference,
    FirstClaims.frame_kernel, FirstClaims.frame_ideal, FirstClaims.frame_reference,
    ValClaims.frame_kernel, ValClaims.frame_ideal, ValClaims.frame_reference,
    QryClaims.frame_kernel, QryClaims.frame_ideal, QryClaims.frame_reference,
    KeyClaims.frame_kernel, KeyClaims.frame_ideal, KeyClaims.frame_reference,
    AdaClaims.frame_kernel, AdaClaims.frame_ideal, AdaClaims.frame_reference,
    NormClaims.frame_kernel, NormClaims.frame_ideal, NormClaims.frame_reference,
    StartClaims.frame_kernel, StartClaims.frame_ideal, StartClaims.frame_reference,
    CtxClaims.frame_kernel, CtxClaims.frame_ideal, CtxClaims.frame_ideal_pre, CtxClaims.frame_reference,
    CtxClaims.frame_reference_pre,
    ChanClaims.frame_kernel, ChanClaims.frame_ideal, ChanClaims.frame_reference,
    ShortClaims.frame_kernel, ShortClaims.frame_ideal, ShortClaims.frame_reference,
    LongClaims.frame_kernel, LongClaims.frame_ideal, LongClaims.frame_reference,
    MixClaims.frame_kernel, MixClaims.frame_ideal, MixClaims.frame_reference,
    ConvClaims.frame_kernel, ConvClaims.frame_ideal, ConvClaims.frame_reference,
    UpClaims.frame_kernel, UpClaims.frame_ideal, UpClaims.frame_reference, UpClaims.frame_reference_pre,
    BackClaims.frame_kernel, BackClaims.frame_ideal, BackClaims.frame_reference, BackClaims.frame_reference_pre,
    trivial, AttnClaims.algebraic, trivial, GluClaims.algebraic, trivial, DownClaims.algebraic,
    trivial, OutClaims.algebraic, trivial, FirstClaims.algebraic, trivial, ValClaims.algebraic,
    trivial, QryClaims.algebraic, trivial, KeyClaims.algebraic,
    trivial, AdaClaims.algebraic, trivial, NormClaims.algebraic, trivial, StartClaims.algebraic, trivial, CtxClaims.algebraic,
    trivial, ChanClaims.algebraic, trivial, ShortClaims.algebraic, trivial, LongClaims.algebraic,
    trivial, MixClaims.algebraic, trivial, ConvClaims.algebraic,
    trivial, UpClaims.algebraic, trivial, BackClaims.algebraic⟩

end Cert.Proof

end
